-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_qk [hPre_finite_qk : Cert.Pre_finite_qk.Facts] (m : (ℓ : Loc Cert.KernelIdeal.nD Cert.KernelIdeal.τ Cert.KernelIdeal.sig) → Buf (Elt Ideal) ℓ) : Prop :=
  ∀ c : Dev Cert.KernelIdeal.nD,
    (Cert.Pre_finite_qk.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_qk [hPre_finite_qk : Cert.Pre_finite_qk.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_qk.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_Final (m : (ℓ : Loc Cert.Final.nD Cert.Final.τ Cert.Final.sig) → Buf (Elt Bits) ℓ) : Prop :=
  True

def Pre_FinalIdeal (m : (ℓ : Loc Cert.FinalIdeal.nD Cert.FinalIdeal.τ Cert.FinalIdeal.sig) → Buf (Elt Ideal) ℓ) : Prop :=
  True

def Pre_ReferenceFinalIdeal (m : (ℓ : Loc Cert.ReferenceFinalIdeal.nD Cert.ReferenceFinalIdeal.τ Cert.ReferenceFinalIdeal.sig) → Buf (Elt Ideal) ℓ) : Prop :=
  True

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ReferenceProjIdeal (m : (ℓ : Loc Cert.ReferenceProjIdeal.nD Cert.ReferenceProjIdeal.τ Cert.ReferenceProjIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_qk [hKernelIdeal : Cert.KernelIdeal.Facts] [hPre_finite_qk : Cert.Pre_finite_qk.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_qk m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_qk [hReferenceIdeal : Cert.ReferenceIdeal.Facts] [hPre_finite_qk : Cert.Pre_finite_qk.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_qk m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Final [hFinal : Cert.Final.Facts] : Prop :=
  ∀ (m : (ℓ : Loc Cert.Final.nD Cert.Final.τ Cert.Final.sig) → Buf (Elt Bits) ℓ) (g : Dev Cert.Final.nD → PrngReg), Pre_Final m →
    θ_run (Cert.Final.defs (F := Bits)) (onTc (τ := Cert.Final.τ) (Cert.Final.main (F := Bits))) ⟨m, fun _ => 0, g⟩ (fun r => (∀ c : Dev Cert.Final.nD,
      r.2.mem ((c.tc : Thread Cert.Final.nD Cert.Final.τ).loc Cert.Final.main_arg0) = m ((c.tc : Thread Cert.Final.nD Cert.Final.τ).loc Cert.Final.main_arg0)
      ∧ r.2.mem ((c.tc : Thread Cert.Final.nD Cert.Final.τ).loc Cert.Final.main_arg1) = m ((c.tc : Thread Cert.Final.nD Cert.Final.τ).loc Cert.Final.main_arg1)
      ∧ r.2.mem ((c.tc : Thread Cert.Final.nD Cert.Final.τ).loc Cert.Final.main_arg2) = m ((c.tc : Thread Cert.Final.nD Cert.Final.τ).loc Cert.Final.main_arg2)
      ∧ r.2.mem ((c.tc : Thread Cert.Final.nD Cert.Final.τ).loc Cert.Final.main_arg3) = m ((c.tc : Thread Cert.Final.nD Cert.Final.τ).loc Cert.Final.main_arg3)
      ∧ r.2.mem ((c.tc : Thread Cert.Final.nD Cert.Final.τ).loc Cert.Final.main_arg4) = m ((c.tc : Thread Cert.Final.nD Cert.Final.τ).loc Cert.Final.main_arg4)
      ∧ r.2.mem ((c.tc : Thread Cert.Final.nD Cert.Final.τ).loc Cert.Final.main_arg5) = m ((c.tc : Thread Cert.Final.nD Cert.Final.τ).loc Cert.Final.main_arg5)
      ∧ r.2.mem ((c.tc : Thread Cert.Final.nD Cert.Final.τ).loc Cert.Final.main_arg6) = m ((c.tc : Thread Cert.Final.nD Cert.Final.τ).loc Cert.Final.main_arg6)
      ∧ r.2.mem ((c.tc : Thread Cert.Final.nD Cert.Final.τ).loc Cert.Final.main_arg7) = m ((c.tc : Thread Cert.Final.nD Cert.Final.τ).loc Cert.Final.main_arg7)
      ∧ r.2.mem ((c.tc : Thread Cert.Final.nD Cert.Final.τ).loc Cert.Final.main_arg8) = m ((c.tc : Thread Cert.Final.nD Cert.Final.τ).loc Cert.Final.main_arg8)
      ∧ r.2.mem ((c.tc : Thread Cert.Final.nD Cert.Final.τ).loc Cert.Final.main_arg9) = m ((c.tc : Thread Cert.Final.nD Cert.Final.τ).loc Cert.Final.main_arg9)
      ∧ r.2.mem ((c.tc : Thread Cert.Final.nD Cert.Final.τ).loc Cert.Final.main_arg10) = m ((c.tc : Thread Cert.Final.nD Cert.Final.τ).loc Cert.Final.main_arg10))
      ∧ r.2.sem = fun _ => 0)

def quiescent_FinalIdeal [hFinalIdeal : Cert.FinalIdeal.Facts] : Prop :=
  ∀ (m : (ℓ : Loc Cert.FinalIdeal.nD Cert.FinalIdeal.τ Cert.FinalIdeal.sig) → Buf (Elt Ideal) ℓ) (g : Dev Cert.FinalIdeal.nD → PrngReg), Pre_FinalIdeal m →
    θ_run (Cert.FinalIdeal.defs (F := Ideal)) (onTc (τ := Cert.FinalIdeal.τ) (Cert.FinalIdeal.main (F := Ideal))) ⟨m, fun _ => 0, g⟩ (fun r => (∀ c : Dev Cert.FinalIdeal.nD,
      r.2.mem ((c.tc : Thread Cert.FinalIdeal.nD Cert.FinalIdeal.τ).loc Cert.FinalIdeal.main_arg0) = m ((c.tc : Thread Cert.FinalIdeal.nD Cert.FinalIdeal.τ).loc Cert.FinalIdeal.main_arg0)
      ∧ r.2.mem ((c.tc : Thread Cert.FinalIdeal.nD Cert.FinalIdeal.τ).loc Cert.FinalIdeal.main_arg1) = m ((c.tc : Thread Cert.FinalIdeal.nD Cert.FinalIdeal.τ).loc Cert.FinalIdeal.main_arg1)
      ∧ r.2.mem ((c.tc : Thread Cert.FinalIdeal.nD Cert.FinalIdeal.τ).loc Cert.FinalIdeal.main_arg2) = m ((c.tc : Thread Cert.FinalIdeal.nD Cert.FinalIdeal.τ).loc Cert.FinalIdeal.main_arg2)
      ∧ r.2.mem ((c.tc : Thread Cert.FinalIdeal.nD Cert.FinalIdeal.τ).loc Cert.FinalIdeal.main_arg3) = m ((c.tc : Thread Cert.FinalIdeal.nD Cert.FinalIdeal.τ).loc Cert.FinalIdeal.main_arg3)
      ∧ r.2.mem ((c.tc : Thread Cert.FinalIdeal.nD Cert.FinalIdeal.τ).loc Cert.FinalIdeal.main_arg4) = m ((c.tc : Thread Cert.FinalIdeal.nD Cert.FinalIdeal.τ).loc Cert.FinalIdeal.main_arg4)
      ∧ r.2.mem ((c.tc : Thread Cert.FinalIdeal.nD Cert.FinalIdeal.τ).loc Cert.FinalIdeal.main_arg5) = m ((c.tc : Thread Cert.FinalIdeal.nD Cert.FinalIdeal.τ).loc Cert.FinalIdeal.main_arg5)
      ∧ r.2.mem ((c.tc : Thread Cert.FinalIdeal.nD Cert.FinalIdeal.τ).loc Cert.FinalIdeal.main_arg6) = m ((c.tc : Thread Cert.FinalIdeal.nD Cert.FinalIdeal.τ).loc Cert.FinalIdeal.main_arg6)
      ∧ r.2.mem ((c.tc : Thread Cert.FinalIdeal.nD Cert.FinalIdeal.τ).loc Cert.FinalIdeal.main_arg7) = m ((c.tc : Thread Cert.FinalIdeal.nD Cert.FinalIdeal.τ).loc Cert.FinalIdeal.main_arg7)
      ∧ r.2.mem ((c.tc : Thread Cert.FinalIdeal.nD Cert.FinalIdeal.τ).loc Cert.FinalIdeal.main_arg8) = m ((c.tc : Thread Cert.FinalIdeal.nD Cert.FinalIdeal.τ).loc Cert.FinalIdeal.main_arg8)
      ∧ r.2.mem ((c.tc : Thread Cert.FinalIdeal.nD Cert.FinalIdeal.τ).loc Cert.FinalIdeal.main_arg9) = m ((c.tc : Thread Cert.FinalIdeal.nD Cert.FinalIdeal.τ).loc Cert.FinalIdeal.main_arg9)
      ∧ r.2.mem ((c.tc : Thread Cert.FinalIdeal.nD Cert.FinalIdeal.τ).loc Cert.FinalIdeal.main_arg10) = m ((c.tc : Thread Cert.FinalIdeal.nD Cert.FinalIdeal.τ).loc Cert.FinalIdeal.main_arg10))
      ∧ r.2.sem = fun _ => 0)

def quiescent_ReferenceFinalIdeal [hReferenceFinalIdeal : Cert.ReferenceFinalIdeal.Facts] : Prop :=
  ∀ (m : (ℓ : Loc Cert.ReferenceFinalIdeal.nD Cert.ReferenceFinalIdeal.τ Cert.ReferenceFinalIdeal.sig) → Buf (Elt Ideal) ℓ) (g : Dev Cert.ReferenceFinalIdeal.nD → PrngReg), Pre_ReferenceFinalIdeal m →
    θ_run (Cert.ReferenceFinalIdeal.defs (F := Ideal)) (onTc (τ := Cert.ReferenceFinalIdeal.τ) (Cert.ReferenceFinalIdeal.main (F := Ideal))) ⟨m, fun _ => 0, g⟩ (fun r => (∀ c : Dev Cert.ReferenceFinalIdeal.nD,
      r.2.mem ((c.tc : Thread Cert.ReferenceFinalIdeal.nD Cert.ReferenceFinalIdeal.τ).loc Cert.ReferenceFinalIdeal.main_arg0) = m ((c.tc : Thread Cert.ReferenceFinalIdeal.nD Cert.ReferenceFinalIdeal.τ).loc Cert.ReferenceFinalIdeal.main_arg0)
      ∧ r.2.mem ((c.tc : Thread Cert.ReferenceFinalIdeal.nD Cert.ReferenceFinalIdeal.τ).loc Cert.ReferenceFinalIdeal.main_arg1) = m ((c.tc : Thread Cert.ReferenceFinalIdeal.nD Cert.ReferenceFinalIdeal.τ).loc Cert.ReferenceFinalIdeal.main_arg1)
      ∧ r.2.mem ((c.tc : Thread Cert.ReferenceFinalIdeal.nD Cert.ReferenceFinalIdeal.τ).loc Cert.ReferenceFinalIdeal.main_arg2) = m ((c.tc : Thread Cert.ReferenceFinalIdeal.nD Cert.ReferenceFinalIdeal.τ).loc Cert.ReferenceFinalIdeal.main_arg2)
      ∧ r.2.mem ((c.tc : Thread Cert.ReferenceFinalIdeal.nD Cert.ReferenceFinalIdeal.τ).loc Cert.ReferenceFinalIdeal.main_arg3) = m ((c.tc : Thread Cert.ReferenceFinalIdeal.nD Cert.ReferenceFinalIdeal.τ).loc Cert.ReferenceFinalIdeal.main_arg3)
      ∧ r.2.mem ((c.tc : Thread Cert.ReferenceFinalIdeal.nD Cert.ReferenceFinalIdeal.τ).loc Cert.ReferenceFinalIdeal.main_arg4) = m ((c.tc : Thread Cert.ReferenceFinalIdeal.nD Cert.ReferenceFinalIdeal.τ).loc Cert.ReferenceFinalIdeal.main_arg4)
      ∧ r.2.mem ((c.tc : Thread Cert.ReferenceFinalIdeal.nD Cert.ReferenceFinalIdeal.τ).loc Cert.ReferenceFinalIdeal.main_arg5) = m ((c.tc : Thread Cert.ReferenceFinalIdeal.nD Cert.ReferenceFinalIdeal.τ).loc Cert.ReferenceFinalIdeal.main_arg5)
      ∧ r.2.mem ((c.tc : Thread Cert.ReferenceFinalIdeal.nD Cert.ReferenceFinalIdeal.τ).loc Cert.ReferenceFinalIdeal.main_arg6) = m ((c.tc : Thread Cert.ReferenceFinalIdeal.nD Cert.ReferenceFinalIdeal.τ).loc Cert.ReferenceFinalIdeal.main_arg6)
      ∧ r.2.mem ((c.tc : Thread Cert.ReferenceFinalIdeal.nD Cert.ReferenceFinalIdeal.τ).loc Cert.ReferenceFinalIdeal.main_arg7) = m ((c.tc : Thread Cert.ReferenceFinalIdeal.nD Cert.ReferenceFinalIdeal.τ).loc Cert.ReferenceFinalIdeal.main_arg7)
      ∧ r.2.mem ((c.tc : Thread Cert.ReferenceFinalIdeal.nD Cert.ReferenceFinalIdeal.τ).loc Cert.ReferenceFinalIdeal.main_arg8) = m ((c.tc : Thread Cert.ReferenceFinalIdeal.nD Cert.ReferenceFinalIdeal.τ).loc Cert.ReferenceFinalIdeal.main_arg8)
      ∧ r.2.mem ((c.tc : Thread Cert.ReferenceFinalIdeal.nD Cert.ReferenceFinalIdeal.τ).loc Cert.ReferenceFinalIdeal.main_arg9) = m ((c.tc : Thread Cert.ReferenceFinalIdeal.nD Cert.ReferenceFinalIdeal.τ).loc Cert.ReferenceFinalIdeal.main_arg9)
      ∧ r.2.mem ((c.tc : Thread Cert.ReferenceFinalIdeal.nD Cert.ReferenceFinalIdeal.τ).loc Cert.ReferenceFinalIdeal.main_arg10) = m ((c.tc : Thread Cert.ReferenceFinalIdeal.nD Cert.ReferenceFinalIdeal.τ).loc Cert.ReferenceFinalIdeal.main_arg10))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1)
      ∧ r.2.mem ((c.tc : Thread Cert.Proj.nD Cert.Proj.τ).loc Cert.Proj.main_arg2) = m ((c.tc : Thread Cert.Proj.nD Cert.Proj.τ).loc Cert.Proj.main_arg2)
      ∧ r.2.mem ((c.tc : Thread Cert.Proj.nD Cert.Proj.τ).loc Cert.Proj.main_arg3) = m ((c.tc : Thread Cert.Proj.nD Cert.Proj.τ).loc Cert.Proj.main_arg3)
      ∧ r.2.mem ((c.tc : Thread Cert.Proj.nD Cert.Proj.τ).loc Cert.Proj.main_arg4) = m ((c.tc : Thread Cert.Proj.nD Cert.Proj.τ).loc Cert.Proj.main_arg4))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
      ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3)
      ∧ r.2.mem ((c.tc : Thread Cert.ProjIdeal.nD Cert.ProjIdeal.τ).loc Cert.ProjIdeal.main_arg4) = m ((c.tc : Thread Cert.ProjIdeal.nD Cert.ProjIdeal.τ).loc Cert.ProjIdeal.main_arg4))
      ∧ r.2.sem = fun _ => 0)

def quiescent_ReferenceProjIdeal [hReferenceProjIdeal : Cert.ReferenceProjIdeal.Facts] : Prop :=
  ∀ (m : (ℓ : Loc Cert.ReferenceProjIdeal.nD Cert.ReferenceProjIdeal.τ Cert.ReferenceProjIdeal.sig) → Buf (Elt Ideal) ℓ) (g : Dev Cert.ReferenceProjIdeal.nD → PrngReg), Pre_ReferenceProjIdeal m →
    θ_run (Cert.ReferenceProjIdeal.defs (F := Ideal)) (onTc (τ := Cert.ReferenceProjIdeal.τ) (Cert.ReferenceProjIdeal.main (F := Ideal))) ⟨m, fun _ => 0, g⟩ (fun r => (∀ c : Dev Cert.ReferenceProjIdeal.nD,
      r.2.mem ((c.tc : Thread Cert.ReferenceProjIdeal.nD Cert.ReferenceProjIdeal.τ).loc Cert.ReferenceProjIdeal.main_arg0) = m ((c.tc : Thread Cert.ReferenceProjIdeal.nD Cert.ReferenceProjIdeal.τ).loc Cert.ReferenceProjIdeal.main_arg0)
      ∧ r.2.mem ((c.tc : Thread Cert.ReferenceProjIdeal.nD Cert.ReferenceProjIdeal.τ).loc Cert.ReferenceProjIdeal.main_arg1) = m ((c.tc : Thread Cert.ReferenceProjIdeal.nD Cert.ReferenceProjIdeal.τ).loc Cert.ReferenceProjIdeal.main_arg1)
      ∧ r.2.mem ((c.tc : Thread Cert.ReferenceProjIdeal.nD Cert.ReferenceProjIdeal.τ).loc Cert.ReferenceProjIdeal.main_arg2) = m ((c.tc : Thread Cert.ReferenceProjIdeal.nD Cert.ReferenceProjIdeal.τ).loc Cert.ReferenceProjIdeal.main_arg2)
      ∧ r.2.mem ((c.tc : Thread Cert.ReferenceProjIdeal.nD Cert.ReferenceProjIdeal.τ).loc Cert.ReferenceProjIdeal.main_arg3) = m ((c.tc : Thread Cert.ReferenceProjIdeal.nD Cert.ReferenceProjIdeal.τ).loc Cert.ReferenceProjIdeal.main_arg3)
      ∧ r.2.mem ((c.tc : Thread Cert.ReferenceProjIdeal.nD Cert.ReferenceProjIdeal.τ).loc Cert.ReferenceProjIdeal.main_arg4) = m ((c.tc : Thread Cert.ReferenceProjIdeal.nD Cert.ReferenceProjIdeal.τ).loc Cert.ReferenceProjIdeal.main_arg4))
      ∧ r.2.sem = fun _ => 0)

def preserves_Kernel_KernelIdeal : Prop :=
  IdealRules.named_const.Statement Cert.KernelIdeal.κ "log2e_8" .f32 0x3E38AA3B#32 (((Real.log 2)⁻¹ * 8⁻¹ : ℝ) : EReal)

def algebraic_KernelIdeal_ReferenceIdeal_pre_finite_qk [hKernelIdeal : Cert.KernelIdeal.Facts] [hReferenceIdeal : Cert.ReferenceIdeal.Facts] [hPre_finite_qk : Cert.Pre_finite_qk.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_qk m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Final_FinalIdeal : Prop :=
  True

def algebraic_FinalIdeal_ReferenceFinalIdeal [hFinalIdeal : Cert.FinalIdeal.Facts] [hReferenceFinalIdeal : Cert.ReferenceFinalIdeal.Facts] : Prop :=
  ∀ (m : (ℓ : Loc Cert.FinalIdeal.nD Cert.FinalIdeal.τ Cert.FinalIdeal.sig) → Buf (Elt Ideal) ℓ) (g : Dev Cert.FinalIdeal.nD → PrngReg)
    (m' : (ℓ : Loc Cert.ReferenceFinalIdeal.nD Cert.ReferenceFinalIdeal.τ Cert.ReferenceFinalIdeal.sig) → Buf (Elt Ideal) ℓ) (g' : Dev Cert.ReferenceFinalIdeal.nD → PrngReg), Pre_FinalIdeal m →
    (∀ c : Dev Cert.FinalIdeal.nD,
      m' ((c.tc : Thread Cert.ReferenceFinalIdeal.nD Cert.ReferenceFinalIdeal.τ).loc Cert.ReferenceFinalIdeal.main_arg0) = m ((c.tc : Thread Cert.FinalIdeal.nD Cert.FinalIdeal.τ).loc Cert.FinalIdeal.main_arg0)
      ∧ m' ((c.tc : Thread Cert.ReferenceFinalIdeal.nD Cert.ReferenceFinalIdeal.τ).loc Cert.ReferenceFinalIdeal.main_arg1) = m ((c.tc : Thread Cert.FinalIdeal.nD Cert.FinalIdeal.τ).loc Cert.FinalIdeal.main_arg1)
      ∧ m' ((c.tc : Thread Cert.ReferenceFinalIdeal.nD Cert.ReferenceFinalIdeal.τ).loc Cert.ReferenceFinalIdeal.main_arg2) = m ((c.tc : Thread Cert.FinalIdeal.nD Cert.FinalIdeal.τ).loc Cert.FinalIdeal.main_arg2)
      ∧ m' ((c.tc : Thread Cert.ReferenceFinalIdeal.nD Cert.ReferenceFinalIdeal.τ).loc Cert.ReferenceFinalIdeal.main_arg3) = m ((c.tc : Thread Cert.FinalIdeal.nD Cert.FinalIdeal.τ).loc Cert.FinalIdeal.main_arg3)
      ∧ m' ((c.tc : Thread Cert.ReferenceFinalIdeal.nD Cert.ReferenceFinalIdeal.τ).loc Cert.ReferenceFinalIdeal.main_arg4) = m ((c.tc : Thread Cert.FinalIdeal.nD Cert.FinalIdeal.τ).loc Cert.FinalIdeal.main_arg4)
      ∧ m' ((c.tc : Thread Cert.ReferenceFinalIdeal.nD Cert.ReferenceFinalIdeal.τ).loc Cert.ReferenceFinalIdeal.main_arg5) = m ((c.tc : Thread Cert.FinalIdeal.nD Cert.FinalIdeal.τ).loc Cert.FinalIdeal.main_arg5)
      ∧ m' ((c.tc : Thread Cert.ReferenceFinalIdeal.nD Cert.ReferenceFinalIdeal.τ).loc Cert.ReferenceFinalIdeal.main_arg6) = m ((c.tc : Thread Cert.FinalIdeal.nD Cert.FinalIdeal.τ).loc Cert.FinalIdeal.main_arg6)
      ∧ m' ((c.tc : Thread Cert.ReferenceFinalIdeal.nD Cert.ReferenceFinalIdeal.τ).loc Cert.ReferenceFinalIdeal.main_arg7) = m ((c.tc : Thread Cert.FinalIdeal.nD Cert.FinalIdeal.τ).loc Cert.FinalIdeal.main_arg7)
      ∧ m' ((c.tc : Thread Cert.ReferenceFinalIdeal.nD Cert.ReferenceFinalIdeal.τ).loc Cert.ReferenceFinalIdeal.main_arg8) = m ((c.tc : Thread Cert.FinalIdeal.nD Cert.FinalIdeal.τ).loc Cert.FinalIdeal.main_arg8)
      ∧ m' ((c.tc : Thread Cert.ReferenceFinalIdeal.nD Cert.ReferenceFinalIdeal.τ).loc Cert.ReferenceFinalIdeal.main_arg9) = m ((c.tc : Thread Cert.FinalIdeal.nD Cert.FinalIdeal.τ).loc Cert.FinalIdeal.main_arg9)
      ∧ m' ((c.tc : Thread Cert.ReferenceFinalIdeal.nD Cert.ReferenceFinalIdeal.τ).loc Cert.ReferenceFinalIdeal.main_arg10) = m ((c.tc : Thread Cert.FinalIdeal.nD Cert.FinalIdeal.τ).loc Cert.FinalIdeal.main_arg10)) →
    ∃ (v0 : (c : Dev Cert.FinalIdeal.nD) → Buf (Elt Ideal) ((c.tc : Thread Cert.FinalIdeal.nD Cert.FinalIdeal.τ).loc Cert.FinalIdeal.main_v12)),
      θ_run (Cert.FinalIdeal.defs (F := Ideal)) (onTc (τ := Cert.FinalIdeal.τ) (Cert.FinalIdeal.main (F := Ideal))) ⟨m, fun _ => 0, g⟩ (fun r => ∀ c : Dev Cert.FinalIdeal.nD,
          r.2.mem ((c.tc : Thread Cert.FinalIdeal.nD Cert.FinalIdeal.τ).loc Cert.FinalIdeal.main_v12) = v0 c
          ∧ r.2.mem ((c.tc : Thread Cert.FinalIdeal.nD Cert.FinalIdeal.τ).loc Cert.FinalIdeal.main_arg0) = m ((c.tc : Thread Cert.FinalIdeal.nD Cert.FinalIdeal.τ).loc Cert.FinalIdeal.main_arg0)
          ∧ r.2.mem ((c.tc : Thread Cert.FinalIdeal.nD Cert.FinalIdeal.τ).loc Cert.FinalIdeal.main_arg1) = m ((c.tc : Thread Cert.FinalIdeal.nD Cert.FinalIdeal.τ).loc Cert.FinalIdeal.main_arg1)
          ∧ r.2.mem ((c.tc : Thread Cert.FinalIdeal.nD Cert.FinalIdeal.τ).loc Cert.FinalIdeal.main_arg2) = m ((c.tc : Thread Cert.FinalIdeal.nD Cert.FinalIdeal.τ).loc Cert.FinalIdeal.main_arg2)
          ∧ r.2.mem ((c.tc : Thread Cert.FinalIdeal.nD Cert.FinalIdeal.τ).loc Cert.FinalIdeal.main_arg3) = m ((c.tc : Thread Cert.FinalIdeal.nD Cert.FinalIdeal.τ).loc Cert.FinalIdeal.main_arg3)
          ∧ r.2.mem ((c.tc : Thread Cert.FinalIdeal.nD Cert.FinalIdeal.τ).loc Cert.FinalIdeal.main_arg4) = m ((c.tc : Thread Cert.FinalIdeal.nD Cert.FinalIdeal.τ).loc Cert.FinalIdeal.main_arg4)
          ∧ r.2.mem ((c.tc : Thread Cert.FinalIdeal.nD Cert.FinalIdeal.τ).loc Cert.FinalIdeal.main_arg5) = m ((c.tc : Thread Cert.FinalIdeal.nD Cert.FinalIdeal.τ).loc Cert.FinalIdeal.main_arg5)
          ∧ r.2.mem ((c.tc : Thread Cert.FinalIdeal.nD Cert.FinalIdeal.τ).loc Cert.FinalIdeal.main_arg6) = m ((c.tc : Thread Cert.FinalIdeal.nD Cert.FinalIdeal.τ).loc Cert.FinalIdeal.main_arg6)
          ∧ r.2.mem ((c.tc : Thread Cert.FinalIdeal.nD Cert.FinalIdeal.τ).loc Cert.FinalIdeal.main_arg7) = m ((c.tc : Thread Cert.FinalIdeal.nD Cert.FinalIdeal.τ).loc Cert.FinalIdeal.main_arg7)
          ∧ r.2.mem ((c.tc : Thread Cert.FinalIdeal.nD Cert.FinalIdeal.τ).loc Cert.FinalIdeal.main_arg8) = m ((c.tc : Thread Cert.FinalIdeal.nD Cert.FinalIdeal.τ).loc Cert.FinalIdeal.main_arg8)
          ∧ r.2.mem ((c.tc : Thread Cert.FinalIdeal.nD Cert.FinalIdeal.τ).loc Cert.FinalIdeal.main_arg9) = m ((c.tc : Thread Cert.FinalIdeal.nD Cert.FinalIdeal.τ).loc Cert.FinalIdeal.main_arg9)
          ∧ r.2.mem ((c.tc : Thread Cert.FinalIdeal.nD Cert.FinalIdeal.τ).loc Cert.FinalIdeal.main_arg10) = m ((c.tc : Thread Cert.FinalIdeal.nD Cert.FinalIdeal.τ).loc Cert.FinalIdeal.main_arg10))
      ∧ θ_run (Cert.ReferenceFinalIdeal.defs (F := Ideal)) (onTc (τ := Cert.ReferenceFinalIdeal.τ) (Cert.ReferenceFinalIdeal.main (F := Ideal))) ⟨m', fun _ => 0, g'⟩ (fun r => ∀ c : Dev Cert.ReferenceFinalIdeal.nD,
          r.2.mem ((c.tc : Thread Cert.ReferenceFinalIdeal.nD Cert.ReferenceFinalIdeal.τ).loc Cert.ReferenceFinalIdeal.main_v66) = v0 c
          ∧ r.2.mem ((c.tc : Thread Cert.ReferenceFinalIdeal.nD Cert.ReferenceFinalIdeal.τ).loc Cert.ReferenceFinalIdeal.main_arg0) = m' ((c.tc : Thread Cert.ReferenceFinalIdeal.nD Cert.ReferenceFinalIdeal.τ).loc Cert.ReferenceFinalIdeal.main_arg0)
          ∧ r.2.mem ((c.tc : Thread Cert.ReferenceFinalIdeal.nD Cert.ReferenceFinalIdeal.τ).loc Cert.ReferenceFinalIdeal.main_arg1) = m' ((c.tc : Thread Cert.ReferenceFinalIdeal.nD Cert.ReferenceFinalIdeal.τ).loc Cert.ReferenceFinalIdeal.main_arg1)
          ∧ r.2.mem ((c.tc : Thread Cert.ReferenceFinalIdeal.nD Cert.ReferenceFinalIdeal.τ).loc Cert.ReferenceFinalIdeal.main_arg2) = m' ((c.tc : Thread Cert.ReferenceFinalIdeal.nD Cert.ReferenceFinalIdeal.τ).loc Cert.ReferenceFinalIdeal.main_arg2)
          ∧ r.2.mem ((c.tc : Thread Cert.ReferenceFinalIdeal.nD Cert.ReferenceFinalIdeal.τ).loc Cert.ReferenceFinalIdeal.main_arg3) = m' ((c.tc : Thread Cert.ReferenceFinalIdeal.nD Cert.ReferenceFinalIdeal.τ).loc Cert.ReferenceFinalIdeal.main_arg3)
          ∧ r.2.mem ((c.tc : Thread Cert.ReferenceFinalIdeal.nD Cert.ReferenceFinalIdeal.τ).loc Cert.ReferenceFinalIdeal.main_arg4) = m' ((c.tc : Thread Cert.ReferenceFinalIdeal.nD Cert.ReferenceFinalIdeal.τ).loc Cert.ReferenceFinalIdeal.main_arg4)
          ∧ r.2.mem ((c.tc : Thread Cert.ReferenceFinalIdeal.nD Cert.ReferenceFinalIdeal.τ).loc Cert.ReferenceFinalIdeal.main_arg5) = m' ((c.tc : Thread Cert.ReferenceFinalIdeal.nD Cert.ReferenceFinalIdeal.τ).loc Cert.ReferenceFinalIdeal.main_arg5)
          ∧ r.2.mem ((c.tc : Thread Cert.ReferenceFinalIdeal.nD Cert.ReferenceFinalIdeal.τ).loc Cert.ReferenceFinalIdeal.main_arg6) = m' ((c.tc : Thread Cert.ReferenceFinalIdeal.nD Cert.ReferenceFinalIdeal.τ).loc Cert.ReferenceFinalIdeal.main_arg6)
          ∧ r.2.mem ((c.tc : Thread Cert.ReferenceFinalIdeal.nD Cert.ReferenceFinalIdeal.τ).loc Cert.ReferenceFinalIdeal.main_arg7) = m' ((c.tc : Thread Cert.ReferenceFinalIdeal.nD Cert.ReferenceFinalIdeal.τ).loc Cert.ReferenceFinalIdeal.main_arg7)
          ∧ r.2.mem ((c.tc : Thread Cert.ReferenceFinalIdeal.nD Cert.ReferenceFinalIdeal.τ).loc Cert.ReferenceFinalIdeal.main_arg8) = m' ((c.tc : Thread Cert.ReferenceFinalIdeal.nD Cert.ReferenceFinalIdeal.τ).loc Cert.ReferenceFinalIdeal.main_arg8)
          ∧ r.2.mem ((c.tc : Thread Cert.ReferenceFinalIdeal.nD Cert.ReferenceFinalIdeal.τ).loc Cert.ReferenceFinalIdeal.main_arg9) = m' ((c.tc : Thread Cert.ReferenceFinalIdeal.nD Cert.ReferenceFinalIdeal.τ).loc Cert.ReferenceFinalIdeal.main_arg9)
          ∧ r.2.mem ((c.tc : Thread Cert.ReferenceFinalIdeal.nD Cert.ReferenceFinalIdeal.τ).loc Cert.ReferenceFinalIdeal.main_arg10) = m' ((c.tc : Thread Cert.ReferenceFinalIdeal.nD Cert.ReferenceFinalIdeal.τ).loc Cert.ReferenceFinalIdeal.main_arg10))

def preserves_Proj_ProjIdeal : Prop :=
  True

def algebraic_ProjIdeal_ReferenceProjIdeal [hProjIdeal : Cert.ProjIdeal.Facts] [hReferenceProjIdeal : Cert.ReferenceProjIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ReferenceProjIdeal.nD Cert.ReferenceProjIdeal.τ Cert.ReferenceProjIdeal.sig) → Buf (Elt Ideal) ℓ) (g' : Dev Cert.ReferenceProjIdeal.nD → PrngReg), Pre_ProjIdeal m →
    (∀ c : Dev Cert.ProjIdeal.nD,
      m' ((c.tc : Thread Cert.ReferenceProjIdeal.nD Cert.ReferenceProjIdeal.τ).loc Cert.ReferenceProjIdeal.main_arg0) = m ((c.tc : Thread Cert.ProjIdeal.nD Cert.ProjIdeal.τ).loc Cert.ProjIdeal.main_arg0)
      ∧ m' ((c.tc : Thread Cert.ReferenceProjIdeal.nD Cert.ReferenceProjIdeal.τ).loc Cert.ReferenceProjIdeal.main_arg1) = m ((c.tc : Thread Cert.ProjIdeal.nD Cert.ProjIdeal.τ).loc Cert.ProjIdeal.main_arg1)
      ∧ m' ((c.tc : Thread Cert.ReferenceProjIdeal.nD Cert.ReferenceProjIdeal.τ).loc Cert.ReferenceProjIdeal.main_arg2) = m ((c.tc : Thread Cert.ProjIdeal.nD Cert.ProjIdeal.τ).loc Cert.ProjIdeal.main_arg2)
      ∧ m' ((c.tc : Thread Cert.ReferenceProjIdeal.nD Cert.ReferenceProjIdeal.τ).loc Cert.ReferenceProjIdeal.main_arg3) = m ((c.tc : Thread Cert.ProjIdeal.nD Cert.ProjIdeal.τ).loc Cert.ProjIdeal.main_arg3)
      ∧ m' ((c.tc : Thread Cert.ReferenceProjIdeal.nD Cert.ReferenceProjIdeal.τ).loc Cert.ReferenceProjIdeal.main_arg4) = m ((c.tc : Thread Cert.ProjIdeal.nD Cert.ProjIdeal.τ).loc Cert.ProjIdeal.main_arg4)) →
    ∃ (v0 : (c : Dev Cert.ProjIdeal.nD) → Buf (Elt Ideal) ((c.tc : Thread Cert.ProjIdeal.nD Cert.ProjIdeal.τ).loc Cert.ProjIdeal.main_v83_0)) (v1 : (c : Dev Cert.ProjIdeal.nD) → Buf (Elt Ideal) ((c.tc : Thread Cert.ProjIdeal.nD Cert.ProjIdeal.τ).loc Cert.ProjIdeal.main_v86)) (v2 : (c : Dev Cert.ProjIdeal.nD) → Buf (Elt Ideal) ((c.tc : Thread Cert.ProjIdeal.nD Cert.ProjIdeal.τ).loc Cert.ProjIdeal.main_v83_2)) (v3 : (c : Dev Cert.ProjIdeal.nD) → Buf (Elt Ideal) ((c.tc : Thread Cert.ProjIdeal.nD Cert.ProjIdeal.τ).loc Cert.ProjIdeal.main_v83_3)) (v4 : (c : Dev Cert.ProjIdeal.nD) → Buf (Elt Ideal) ((c.tc : Thread Cert.ProjIdeal.nD Cert.ProjIdeal.τ).loc Cert.ProjIdeal.main_v87)) (v5 : (c : Dev Cert.ProjIdeal.nD) → Buf (Elt Ideal) ((c.tc : Thread Cert.ProjIdeal.nD Cert.ProjIdeal.τ).loc Cert.ProjIdeal.main_v88)) (v6 : (c : Dev Cert.ProjIdeal.nD) → Buf (Elt Ideal) ((c.tc : Thread Cert.ProjIdeal.nD Cert.ProjIdeal.τ).loc Cert.ProjIdeal.main_v90)) (v7 : (c : Dev Cert.ProjIdeal.nD) → Buf (Elt Ideal) ((c.tc : Thread Cert.ProjIdeal.nD Cert.ProjIdeal.τ).loc Cert.ProjIdeal.main_v93)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v83_0) = v0 c
          ∧ r.2.mem ((c.tc : Thread Cert.ProjIdeal.nD Cert.ProjIdeal.τ).loc Cert.ProjIdeal.main_v86) = v1 c
          ∧ r.2.mem ((c.tc : Thread Cert.ProjIdeal.nD Cert.ProjIdeal.τ).loc Cert.ProjIdeal.main_v83_2) = v2 c
          ∧ r.2.mem ((c.tc : Thread Cert.ProjIdeal.nD Cert.ProjIdeal.τ).loc Cert.ProjIdeal.main_v83_3) = v3 c
          ∧ r.2.mem ((c.tc : Thread Cert.ProjIdeal.nD Cert.ProjIdeal.τ).loc Cert.ProjIdeal.main_v87) = v4 c
          ∧ r.2.mem ((c.tc : Thread Cert.ProjIdeal.nD Cert.ProjIdeal.τ).loc Cert.ProjIdeal.main_v88) = v5 c
          ∧ r.2.mem ((c.tc : Thread Cert.ProjIdeal.nD Cert.ProjIdeal.τ).loc Cert.ProjIdeal.main_v90) = v6 c
          ∧ r.2.mem ((c.tc : Thread Cert.ProjIdeal.nD Cert.ProjIdeal.τ).loc Cert.ProjIdeal.main_v93) = v7 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
          ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
          ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3)
          ∧ r.2.mem ((c.tc : Thread Cert.ProjIdeal.nD Cert.ProjIdeal.τ).loc Cert.ProjIdeal.main_arg4) = m ((c.tc : Thread Cert.ProjIdeal.nD Cert.ProjIdeal.τ).loc Cert.ProjIdeal.main_arg4))
      ∧ θ_run (Cert.ReferenceProjIdeal.defs (F := Ideal)) (onTc (τ := Cert.ReferenceProjIdeal.τ) (Cert.ReferenceProjIdeal.main (F := Ideal))) ⟨m', fun _ => 0, g'⟩ (fun r => ∀ c : Dev Cert.ReferenceProjIdeal.nD,
          r.2.mem ((c.tc : Thread Cert.ReferenceProjIdeal.nD Cert.ReferenceProjIdeal.τ).loc Cert.ReferenceProjIdeal.main_v209) = v0 c
          ∧ r.2.mem ((c.tc : Thread Cert.ReferenceProjIdeal.nD Cert.ReferenceProjIdeal.τ).loc Cert.ReferenceProjIdeal.main_v212) = v1 c
          ∧ r.2.mem ((c.tc : Thread Cert.ReferenceProjIdeal.nD Cert.ReferenceProjIdeal.τ).loc Cert.ReferenceProjIdeal.main_v213) = v2 c
          ∧ r.2.mem ((c.tc : Thread Cert.ReferenceProjIdeal.nD Cert.ReferenceProjIdeal.τ).loc Cert.ReferenceProjIdeal.main_v214) = v3 c
          ∧ r.2.mem ((c.tc : Thread Cert.ReferenceProjIdeal.nD Cert.ReferenceProjIdeal.τ).loc Cert.ReferenceProjIdeal.main_v19) = v4 c
          ∧ r.2.mem ((c.tc : Thread Cert.ReferenceProjIdeal.nD Cert.ReferenceProjIdeal.τ).loc Cert.ReferenceProjIdeal.main_v215) = v5 c
          ∧ r.2.mem ((c.tc : Thread Cert.ReferenceProjIdeal.nD Cert.ReferenceProjIdeal.τ).loc Cert.ReferenceProjIdeal.main_v216) = v6 c
          ∧ r.2.mem ((c.tc : Thread Cert.ReferenceProjIdeal.nD Cert.ReferenceProjIdeal.τ).loc Cert.ReferenceProjIdeal.main_v217) = v7 c
          ∧ r.2.mem ((c.tc : Thread Cert.ReferenceProjIdeal.nD Cert.ReferenceProjIdeal.τ).loc Cert.ReferenceProjIdeal.main_arg0) = m' ((c.tc : Thread Cert.ReferenceProjIdeal.nD Cert.ReferenceProjIdeal.τ).loc Cert.ReferenceProjIdeal.main_arg0)
          ∧ r.2.mem ((c.tc : Thread Cert.ReferenceProjIdeal.nD Cert.ReferenceProjIdeal.τ).loc Cert.ReferenceProjIdeal.main_arg1) = m' ((c.tc : Thread Cert.ReferenceProjIdeal.nD Cert.ReferenceProjIdeal.τ).loc Cert.ReferenceProjIdeal.main_arg1)
          ∧ r.2.mem ((c.tc : Thread Cert.ReferenceProjIdeal.nD Cert.ReferenceProjIdeal.τ).loc Cert.ReferenceProjIdeal.main_arg2) = m' ((c.tc : Thread Cert.ReferenceProjIdeal.nD Cert.ReferenceProjIdeal.τ).loc Cert.ReferenceProjIdeal.main_arg2)
          ∧ r.2.mem ((c.tc : Thread Cert.ReferenceProjIdeal.nD Cert.ReferenceProjIdeal.τ).loc Cert.ReferenceProjIdeal.main_arg3) = m' ((c.tc : Thread Cert.ReferenceProjIdeal.nD Cert.ReferenceProjIdeal.τ).loc Cert.ReferenceProjIdeal.main_arg3)
          ∧ r.2.mem ((c.tc : Thread Cert.ReferenceProjIdeal.nD Cert.ReferenceProjIdeal.τ).loc Cert.ReferenceProjIdeal.main_arg4) = m' ((c.tc : Thread Cert.ReferenceProjIdeal.nD Cert.ReferenceProjIdeal.τ).loc Cert.ReferenceProjIdeal.main_arg4))

def Claim : Prop :=
  ∃ (hKernel : Cert.Kernel.Facts) (hKernelIdeal : Cert.KernelIdeal.Facts) (hReferenceIdeal : Cert.ReferenceIdeal.Facts) (hFinal : Cert.Final.Facts) (hFinalIdeal : Cert.FinalIdeal.Facts) (hReferenceFinalIdeal : Cert.ReferenceFinalIdeal.Facts) (hProj : Cert.Proj.Facts) (hProjIdeal : Cert.ProjIdeal.Facts) (hReferenceProjIdeal : Cert.ReferenceProjIdeal.Facts) (hPre_finite_qk : Cert.Pre_finite_qk.Facts),
    quiescent_Kernel (hKernel := hKernel)
    ∧ quiescent_KernelIdeal (hKernelIdeal := hKernelIdeal)
    ∧ quiescent_KernelIdeal_pre_finite_qk (hKernelIdeal := hKernelIdeal) (hPre_finite_qk := hPre_finite_qk)
    ∧ quiescent_ReferenceIdeal (hReferenceIdeal := hReferenceIdeal)
    ∧ quiescent_ReferenceIdeal_pre_finite_qk (hReferenceIdeal := hReferenceIdeal) (hPre_finite_qk := hPre_finite_qk)
    ∧ quiescent_Final (hFinal := hFinal)
    ∧ quiescent_FinalIdeal (hFinalIdeal := hFinalIdeal)
    ∧ quiescent_ReferenceFinalIdeal (hReferenceFinalIdeal := hReferenceFinalIdeal)
    ∧ quiescent_Proj (hProj := hProj)
    ∧ quiescent_ProjIdeal (hProjIdeal := hProjIdeal)
    ∧ quiescent_ReferenceProjIdeal (hReferenceProjIdeal := hReferenceProjIdeal)
    ∧ preserves_Kernel_KernelIdeal
    ∧ algebraic_KernelIdeal_ReferenceIdeal_pre_finite_qk (hKernelIdeal := hKernelIdeal) (hReferenceIdeal := hReferenceIdeal) (hPre_finite_qk := hPre_finite_qk)
    ∧ preserves_Final_FinalIdeal
    ∧ algebraic_FinalIdeal_ReferenceFinalIdeal (hFinalIdeal := hFinalIdeal) (hReferenceFinalIdeal := hReferenceFinalIdeal)
    ∧ preserves_Proj_ProjIdeal
    ∧ algebraic_ProjIdeal_ReferenceProjIdeal (hProjIdeal := hProjIdeal) (hReferenceProjIdeal := hReferenceProjIdeal)
-- ==== Pre_finite_qk.lean ====
abbrev S8x8192x16x64 : Shape := ⟨4, ![8, 8192, 16, 64]⟩
abbrev S8x8192x4x64 : Shape := ⟨4, ![8, 8192, 4, 64]⟩
abbrev S_ : Shape := ⟨0, ![]⟩

class Facts : Prop where
  bcast_S_S8x8192x16x64 : S_.BroadcastsInDim S8x8192x16x64 (![] : Fin 0 → Fin S8x8192x16x64.rank)
  reducesTo_S8x8192x16x64_S_d0_1_2_3 : S8x8192x16x64.ReducesTo [0, 1, 2, 3] S_
  h_S_ : 0 < S_.numel
  bcast_S_S8x8192x4x64 : S_.BroadcastsInDim S8x8192x4x64 (![] : Fin 0 → Fin S8x8192x4x64.rank)
  reducesTo_S8x8192x4x64_S_d0_1_2_3 : S8x8192x4x64.ReducesTo [0, 1, 2, 3] S_

variable [Facts]

def fn {F : FTy → Type} [FloatOps F] (main_arg0 : FVec F S8x8192x16x64 .f32) (main_arg1 : FVec F S8x8192x4x64 .f32) (main_arg2 : FVec F S8x8192x4x64 .f32) : IVec S_ 1 :=
  let main_v0 : FVec F S8x8192x16x64 .f32 := Host.absf main_arg0
  let main_cst : FVec F S_ .f32 := constant S_ .f32 0x7F800000#32
  let main_v1 : FVec F S8x8192x16x64 .f32 := broadcastInDim S8x8192x16x64 ![] bcast_S_S8x8192x16x64 main_cst
  let main_v2 : IVec S8x8192x16x64 1 := cmpf .olt main_v0 main_v1
  let main_c : IVec S_ 1 := constantI S_ 1 1#1
  let main_v3 : IVec S_ 1 := (fun x v => Host.reduce IntOp.andi x v reducesTo_S8x8192x16x64_S_d0_1_2_3 h_S_) main_v2 main_c
  let main_v4 : FVec F S8x8192x4x64 .f32 := Host.absf main_arg1
  let main_cst_0 : FVec F S_ .f32 := constant S_ .f32 0x7F800000#32
  let main_v5 : FVec F S8x8192x4x64 .f32 := broadcastInDim S8x8192x4x64 ![] bcast_S_S8x8192x4x64 main_cst_0
  let main_v6 : IVec S8x8192x4x64 1 := cmpf .olt main_v4 main_v5
  let main_c_1 : IVec S_ 1 := constantI S_ 1 1#1
  let main_v7 : IVec S_ 1 := (fun x v => Host.reduce IntOp.andi x v reducesTo_S8x8192x4x64_S_d0_1_2_3 h_S_) main_v6 main_c_1
  let main_v8 : IVec S_ 1 := andi main_v3 main_v7
  main_v8
-- ==== Kernel.lean ====
abbrev S8x8192x16x64 : Shape := ⟨4, ![8, 8192, 16, 64]⟩
abbrev S8x8192x4x64 : Shape := ⟨4, ![8, 8192, 4, 64]⟩
abbrev S8x16x64x8192 : Shape := ⟨4, ![8, 16, 64, 8192]⟩
abbrev S8x4x8192x64 : Shape := ⟨4, ![8, 4, 8192, 64]⟩
abbrev S8x4x16x512x64 : Shape := ⟨5, ![8, 4, 16, 512, 64]⟩
abbrev S8x16x512x4x64 : Shape := ⟨5, ![8, 16, 512, 4, 64]⟩
abbrev S8x4x16x64x512 : Shape := ⟨5, ![8, 4, 16, 64, 512]⟩
abbrev S8x4x16x16x512 : Shape := ⟨5, ![8, 4, 16, 16, 512]⟩
abbrev S_ : Shape := ⟨0, ![]⟩
abbrev S8x4x16x80x512 : Shape := ⟨5, ![8, 4, 16, 80, 512]⟩
abbrev S8x8192x1024 : Shape := ⟨3, ![8, 8192, 1024]⟩
abbrev S1x4x64x512 : Shape := ⟨4, ![1, 4, 64, 512]⟩
abbrev S1x1x16x512x64 : Shape := ⟨5, ![1, 1, 16, 512, 64]⟩
abbrev S1x1x16x80x512 : Shape := ⟨5, ![1, 1, 16, 80, 512]⟩
abbrev S1x512x256 : Shape := ⟨3, ![1, 512, 256]⟩
abbrev S4x512x512 : Shape := ⟨3, ![4, 512, 512]⟩
abbrev S1x1x64x512 : Shape := ⟨4, ![1, 1, 64, 512]⟩
abbrev S64x512 : Shape := ⟨2, ![64, 512]⟩
abbrev S1x512 : Shape := ⟨2, ![1, 512]⟩
abbrev S80x512 : Shape := ⟨2, ![80, 512]⟩
abbrev S1x1x1x128x64 : Shape := ⟨5, ![1, 1, 1, 128, 64]⟩
abbrev S128x64 : Shape := ⟨2, ![128, 64]⟩
abbrev S128x512 : Shape := ⟨2, ![128, 512]⟩
abbrev S1x128x512 : Shape := ⟨3, ![1, 128, 512]⟩
abbrev S16x8x512 : Shape := ⟨3, ![16, 8, 512]⟩
abbrev S8x512 : Shape := ⟨2, ![8, 512]⟩
abbrev S512 : Shape := ⟨1, ![512]⟩
abbrev S1x1x1x80x256 : Shape := ⟨5, ![1, 1, 1, 80, 256]⟩
abbrev S80x256 : Shape := ⟨2, ![80, 256]⟩
abbrev S256x512 : Shape := ⟨2, ![256, 512]⟩
abbrev S512x256 : Shape := ⟨2, ![512, 256]⟩

abbrev nBuf : Space → Nat
  | .hbm => 23
  | .vmem => 10
  | .smem => 0
  | _ => 0

abbrev bufTy : (tb : Table) → Fin (tcTables nBuf tb) → BufTy
  | .hbm, ⟨0, _⟩ => ⟨S8x8192x16x64, .f32⟩
  | .hbm, ⟨1, _⟩ => ⟨S8x8192x4x64, .f32⟩
  | .hbm, ⟨2, _⟩ => ⟨S8x8192x4x64, .f32⟩
  | .hbm, ⟨3, _⟩ => ⟨S8x16x64x8192, .f32⟩
  | .hbm, ⟨4, _⟩ => ⟨S8x16x64x8192, .bf16⟩
  | .hbm, ⟨5, _⟩ => ⟨S8x4x8192x64, .f32⟩
  | .hbm, ⟨6, _⟩ => ⟨S8x4x16x512x64, .f32⟩
  | .hbm, ⟨7, _⟩ => ⟨S8x4x16x512x64, .bf16⟩
  | .hbm, ⟨8, _⟩ => ⟨S8x16x512x4x64, .f32⟩
  | .hbm, ⟨9, _⟩ => ⟨S8x4x16x64x512, .f32⟩
  | .hbm, ⟨10, _⟩ => ⟨S8x4x16x16x512, .i32⟩
  | .hbm, ⟨11, _⟩ => ⟨S_, .i32⟩
  | .hbm, ⟨12, _⟩ => ⟨S8x4x16x16x512, .i32⟩
  | .hbm, ⟨13, _⟩ => ⟨S8x4x16x16x512, .i1⟩
  | .hbm, ⟨14, _⟩ => ⟨S_, .f32⟩
  | .hbm, ⟨15, _⟩ => ⟨S_, .f32⟩
  | .hbm, ⟨16, _⟩ => ⟨S8x4x16x16x512, .f32⟩
  | .hbm, ⟨17, _⟩ => ⟨S8x4x16x16x512, .f32⟩
  | .hbm, ⟨18, _⟩ => ⟨S8x4x16x16x512, .f32⟩
  | .hbm, ⟨19, _⟩ => ⟨S8x4x16x16x512, .f32⟩
  | .hbm, ⟨20, _⟩ => ⟨S8x4x16x80x512, .f32⟩
  | .hbm, ⟨21, _⟩ => ⟨S8x4x16x80x512, .bf16⟩
  | .hbm, ⟨22, _⟩ => ⟨S8x8192x1024, .bf16⟩
  | .local _ .vmem, ⟨0, _⟩ => ⟨S1x4x64x512, .bf16⟩
  | .local _ .vmem, ⟨1, _⟩ => ⟨S1x4x64x512, .bf16⟩
  | .local _ .vmem, ⟨2, _⟩ => ⟨S1x1x16x512x64, .bf16⟩
  | .local _ .vmem, ⟨3, _⟩ => ⟨S1x1x16x512x64, .bf16⟩
  | .local _ .vmem, ⟨4, _⟩ => ⟨S1x1x16x80x512, .bf16⟩
  | .local _ .vmem, ⟨5, _⟩ => ⟨S1x1x16x80x512, .bf16⟩
  | .local _ .vmem, ⟨6, _⟩ => ⟨S1x512x256, .bf16⟩
  | .local _ .vmem, ⟨7, _⟩ => ⟨S1x512x256, .bf16⟩
  | .local _ .vmem, ⟨8, _⟩ => ⟨S4x512x512, .f32⟩
  | .local _ .vmem, ⟨9, _⟩ => ⟨S4x512x512, .f32⟩
  | _, _ => ⟨S8x8192x16x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_c : Ref sig .tc := ⟨.hbm, 11, rfl⟩
abbrev main_v8 : Ref sig .tc := ⟨.hbm, 12, rfl⟩
abbrev main_v9 : Ref sig .tc := ⟨.hbm, 13, rfl⟩
abbrev main_cst : Ref sig .tc := ⟨.hbm, 14, rfl⟩
abbrev main_cst_0 : Ref sig .tc := ⟨.hbm, 15, rfl⟩
abbrev main_call0_v0 : Ref sig .tc := ⟨.hbm, 16, rfl⟩
abbrev main_call0_v1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 4, 16], ![false, false, false]⟩

@[reducible] def k0_t1_loop : Scf.Loop 32 :=
  let c0_i32 : BitVec 32 := 0#32
  let c2_i32 : BitVec 32 := 2#32
  let v476 : BitVec 32 := Scalar.addi c0_i32 c2_i32
  let c1_i32 : BitVec 32 := 1#32
  ⟨c0_i32, v476, c1_i32⟩
def k0_off1 (k0_t1 : Fin k0_t1_loop.trips) (c0_i32_1066 : BitVec 32) : Fin 5 → Nat :=
  let c0_1068 : Index := 0#32
  let c0_1069 : Index := 0#32
  let c6_i32 : BitVec 32 := 6#32
  let c0_i32 : BitVec 32 := 0#32
  let c1_i32 : BitVec 32 := 1#32
  let arg9 : BitVec 32 := Scf.iv c0_i32 c1_i32 k0_t1
  let v1280 : BitVec 32 := Scalar.muli c6_i32 arg9
  let c2_i32_1065 : BitVec 32 := 2#32
  let v1281 : BitVec 32 := Scalar.addi v1280 c2_i32_1065
  let v1282 : BitVec 32 := Scalar.addi v1281 c0_i32_1066
  let v1290 : Index := Scalar.indexCast v1282
  let c0_1070 : Index := 0#32
  let c0_1071 : Index := 0#32
  ![0, 0, v1290.toNat, 0, 0]
def k0_off2 (k0_t1 : Fin k0_t1_loop.trips) (c0_i32_1066 : BitVec 32) : Fin 5 → Nat :=
  let c0_1080 : Index := 0#32
  let c0_1081 : Index := 0#32
  let c6_i32 : BitVec 32 := 6#32
  let c0_i32 : BitVec 32 := 0#32
  let c1_i32 : BitVec 32 := 1#32
  let arg9 : BitVec 32 := Scf.iv c0_i32 c1_i32 k0_t1
  let v1280 : BitVec 32 := Scalar.muli c6_i32 arg9
  let c2_i32_1065 : BitVec 32 := 2#32
  let v1281 : BitVec 32 := Scalar.addi v1280 c2_i32_1065
  let v1282 : BitVec 32 := Scalar.addi v1281 c0_i32_1066
  let v1305 : Index := Scalar.indexCast v1282
  let c128_1082 : Index := 128#32
  let c0_1083 : Index := 0#32
  ![0, 0, v1305.toNat, 128, 0]
def k0_off3 (k0_t1 : Fin k0_t1_loop.trips) (c0_i32_1066 : BitVec 32) : Fin 5 → Nat :=
  let c0_1093 : Index := 0#32
  let c0_1094 : Index := 0#32
  let c6_i32 : BitVec 32 := 6#32
  let c0_i32 : BitVec 32 := 0#32
  let c1_i32 : BitVec 32 := 1#32
  let arg9 : BitVec 32 := Scf.iv c0_i32 c1_i32 k0_t1
  let v1280 : BitVec 32 := Scalar.muli c6_i32 arg9
  let c2_i32_1065 : BitVec 32 := 2#32
  let v1281 : BitVec 32 := Scalar.addi v1280 c2_i32_1065
  let v1282 : BitVec 32 := Scalar.addi v1281 c0_i32_1066
  let c1_i32_1092 : BitVec 32 := 1#32
  let v1321 : BitVec 32 := Scalar.subi v1282 c1_i32_1092
  let v1322 : Index := Scalar.indexCast v1321
  let c0_1095 : Index := 0#32
  let c0_1096 : Index := 0#32
  ![0, 0, v1322.toNat, 0, 0]
def k0_off4 (k0_t1 : Fin k0_t1_loop.trips) (c0_i32_1066 : BitVec 32) : Fin 5 → Nat :=
  let c0_1098 : Index := 0#32
  let c0_1099 : Index := 0#32
  let c6_i32 : BitVec 32 := 6#32
  let c0_i32 : BitVec 32 := 0#32
  let c1_i32 : BitVec 32 := 1#32
  let arg9 : BitVec 32 := Scf.iv c0_i32 c1_i32 k0_t1
  let v1280 : BitVec 32 := Scalar.muli c6_i32 arg9
  let c2_i32_1065 : BitVec 32 := 2#32
  let v1281 : BitVec 32 := Scalar.addi v1280 c2_i32_1065
  let v1282 : BitVec 32 := Scalar.addi v1281 c0_i32_1066
  let v1328 : Index := Scalar.indexCast v1282
  let c256_1100 : Index := 256#32
  let c0_1101 : Index := 0#32
  ![0, 0, v1328.toNat, 256, 0]
def k0_off5 (k0_t1 : Fin k0_t1_loop.trips) (c0_i32_1066 : BitVec 32) : Fin 5 → Nat :=
  let c0_1110 : Index := 0#32
  let c0_1111 : Index := 0#32
  let c6_i32 : BitVec 32 := 6#32
  let c0_i32 : BitVec 32 := 0#32
  let c1_i32 : BitVec 32 := 1#32
  let arg9 : BitVec 32 := Scf.iv c0_i32 c1_i32 k0_t1
  let v1280 : BitVec 32 := Scalar.muli c6_i32 arg9
  let c2_i32_1065 : BitVec 32 := 2#32
  let v1281 : BitVec 32 := Scalar.addi v1280 c2_i32_1065
  let v1282 : BitVec 32 := Scalar.addi v1281 c0_i32_1066
  let v1344 : Index := Scalar.indexCast v1282
  let c384_1112 : Index := 384#32
  let c0_1113 : Index := 0#32
  ![0, 0, v1344.toNat, 384, 0]
def k0_off6 (k0_t1 : Fin k0_t1_loop.trips) (c0_i32_1066 : BitVec 32) : Fin 5 → Nat :=
  let c0_1123 : Index := 0#32
  let c0_1124 : Index := 0#32
  let c6_i32 : BitVec 32 := 6#32
  let c0_i32 : BitVec 32 := 0#32
  let c1_i32 : BitVec 32 := 1#32
  let arg9 : BitVec 32 := Scf.iv c0_i32 c1_i32 k0_t1
  let v1280 : BitVec 32 := Scalar.muli c6_i32 arg9
  let c2_i32_1065 : BitVec 32 := 2#32
  let v1281 : BitVec 32 := Scalar.addi v1280 c2_i32_1065
  let v1282 : BitVec 32 := Scalar.addi v1281 c0_i32_1066
  let c1_i32_1122 : BitVec 32 := 1#32
  let v1360 : BitVec 32 := Scalar.subi v1282 c1_i32_1122
  let v1361 : Index := Scalar.indexCast v1360
  let c0_1125 : Index := 0#32
  let c256_1126 : Index := 256#32
  ![0, 0, v1361.toNat, 0, 256]
def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat, arg2.toNat]

def cc0_transform_1 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

def cc0_transform_2 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x4x64x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x1x16x512x64 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x1x16x80x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x512x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== KernelIdeal.lean ====
variable {F : FTy → Type} [FloatOps F] [Named F]
def κ : String → Option EReal := fun
  | "log2e_8" => some (((Real.log 2)⁻¹ * 8⁻¹ : ℝ) : EReal)
  | _ => none
-- ==== ReferenceIdeal.lean ====
abbrev S8x8192x16x64 : Shape := ⟨4, ![8, 8192, 16, 64]⟩
abbrev S8x8192x4x64 : Shape := ⟨4, ![8, 8192, 4, 64]⟩
abbrev S8x8192x4x4x64 : Shape := ⟨5, ![8, 8192, 4, 4, 64]⟩
abbrev S8x4x8192x8192x4 : Shape := ⟨5, ![8, 4, 8192, 8192, 4]⟩
abbrev S8x4x4x8192x8192 : Shape := ⟨5, ![8, 4, 4, 8192, 8192]⟩
abbrev S_ : Shape := ⟨0, ![]⟩
abbrev S8x4x4x8192 : Shape := ⟨4, ![8, 4, 4, 8192]⟩
abbrev S8x4x4x8192x1 : Shape := ⟨5, ![8, 4, 4, 8192, 1]⟩
abbrev S8x4x64x4x8192 : Shape := ⟨5, ![8, 4, 64, 4, 8192]⟩
abbrev S8x8192x1024 : Shape := ⟨3, ![8, 8192, 1024]⟩

abbrev nBuf : Space → Nat
  | .hbm => 27
  | .vmem => 0
  | .smem => 0
  | _ => 0

abbrev bufTy : (tb : Table) → Fin (tcTables nBuf tb) → BufTy
  | .hbm, ⟨0, _⟩ => ⟨S8x8192x16x64, .f32⟩
  | .hbm, ⟨1, _⟩ => ⟨S8x8192x4x64, .f32⟩
  | .hbm, ⟨2, _⟩ => ⟨S8x8192x4x64, .f32⟩
  | .hbm, ⟨3, _⟩ => ⟨S8x8192x4x4x64, .f32⟩
  | .hbm, ⟨4, _⟩ => ⟨S8x4x8192x8192x4, .f32⟩
  | .hbm, ⟨5, _⟩ => ⟨S8x4x4x8192x8192, .f32⟩
  | .hbm, ⟨6, _⟩ => ⟨S_, .f32⟩
  | .hbm, ⟨7, _⟩ => ⟨S8x4x4x8192x8192, .f32⟩
  | .hbm, ⟨8, _⟩ => ⟨S8x4x4x8192x8192, .f32⟩
  | .hbm, ⟨9, _⟩ => ⟨S_, .f32⟩
  | .hbm, ⟨10, _⟩ => ⟨S8x4x4x8192, .f32⟩
  | .hbm, ⟨11, _⟩ => ⟨S_, .f32⟩
  | .hbm, ⟨12, _⟩ => ⟨S8x4x4x8192, .f32⟩
  | .hbm, ⟨13, _⟩ => ⟨S8x4x4x8192, .f32⟩
  | .hbm, ⟨14, _⟩ => ⟨S8x4x4x8192x1, .f32⟩
  | .hbm, ⟨15, _⟩ => ⟨S8x4x4x8192x8192, .f32⟩
  | .hbm, ⟨16, _⟩ => ⟨S8x4x4x8192x8192, .f32⟩
  | .hbm, ⟨17, _⟩ => ⟨S8x4x4x8192x8192, .f32⟩
  | .hbm, ⟨18, _⟩ => ⟨S_, .f32⟩
  | .hbm, ⟨19, _⟩ => ⟨S8x4x4x8192, .f32⟩
  | .hbm, ⟨20, _⟩ => ⟨S8x4x4x8192x1, .f32⟩
  | .hbm, ⟨21, _⟩ => ⟨S8x4x4x8192x8192, .f32⟩
  | .hbm, ⟨22, _⟩ => ⟨S8x4x4x8192x8192, .f32⟩
  | .hbm, ⟨23, _⟩ => ⟨S8x4x64x4x8192, .f32⟩
  | .hbm, ⟨24, _⟩ => ⟨S8x8192x4x4x64, .f32⟩
  | .hbm, ⟨25, _⟩ => ⟨S8x8192x1024, .f32⟩
  | .hbm, ⟨26, _⟩ => ⟨S8x8192x1024, .bf16⟩
  | _, _ => ⟨S8x8192x16x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_2 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩

abbrev nD : Nat := 1
abbrev τ : Topo := Topo.v7x

variable {F : FTy → Type} [FloatOps F]
-- ==== Final.lean ====
abbrev S8x8192x1024 : Shape := ⟨3, ![8, 8192, 1024]⟩
abbrev S1024x9744 : Shape := ⟨2, ![1024, 9744]⟩
abbrev S1024 : Shape := ⟨1, ![1024]⟩
abbrev S1024x1024 : Shape := ⟨2, ![1024, 1024]⟩
abbrev S1024x3072 : Shape := ⟨2, ![1024, 3072]⟩
abbrev S65536x1024 : Shape := ⟨2, ![65536, 1024]⟩
abbrev S1x1024 : Shape := ⟨2, ![1, 1024]⟩
abbrev S256x1024 : Shape := ⟨2, ![256, 1024]⟩
abbrev S256 : Shape := ⟨1, ![256]⟩
abbrev S256x1 : Shape := ⟨2, ![256, 1]⟩

abbrev nBuf : Space → Nat
  | .hbm => 24
  | .vmem => 18
  | .smem => 0
  | _ => 0

abbrev bufTy : (tb : Table) → Fin (tcTables nBuf tb) → BufTy
  | .hbm, ⟨0, _⟩ => ⟨S8x8192x1024, .f32⟩
  | .hbm, ⟨1, _⟩ => ⟨S8x8192x1024, .bf16⟩
  | .hbm, ⟨2, _⟩ => ⟨S8x8192x1024, .bf16⟩
  | .hbm, ⟨3, _⟩ => ⟨S8x8192x1024, .bf16⟩
  | .hbm, ⟨4, _⟩ => ⟨S8x8192x1024, .bf16⟩
  | .hbm, ⟨5, _⟩ => ⟨S1024x9744, .f32⟩
  | .hbm, ⟨6, _⟩ => ⟨S1024, .f32⟩
  | .hbm, ⟨7, _⟩ => ⟨S1024x1024, .f32⟩
  | .hbm, ⟨8, _⟩ => ⟨S1024x1024, .f32⟩
  | .hbm, ⟨9, _⟩ => ⟨S1024x1024, .f32⟩
  | .hbm, ⟨10, _⟩ => ⟨S1024, .f32⟩
  | .hbm, ⟨11, _⟩ => ⟨S1024x9744, .bf16⟩
  | .hbm, ⟨12, _⟩ => ⟨S1024x3072, .bf16⟩
  | .hbm, ⟨13, _⟩ => ⟨S65536x1024, .f32⟩
  | .hbm, ⟨14, _⟩ => ⟨S65536x1024, .bf16⟩
  | .hbm, ⟨15, _⟩ => ⟨S65536x1024, .bf16⟩
  | .hbm, ⟨16, _⟩ => ⟨S65536x1024, .bf16⟩
  | .hbm, ⟨17, _⟩ => ⟨S65536x1024, .bf16⟩
  | .hbm, ⟨18, _⟩ => ⟨S1x1024, .f32⟩
  | .hbm, ⟨19, _⟩ => ⟨S1x1024, .f32⟩
  | .hbm, ⟨20, _⟩ => ⟨S1024x1024, .bf16⟩
  | .hbm, ⟨21, _⟩ => ⟨S1024x1024, .bf16⟩
  | .hbm, ⟨22, _⟩ => ⟨S1024x1024, .bf16⟩
  | .hbm, ⟨23, _⟩ => ⟨S65536x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .bf16⟩
  | .local _ .vmem, ⟨3, _⟩ => ⟨S256x1024, .bf16⟩
  | .local _ .vmem, ⟨4, _⟩ => ⟨S256x1024, .bf16⟩
  | .local _ .vmem, ⟨5, _⟩ => ⟨S256x1024, .bf16⟩
  | .local _ .vmem, ⟨6, _⟩ => ⟨S256x1024, .bf16⟩
  | .local _ .vmem, ⟨7, _⟩ => ⟨S256x1024, .bf16⟩
  | .local _ .vmem, ⟨8, _⟩ => ⟨S256x1024, .bf16⟩
  | .local _ .vmem, ⟨9, _⟩ => ⟨S256x1024, .bf16⟩
  | .local _ .vmem, ⟨10, _⟩ => ⟨S1x1024, .f32⟩
  | .local _ .vmem, ⟨11, _⟩ => ⟨S1x1024, .f32⟩
  | .local _ .vmem, ⟨12, _⟩ => ⟨S1024x3072, .bf16⟩
  | .local _ .vmem, ⟨13, _⟩ => ⟨S1024x1024, .bf16⟩
  | .local _ .vmem, ⟨14, _⟩ => ⟨S1024x1024, .bf16⟩
  | .local _ .vmem, ⟨15, _⟩ => ⟨S1024x1024, .bf16⟩
  | .local _ .vmem, ⟨16, _⟩ => ⟨S256x1024, .f32⟩
  | .local _ .vmem, ⟨17, _⟩ => ⟨S256x1024, .f32⟩
  | _, _ => ⟨S8x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg11_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem11_1 : DmaSem sig := 17

abbrev nD : Nat := 1
abbrev τ : Topo := Topo.v7x

variable {F : FTy → Type} [FloatOps F]

abbrev grid0 : Pipeline.Grid := ⟨1, ![256], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x3072 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S256x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== ReferenceFinalIdeal.lean ====
abbrev S8x8192x1024 : Shape := ⟨3, ![8, 8192, 1024]⟩
abbrev S1024x9744 : Shape := ⟨2, ![1024, 9744]⟩
abbrev S1024 : Shape := ⟨1, ![1024]⟩
abbrev S1024x1024 : Shape := ⟨2, ![1024, 1024]⟩
abbrev S_ : Shape := ⟨0, ![]⟩
abbrev S8x8192 : Shape := ⟨2, ![8, 8192]⟩
abbrev S8x8192x1 : Shape := ⟨3, ![8, 8192, 1]⟩
abbrev S1x1x1024 : Shape := ⟨3, ![1, 1, 1024]⟩
abbrev S8x8192x9744 : Shape := ⟨3, ![8, 8192, 9744]⟩
abbrev S8x8192x16 : Shape := ⟨3, ![8, 8192, 16]⟩
abbrev S8x8192x256 : Shape := ⟨3, ![8, 8192, 256]⟩
abbrev S65536x1024 : Shape := ⟨2, ![65536, 1024]⟩

abbrev nBuf : Space → Nat
  | .hbm => 96
  | .vmem => 0
  | .smem => 0
  | _ => 0

abbrev bufTy : (tb : Table) → Fin (tcTables nBuf tb) → BufTy
  | .hbm, ⟨0, _⟩ => ⟨S8x8192x1024, .f32⟩
  | .hbm, ⟨1, _⟩ => ⟨S8x8192x1024, .bf16⟩
  | .hbm, ⟨2, _⟩ => ⟨S8x8192x1024, .bf16⟩
  | .hbm, ⟨3, _⟩ => ⟨S8x8192x1024, .bf16⟩
  | .hbm, ⟨4, _⟩ => ⟨S8x8192x1024, .bf16⟩
  | .hbm, ⟨5, _⟩ => ⟨S1024x9744, .f32⟩
  | .hbm, ⟨6, _⟩ => ⟨S1024, .f32⟩
  | .hbm, ⟨7, _⟩ => ⟨S1024x1024, .f32⟩
  | .hbm, ⟨8, _⟩ => ⟨S1024x1024, .f32⟩
  | .hbm, ⟨9, _⟩ => ⟨S1024x1024, .f32⟩
  | .hbm, ⟨10, _⟩ => ⟨S1024, .f32⟩
  | .hbm, ⟨11, _⟩ => ⟨S8x8192x1024, .f32⟩
  | .hbm, ⟨12, _⟩ => ⟨S_, .f32⟩
  | .hbm, ⟨13, _⟩ => ⟨S8x8192, .f32⟩
  | .hbm, ⟨14, _⟩ => ⟨S8x8192x1, .f32⟩
  | .hbm, ⟨15, _⟩ => ⟨S_, .f32⟩
  | .hbm, ⟨16, _⟩ => ⟨S8x8192x1, .f32⟩
  | .hbm, ⟨17, _⟩ => ⟨S8x8192x1, .f32⟩
  | .hbm, ⟨18, _⟩ => ⟨S_, .f32⟩
  | .hbm, ⟨19, _⟩ => ⟨S8x8192x1, .f32⟩
  | .hbm, ⟨20, _⟩ => ⟨S8x8192x1, .f32⟩
  | .hbm, ⟨21, _⟩ => ⟨S8x8192x1, .f32⟩
  | .hbm, ⟨22, _⟩ => ⟨S8x8192x1024, .f32⟩
  | .hbm, ⟨23, _⟩ => ⟨S8x8192x1024, .f32⟩
  | .hbm, ⟨24, _⟩ => ⟨S1x1x1024, .f32⟩
  | .hbm, ⟨25, _⟩ => ⟨S8x8192x1024, .f32⟩
  | .hbm, ⟨26, _⟩ => ⟨S8x8192x1024, .f32⟩
  | .hbm, ⟨27, _⟩ => ⟨S8x8192x9744, .f32⟩
  | .hbm, ⟨28, _⟩ => ⟨S8x8192x1024, .f32⟩
  | .hbm, ⟨29, _⟩ => ⟨S8x8192x1024, .f32⟩
  | .hbm, ⟨30, _⟩ => ⟨S8x8192x1024, .f32⟩
  | .hbm, ⟨31, _⟩ => ⟨S8x8192x1024, .f32⟩
  | .hbm, ⟨32, _⟩ => ⟨S8x8192x1024, .f32⟩
  | .hbm, ⟨33, _⟩ => ⟨S8x8192x16, .f32⟩
  | .hbm, ⟨34, _⟩ => ⟨S8x8192x1024, .f32⟩
  | .hbm, ⟨35, _⟩ => ⟨S8x8192x256, .f32⟩
  | .hbm, ⟨36, _⟩ => ⟨S8x8192x256, .f32⟩
  | .hbm, ⟨37, _⟩ => ⟨S8x8192x1024, .f32⟩
  | .hbm, ⟨38, _⟩ => ⟨S8x8192x1024, .f32⟩
  | .hbm, ⟨39, _⟩ => ⟨S8x8192x1024, .f32⟩
  | .hbm, ⟨40, _⟩ => ⟨S8x8192x1024, .f32⟩
  | .hbm, ⟨41, _⟩ => ⟨S8x8192x1024, .f32⟩
  | .hbm, ⟨42, _⟩ => ⟨S8x8192x1024, .f32⟩
  | .hbm, ⟨43, _⟩ => ⟨S8x8192x1024, .f32⟩
  | .hbm, ⟨44, _⟩ => ⟨S8x8192x1024, .f32⟩
  | .hbm, ⟨45, _⟩ => ⟨S8x8192x1024, .f32⟩
  | .hbm, ⟨46, _⟩ => ⟨S8x8192x1024, .f32⟩
  | .hbm, ⟨47, _⟩ => ⟨S8x8192x1024, .f32⟩
  | .hbm, ⟨48, _⟩ => ⟨S8x8192x1024, .f32⟩
  | .hbm, ⟨49, _⟩ => ⟨S_, .f32⟩
  | .hbm, ⟨50, _⟩ => ⟨S8x8192x1024, .f32⟩
  | .hbm, ⟨51, _⟩ => ⟨S8x8192x1024, .f32⟩
  | .hbm, ⟨52, _⟩ => ⟨S_, .f32⟩
  | .hbm, ⟨53, _⟩ => ⟨S8x8192x1024, .f32⟩
  | .hbm, ⟨54, _⟩ => ⟨S8x8192x1024, .f32⟩
  | .hbm, ⟨55, _⟩ => ⟨S8x8192x1024, .f32⟩
  | .hbm, ⟨56, _⟩ => ⟨S8x8192x1024, .f32⟩
  | .hbm, ⟨57, _⟩ => ⟨S8x8192x1024, .f32⟩
  | .hbm, ⟨58, _⟩ => ⟨S8x8192x1024, .f32⟩
  | .hbm, ⟨59, _⟩ => ⟨S8x8192x1024, .f32⟩
  | .hbm, ⟨60, _⟩ => ⟨S_, .f32⟩
  | .hbm, ⟨61, _⟩ => ⟨S8x8192x1024, .f32⟩
  | .hbm, ⟨62, _⟩ => ⟨S8x8192x1024, .f32⟩
  | .hbm, ⟨63, _⟩ => ⟨S_, .f32⟩
  | .hbm, ⟨64, _⟩ => ⟨S8x8192x1024, .f32⟩
  | .hbm, ⟨65, _⟩ => ⟨S8x8192x1024, .f32⟩
  | .hbm, ⟨66, _⟩ => ⟨S8x8192x1024, .f32⟩
  | .hbm, ⟨67, _⟩ => ⟨S8x8192x1024, .f32⟩
  | .hbm, ⟨68, _⟩ => ⟨S8x8192x1024, .f32⟩
  | .hbm, ⟨69, _⟩ => ⟨S_, .f32⟩
  | .hbm, ⟨70, _⟩ => ⟨S8x8192x1024, .f32⟩
  | .hbm, ⟨71, _⟩ => ⟨S8x8192x1024, .f32⟩
  | .hbm, ⟨72, _⟩ => ⟨S_, .f32⟩
  | .hbm, ⟨73, _⟩ => ⟨S8x8192x1024, .f32⟩
  | .hbm, ⟨74, _⟩ => ⟨S8x8192x1024, .f32⟩
  | .hbm, ⟨75, _⟩ => ⟨S8x8192x1024, .f32⟩
  | .hbm, ⟨76, _⟩ => ⟨S8x8192x1024, .f32⟩
  | .hbm, ⟨77, _⟩ => ⟨S8x8192x1024, .f32⟩
  | .hbm, ⟨78, _⟩ => ⟨S8x8192x1024, .f32⟩
  | .hbm, ⟨79, _⟩ => ⟨S8x8192x1024, .f32⟩
  | .hbm, ⟨80, _⟩ => ⟨S_, .f32⟩
  | .hbm, ⟨81, _⟩ => ⟨S8x8192, .f32⟩
  | .hbm, ⟨82, _⟩ => ⟨S8x8192x1, .f32⟩
  | .hbm, ⟨83, _⟩ => ⟨S_, .f32⟩
  | .hbm, ⟨84, _⟩ => ⟨S8x8192x1, .f32⟩
  | .hbm, ⟨85, _⟩ => ⟨S8x8192x1, .f32⟩
  | .hbm, ⟨86, _⟩ => ⟨S_, .f32⟩
  | .hbm, ⟨87, _⟩ => ⟨S8x8192x1, .f32⟩
  | .hbm, ⟨88, _⟩ => ⟨S8x8192x1, .f32⟩
  | .hbm, ⟨89, _⟩ => ⟨S8x8192x1, .f32⟩
  | .hbm, ⟨90, _⟩ => ⟨S8x8192x1024, .f32⟩
  | .hbm, ⟨91, _⟩ => ⟨S8x8192x1024, .f32⟩
  | .hbm, ⟨92, _⟩ => ⟨S1x1x1024, .f32⟩
  | .hbm, ⟨93, _⟩ => ⟨S8x8192x1024, .f32⟩
  | .hbm, ⟨94, _⟩ => ⟨S8x8192x1024, .f32⟩
  | .hbm, ⟨95, _⟩ => ⟨S65536x1024, .f32⟩
  | _, _ => ⟨S8x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_cst : Ref sig .tc := ⟨.hbm, 12, rfl⟩
abbrev main_v1 : Ref sig .tc := ⟨.hbm, 13, rfl⟩
abbrev main_v2 : Ref sig .tc := ⟨.hbm, 14, rfl⟩
abbrev main_cst_0 : Ref sig .tc := ⟨.hbm, 15, rfl⟩
abbrev main_v3 : Ref sig .tc := ⟨.hbm, 16, rfl⟩
abbrev main_v4 : Ref sig .tc := ⟨.hbm, 17, rfl⟩
abbrev main_cst_1 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_call0_v0 : Ref sig .tc := ⟨.hbm, 47, rfl⟩
abbrev main_call0_v1 : Ref sig .tc := ⟨.hbm, 48, rfl⟩
abbrev main_call0_cst : Ref sig .tc := ⟨.hbm, 49, rfl⟩
abbrev main_call0_v2 : Ref sig .tc := ⟨.hbm, 50, rfl⟩
abbrev main_call0_v3 : Ref sig .tc := ⟨.hbm, 51, rfl⟩
abbrev main_call0_cst_0 : Ref sig .tc := ⟨.hbm, 52, rfl⟩
abbrev main_call0_v4 : Ref sig .tc := ⟨.hbm, 53, rfl⟩
abbrev main_call0_v5 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_cst_2 : Ref sig .tc := ⟨.hbm, 60, rfl⟩
abbrev main_v38 : Ref sig .tc := ⟨.hbm, 61, rfl⟩
abbrev main_v39 : Ref sig .tc := ⟨.hbm, 62, rfl⟩
abbrev main_cst_3 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_cst_4 : Ref sig .tc := ⟨.hbm, 69, rfl⟩
abbrev main_v45 : Ref sig .tc := ⟨.hbm, 70, rfl⟩
abbrev main_v46 : Ref sig .tc := ⟨.hbm, 71, rfl⟩
abbrev main_cst_5 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_cst_6 : Ref sig .tc := ⟨.hbm, 80, rfl⟩
abbrev main_v54 : Ref sig .tc := ⟨.hbm, 81, rfl⟩
abbrev main_v55 : Ref sig .tc := ⟨.hbm, 82, rfl⟩
abbrev main_cst_7 : Ref sig .tc := ⟨.hbm, 83, rfl⟩
abbrev main_v56 : Ref sig .tc := ⟨.hbm, 84, rfl⟩
abbrev main_v57 : Ref sig .tc := ⟨.hbm, 85, rfl⟩
abbrev main_cst_8 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩

abbrev nD : Nat := 1
abbrev τ : Topo := Topo.v7x

variable {F : FTy → Type} [FloatOps F]
-- ==== Proj.lean ====
abbrev S8x8192x1024 : Shape := ⟨3, ![8, 8192, 1024]⟩
abbrev S1024x9744 : Shape := ⟨2, ![1024, 9744]⟩
abbrev S1024 : Shape := ⟨1, ![1024]⟩
abbrev S64 : Shape := ⟨1, ![64]⟩
abbrev S1x1024 : Shape := ⟨2, ![1, 1024]⟩
abbrev S1024x1024 : Shape := ⟨2, ![1024, 1024]⟩
abbrev S1024x3072 : Shape := ⟨2, ![1024, 3072]⟩
abbrev S1024x4096 : Shape := ⟨2, ![1024, 4096]⟩
abbrev S1024x16 : Shape := ⟨2, ![1024, 16]⟩
abbrev S_ : Shape := ⟨0, ![]⟩
abbrev S1024x128 : Shape := ⟨2, ![1024, 128]⟩
abbrev S1024x256 : Shape := ⟨2, ![1024, 256]⟩
abbrev S256x1024 : Shape := ⟨2, ![256, 1024]⟩
abbrev S16 : Shape := ⟨1, ![16]⟩
abbrev S8192 : Shape := ⟨1, ![8192]⟩
abbrev S64x1 : Shape := ⟨2, ![64, 1]⟩
abbrev S1x8192 : Shape := ⟨2, ![1, 8192]⟩
abbrev S64x8192 : Shape := ⟨2, ![64, 8192]⟩
abbrev S4x512x256x128 : Shape := ⟨4, ![4, 512, 256, 128]⟩
abbrev S8x8192x128 : Shape := ⟨3, ![8, 8192, 128]⟩
abbrev S8x16x64x8192 : Shape := ⟨4, ![8, 16, 64, 8192]⟩
abbrev S8x4x16x512x64 : Shape := ⟨5, ![8, 4, 16, 512, 64]⟩
abbrev S8x4x16x80x512 : Shape := ⟨5, ![8, 4, 16, 80, 512]⟩
abbrev S1x512x1024 : Shape := ⟨3, ![1, 512, 1024]⟩
abbrev S64x512 : Shape := ⟨2, ![64, 512]⟩
abbrev S4x4x256x128 : Shape := ⟨4, ![4, 4, 256, 128]⟩
abbrev S1x512x128 : Shape := ⟨3, ![1, 512, 128]⟩
abbrev S1x16x64x512 : Shape := ⟨4, ![1, 16, 64, 512]⟩
abbrev S1x4x1x512x64 : Shape := ⟨5, ![1, 4, 1, 512, 64]⟩
abbrev S1x4x1x80x512 : Shape := ⟨5, ![1, 4, 1, 80, 512]⟩
abbrev S512x1024 : Shape := ⟨2, ![512, 1024]⟩
abbrev S512 : Shape := ⟨1, ![512]⟩
abbrev S512x1 : Shape := ⟨2, ![512, 1]⟩
abbrev S512x128 : Shape := ⟨2, ![512, 128]⟩
abbrev S1024x512 : Shape := ⟨2, ![1024, 512]⟩
abbrev S256x128 : Shape := ⟨2, ![256, 128]⟩
abbrev S1x1x256x128 : Shape := ⟨4, ![1, 1, 256, 128]⟩
abbrev S16x64x512 : Shape := ⟨3, ![16, 64, 512]⟩
abbrev S16x512 : Shape := ⟨2, ![16, 512]⟩
abbrev S16x1x512 : Shape := ⟨3, ![16, 1, 512]⟩
abbrev S16x2x2x16x512 : Shape := ⟨5, ![16, 2, 2, 16, 512]⟩
abbrev S16x2x1x16x512 : Shape := ⟨5, ![16, 2, 1, 16, 512]⟩
abbrev S1x64x512 : Shape := ⟨3, ![1, 64, 512]⟩
abbrev S256x512 : Shape := ⟨2, ![256, 512]⟩
abbrev S4x64x512 : Shape := ⟨3, ![4, 64, 512]⟩
abbrev S4x512 : Shape := ⟨2, ![4, 512]⟩
abbrev S4x1x512 : Shape := ⟨3, ![4, 1, 512]⟩
abbrev S4x2x2x16x512 : Shape := ⟨5, ![4, 2, 2, 16, 512]⟩
abbrev S4x2x1x16x512 : Shape := ⟨5, ![4, 2, 1, 16, 512]⟩
abbrev S4x128x512 : Shape := ⟨3, ![4, 128, 512]⟩
abbrev S512x512 : Shape := ⟨2, ![512, 512]⟩
abbrev S512x64 : Shape := ⟨2, ![512, 64]⟩
abbrev S1x1x1x512x64 : Shape := ⟨5, ![1, 1, 1, 512, 64]⟩
abbrev S1x1x1x64x512 : Shape := ⟨5, ![1, 1, 1, 64, 512]⟩
abbrev S1x1x1x16x512 : Shape := ⟨5, ![1, 1, 1, 16, 512]⟩
abbrev S4x8x64x256x128 : Shape := ⟨5, ![4, 8, 64, 256, 128]⟩
abbrev S8x64x128x4x256 : Shape := ⟨5, ![8, 64, 128, 4, 256]⟩
abbrev S8x8192x16 : Shape := ⟨3, ![8, 8192, 16]⟩
abbrev S8x8192x16x64 : Shape := ⟨4, ![8, 8192, 16, 64]⟩
abbrev S8x16x512x4x64 : Shape := ⟨5, ![8, 16, 512, 4, 64]⟩
abbrev S8x8192x4x64 : Shape := ⟨4, ![8, 8192, 4, 64]⟩
abbrev S8x4x16x64x512 : Shape := ⟨5, ![8, 4, 16, 64, 512]⟩

abbrev nBuf : Space → Nat
  | .hbm => 170
  | .vmem => 33
  | .smem => 0
  | _ => 0

abbrev hbmTy0_0 (i : Nat) : BufTy := match i % 128 with
  | 0 => ⟨S8x8192x1024, .f32⟩
  | 1 => ⟨S1024x9744, .f32⟩
  | 2 => ⟨S1024, .f32⟩
  | 3 => ⟨S64, .f32⟩
  | 4 => ⟨S64, .f32⟩
  | 5 => ⟨S64, .i32⟩
  | 6 => ⟨S64, .i32⟩
  | 7 => ⟨S64, .i1⟩
  | 8 => ⟨S64, .i32⟩
  | 9 => ⟨S1024x9744, .bf16⟩
  | 10 => ⟨S1x1024, .f32⟩
  | 11 => ⟨S1024x1024, .bf16⟩
  | 12 => ⟨S1024x3072, .bf16⟩
  | 13 => ⟨S1024x4096, .bf16⟩
  | 14 => ⟨S1024x1024, .bf16⟩
  | 15 => ⟨S1024x1024, .bf16⟩
  | 16 => ⟨S1024x16, .bf16⟩
  | 17 => ⟨S_, .i32⟩
  | 18 => ⟨S_, .bf16⟩
  | 19 => ⟨S1024x128, .bf16⟩
  | 20 => ⟨S1024x1024, .bf16⟩
  | 21 => ⟨S1024x1024, .bf16⟩
  | 22 => ⟨S1024x256, .bf16⟩
  | 23 => ⟨S256x1024, .bf16⟩
  | 24 => ⟨S1024x256, .bf16⟩
  | 25 => ⟨S256x1024, .bf16⟩
  | 26 => ⟨S16, .f32⟩
  | 27 => ⟨S_, .f32⟩
  | 28 => ⟨S16, .f32⟩
  | 29 => ⟨S16, .f32⟩
  | 30 => ⟨S_, .f32⟩
  | 31 => ⟨S16, .f32⟩
  | 32 => ⟨S16, .f32⟩
  | 33 => ⟨S16, .f32⟩
  | 34 => ⟨S_, .f32⟩
  | 35 => ⟨S16, .f32⟩
  | 36 => ⟨S16, .f32⟩
  | 37 => ⟨S_, .f32⟩
  | 38 => ⟨S16, .f32⟩
  | 39 => ⟨S16, .f32⟩
  | 40 => ⟨S8192, .i32⟩
  | 41 => ⟨S64x1, .i32⟩
  | 42 => ⟨S_, .i32⟩
  | 43 => ⟨S64x1, .i32⟩
  | 44 => ⟨S64x1, .i1⟩
  | 45 => ⟨S_, .i32⟩
  | 46 => ⟨S_, .i32⟩
  | 47 => ⟨S8192, .i32⟩
  | 48 => ⟨S8192, .i32⟩
  | 49 => ⟨S8192, .i32⟩
  | 50 => ⟨S_, .i32⟩
  | 51 => ⟨S8192, .i32⟩
  | 52 => ⟨S8192, .i1⟩
  | 53 => ⟨S8192, .i32⟩
  | 54 => ⟨S8192, .i32⟩
  | 55 => ⟨S_, .i32⟩
  | 56 => ⟨S8192, .i32⟩
  | 57 => ⟨S8192, .i1⟩
  | 58 => ⟨S8192, .i1⟩
  | 59 => ⟨S_, .i32⟩
  | 60 => ⟨S8192, .i32⟩
  | 61 => ⟨S8192, .i32⟩
  | 62 => ⟨S8192, .i32⟩
  | 63 => ⟨S1x8192, .i32⟩
  | 64 => ⟨S_, .i32⟩
  | 65 => ⟨S_, .i32⟩
  | 66 => ⟨S_, .i32⟩
  | 67 => ⟨S_, .i1⟩
  | 68 => ⟨S_, .i32⟩
  | 69 => ⟨S_, .i32⟩
  | 70 => ⟨S8192, .i32⟩
  | 71 => ⟨S8192, .i32⟩
  | 72 => ⟨S_, .i32⟩
  | 73 => ⟨S8192, .i32⟩
  | 74 => ⟨S8192, .i1⟩
  | 75 => ⟨S_, .i32⟩
  | 76 => ⟨S8192, .i32⟩
  | 77 => ⟨S8192, .i1⟩
  | 78 => ⟨S_, .i32⟩
  | 79 => ⟨S_, .i1⟩
  | 80 => ⟨S8192, .i1⟩
  | 81 => ⟨S8192, .i1⟩
  | 82 => ⟨S8192, .i1⟩
  | 83 => ⟨S8192, .i32⟩
  | 84 => ⟨S8192, .i32⟩
  | 85 => ⟨S8192, .i32⟩
  | 86 => ⟨S1x8192, .i32⟩
  | 87 => ⟨S64x8192, .i1⟩
  | 88 => ⟨S64x8192, .i32⟩
  | 89 => ⟨S64x8192, .i32⟩
  | 90 => ⟨S64x8192, .i32⟩
  | 91 => ⟨S64x8192, .f32⟩
  | 92 => ⟨S_, .i32⟩
  | 93 => ⟨S64, .i32⟩
  | 94 => ⟨S64, .i1⟩
  | 95 => ⟨S_, .i32⟩
  | 96 => ⟨S64, .i32⟩
  | 97 => ⟨S64, .i32⟩
  | 98 => ⟨S64, .i32⟩
  | 99 => ⟨S64x1, .i32⟩
  | 100 => ⟨S64, .f32⟩
  | 101 => ⟨S64x1, .f32⟩
  | 102 => ⟨S64x8192, .f32⟩
  | 103 => ⟨S64x8192, .f32⟩
  | 104 => ⟨S64x8192, .f32⟩
  | 105 => ⟨S64x8192, .f32⟩
  | 106 => ⟨S_, .f32⟩
  | 107 => ⟨S_, .f32⟩
  | 108 => ⟨S64, .f32⟩
  | 109 => ⟨S64, .f32⟩
  | 110 => ⟨S64, .f32⟩
  | 111 => ⟨S64x1, .f32⟩
  | 112 => ⟨S_, .f32⟩
  | 113 => ⟨S64, .f32⟩
  | 114 => ⟨S64, .f32⟩
  | 115 => ⟨S64x1, .f32⟩
  | 116 => ⟨S64x8192, .f32⟩
  | 117 => ⟨S64x8192, .f32⟩
  | 118 => ⟨S_, .i32⟩
  | 119 => ⟨S64, .i32⟩
  | 120 => ⟨S64, .i1⟩
  | 121 => ⟨S_, .i32⟩
  | 122 => ⟨S64, .i32⟩
  | 123 => ⟨S64, .i32⟩
  | 124 => ⟨S64, .i32⟩
  | 125 => ⟨S64x1, .i32⟩
  | 126 => ⟨S64, .f32⟩
  | 127 => ⟨S64x1, .f32⟩
  | _ => ⟨S8x8192x1024, .f32⟩

abbrev hbmTy0_1 (i : Nat) : BufTy := match i % 128 with
  | 0 => ⟨S64x1, .f32⟩
  | 1 => ⟨S64x1, .f32⟩
  | 2 => ⟨S64x8192, .f32⟩
  | 3 => ⟨S64x8192, .f32⟩
  | 4 => ⟨S_, .f32⟩
  | 5 => ⟨S64, .f32⟩
  | 6 => ⟨S64, .f32⟩
  | 7 => ⟨S64x1, .f32⟩
  | 8 => ⟨S64x8192, .f32⟩
  | 9 => ⟨S64x8192, .f32⟩
  | 10 => ⟨S_, .i32⟩
  | 11 => ⟨S64, .i32⟩
  | 12 => ⟨S64, .i1⟩
  | 13 => ⟨S_, .i32⟩
  | 14 => ⟨S64, .i32⟩
  | 15 => ⟨S64, .i32⟩
  | 16 => ⟨S64, .i32⟩
  | 17 => ⟨S64x1, .i32⟩
  | 18 => ⟨S64, .f32⟩
  | 19 => ⟨S64x1, .f32⟩
  | 20 => ⟨S64x1, .f32⟩
  | 21 => ⟨S64x1, .f32⟩
  | 22 => ⟨S64x8192, .f32⟩
  | 23 => ⟨S64x8192, .f32⟩
  | 24 => ⟨S8x8192x1024, .bf16⟩
  | 25 => ⟨S4x512x256x128, .bf16⟩
  | 26 => ⟨S8x8192x1024, .bf16⟩
  | 27 => ⟨S8x8192x1024, .bf16⟩
  | 28 => ⟨S8x8192x128, .f32⟩
  | 29 => ⟨S8x16x64x8192, .bf16⟩
  | 30 => ⟨S8x4x16x512x64, .bf16⟩
  | 31 => ⟨S8x4x16x80x512, .bf16⟩
  | 32 => ⟨S4x8x64x256x128, .bf16⟩
  | 33 => ⟨S8x64x128x4x256, .bf16⟩
  | 34 => ⟨S8x8192x1024, .bf16⟩
  | 35 => ⟨S8x8192x16, .f32⟩
  | 36 => ⟨S8x8192x16x64, .bf16⟩
  | 37 => ⟨S8x16x512x4x64, .bf16⟩
  | 38 => ⟨S8x8192x4x64, .bf16⟩
  | 39 => ⟨S8x4x16x64x512, .bf16⟩
  | 40 => ⟨S8x16x512x4x64, .bf16⟩
  | 41 => ⟨S8x8192x4x64, .bf16⟩
  | _ => ⟨S8x8192x1024, .f32⟩

abbrev hbmTy (i : Nat) : BufTy := match i / 128 with
  | 0 => hbmTy0_0 i
  | 1 => hbmTy0_1 i
  | _ => ⟨S8x8192x1024, .f32⟩

abbrev bufTy : (tb : Table) → Fin (tcTables nBuf tb) → BufTy
  | .hbm, ⟨i, _⟩ => hbmTy i
  | .local _ .vmem, ⟨0, _⟩ => ⟨S1x512x1024, .f32⟩
  | .local _ .vmem, ⟨1, _⟩ => ⟨S1x512x1024, .f32⟩
  | .local _ .vmem, ⟨2, _⟩ => ⟨S1x1024, .f32⟩
  | .local _ .vmem, ⟨3, _⟩ => ⟨S1024x4096, .bf16⟩
  | .local _ .vmem, ⟨4, _⟩ => ⟨S1024x1024, .bf16⟩
  | .local _ .vmem, ⟨5, _⟩ => ⟨S1024x128, .bf16⟩
  | .local _ .vmem, ⟨6, _⟩ => ⟨S1024x1024, .bf16⟩
  | .local _ .vmem, ⟨7, _⟩ => ⟨S256x1024, .bf16⟩
  | .local _ .vmem, ⟨8, _⟩ => ⟨S256x1024, .bf16⟩
  | .local _ .vmem, ⟨9, _⟩ => ⟨S64x512, .f32⟩
  | .local _ .vmem, ⟨10, _⟩ => ⟨S64x512, .f32⟩
  | .local _ .vmem, ⟨11, _⟩ => ⟨S64x512, .f32⟩
  | .local _ .vmem, ⟨12, _⟩ => ⟨S64x512, .f32⟩
  | .local _ .vmem, ⟨13, _⟩ => ⟨S64x512, .f32⟩
  | .local _ .vmem, ⟨14, _⟩ => ⟨S64x512, .f32⟩
  | .local _ .vmem, ⟨15, _⟩ => ⟨S64x512, .f32⟩
  | .local _ .vmem, ⟨16, _⟩ => ⟨S64x512, .f32⟩
  | .local _ .vmem, ⟨17, _⟩ => ⟨S1x512x1024, .bf16⟩
  | .local _ .vmem, ⟨18, _⟩ => ⟨S1x512x1024, .bf16⟩
  | .local _ .vmem, ⟨19, _⟩ => ⟨S4x4x256x128, .bf16⟩
  | .local _ .vmem, ⟨20, _⟩ => ⟨S4x4x256x128, .bf16⟩
  | .local _ .vmem, ⟨21, _⟩ => ⟨S1x512x1024, .bf16⟩
  | .local _ .vmem, ⟨22, _⟩ => ⟨S1x512x1024, .bf16⟩
  | .local _ .vmem, ⟨23, _⟩ => ⟨S1x512x1024, .bf16⟩
  | .local _ .vmem, ⟨24, _⟩ => ⟨S1x512x1024, .bf16⟩
  | .local _ .vmem, ⟨25, _⟩ => ⟨S1x512x128, .f32⟩
  | .local _ .vmem, ⟨26, _⟩ => ⟨S1x512x128, .f32⟩
  | .local _ .vmem, ⟨27, _⟩ => ⟨S1x16x64x512, .bf16⟩
  | .local _ .vmem, ⟨28, _⟩ => ⟨S1x16x64x512, .bf16⟩
  | .local _ .vmem, ⟨29, _⟩ => ⟨S1x4x1x512x64, .bf16⟩
  | .local _ .vmem, ⟨30, _⟩ => ⟨S1x4x1x512x64, .bf16⟩
  | .local _ .vmem, ⟨31, _⟩ => ⟨S1x4x1x80x512, .bf16⟩
  | .local _ .vmem, ⟨32, _⟩ => ⟨S1x4x1x80x512, .bf16⟩
  | _, _ => ⟨S8x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTc nBuf bufTy 0 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_c_0 : Ref sig .tc := ⟨.hbm, 6, rfl⟩
abbrev main_c_1 : Ref sig .tc := ⟨.hbm, 7, rfl⟩
abbrev main_c_2 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_c_3 : Ref sig .tc := ⟨.hbm, 17, rfl⟩
abbrev main_call0_v0 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst : Ref sig .tc := ⟨.hbm, 27, rfl⟩
abbrev main_v16 : Ref sig .tc := ⟨.hbm, 28, rfl⟩
abbrev main_v17 : Ref sig .tc := ⟨.hbm, 29, rfl⟩
abbrev main_cst_4 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_cst_5 : Ref sig .tc := ⟨.hbm, 34, rfl⟩
abbrev main_v21 : Ref sig .tc := ⟨.hbm, 35, rfl⟩
abbrev main_v22 : Ref sig .tc := ⟨.hbm, 36, rfl⟩
abbrev main_cst_6 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_c_7 : Ref sig .tc := ⟨.hbm, 42, rfl⟩
abbrev main_v27 : Ref sig .tc := ⟨.hbm, 43, rfl⟩
abbrev main_v28 : Ref sig .tc := ⟨.hbm, 44, rfl⟩
abbrev main_c_8 : Ref sig .tc := ⟨.hbm, 45, rfl⟩
abbrev main_call1_v0 : Ref sig .tc := ⟨.hbm, 46, rfl⟩
abbrev main_call1_v1 : Ref sig .tc := ⟨.hbm, 47, rfl⟩
abbrev main_call1_v2 : Ref sig .tc := ⟨.hbm, 48, rfl⟩
abbrev main_call1_v3 : Ref sig .tc := ⟨.hbm, 49, rfl⟩
abbrev main_call1_v4 : Ref sig .tc := ⟨.hbm, 50, rfl⟩
abbrev main_call1_v5 : Ref sig .tc := ⟨.hbm, 51, rfl⟩
abbrev main_call1_v6 : Ref sig .tc := ⟨.hbm, 52, rfl⟩
abbrev main_call1_v7 : Ref sig .tc := ⟨.hbm, 53, rfl⟩
abbrev main_call1_v8 : Ref sig .tc := ⟨.hbm, 54, rfl⟩
abbrev main_call1_c : Ref sig .tc := ⟨.hbm, 55, rfl⟩
abbrev main_call1_v9 : Ref sig .tc := ⟨.hbm, 56, rfl⟩
abbrev main_call1_v10 : Ref sig .tc := ⟨.hbm, 57, rfl⟩
abbrev main_call1_v11 : Ref sig .tc := ⟨.hbm, 58, rfl⟩
abbrev main_call1_c_0 : Ref sig .tc := ⟨.hbm, 59, rfl⟩
abbrev main_call1_v12 : Ref sig .tc := ⟨.hbm, 60, rfl⟩
abbrev main_call1_v13 : Ref sig .tc := ⟨.hbm, 61, rfl⟩
abbrev main_v29 : Ref sig .tc := ⟨.hbm, 62, rfl⟩
abbrev main_v30 : Ref sig .tc := ⟨.hbm, 63, rfl⟩
abbrev main_c_9 : Ref sig .tc := ⟨.hbm, 64, rfl⟩
abbrev main_call2_v0 : Ref sig .tc := ⟨.hbm, 65, rfl⟩
abbrev main_call2_c : Ref sig .tc := ⟨.hbm, 66, rfl⟩
abbrev main_call2_v1 : Ref sig .tc := ⟨.hbm, 67, rfl⟩
abbrev main_call2_c_0 : Ref sig .tc := ⟨.hbm, 68, rfl⟩
abbrev main_call2_v2 : Ref sig .tc := ⟨.hbm, 69, rfl⟩
abbrev main_call2_v3 : Ref sig .tc := ⟨.hbm, 70, rfl⟩
abbrev main_call2_v4 : Ref sig .tc := ⟨.hbm, 71, rfl⟩
abbrev main_call2_c_1 : Ref sig .tc := ⟨.hbm, 72, rfl⟩
abbrev main_call2_v5 : Ref sig .tc := ⟨.hbm, 73, rfl⟩
abbrev main_call2_v6 : Ref sig .tc := ⟨.hbm, 74, rfl⟩
abbrev main_call2_c_2 : Ref sig .tc := ⟨.hbm, 75, rfl⟩
abbrev main_call2_v7 : Ref sig .tc := ⟨.hbm, 76, rfl⟩
abbrev main_call2_v8 : Ref sig .tc := ⟨.hbm, 77, rfl⟩
abbrev main_call2_c_3 : Ref sig .tc := ⟨.hbm, 78, rfl⟩
abbrev main_call2_v9 : Ref sig .tc := ⟨.hbm, 79, rfl⟩
abbrev main_call2_v10 : Ref sig .tc := ⟨.hbm, 80, rfl⟩
abbrev main_call2_v11 : Ref sig .tc := ⟨.hbm, 81, rfl⟩
abbrev main_call2_v12 : Ref sig .tc := ⟨.hbm, 82, rfl⟩
abbrev main_call2_v13 : Ref sig .tc := ⟨.hbm, 83, rfl⟩
abbrev main_call2_v14 : Ref sig .tc := ⟨.hbm, 84, rfl⟩
abbrev main_v31 : Ref sig .tc := ⟨.hbm, 85, rfl⟩
abbrev main_v32 : Ref sig .tc := ⟨.hbm, 86, rfl⟩
abbrev main_call3_v0 : Ref sig .tc := ⟨.hbm, 87, rfl⟩
abbrev main_call3_v1 : Ref sig .tc := ⟨.hbm, 88, rfl⟩
abbrev main_call3_v2 : Ref sig .tc := ⟨.hbm, 89, rfl⟩
abbrev main_v33 : Ref sig .tc := ⟨.hbm, 90, rfl⟩
abbrev main_v34 : Ref sig .tc := ⟨.hbm, 91, rfl⟩
abbrev main_c_10 : Ref sig .tc := ⟨.hbm, 92, rfl⟩
abbrev main_v35 : Ref sig .tc := ⟨.hbm, 93, rfl⟩
abbrev main_v36 : Ref sig .tc := ⟨.hbm, 94, rfl⟩
abbrev main_c_11 : Ref sig .tc := ⟨.hbm, 95, rfl⟩
abbrev main_v37 : Ref sig .tc := ⟨.hbm, 96, rfl⟩
abbrev main_v38 : Ref sig .tc := ⟨.hbm, 97, rfl⟩
abbrev main_v39 : Ref sig .tc := ⟨.hbm, 98, rfl⟩
abbrev main_v40 : Ref sig .tc := ⟨.hbm, 99, rfl⟩
abbrev main_v41 : Ref sig .tc := ⟨.hbm, 100, rfl⟩
abbrev main_v42 : Ref sig .tc := ⟨.hbm, 101, rfl⟩
abbrev main_v43 : Ref sig .tc := ⟨.hbm, 102, rfl⟩
abbrev main_v44 : Ref sig .tc := ⟨.hbm, 103, rfl⟩
abbrev main_v45 : Ref sig .tc := ⟨.hbm, 104, rfl⟩
abbrev main_v46 : Ref sig .tc := ⟨.hbm, 105, rfl⟩
abbrev main_cst_12 : Ref sig .tc := ⟨.hbm, 106, rfl⟩
abbrev main_cst_13 : Ref sig .tc := ⟨.hbm, 107, rfl⟩
abbrev main_call4_v0 : Ref sig .tc := ⟨.hbm, 108, rfl⟩
abbrev main_call4_v1 : Ref sig .tc := ⟨.hbm, 109, rfl⟩
abbrev main_v47 : Ref sig .tc := ⟨.hbm, 110, rfl⟩
abbrev main_v48 : Ref sig .tc := ⟨.hbm, 111, rfl⟩
abbrev main_cst_14 : Ref sig .tc := ⟨.hbm, 112, rfl⟩
abbrev main_v49 : Ref sig .tc := ⟨.hbm, 113, rfl⟩
abbrev main_v50 : Ref sig .tc := ⟨.hbm, 114, rfl⟩
abbrev main_v51 : Ref sig .tc := ⟨.hbm, 115, rfl⟩
abbrev main_v52 : Ref sig .tc := ⟨.hbm, 116, rfl⟩
abbrev main_v53 : Ref sig .tc := ⟨.hbm, 117, rfl⟩
abbrev main_c_15 : Ref sig .tc := ⟨.hbm, 118, rfl⟩
abbrev main_v54 : Ref sig .tc := ⟨.hbm, 119, rfl⟩
abbrev main_v55 : Ref sig .tc := ⟨.hbm, 120, rfl⟩
abbrev main_c_16 : Ref sig .tc := ⟨.hbm, 121, rfl⟩
abbrev main_v56 : Ref sig .tc := ⟨.hbm, 122, rfl⟩
abbrev main_v57 : Ref sig .tc := ⟨.hbm, 123, rfl⟩
abbrev main_v58 : Ref sig .tc := ⟨.hbm, 124, rfl⟩
abbrev main_v59 : Ref sig .tc := ⟨.hbm, 125, rfl⟩
abbrev main_v60 : Ref sig .tc := ⟨.hbm, 126, rfl⟩
abbrev main_v61 : Ref sig .tc := ⟨.hbm, 127, rfl⟩
abbrev main_v62 : Ref sig .tc := ⟨.hbm, 128, rfl⟩
abbrev main_v63 : Ref sig .tc := ⟨.hbm, 129, rfl⟩
abbrev main_v64 : Ref sig .tc := ⟨.hbm, 130, rfl⟩
abbrev main_v65 : Ref sig .tc := ⟨.hbm, 131, rfl⟩
abbrev main_cst_17 : Ref sig .tc := ⟨.hbm, 132, rfl⟩
abbrev main_v66 : Ref sig .tc := ⟨.hbm, 133, rfl⟩
abbrev main_v67 : Ref sig .tc := ⟨.hbm, 134, rfl⟩
abbrev main_v68 : Ref sig .tc := ⟨.hbm, 135, rfl⟩
abbrev main_v69 : Ref sig .tc := ⟨.hbm, 136, rfl⟩
abbrev main_v70 : Ref sig .tc := ⟨.hbm, 137, rfl⟩
abbrev main_c_18 : Ref sig .tc := ⟨.hbm, 138, rfl⟩
abbrev main_v71 : Ref sig .tc := ⟨.hbm, 139, rfl⟩
abbrev main_v72 : Ref sig .tc := ⟨.hbm, 140, rfl⟩
abbrev main_c_19 : Ref sig .tc := ⟨.hbm, 141, rfl⟩
abbrev main_v73 : Ref sig .tc := ⟨.hbm, 142, rfl⟩
abbrev main_v74 : Ref sig .tc := ⟨.hbm, 143, rfl⟩
abbrev main_v75 : Ref sig .tc := ⟨.hbm, 144, rfl⟩
abbrev main_v76 : Ref sig .tc := ⟨.hbm, 145, rfl⟩
abbrev main_v77 : Ref sig .tc := ⟨.hbm, 146, rfl⟩
abbrev main_v78 : Ref sig .tc := ⟨.hbm, 147, rfl⟩
abbrev main_v79 : Ref sig .tc := ⟨.hbm, 148, rfl⟩
abbrev main_v80 : Ref sig .tc := ⟨.hbm, 149, rfl⟩
abbrev main_v81 : Ref sig .tc := ⟨.hbm, 150, rfl⟩
abbrev main_v82 : Ref sig .tc := ⟨.hbm, 151, rfl⟩
abbrev main_v83_0 : Ref sig .tc := ⟨.hbm, 152, rfl⟩
abbrev main_v83_1 : Ref sig .tc := ⟨.hbm, 153, rfl⟩
abbrev main_v83_2 : Ref sig .tc := ⟨.hbm, 154, rfl⟩
abbrev main_v83_3 : Ref sig .tc := ⟨.hbm, 155, rfl⟩
abbrev main_v83_4 : Ref sig .tc := ⟨.hbm, 156, rfl⟩
abbrev main_v83_5 : Ref sig .tc := ⟨.hbm, 157, rfl⟩
abbrev main_v83_6 : Ref sig .tc := ⟨.hbm, 158, rfl⟩
abbrev main_v83_7 : Ref sig .tc := ⟨.hbm, 159, rfl⟩
abbrev main_v84 : Ref sig .tc := ⟨.hbm, 160, rfl⟩
abbrev main_v85 : Ref sig .tc := ⟨.hbm, 161, rfl⟩
abbrev main_v86 : Ref sig .tc := ⟨.hbm, 162, rfl⟩
abbrev main_v87 : Ref sig .tc := ⟨.hbm, 163, rfl⟩
abbrev main_v88 : Ref sig .tc := ⟨.hbm, 164, rfl⟩
abbrev main_v89 : Ref sig .tc := ⟨.hbm, 165, rfl⟩
abbrev main_v90 : Ref sig .tc := ⟨.hbm, 166, rfl⟩
abbrev main_v91 : Ref sig .tc := ⟨.hbm, 167, rfl⟩
abbrev main_v92 : Ref sig .tc := ⟨.hbm, 168, rfl⟩
abbrev main_v93 : Ref sig .tc := ⟨.hbm, 169, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg8_1 : Ref sig .tc := ⟨.vmem, 10, rfl⟩
abbrev cc0_stg9_0 : Ref sig .tc := ⟨.vmem, 11, rfl⟩
abbrev cc0_stg9_1 : Ref sig .tc := ⟨.vmem, 12, rfl⟩
abbrev cc0_stg10_0 : Ref sig .tc := ⟨.vmem, 13, rfl⟩
abbrev cc0_stg10_1 : Ref sig .tc := ⟨.vmem, 14, rfl⟩
abbrev cc0_stg11_0 : Ref sig .tc := ⟨.vmem, 15, rfl⟩
abbrev cc0_stg11_1 : Ref sig .tc := ⟨.vmem, 16, rfl⟩
abbrev cc0_stg12_0 : Ref sig .tc := ⟨.vmem, 17, rfl⟩
abbrev cc0_stg12_1 : Ref sig .tc := ⟨.vmem, 18, rfl⟩
abbrev cc0_stg13_0 : Ref sig .tc := ⟨.vmem, 19, rfl⟩
abbrev cc0_stg13_1 : Ref sig .tc := ⟨.vmem, 20, rfl⟩
abbrev cc0_stg14_0 : Ref sig .tc := ⟨.vmem, 21, rfl⟩
abbrev cc0_stg14_1 : Ref sig .tc := ⟨.vmem, 22, rfl⟩
abbrev cc0_stg15_0 : Ref sig .tc := ⟨.vmem, 23, rfl⟩
abbrev cc0_stg15_1 : Ref sig .tc := ⟨.vmem, 24, rfl⟩
abbrev cc0_stg16_0 : Ref sig .tc := ⟨.vmem, 25, rfl⟩
abbrev cc0_stg16_1 : Ref sig .tc := ⟨.vmem, 26, rfl⟩
abbrev cc0_stg17_0 : Ref sig .tc := ⟨.vmem, 27, rfl⟩
abbrev cc0_stg17_1 : Ref sig .tc := ⟨.vmem, 28, rfl⟩
abbrev cc0_stg18_0 : Ref sig .tc := ⟨.vmem, 29, rfl⟩
abbrev cc0_stg18_1 : Ref sig .tc := ⟨.vmem, 30, rfl⟩
abbrev cc0_stg19_0 : Ref sig .tc := ⟨.vmem, 31, rfl⟩
abbrev cc0_stg19_1 : Ref sig .tc := ⟨.vmem, 32, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem8_1 : DmaSem sig := 10
abbrev cc0_sem9_0 : DmaSem sig := 11
abbrev cc0_sem9_1 : DmaSem sig := 12
abbrev cc0_sem10_0 : DmaSem sig := 13
abbrev cc0_sem10_1 : DmaSem sig := 14
abbrev cc0_sem11_0 : DmaSem sig := 15
abbrev cc0_sem11_1 : DmaSem sig := 16
abbrev cc0_sem12_0 : DmaSem sig := 17
abbrev cc0_sem12_1 : DmaSem sig := 18
abbrev cc0_sem13_0 : DmaSem sig := 19
abbrev cc0_sem13_1 : DmaSem sig := 20
abbrev cc0_sem14_0 : DmaSem sig := 21
abbrev cc0_sem14_1 : DmaSem sig := 22
abbrev cc0_sem15_0 : DmaSem sig := 23
abbrev cc0_sem15_1 : DmaSem sig := 24
abbrev cc0_sem16_0 : DmaSem sig := 25
abbrev cc0_sem16_1 : DmaSem sig := 26
abbrev cc0_sem17_0 : DmaSem sig := 27
abbrev cc0_sem17_1 : DmaSem sig := 28
abbrev cc0_sem18_0 : DmaSem sig := 29
abbrev cc0_sem18_1 : DmaSem sig := 30
abbrev cc0_sem19_0 : DmaSem sig := 31
abbrev cc0_sem19_1 : DmaSem sig := 32

abbrev nD : Nat := 1
abbrev τ : Topo := Topo.v7x

variable {F : FTy → Type} [FloatOps F]

abbrev grid0 : Pipeline.Grid := ⟨2, ![8, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_13 (i : grid0.Coords) : Fin 4 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_17 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat, arg1.toNat]

def cc0_transform_18 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, arg1.toNat, c0_i32_0.toNat, c0_i32_1.toNat]

def cc0_transform_19 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, arg1.toNat, c0_i32_0.toNat, c0_i32_1.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x4096 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S256x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S256x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S64x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 2 → Memref sig .tc .vmem S64x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true]

abbrev stage0_10 : Fin 2 → Memref sig .tc .vmem S64x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![false, true]

abbrev stage0_11 : Fin 2 → Memref sig .tc .vmem S64x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![false, true]

abbrev stage0_12 : Fin 2 → Memref sig .tc .vmem S1x512x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S4x4x256x128 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x512x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x512x1024 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S1x512x128 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 2 → Memref sig .tc .vmem S1x16x64x512 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]

abbrev stage0_18 : Fin 2 → Memref sig .tc .vmem S1x4x1x512x64 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, true]

abbrev stage0_19 : Fin 2 → Memref sig .tc .vmem S1x4x1x80x512 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true, true]
-- ==== ReferenceProjIdeal.lean ====
abbrev S8x8192x1024 : Shape := ⟨3, ![8, 8192, 1024]⟩
abbrev S1024x9744 : Shape := ⟨2, ![1024, 9744]⟩
abbrev S1024 : Shape := ⟨1, ![1024]⟩
abbrev S64 : Shape := ⟨1, ![64]⟩
abbrev S_ : Shape := ⟨0, ![]⟩
abbrev S8x8192 : Shape := ⟨2, ![8, 8192]⟩
abbrev S8x8192x1 : Shape := ⟨3, ![8, 8192, 1]⟩
abbrev S1x1x1024 : Shape := ⟨3, ![1, 1, 1024]⟩
abbrev S8x8192x9744 : Shape := ⟨3, ![8, 8192, 9744]⟩
abbrev S8x8192x16 : Shape := ⟨3, ![8, 8192, 16]⟩
abbrev S8x8192x256 : Shape := ⟨3, ![8, 8192, 256]⟩
abbrev S128 : Shape := ⟨1, ![128]⟩
abbrev S128x1 : Shape := ⟨2, ![128, 1]⟩
abbrev S128x64 : Shape := ⟨2, ![128, 64]⟩
abbrev S8192 : Shape := ⟨1, ![8192]⟩
abbrev S1x64 : Shape := ⟨2, ![1, 64]⟩
abbrev S8x8192x16x64 : Shape := ⟨4, ![8, 8192, 16, 64]⟩
abbrev S8x8192x4x64 : Shape := ⟨4, ![8, 8192, 4, 64]⟩
abbrev S8x8192x16x1 : Shape := ⟨4, ![8, 8192, 16, 1]⟩
abbrev S1x1x1x64 : Shape := ⟨4, ![1, 1, 1, 64]⟩
abbrev S8x8192x16x32 : Shape := ⟨4, ![8, 8192, 16, 32]⟩
abbrev S16 : Shape := ⟨1, ![16]⟩
abbrev S8192x1 : Shape := ⟨2, ![8192, 1]⟩
abbrev S1x16 : Shape := ⟨2, ![1, 16]⟩
abbrev S8192x16 : Shape := ⟨2, ![8192, 16]⟩
abbrev S1x8192x1x16 : Shape := ⟨4, ![1, 8192, 1, 16]⟩
abbrev S8x8192x16x16 : Shape := ⟨4, ![8, 8192, 16, 16]⟩
abbrev S8x8192x4 : Shape := ⟨3, ![8, 8192, 4]⟩
abbrev S8x8192x4x1 : Shape := ⟨4, ![8, 8192, 4, 1]⟩
abbrev S8x8192x4x32 : Shape := ⟨4, ![8, 8192, 4, 32]⟩
abbrev S8x8192x4x16 : Shape := ⟨4, ![8, 8192, 4, 16]⟩

abbrev nBuf : Space → Nat
  | .hbm => 259
  | .vmem => 0
  | .smem => 0
  | _ => 0

abbrev hbmTy0_0 (i : Nat) : BufTy := match i % 128 with
  | 0 => ⟨S8x8192x1024, .f32⟩
  | 1 => ⟨S1024x9744, .f32⟩
  | 2 => ⟨S1024, .f32⟩
  | 3 => ⟨S64, .f32⟩
  | 4 => ⟨S64, .f32⟩
  | 5 => ⟨S8x8192x1024, .f32⟩
  | 6 => ⟨S_, .f32⟩
  | 7 => ⟨S8x8192, .f32⟩
  | 8 => ⟨S8x8192x1, .f32⟩
  | 9 => ⟨S_, .f32⟩
  | 10 => ⟨S8x8192x1, .f32⟩
  | 11 => ⟨S8x8192x1, .f32⟩
  | 12 => ⟨S_, .f32⟩
  | 13 => ⟨S8x8192x1, .f32⟩
  | 14 => ⟨S8x8192x1, .f32⟩
  | 15 => ⟨S8x8192x1, .f32⟩
  | 16 => ⟨S8x8192x1024, .f32⟩
  | 17 => ⟨S8x8192x1024, .f32⟩
  | 18 => ⟨S1x1x1024, .f32⟩
  | 19 => ⟨S8x8192x1024, .f32⟩
  | 20 => ⟨S8x8192x1024, .f32⟩
  | 21 => ⟨S8x8192x9744, .f32⟩
  | 22 => ⟨S8x8192x1024, .f32⟩
  | 23 => ⟨S8x8192x1024, .f32⟩
  | 24 => ⟨S8x8192x1024, .f32⟩
  | 25 => ⟨S8x8192x1024, .f32⟩
  | 26 => ⟨S8x8192x1024, .f32⟩
  | 27 => ⟨S8x8192x16, .f32⟩
  | 28 => ⟨S8x8192x1024, .f32⟩
  | 29 => ⟨S8x8192x256, .f32⟩
  | 30 => ⟨S8x8192x256, .f32⟩
  | 31 => ⟨S8x8192x1024, .f32⟩
  | 32 => ⟨S8x8192x1024, .f32⟩
  | 33 => ⟨S8x8192x1024, .f32⟩
  | 34 => ⟨S8x8192x1024, .f32⟩
  | 35 => ⟨S8x8192x1024, .f32⟩
  | 36 => ⟨S_, .f32⟩
  | 37 => ⟨S8x8192x1024, .f32⟩
  | 38 => ⟨S8x8192x1024, .f32⟩
  | 39 => ⟨S_, .f32⟩
  | 40 => ⟨S8x8192x1024, .f32⟩
  | 41 => ⟨S8x8192x1024, .f32⟩
  | 42 => ⟨S8x8192x1024, .f32⟩
  | 43 => ⟨S8x8192x1024, .f32⟩
  | 44 => ⟨S_, .f32⟩
  | 45 => ⟨S8x8192x1024, .f32⟩
  | 46 => ⟨S8x8192x1024, .f32⟩
  | 47 => ⟨S_, .f32⟩
  | 48 => ⟨S8x8192x1024, .f32⟩
  | 49 => ⟨S8x8192x1024, .f32⟩
  | 50 => ⟨S8x8192x1024, .f32⟩
  | 51 => ⟨S8x8192x1024, .f32⟩
  | 52 => ⟨S128, .i32⟩
  | 53 => ⟨S128x1, .i32⟩
  | 54 => ⟨S128x64, .i32⟩
  | 55 => ⟨S8192, .i32⟩
  | 56 => ⟨S64, .i32⟩
  | 57 => ⟨S1x64, .i32⟩
  | 58 => ⟨S128x64, .i32⟩
  | 59 => ⟨S8192, .i32⟩
  | 60 => ⟨S8x8192x16x64, .f32⟩
  | 61 => ⟨S8x8192x4x64, .f32⟩
  | 62 => ⟨S8x8192x4x64, .f32⟩
  | 63 => ⟨S8x8192x16x64, .f32⟩
  | 64 => ⟨S_, .f32⟩
  | 65 => ⟨S8x8192x16, .f32⟩
  | 66 => ⟨S8x8192x16x1, .f32⟩
  | 67 => ⟨S_, .f32⟩
  | 68 => ⟨S8x8192x16x1, .f32⟩
  | 69 => ⟨S8x8192x16x1, .f32⟩
  | 70 => ⟨S_, .f32⟩
  | 71 => ⟨S8x8192x16x1, .f32⟩
  | 72 => ⟨S8x8192x16x1, .f32⟩
  | 73 => ⟨S8x8192x16x1, .f32⟩
  | 74 => ⟨S8x8192x16x64, .f32⟩
  | 75 => ⟨S8x8192x16x64, .f32⟩
  | 76 => ⟨S1x1x1x64, .f32⟩
  | 77 => ⟨S8x8192x16x64, .f32⟩
  | 78 => ⟨S8x8192x16x64, .f32⟩
  | 79 => ⟨S8x8192x16x32, .f32⟩
  | 80 => ⟨S16, .f32⟩
  | 81 => ⟨S_, .f32⟩
  | 82 => ⟨S16, .f32⟩
  | 83 => ⟨S16, .f32⟩
  | 84 => ⟨S_, .f32⟩
  | 85 => ⟨S16, .f32⟩
  | 86 => ⟨S16, .f32⟩
  | 87 => ⟨S16, .f32⟩
  | 88 => ⟨S_, .f32⟩
  | 89 => ⟨S16, .f32⟩
  | 90 => ⟨S16, .f32⟩
  | 91 => ⟨S_, .f32⟩
  | 92 => ⟨S16, .f32⟩
  | 93 => ⟨S16, .f32⟩
  | 94 => ⟨S8192, .f32⟩
  | 95 => ⟨S8192x1, .f32⟩
  | 96 => ⟨S1x16, .f32⟩
  | 97 => ⟨S8192x16, .f32⟩
  | 98 => ⟨S8192x16, .f32⟩
  | 99 => ⟨S8192x16, .f32⟩
  | 100 => ⟨S8192x16, .f32⟩
  | 101 => ⟨S1x8192x1x16, .f32⟩
  | 102 => ⟨S8192x16, .f32⟩
  | 103 => ⟨S1x8192x1x16, .f32⟩
  | 104 => ⟨S8x8192x16x16, .f32⟩
  | 105 => ⟨S8x8192x16x16, .f32⟩
  | 106 => ⟨S8x8192x16x16, .f32⟩
  | 107 => ⟨S8x8192x16x16, .f32⟩
  | 108 => ⟨S8x8192x16x16, .f32⟩
  | 109 => ⟨S8x8192x16x16, .f32⟩
  | 110 => ⟨S8x8192x16x16, .f32⟩
  | 111 => ⟨S8x8192x16x16, .f32⟩
  | 112 => ⟨S8x8192x16x16, .f32⟩
  | 113 => ⟨S8x8192x16x16, .f32⟩
  | 114 => ⟨S8x8192x16x16, .f32⟩
  | 115 => ⟨S8x8192x16x16, .f32⟩
  | 116 => ⟨S8x8192x16x32, .f32⟩
  | 117 => ⟨S8x8192x16x32, .f32⟩
  | 118 => ⟨S16, .f32⟩
  | 119 => ⟨S_, .f32⟩
  | 120 => ⟨S16, .f32⟩
  | 121 => ⟨S16, .f32⟩
  | 122 => ⟨S_, .f32⟩
  | 123 => ⟨S16, .f32⟩
  | 124 => ⟨S16, .f32⟩
  | 125 => ⟨S16, .f32⟩
  | 126 => ⟨S_, .f32⟩
  | 127 => ⟨S16, .f32⟩
  | _ => ⟨S8x8192x1024, .f32⟩

abbrev hbmTy0_1 (i : Nat) : BufTy := match i % 128 with
  | 0 => ⟨S16, .f32⟩
  | 1 => ⟨S_, .f32⟩
  | 2 => ⟨S16, .f32⟩
  | 3 => ⟨S16, .f32⟩
  | 4 => ⟨S8192, .f32⟩
  | 5 => ⟨S8192x1, .f32⟩
  | 6 => ⟨S1x16, .f32⟩
  | 7 => ⟨S8192x16, .f32⟩
  | 8 => ⟨S8192x16, .f32⟩
  | 9 => ⟨S8192x16, .f32⟩
  | 10 => ⟨S8192x16, .f32⟩
  | 11 => ⟨S1x8192x1x16, .f32⟩
  | 12 => ⟨S8192x16, .f32⟩
  | 13 => ⟨S1x8192x1x16, .f32⟩
  | 14 => ⟨S8x8192x16x16, .f32⟩
  | 15 => ⟨S8x8192x16x16, .f32⟩
  | 16 => ⟨S8x8192x16x16, .f32⟩
  | 17 => ⟨S8x8192x16x16, .f32⟩
  | 18 => ⟨S8x8192x16x16, .f32⟩
  | 19 => ⟨S8x8192x16x16, .f32⟩
  | 20 => ⟨S8x8192x16x16, .f32⟩
  | 21 => ⟨S8x8192x16x16, .f32⟩
  | 22 => ⟨S8x8192x16x16, .f32⟩
  | 23 => ⟨S8x8192x16x16, .f32⟩
  | 24 => ⟨S8x8192x16x16, .f32⟩
  | 25 => ⟨S8x8192x16x16, .f32⟩
  | 26 => ⟨S8x8192x16x32, .f32⟩
  | 27 => ⟨S8x8192x16x64, .f32⟩
  | 28 => ⟨S8x8192x4x64, .f32⟩
  | 29 => ⟨S_, .f32⟩
  | 30 => ⟨S8x8192x4, .f32⟩
  | 31 => ⟨S8x8192x4x1, .f32⟩
  | 32 => ⟨S_, .f32⟩
  | 33 => ⟨S8x8192x4x1, .f32⟩
  | 34 => ⟨S8x8192x4x1, .f32⟩
  | 35 => ⟨S_, .f32⟩
  | 36 => ⟨S8x8192x4x1, .f32⟩
  | 37 => ⟨S8x8192x4x1, .f32⟩
  | 38 => ⟨S8x8192x4x1, .f32⟩
  | 39 => ⟨S8x8192x4x64, .f32⟩
  | 40 => ⟨S8x8192x4x64, .f32⟩
  | 41 => ⟨S1x1x1x64, .f32⟩
  | 42 => ⟨S8x8192x4x64, .f32⟩
  | 43 => ⟨S8x8192x4x64, .f32⟩
  | 44 => ⟨S8x8192x4x32, .f32⟩
  | 45 => ⟨S16, .f32⟩
  | 46 => ⟨S_, .f32⟩
  | 47 => ⟨S16, .f32⟩
  | 48 => ⟨S16, .f32⟩
  | 49 => ⟨S_, .f32⟩
  | 50 => ⟨S16, .f32⟩
  | 51 => ⟨S16, .f32⟩
  | 52 => ⟨S16, .f32⟩
  | 53 => ⟨S_, .f32⟩
  | 54 => ⟨S16, .f32⟩
  | 55 => ⟨S16, .f32⟩
  | 56 => ⟨S_, .f32⟩
  | 57 => ⟨S16, .f32⟩
  | 58 => ⟨S16, .f32⟩
  | 59 => ⟨S8192, .f32⟩
  | 60 => ⟨S8192x1, .f32⟩
  | 61 => ⟨S1x16, .f32⟩
  | 62 => ⟨S8192x16, .f32⟩
  | 63 => ⟨S8192x16, .f32⟩
  | 64 => ⟨S8192x16, .f32⟩
  | 65 => ⟨S8192x16, .f32⟩
  | 66 => ⟨S1x8192x1x16, .f32⟩
  | 67 => ⟨S8192x16, .f32⟩
  | 68 => ⟨S1x8192x1x16, .f32⟩
  | 69 => ⟨S8x8192x4x16, .f32⟩
  | 70 => ⟨S8x8192x4x16, .f32⟩
  | 71 => ⟨S8x8192x4x16, .f32⟩
  | 72 => ⟨S8x8192x4x16, .f32⟩
  | 73 => ⟨S8x8192x4x16, .f32⟩
  | 74 => ⟨S8x8192x4x16, .f32⟩
  | 75 => ⟨S8x8192x4x16, .f32⟩
  | 76 => ⟨S8x8192x4x16, .f32⟩
  | 77 => ⟨S8x8192x4x16, .f32⟩
  | 78 => ⟨S8x8192x4x16, .f32⟩
  | 79 => ⟨S8x8192x4x16, .f32⟩
  | 80 => ⟨S8x8192x4x16, .f32⟩
  | 81 => ⟨S8x8192x4x32, .f32⟩
  | 82 => ⟨S8x8192x4x32, .f32⟩
  | 83 => ⟨S16, .f32⟩
  | 84 => ⟨S_, .f32⟩
  | 85 => ⟨S16, .f32⟩
  | 86 => ⟨S16, .f32⟩
  | 87 => ⟨S_, .f32⟩
  | 88 => ⟨S16, .f32⟩
  | 89 => ⟨S16, .f32⟩
  | 90 => ⟨S16, .f32⟩
  | 91 => ⟨S_, .f32⟩
  | 92 => ⟨S16, .f32⟩
  | 93 => ⟨S16, .f32⟩
  | 94 => ⟨S_, .f32⟩
  | 95 => ⟨S16, .f32⟩
  | 96 => ⟨S16, .f32⟩
  | 97 => ⟨S8192, .f32⟩
  | 98 => ⟨S8192x1, .f32⟩
  | 99 => ⟨S1x16, .f32⟩
  | 100 => ⟨S8192x16, .f32⟩
  | 101 => ⟨S8192x16, .f32⟩
  | 102 => ⟨S8192x16, .f32⟩
  | 103 => ⟨S8192x16, .f32⟩
  | 104 => ⟨S1x8192x1x16, .f32⟩
  | 105 => ⟨S8192x16, .f32⟩
  | 106 => ⟨S1x8192x1x16, .f32⟩
  | 107 => ⟨S8x8192x4x16, .f32⟩
  | 108 => ⟨S8x8192x4x16, .f32⟩
  | 109 => ⟨S8x8192x4x16, .f32⟩
  | 110 => ⟨S8x8192x4x16, .f32⟩
  | 111 => ⟨S8x8192x4x16, .f32⟩
  | 112 => ⟨S8x8192x4x16, .f32⟩
  | 113 => ⟨S8x8192x4x16, .f32⟩
  | 114 => ⟨S8x8192x4x16, .f32⟩
  | 115 => ⟨S8x8192x4x16, .f32⟩
  | 116 => ⟨S8x8192x4x16, .f32⟩
  | 117 => ⟨S8x8192x4x16, .f32⟩
  | 118 => ⟨S8x8192x4x16, .f32⟩
  | 119 => ⟨S8x8192x4x32, .f32⟩
  | 120 => ⟨S8x8192x4x64, .f32⟩
  | 121 => ⟨S8x8192x1024, .bf16⟩
  | 122 => ⟨S_, .f32⟩
  | 123 => ⟨S8x8192x1024, .f32⟩
  | 124 => ⟨S8x8192x1024, .f32⟩
  | 125 => ⟨S8x8192x1024, .bf16⟩
  | 126 => ⟨S8x8192x1024, .bf16⟩
  | 127 => ⟨S8x8192x1024, .bf16⟩
  | _ => ⟨S8x8192x1024, .f32⟩

abbrev hbmTy0_2 (i : Nat) : BufTy := match i % 128 with
  | 0 => ⟨S8x8192x16x64, .bf16⟩
  | 1 => ⟨S8x8192x4x64, .bf16⟩
  | 2 => ⟨S8x8192x4x64, .bf16⟩
  | _ => ⟨S8x8192x1024, .f32⟩

abbrev hbmTy (i : Nat) : BufTy := match i / 128 with
  | 0 => hbmTy0_0 i
  | 1 => hbmTy0_1 i
  | 2 => hbmTy0_2 i
  | _ => ⟨S8x8192x1024, .f32⟩

abbrev bufTy : (tb : Table) → Fin (tcTables nBuf tb) → BufTy
  | .hbm, ⟨i, _⟩ => hbmTy i
  | _, _ => ⟨S8x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_cst_2 : Ref sig .tc := ⟨.hbm, 36, rfl⟩
abbrev main_v28 : Ref sig .tc := ⟨.hbm, 37, rfl⟩
abbrev main_v29 : Ref sig .tc := ⟨.hbm, 38, rfl⟩
abbrev main_cst_3 : Ref sig .tc := ⟨.hbm, 39, rfl⟩
abbrev main_v30 : Ref sig .tc := ⟨.hbm, 40, rfl⟩
abbrev main_v31 : Ref sig .tc := ⟨.hbm, 41, rfl⟩
abbrev main_call0_v0 : Ref sig .tc := ⟨.hbm, 42, rfl⟩
abbrev main_call0_v1 : Ref sig .tc := ⟨.hbm, 43, rfl⟩
abbrev main_call0_cst : Ref sig .tc := ⟨.hbm, 44, rfl⟩
abbrev main_call0_v2 : Ref sig .tc := ⟨.hbm, 45, rfl⟩
abbrev main_call0_v3 : Ref sig .tc := ⟨.hbm, 46, rfl⟩
abbrev main_call0_cst_0 : Ref sig .tc := ⟨.hbm, 47, rfl⟩
abbrev main_call0_v4 : Ref sig .tc := ⟨.hbm, 48, rfl⟩
abbrev main_call0_v5 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_cst_4 : Ref sig .tc := ⟨.hbm, 64, rfl⟩
abbrev main_v46 : Ref sig .tc := ⟨.hbm, 65, rfl⟩
abbrev main_v47 : Ref sig .tc := ⟨.hbm, 66, rfl⟩
abbrev main_cst_5 : Ref sig .tc := ⟨.hbm, 67, rfl⟩
abbrev main_v48 : Ref sig .tc := ⟨.hbm, 68, rfl⟩
abbrev main_v49 : Ref sig .tc := ⟨.hbm, 69, rfl⟩
abbrev main_cst_6 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_cst_7 : Ref sig .tc := ⟨.hbm, 81, rfl⟩
abbrev main_v60 : Ref sig .tc := ⟨.hbm, 82, rfl⟩
abbrev main_v61 : Ref sig .tc := ⟨.hbm, 83, rfl⟩
abbrev main_cst_8 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_cst_9 : Ref sig .tc := ⟨.hbm, 88, rfl⟩
abbrev main_v65 : Ref sig .tc := ⟨.hbm, 89, rfl⟩
abbrev main_v66 : Ref sig .tc := ⟨.hbm, 90, rfl⟩
abbrev main_cst_10 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩
abbrev main_v82 : Ref sig .tc := ⟨.hbm, 107, rfl⟩
abbrev main_v83 : Ref sig .tc := ⟨.hbm, 108, rfl⟩
abbrev main_v84 : Ref sig .tc := ⟨.hbm, 109, rfl⟩
abbrev main_v85 : Ref sig .tc := ⟨.hbm, 110, rfl⟩
abbrev main_v86 : Ref sig .tc := ⟨.hbm, 111, rfl⟩
abbrev main_v87 : Ref sig .tc := ⟨.hbm, 112, rfl⟩
abbrev main_v88 : Ref sig .tc := ⟨.hbm, 113, rfl⟩
abbrev main_v89 : Ref sig .tc := ⟨.hbm, 114, rfl⟩
abbrev main_v90 : Ref sig .tc := ⟨.hbm, 115, rfl⟩
abbrev main_v91 : Ref sig .tc := ⟨.hbm, 116, rfl⟩
abbrev main_v92 : Ref sig .tc := ⟨.hbm, 117, rfl⟩
abbrev main_v93 : Ref sig .tc := ⟨.hbm, 118, rfl⟩
abbrev main_cst_11 : Ref sig .tc := ⟨.hbm, 119, rfl⟩
abbrev main_v94 : Ref sig .tc := ⟨.hbm, 120, rfl⟩
abbrev main_v95 : Ref sig .tc := ⟨.hbm, 121, rfl⟩
abbrev main_cst_12 : Ref sig .tc := ⟨.hbm, 122, rfl⟩
abbrev main_v96 : Ref sig .tc := ⟨.hbm, 123, rfl⟩
abbrev main_v97 : Ref sig .tc := ⟨.hbm, 124, rfl⟩
abbrev main_v98 : Ref sig .tc := ⟨.hbm, 125, rfl⟩
abbrev main_cst_13 : Ref sig .tc := ⟨.hbm, 126, rfl⟩
abbrev main_v99 : Ref sig .tc := ⟨.hbm, 127, rfl⟩
abbrev main_v100 : Ref sig .tc := ⟨.hbm, 128, rfl⟩
abbrev main_cst_14 : Ref sig .tc := ⟨.hbm, 129, rfl⟩
abbrev main_v101 : Ref sig .tc := ⟨.hbm, 130, rfl⟩
abbrev main_v102 : Ref sig .tc := ⟨.hbm, 131, rfl⟩
abbrev main_v103 : Ref sig .tc := ⟨.hbm, 132, rfl⟩
abbrev main_v104 : Ref sig .tc := ⟨.hbm, 133, rfl⟩
abbrev main_v105 : Ref sig .tc := ⟨.hbm, 134, rfl⟩
abbrev main_v106 : Ref sig .tc := ⟨.hbm, 135, rfl⟩
abbrev main_v107 : Ref sig .tc := ⟨.hbm, 136, rfl⟩
abbrev main_v108 : Ref sig .tc := ⟨.hbm, 137, rfl⟩
abbrev main_v109 : Ref sig .tc := ⟨.hbm, 138, rfl⟩
abbrev main_v110 : Ref sig .tc := ⟨.hbm, 139, rfl⟩
abbrev main_v111 : Ref sig .tc := ⟨.hbm, 140, rfl⟩
abbrev main_v112 : Ref sig .tc := ⟨.hbm, 141, rfl⟩
abbrev main_v113 : Ref sig .tc := ⟨.hbm, 142, rfl⟩
abbrev main_v114 : Ref sig .tc := ⟨.hbm, 143, rfl⟩
abbrev main_v115 : Ref sig .tc := ⟨.hbm, 144, rfl⟩
abbrev main_v116 : Ref sig .tc := ⟨.hbm, 145, rfl⟩
abbrev main_v117 : Ref sig .tc := ⟨.hbm, 146, rfl⟩
abbrev main_v118 : Ref sig .tc := ⟨.hbm, 147, rfl⟩
abbrev main_v119 : Ref sig .tc := ⟨.hbm, 148, rfl⟩
abbrev main_v120 : Ref sig .tc := ⟨.hbm, 149, rfl⟩
abbrev main_v121 : Ref sig .tc := ⟨.hbm, 150, rfl⟩
abbrev main_v122 : Ref sig .tc := ⟨.hbm, 151, rfl⟩
abbrev main_v123 : Ref sig .tc := ⟨.hbm, 152, rfl⟩
abbrev main_v124 : Ref sig .tc := ⟨.hbm, 153, rfl⟩
abbrev main_v125 : Ref sig .tc := ⟨.hbm, 154, rfl⟩
abbrev main_v126 : Ref sig .tc := ⟨.hbm, 155, rfl⟩
abbrev main_v127 : Ref sig .tc := ⟨.hbm, 156, rfl⟩
abbrev main_cst_15 : Ref sig .tc := ⟨.hbm, 157, rfl⟩
abbrev main_v128 : Ref sig .tc := ⟨.hbm, 158, rfl⟩
abbrev main_v129 : Ref sig .tc := ⟨.hbm, 159, rfl⟩
abbrev main_cst_16 : Ref sig .tc := ⟨.hbm, 160, rfl⟩
abbrev main_v130 : Ref sig .tc := ⟨.hbm, 161, rfl⟩
abbrev main_v131 : Ref sig .tc := ⟨.hbm, 162, rfl⟩
abbrev main_cst_17 : Ref sig .tc := ⟨.hbm, 163, rfl⟩
abbrev main_v132 : Ref sig .tc := ⟨.hbm, 164, rfl⟩
abbrev main_v133 : Ref sig .tc := ⟨.hbm, 165, rfl⟩
abbrev main_v134 : Ref sig .tc := ⟨.hbm, 166, rfl⟩
abbrev main_v135 : Ref sig .tc := ⟨.hbm, 167, rfl⟩
abbrev main_v136 : Ref sig .tc := ⟨.hbm, 168, rfl⟩
abbrev main_v137 : Ref sig .tc := ⟨.hbm, 169, rfl⟩
abbrev main_v138 : Ref sig .tc := ⟨.hbm, 170, rfl⟩
abbrev main_v139 : Ref sig .tc := ⟨.hbm, 171, rfl⟩
abbrev main_v140 : Ref sig .tc := ⟨.hbm, 172, rfl⟩
abbrev main_v141 : Ref sig .tc := ⟨.hbm, 173, rfl⟩
abbrev main_cst_18 : Ref sig .tc := ⟨.hbm, 174, rfl⟩
abbrev main_v142 : Ref sig .tc := ⟨.hbm, 175, rfl⟩
abbrev main_v143 : Ref sig .tc := ⟨.hbm, 176, rfl⟩
abbrev main_cst_19 : Ref sig .tc := ⟨.hbm, 177, rfl⟩
abbrev main_v144 : Ref sig .tc := ⟨.hbm, 178, rfl⟩
abbrev main_v145 : Ref sig .tc := ⟨.hbm, 179, rfl⟩
abbrev main_v146 : Ref sig .tc := ⟨.hbm, 180, rfl⟩
abbrev main_cst_20 : Ref sig .tc := ⟨.hbm, 181, rfl⟩
abbrev main_v147 : Ref sig .tc := ⟨.hbm, 182, rfl⟩
abbrev main_v148 : Ref sig .tc := ⟨.hbm, 183, rfl⟩
abbrev main_cst_21 : Ref sig .tc := ⟨.hbm, 184, rfl⟩
abbrev main_v149 : Ref sig .tc := ⟨.hbm, 185, rfl⟩
abbrev main_v150 : Ref sig .tc := ⟨.hbm, 186, rfl⟩
abbrev main_v151 : Ref sig .tc := ⟨.hbm, 187, rfl⟩
abbrev main_v152 : Ref sig .tc := ⟨.hbm, 188, rfl⟩
abbrev main_v153 : Ref sig .tc := ⟨.hbm, 189, rfl⟩
abbrev main_v154 : Ref sig .tc := ⟨.hbm, 190, rfl⟩
abbrev main_v155 : Ref sig .tc := ⟨.hbm, 191, rfl⟩
abbrev main_v156 : Ref sig .tc := ⟨.hbm, 192, rfl⟩
abbrev main_v157 : Ref sig .tc := ⟨.hbm, 193, rfl⟩
abbrev main_v158 : Ref sig .tc := ⟨.hbm, 194, rfl⟩
abbrev main_v159 : Ref sig .tc := ⟨.hbm, 195, rfl⟩
abbrev main_v160 : Ref sig .tc := ⟨.hbm, 196, rfl⟩
abbrev main_v161 : Ref sig .tc := ⟨.hbm, 197, rfl⟩
abbrev main_v162 : Ref sig .tc := ⟨.hbm, 198, rfl⟩
abbrev main_v163 : Ref sig .tc := ⟨.hbm, 199, rfl⟩
abbrev main_v164 : Ref sig .tc := ⟨.hbm, 200, rfl⟩
abbrev main_v165 : Ref sig .tc := ⟨.hbm, 201, rfl⟩
abbrev main_v166 : Ref sig .tc := ⟨.hbm, 202, rfl⟩
abbrev main_v167 : Ref sig .tc := ⟨.hbm, 203, rfl⟩
abbrev main_v168 : Ref sig .tc := ⟨.hbm, 204, rfl⟩
abbrev main_v169 : Ref sig .tc := ⟨.hbm, 205, rfl⟩
abbrev main_v170 : Ref sig .tc := ⟨.hbm, 206, rfl⟩
abbrev main_v171 : Ref sig .tc := ⟨.hbm, 207, rfl⟩
abbrev main_v172 : Ref sig .tc := ⟨.hbm, 208, rfl⟩
abbrev main_v173 : Ref sig .tc := ⟨.hbm, 209, rfl⟩
abbrev main_v174 : Ref sig .tc := ⟨.hbm, 210, rfl⟩
abbrev main_v175 : Ref sig .tc := ⟨.hbm, 211, rfl⟩
abbrev main_cst_22 : Ref sig .tc := ⟨.hbm, 212, rfl⟩
abbrev main_v176 : Ref sig .tc := ⟨.hbm, 213, rfl⟩
abbrev main_v177 : Ref sig .tc := ⟨.hbm, 214, rfl⟩
abbrev main_cst_23 : Ref sig .tc := ⟨.hbm, 215, rfl⟩
abbrev main_v178 : Ref sig .tc := ⟨.hbm, 216, rfl⟩
abbrev main_v179 : Ref sig .tc := ⟨.hbm, 217, rfl⟩
abbrev main_v180 : Ref sig .tc := ⟨.hbm, 218, rfl⟩
abbrev main_cst_24 : Ref sig .tc := ⟨.hbm, 219, rfl⟩
abbrev main_v181 : Ref sig .tc := ⟨.hbm, 220, rfl⟩
abbrev main_v182 : Ref sig .tc := ⟨.hbm, 221, rfl⟩
abbrev main_cst_25 : Ref sig .tc := ⟨.hbm, 222, rfl⟩
abbrev main_v183 : Ref sig .tc := ⟨.hbm, 223, rfl⟩
abbrev main_v184 : Ref sig .tc := ⟨.hbm, 224, rfl⟩
abbrev main_v185 : Ref sig .tc := ⟨.hbm, 225, rfl⟩
abbrev main_v186 : Ref sig .tc := ⟨.hbm, 226, rfl⟩
abbrev main_v187 : Ref sig .tc := ⟨.hbm, 227, rfl⟩
abbrev main_v188 : Ref sig .tc := ⟨.hbm, 228, rfl⟩
abbrev main_v189 : Ref sig .tc := ⟨.hbm, 229, rfl⟩
abbrev main_v190 : Ref sig .tc := ⟨.hbm, 230, rfl⟩
abbrev main_v191 : Ref sig .tc := ⟨.hbm, 231, rfl⟩
abbrev main_v192 : Ref sig .tc := ⟨.hbm, 232, rfl⟩
abbrev main_v193 : Ref sig .tc := ⟨.hbm, 233, rfl⟩
abbrev main_v194 : Ref sig .tc := ⟨.hbm, 234, rfl⟩
abbrev main_v195 : Ref sig .tc := ⟨.hbm, 235, rfl⟩
abbrev main_v196 : Ref sig .tc := ⟨.hbm, 236, rfl⟩
abbrev main_v197 : Ref sig .tc := ⟨.hbm, 237, rfl⟩
abbrev main_v198 : Ref sig .tc := ⟨.hbm, 238, rfl⟩
abbrev main_v199 : Ref sig .tc := ⟨.hbm, 239, rfl⟩
abbrev main_v200 : Ref sig .tc := ⟨.hbm, 240, rfl⟩
abbrev main_v201 : Ref sig .tc := ⟨.hbm, 241, rfl⟩
abbrev main_v202 : Ref sig .tc := ⟨.hbm, 242, rfl⟩
abbrev main_v203 : Ref sig .tc := ⟨.hbm, 243, rfl⟩
abbrev main_v204 : Ref sig .tc := ⟨.hbm, 244, rfl⟩
abbrev main_v205 : Ref sig .tc := ⟨.hbm, 245, rfl⟩
abbrev main_v206 : Ref sig .tc := ⟨.hbm, 246, rfl⟩
abbrev main_v207 : Ref sig .tc := ⟨.hbm, 247, rfl⟩
abbrev main_v208 : Ref sig .tc := ⟨.hbm, 248, rfl⟩
abbrev main_v209 : Ref sig .tc := ⟨.hbm, 249, rfl⟩
abbrev main_cst_26 : Ref sig .tc := ⟨.hbm, 250, rfl⟩
abbrev main_v210 : Ref sig .tc := ⟨.hbm, 251, rfl⟩
abbrev main_v211 : Ref sig .tc := ⟨.hbm, 252, rfl⟩
abbrev main_v212 : Ref sig .tc := ⟨.hbm, 253, rfl⟩
abbrev main_v213 : Ref sig .tc := ⟨.hbm, 254, rfl⟩
abbrev main_v214 : Ref sig .tc := ⟨.hbm, 255, rfl⟩
abbrev main_v215 : Ref sig .tc := ⟨.hbm, 256, rfl⟩
abbrev main_v216 : Ref sig .tc := ⟨.hbm, 257, rfl⟩
abbrev main_v217 : Ref sig .tc := ⟨.hbm, 258, rfl⟩

abbrev nD : Nat := 1
abbrev τ : Topo := Topo.v7x

variable {F : FTy → Type} [FloatOps F]
-- ==== Proof.Bits.Loops.lean ====
module

public import proofs.«01_k».proof.Proof.Gen.Kernel.Skeleton
public import Idealize.ShloMosaic.Lib.Exec
public import Idealize.ShloMosaic.Lib.Tactic
public import Idealize.ShloMosaic.Lib.Pipeline.Kit

/-!
# The loop over the key blocks, for termination and safety

The loop keeps the keys and the values as they are and overwrites the two score buffers; nothing is
said of what it computes.
-/

@[expose] public section

set_option maxRecDepth 100000
set_option maxHeartbeats 4000000

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- What the loop carries: per head the column maxima of the next key block's scores (over eight
residues), the row of running maxima, and the running weighted sums of the value columns. -/
abbrev Carry (F : FTy → Type) : Type :=
  FVec F S8x512 .f32 × FVec F S8x512 .f32 × FVec F S8x512 .f32 × FVec F S8x512 .f32
    × FVec F S1x512 .f32 × FVec F S1x512 .f32 × FVec F S1x512 .f32 × FVec F S1x512 .f32
    × FVec F S80x512 .f32 × FVec F S80x512 .f32 × FVec F S80x512 .f32 × FVec F S80x512 .f32

section
variable (𝒱 : Variants) (c : Dev nD) (bd : Option 𝒱.V)
variable
  (i : grid0.Coords) (arg3 : Memref sig .tc .vmem S1x4x64x512 .bf16) (harg3 : arg3.IsWhole)
  (arg4 : Memref sig .tc .vmem S1x1x16x512x64 .bf16) (harg4 : arg4.IsWhole)
  (arg5 : Memref sig .tc .vmem S1x1x16x80x512 .bf16) (harg5 : arg5.IsWhole)
  (arg6 : Memref sig .tc .vmem S1x512x256 .bf16) (harg6 : arg6.IsWhole)
  (arg7 : Memref sig .tc .vmem S4x512x512 .f32) (harg7 : arg7.IsWhole)
  (arg8 : Memref sig .tc .vmem S4x512x512 .f32) (harg8 : arg8.IsWhole) (v5 : FVec F S64x512 .bf16)
  (v11 : FVec F S64x512 .bf16) (v17 : FVec F S64x512 .bf16) (v23 : FVec F S64x512 .bf16)
  (v174 : FVec F S1x512 .f32) (v236 : FVec F S8x512 .f32) (v247 : FVec F S80x512 .f32)
  (v250 : FVec F S1x512 .f32) (v312 : FVec F S8x512 .f32) (v323 : FVec F S80x512 .f32)
  (v326 : FVec F S1x512 .f32) (v388 : FVec F S8x512 .f32) (v399 : FVec F S80x512 .f32)
  (v402 : FVec F S1x512 .f32) (v464 : FVec F S8x512 .f32) (v475 : FVec F S80x512 .f32)
  (c0_i32 : BitVec 32)
variable (X_arg4 : BufTy.Contents (Elt F) arg4.view.ty) (X_arg5 : BufTy.Contents (Elt F) arg5.view.ty) (init : Carry F)

/-- During the loop the keys and the values are as at its entry, and the score buffers are owned. -/
abbrev inv (c : Dev nD) (arg4 : Memref sig .tc .vmem S1x1x16x512x64 .bf16)
    (arg5 : Memref sig .tc .vmem S1x1x16x80x512 .bf16) (arg7 arg8 : Memref sig .tc .vmem S4x512x512 .f32)
    (X_arg4 : BufTy.Contents (Elt F) arg4.view.ty) (X_arg5 : BufTy.Contents (Elt F) arg5.view.ty) (_ : ℕ) (_ : Carry F) : sProp 𝕄 :=
  iprop((arg4.view.loc (c : Thread nD τ) ↦[arg4.view.set]{fullShare} X_arg4)
    ∗ (arg5.view.loc (c : Thread nD τ) ↦[arg5.view.set]{fullShare} X_arg5)
    ∗ (∃ f, (arg7.view.loc (c : Thread nD τ) ↦[arg7.view.set]{fullShare} f))
    ∗ (∃ f, (arg8.view.loc (c : Thread nD τ) ↦[arg8.view.set]{fullShare} f)))

set_option warn.classDefReducibility false in
/-- The loop keeps the invariant. -/
@[sl_loop] def loopInv (E : Set ℕ) :
    Idealize.ShloMosaic.LoopInv (M := 𝕄) Idealize.ShloMosaic.frame
      (wpE defs₀ 𝒱 (c : Thread nD τ) bd) E k0_t1_loop.lb k0_t1_loop.ub k0_t1_loop.st k0_t1_ok init
      (k0_t1_body (F := F) i arg3 harg3 arg4 harg4 arg5 harg5 arg6 harg6 arg7 harg7 arg8 harg8 v5 v11 v17 v23 v174 v236 v247 v250 v312 v323 v326 v388 v399 v402 v464 v475 c0_i32) where
  inv := inv (F := F) c arg4 arg5 arg7 arg8 X_arg4 X_arg5
  step k acc := by
    have hk : k.val < 2 := Nat.lt_of_lt_of_le k.isLt k0_t1_abs.2.1
    iintro ⟨HR_arg4, HR_arg5, ⟨%f7, HW_arg7⟩, ⟨%f8, HW_arg8⟩⟩
    unfold k0_t1_body
    sl_exec
    sl_step
    sl_close
end

end Cert.Kernel.Run

end
-- ==== Proof.Bits.Run.lean ====
module

public import proofs.«01_k».proof.Proof.Bits.Region

/-!
# The kernel body, run symbolically
-/

@[expose] public section

set_option maxRecDepth 16384
set_option maxHeartbeats 4000000

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The kernel body, run at any grid point on the blocks `x0`, `x1`, `x2`: it ends, keeping
   the blocks it reads. -/
theorem kernelRun0_A (c : Dev nD) (i : grid0.Coords) (arg3 : Memref sig .tc .vmem S1x4x64x512 .bf16) (harg3 : arg3.IsWhole) (arg4 : Memref sig .tc .vmem S1x1x16x512x64 .bf16) (harg4 : arg4.IsWhole) (arg5 : Memref sig .tc .vmem S1x1x16x80x512 .bf16) (harg5 : arg5.IsWhole) (arg6 : Memref sig .tc .vmem S1x512x256 .bf16) (harg6 : arg6.IsWhole) (arg7 : Memref sig .tc .vmem S4x512x512 .f32) (harg7 : arg7.IsWhole) (arg8 : Memref sig .tc .vmem S4x512x512 .f32) (harg8 : arg8.IsWhole)
    (x0 : Vec F S1x4x64x512 .bf16) (x1 : Vec F S1x1x16x512x64 .bf16) (x2 : Vec F S1x1x16x80x512 .bf16) :
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d) ∗ (∃ d, owns (c : Thread nD τ) arg7 fullShare d) ∗ (∃ d, owns (c : Thread nD τ) arg8 fullShare d)
            ∗ (iprop(owns (c : Thread nD τ) arg3 fullShare x0 ∗ owns (c : Thread nD τ) arg4 fullShare x1 ∗ owns (c : Thread nD τ) arg5 fullShare x2 ∗ (∃ d, owns (c : Thread nD τ) arg6 fullShare d) ∗ (∃ d, owns (c : Thread nD τ) arg7 fullShare d) ∗ (∃ d, owns (c : Thread nD τ) arg8 fullShare d)) -∗ K ⟨⟩))
          ⊢ wp frame (wpE (defs₀ (F := F)) Variants.none c none) E (cc0_attn i arg3 harg3 arg4 harg4 arg5 harg5 arg6 harg6 arg7 harg7 arg8 harg8) K := by
    intro E K
    simp only [cc0_attn_eq_skeleton]; unfold cc0_attn_skel
    simp only [k0_part102_eq_skeleton]; unfold k0_part102_skel
    simp only [
      k0_part62_eq_skeleton, k0_part63_eq_skeleton, k0_part64_eq_skeleton, k0_part65_eq_skeleton,
      k0_part66_eq_skeleton, k0_part67_eq_skeleton, k0_part68_eq_skeleton, k0_part69_eq_skeleton,
      k0_part70_eq_skeleton, k0_part71_eq_skeleton, k0_part72_eq_skeleton, k0_part73_eq_skeleton,
      k0_part74_eq_skeleton, k0_part75_eq_skeleton, k0_part76_eq_skeleton, k0_part77_eq_skeleton,
      k0_part78_eq_skeleton, k0_part79_eq_skeleton, k0_part80_eq_skeleton, k0_part81_eq_skeleton,
      k0_part82_eq_skeleton, k0_part83_eq_skeleton, k0_part84_eq_skeleton, k0_part85_eq_skeleton,
      k0_part86_eq_skeleton, k0_part87_eq_skeleton, k0_part88_eq_skeleton, k0_part89_eq_skeleton,
      k0_part90_eq_skeleton, k0_part91_eq_skeleton, k0_part92_eq_skeleton, k0_part93_eq_skeleton,
      k0_part94_eq_skeleton, k0_part95_eq_skeleton, k0_part96_eq_skeleton, k0_part97_eq_skeleton,
      k0_part98_eq_skeleton, k0_part99_eq_skeleton, k0_part100_eq_skeleton,
      k0_part101_eq_skeleton]
    unfold owns
    iintro ⟨⟨%f0, %hf0, H0⟩, ⟨%f1, %hf1, H1⟩, ⟨%f2, %hf2, H2⟩, ⟨%d3, %f3, -, H3⟩, ⟨%ds0, %fs0, -, HS0⟩, ⟨%ds1, %fs1, -, HS1⟩, Hk⟩
    obtain rfl := harg3.eq_unread hf0; obtain rfl := harg4.eq_unread hf1; obtain rfl := harg5.eq_unread hf2
    sl_exec
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _, _; isplitr; swap; · iexact H3
      ipureintro; rfl
    isplitl [HS0]
    · iexists _, _; isplitr; swap; · iexact HS0
      ipureintro; rfl
    iexists _, _; isplitr; swap; · iexact HS1
    ipureintro; rfl

end Cert.Kernel.Run

end
-- ==== Proof.Bits.Frame.lean ====
module

public import proofs.«01_k».proof.Proof.Bits.Run
public import Idealize.ShloMosaic.Lib.Pipeline.FrameBody
public import Idealize.ShloMosaic.Lib.Ring
public import Idealize.ShloMosaic.Lib.Tactic
public import Idealize.ShloMosaic.Lib.WordCmp
public import Idealize.ShloMosaic.Lib.Claim

/-!
# The frame claim: the program ends and keeps its arguments
-/

@[expose] public section

set_option maxRecDepth 16384
set_option maxHeartbeats 4000000

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Nothing is said of the output block. -/
def forgets0 : Fin 4 → Bool := fun w => w.val == 3

/-- What each window holds after the body at each point. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, h⟩ => Pipeline.Dat.unnamed (cfg := cfg0) ⟨3, h⟩ t
  Φ _ := Pipeline.ΦA spec0 c
  q _ := fullShare
  owed _ := 0

/-- The arrays the launch starts from. -/
theorem A_eq (c : Dev nD) (w : Fin cfg0.W) : (dats m 0 c).A w = V m c (Pipeline.arrRef spec0 w) := by
  dsimp only [dats]

/-- What the point leaves in the query window, -/
theorem after0_0 (c : Dev nD) (t : Fin cfg0.N) : (dats m 0 c).after 0 t = iblk m c 0 t := by dsimp only [dats]
/-- the key window, -/
theorem after0_1 (c : Dev nD) (t : Fin cfg0.N) : (dats m 0 c).after 1 t = iblk m c 1 t := by dsimp only [dats]
/-- the value window, -/
theorem after0_2 (c : Dev nD) (t : Fin cfg0.N) : (dats m 0 c).after 2 t = iblk m c 2 t := by dsimp only [dats]

/-- What it finds in the query window, -/
theorem before0_0 (c : Dev nD) (t : Fin cfg0.N) (d) : (dats m 0 c).before 0 t d = iblk m c 0 t :=
  before0_0_of m (dats m 0 c) (A_eq m c 0) (after0_0 m c) t d
/-- the key window, -/
theorem before0_1 (c : Dev nD) (t : Fin cfg0.N) (d) : (dats m 0 c).before 1 t d = iblk m c 1 t :=
  before0_1_of m (dats m 0 c) (A_eq m c 1) (after0_1 m c) t d
/-- and the value window. -/
theorem before0_2 (c : Dev nD) (t : Fin cfg0.N) (d) : (dats m 0 c).before 2 t d = iblk m c 2 t :=
  before0_2_of m (dats m 0 c) (A_eq m c 2) (after0_2 m c) t d

/-- What the body is given at point `t`. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare d))

/-- What the body leaves at point `t`. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ (∃ d, owns (c : Thread nD τ) (ms0_3 t) fullShare d))

/-- The body keeps its obligation at every point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl,
    after0_0, after0_1, after0_2]
  rw [show (dats m 0 c).Φ t.castSucc = Pipeline.ΦA spec0 c from rfl, PhiA0_eq]
  iintro ⟨⟨⟨HS0, HS1⟩, Hg⟩, Ho, ⟨%d0, H0⟩, ⟨%d1, H1⟩, ⟨%d2, H2⟩, ⟨%d3, H3⟩⟩
  iapply ((kernelRun0_A c (grid0.coords t) _ _ _ _ _ _ _ _ _ _ _ _ (iblk m c 0 t) (iblk m c 1 t) (iblk m c 2 t)) Set.univ _)
  isplitl [H0]; · iexact H0
  isplitl [H1]; · iexact H1
  isplitl [H2]; · iexact H2
  isplitl [H3]; · iexists _; iexact H3
  isplitl [HS0]; · iexact HS0
  isplitl [HS1]; · iexact HS1
  iintro ⟨H0, H1, H2, H3, HS0, HS1⟩
  isplitl [HS0 HS1 Hg]
  · isplitl [HS0 HS1]
    · isplitl [HS0]
      · iexact HS0
      iexact HS1
    iexact Hg
  isplitl [Ho]; · iexact Ho
  isplitl [H0]; · iexact H0
  isplitl [H1]; · iexact H1
  isplitl [H2]; · iexact H2
  iexact H3

/-- The body the launch calls at a point. -/
theorem defs₀_row (t : Fin cfg0.N) :
    defs₀ (F := F) .tc cfg0.body (cfg0.bodyArgs t (cfg0.slots t)) = bodyAt0 t := by
  unfold defs₀; rw [Defs.onTc_tc]

/-- Every point's body runs as the proof data says. -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

set_option backward.isDefEq.respectTransparency.types false in
/-- The program ends with the arrays as the proof data says and all semaphores at rest. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The program ends with the arrays as the proof data says. -/
theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

/-- The program keeps its arguments. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (fun c => (dats m 0 c).toRForget forgets0) (A_eq m) (run_main m ρ)

/-- The program ends, keeps its arguments, and leaves all semaphores at rest. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (unchanged m ρ) ((θ_run defs _ _).mono (fun _ h => h.2) (run_main_quiescent m ρ))

end Cert.Kernel.Run

end
-- ==== Proof.Ideal.Loops.lean ====
module

public import proofs.«01_k».proof.Proof.Gen.KernelIdeal.Skeleton
public import Idealize.ShloMosaic.Lib.Exec
public import Idealize.ShloMosaic.Lib.Tactic
public import Idealize.ShloMosaic.Lib.Pipeline.Kit

/-!
# The loop over the key blocks, as a recursion

One trip of the loop handles six key blocks.  `trip` runs one trip symbolically; `st` iterates what
it yields and what it writes to the two score buffers; `loopInv` is the loop rule the run uses.
-/

@[expose] public section

set_option maxRecDepth 100000
set_option maxHeartbeats 4000000

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- What the loop carries: per head the column maxima of the next key block's scores (over eight
residues), the row of running maxima, and the running weighted sums of the value columns. -/
abbrev Carry (F : FTy → Type) : Type :=
  FVec F S8x512 .f32 × FVec F S8x512 .f32 × FVec F S8x512 .f32 × FVec F S8x512 .f32
    × FVec F S1x512 .f32 × FVec F S1x512 .f32 × FVec F S1x512 .f32 × FVec F S1x512 .f32
    × FVec F S80x512 .f32 × FVec F S80x512 .f32 × FVec F S80x512 .f32 × FVec F S80x512 .f32

section
variable (𝒱 : Variants) (c : Dev nD) (bd : Option 𝒱.V)
variable
  (i : grid0.Coords) (arg3 : Memref sig .tc .vmem S1x4x64x512 .bf16) (harg3 : arg3.IsWhole)
  (arg4 : Memref sig .tc .vmem S1x1x16x512x64 .bf16) (harg4 : arg4.IsWhole)
  (arg5 : Memref sig .tc .vmem S1x1x16x80x512 .bf16) (harg5 : arg5.IsWhole)
  (arg6 : Memref sig .tc .vmem S1x512x256 .bf16) (harg6 : arg6.IsWhole)
  (arg7 : Memref sig .tc .vmem S4x512x512 .f32) (harg7 : arg7.IsWhole)
  (arg8 : Memref sig .tc .vmem S4x512x512 .f32) (harg8 : arg8.IsWhole) (v5 : FVec F S64x512 .bf16)
  (v11 : FVec F S64x512 .bf16) (v17 : FVec F S64x512 .bf16) (v23 : FVec F S64x512 .bf16)
  (v174 : FVec F S1x512 .f32) (v236 : FVec F S8x512 .f32) (v247 : FVec F S80x512 .f32)
  (v250 : FVec F S1x512 .f32) (v312 : FVec F S8x512 .f32) (v323 : FVec F S80x512 .f32)
  (v326 : FVec F S1x512 .f32) (v388 : FVec F S8x512 .f32) (v399 : FVec F S80x512 .f32)
  (v402 : FVec F S1x512 .f32) (v464 : FVec F S8x512 .f32) (v475 : FVec F S80x512 .f32)
  (c0_i32 : BitVec 32)
variable (X_arg4 : BufTy.Contents (Elt F) arg4.view.ty) (X_arg5 : BufTy.Contents (Elt F) arg5.view.ty)

/-- The buffers one trip uses: it reads the keys and the values and overwrites the two score
buffers. -/
abbrev Trip (c : Dev nD) (arg4 : Memref sig .tc .vmem S1x1x16x512x64 .bf16)
    (arg5 : Memref sig .tc .vmem S1x1x16x80x512 .bf16) (arg7 arg8 : Memref sig .tc .vmem S4x512x512 .f32)
    (X_arg4 : BufTy.Contents (Elt F) arg4.view.ty) (X_arg5 : BufTy.Contents (Elt F) arg5.view.ty)
    (f7 : BufTy.Contents (Elt F) arg7.view.ty) (f8 : BufTy.Contents (Elt F) arg8.view.ty) : sProp 𝕄 :=
  iprop((arg4.view.loc (c : Thread nD τ) ↦[arg4.view.set]{fullShare} X_arg4)
    ∗ (arg5.view.loc (c : Thread nD τ) ↦[arg5.view.set]{fullShare} X_arg5)
    ∗ (arg7.view.loc (c : Thread nD τ) ↦[arg7.view.set]{fullShare} f7)
    ∗ (arg8.view.loc (c : Thread nD τ) ↦[arg8.view.set]{fullShare} f8))

/-- One trip of the loop, run from any carried value and any contents of the score buffers: the value
it yields and the pieces it writes to the score buffers, with the proof that it does so. -/
@[irreducible] def trip (k : Fin k0_t1_loop.trips) :
    Σ' (R : Carry F → BufTy.Contents (Elt F) arg7.view.ty → BufTy.Contents (Elt F) arg8.view.ty → Carry F)
      (L7 : Carry F → BufTy.Contents (Elt F) arg7.view.ty → BufTy.Contents (Elt F) arg8.view.ty →
        List (View.Piece (Elt F) S4x512x512 .f32)),
      { L8 : Carry F → BufTy.Contents (Elt F) arg7.view.ty → BufTy.Contents (Elt F) arg8.view.ty →
        List (View.Piece (Elt F) S4x512x512 .f32) //
      ∀ (E : Set ℕ) (acc : Carry F) (f7 : BufTy.Contents (Elt F) arg7.view.ty)
        (f8 : BufTy.Contents (Elt F) arg8.view.ty),
      Trip (F := F) c arg4 arg5 arg7 arg8 X_arg4 X_arg5 f7 f8
      ⊢ wp frame (wpE (defs₀ (F := F)) 𝒱 (c : Thread nD τ) bd) E
          (k0_t1_body (F := F) i arg3 harg3 arg4 harg4 arg5 harg5 arg6 harg6 arg7 harg7 arg8 harg8 v5 v11 v17 v23 v174 v236 v247 v250 v312 v323 v326 v388 v399 v402 v464 v475 c0_i32 k acc)
          (fun yld => iprop(⌜yld = R acc f7 f8⌝ ∗ Trip (F := F) c arg4 arg5 arg7 arg8 X_arg4 X_arg5
            (arg7.view.writes (Elt F) f7 (L7 acc f7 f8)) (arg8.view.writes (Elt F) f8 (L8 acc f7 f8)))) } := by
  have hk : k.val < 2 := Nat.lt_of_lt_of_le k.isLt k0_t1_abs.2.1
  refine ⟨?_, ?_, ?_, fun E acc f7 f8 => ?run⟩
  case run =>
    unfold k0_t1_body
    iintro ⟨HR_arg4, HR_arg5, HW_arg7, HW_arg8⟩
    sl_exec
    sl_step
    sl_close

variable (G_arg7 : BufTy.Contents (Elt F) arg7.view.ty) (G_arg8 : BufTy.Contents (Elt F) arg8.view.ty) (init : Carry F)

/-- The carried value and the pieces written so far after one more trip. -/
@[irreducible] def stStep (k : ℕ) (prev : Carry F × List (View.Piece (Elt F) S4x512x512 .f32) × List (View.Piece (Elt F) S4x512x512 .f32)) :
    Carry F × List (View.Piece (Elt F) S4x512x512 .f32) × List (View.Piece (Elt F) S4x512x512 .f32) :=
  if h : k < k0_t1_loop.trips then
    let T := trip (F := F) 𝒱 c bd i arg3 harg3 arg4 harg4 arg5 harg5 arg6 harg6 arg7 harg7 arg8 harg8 v5 v11 v17 v23 v174 v236 v247 v250 v312 v323 v326 v388 v399 v402 v464 v475 c0_i32 X_arg4 X_arg5 ⟨k, h⟩
    let f7 := arg7.view.writes (Elt F) G_arg7 prev.2.1
    let f8 := arg8.view.writes (Elt F) G_arg8 prev.2.2
    (T.1 prev.1 f7 f8, T.2.1 prev.1 f7 f8 ++ prev.2.1, T.2.2.1 prev.1 f7 f8 ++ prev.2.2)
  else prev

/-- The carried value before trip `k`, and the pieces the earlier trips wrote (the last first). -/
def st : ℕ → Carry F × List (View.Piece (Elt F) S4x512x512 .f32) × List (View.Piece (Elt F) S4x512x512 .f32)
  | 0 => (init, [], [])
  | k + 1 => stStep 𝒱 c bd i arg3 harg3 arg4 harg4 arg5 harg5 arg6 harg6 arg7 harg7 arg8 harg8 v5 v11 v17 v23 v174 v236 v247 v250 v312 v323 v326 v388 v399 v402 v464 v475 c0_i32 X_arg4 X_arg5 G_arg7 G_arg8 k (st k)

/-- The recursion at a trip that is run. -/
theorem st_succ (k : Fin k0_t1_loop.trips) :
    st (F := F) 𝒱 c bd i arg3 harg3 arg4 harg4 arg5 harg5 arg6 harg6 arg7 harg7 arg8 harg8 v5 v11 v17 v23 v174 v236 v247 v250 v312 v323 v326 v388 v399 v402 v464 v475 c0_i32 X_arg4 X_arg5 G_arg7 G_arg8 init (k.val + 1)
      = (let prev := st (F := F) 𝒱 c bd i arg3 harg3 arg4 harg4 arg5 harg5 arg6 harg6 arg7 harg7 arg8 harg8 v5 v11 v17 v23 v174 v236 v247 v250 v312 v323 v326 v388 v399 v402 v464 v475 c0_i32 X_arg4 X_arg5 G_arg7 G_arg8 init k.val
         let T := trip (F := F) 𝒱 c bd i arg3 harg3 arg4 harg4 arg5 harg5 arg6 harg6 arg7 harg7 arg8 harg8 v5 v11 v17 v23 v174 v236 v247 v250 v312 v323 v326 v388 v399 v402 v464 v475 c0_i32 X_arg4 X_arg5 k
         let f7 := arg7.view.writes (Elt F) G_arg7 prev.2.1
         let f8 := arg8.view.writes (Elt F) G_arg8 prev.2.2
         (T.1 prev.1 f7 f8, T.2.1 prev.1 f7 f8 ++ prev.2.1, T.2.2.1 prev.1 f7 f8 ++ prev.2.2)) := by
  rw [st.eq_2]; unfold stStep; exact dif_pos k.isLt

/-- Before the first trip the carried value is the initial one. -/
@[simp] theorem st_zero :
    (st (F := F) 𝒱 c bd i arg3 harg3 arg4 harg4 arg5 harg5 arg6 harg6 arg7 harg7 arg8 harg8 v5 v11 v17 v23 v174 v236 v247 v250 v312 v323 v326 v388 v399 v402 v464 v475 c0_i32 X_arg4 X_arg5 G_arg7 G_arg8 init 0).1 = init := rfl

/-- Before trip `k` the score buffers hold the pieces written so far, and the carried value is the
recursion's. -/
abbrev inv (k : ℕ) (acc : Carry F) : sProp 𝕄 :=
  iprop((arg4.view.loc (c : Thread nD τ) ↦[arg4.view.set]{fullShare} X_arg4)
    ∗ (arg5.view.loc (c : Thread nD τ) ↦[arg5.view.set]{fullShare} X_arg5)
    ∗ (∃ f, (arg7.view.loc (c : Thread nD τ) ↦[arg7.view.set]{fullShare} f)
        ∗ ⌜f = arg7.view.writes (Elt F) G_arg7
            (st (F := F) 𝒱 c bd i arg3 harg3 arg4 harg4 arg5 harg5 arg6 harg6 arg7 harg7 arg8 harg8 v5 v11 v17 v23 v174 v236 v247 v250 v312 v323 v326 v388 v399 v402 v464 v475 c0_i32 X_arg4 X_arg5 G_arg7 G_arg8 init k).2.1⌝)
    ∗ (∃ f, (arg8.view.loc (c : Thread nD τ) ↦[arg8.view.set]{fullShare} f)
        ∗ ⌜f = arg8.view.writes (Elt F) G_arg8
            (st (F := F) 𝒱 c bd i arg3 harg3 arg4 harg4 arg5 harg5 arg6 harg6 arg7 harg7 arg8 harg8 v5 v11 v17 v23 v174 v236 v247 v250 v312 v323 v326 v388 v399 v402 v464 v475 c0_i32 X_arg4 X_arg5 G_arg7 G_arg8 init k).2.2⌝)
    ∗ ⌜acc = (st (F := F) 𝒱 c bd i arg3 harg3 arg4 harg4 arg5 harg5 arg6 harg6 arg7 harg7 arg8 harg8 v5 v11 v17 v23 v174 v236 v247 v250 v312 v323 v326 v388 v399 v402 v464 v475 c0_i32 X_arg4 X_arg5 G_arg7 G_arg8 init k).1⌝)

set_option warn.classDefReducibility false in
/-- The loop keeps the invariant. -/
@[sl_loop] def loopInv (E : Set ℕ) :
    Idealize.ShloMosaic.LoopInv (M := 𝕄) Idealize.ShloMosaic.frame
      (wpE defs₀ 𝒱 (c : Thread nD τ) bd) E k0_t1_loop.lb k0_t1_loop.ub k0_t1_loop.st k0_t1_ok init
      (k0_t1_body (F := F) i arg3 harg3 arg4 harg4 arg5 harg5 arg6 harg6 arg7 harg7 arg8 harg8 v5 v11 v17 v23 v174 v236 v247 v250 v312 v323 v326 v388 v399 v402 v464 v475 c0_i32) where
  inv := inv (F := F) 𝒱 c bd i arg3 harg3 arg4 harg4 arg5 harg5 arg6 harg6 arg7 harg7 arg8 harg8 v5 v11 v17 v23 v174 v236 v247 v250 v312 v323 v326 v388 v399 v402 v464 v475 c0_i32 X_arg4 X_arg5 G_arg7 G_arg8 init
  step k acc := by
    iintro ⟨HR4, HR5, ⟨%f7, HW7, %h7⟩, ⟨%f8, HW8, %h8⟩, %hacc⟩
    subst hacc
    iapply (wp_wand_r Idealize.ShloMosaic.frame (wpE (defs₀ (F := F)) 𝒱 (c : Thread nD τ) bd) E)
    isplitl [HR4 HR5 HW7 HW8]
    · iapply ((trip (F := F) 𝒱 c bd i arg3 harg3 arg4 harg4 arg5 harg5 arg6 harg6 arg7 harg7 arg8 harg8 v5 v11 v17 v23 v174 v236 v247 v250 v312 v323 v326 v388 v399 v402 v464 v475 c0_i32 X_arg4 X_arg5 k).2.2.2 E
        (st (F := F) 𝒱 c bd i arg3 harg3 arg4 harg4 arg5 harg5 arg6 harg6 arg7 harg7 arg8 harg8 v5 v11 v17 v23 v174 v236 v247 v250 v312 v323 v326 v388 v399 v402 v464 v475 c0_i32 X_arg4 X_arg5 G_arg7 G_arg8 init k).1 f7 f8)
      isplitl [HR4]; · iexact HR4
      isplitl [HR5]; · iexact HR5
      isplitl [HW7]; · iexact HW7
      iexact HW8
    · iintro %yld ⟨%hres, HR4, HR5, HW7, HW8⟩
      isplitl [HR4]; · iexact HR4
      isplitl [HR5]; · iexact HR5
      simp only [st_succ]
      isplitl [HW7]
      · iexists _; isplitl [HW7]; · iexact HW7
        ipureintro; rw [h7, h8, ← View.writes_append]
      isplitl [HW8]
      · iexists _; isplitl [HW8]; · iexact HW8
        ipureintro; rw [h7, h8, ← View.writes_append]
      ipureintro; rw [hres, h7, h8]
end

end Cert.KernelIdeal.Run

end
-- ==== Proof.Ideal.Region.lean ====
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Ideal.Loops
public import Idealize.ShloMosaic.Lib.Pipeline.FrameBody
public import Idealize.ShloMosaic.Lib.Ring
public import Idealize.ShloMosaic.Lib.Tactic
public import Idealize.ShloMosaic.Lib.WordCmp

/-!
# The launch of the kernel

What the host hands to the kernel, and the buffers the kernel body is given.
-/

@[expose] public section

set_option maxRecDepth 16384
set_option maxHeartbeats 4000000

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The buffers of core `c` once the host operations before the kernel have run. -/
abbrev V (c : Dev nD) (b : Ref sig .tc) : Buf (Elt F) ((c : Thread nD τ).loc b) :=
  StableHlo.after (List.flatten [hostOps0, hostOps0_1, hostOps0_2]) (fun b => m (c, b)) b

/-- The host's operations before the launch allocate nothing: -/
theorem hostOps0_fresh : (hostOps0 : List (HloOp τ sig (Elt F))).Forall fun op => op.fresh = ∅ := by
  simp only [List.Forall]; repeat' constructor
/-- the second part's too, -/
theorem hostOps0_1_fresh : (hostOps0_1 : List (HloOp τ sig (Elt F))).Forall fun op => op.fresh = ∅ := by
  simp only [List.Forall]; repeat' constructor
/-- and the third's. -/
theorem hostOps0_2_fresh : (hostOps0_2 : List (HloOp τ sig (Elt F))).Forall fun op => op.fresh = ∅ := by
  simp only [List.Forall]; repeat' constructor

set_option maxHeartbeats 800000 in
/-- The program is its host operations followed by the kernel call. -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0, hostOps0_1, hostOps0_2] (by simp only [List.Forall]; exact ⟨hostOps0_sub, hostOps0_1_sub, hostOps0_2_sub⟩)
    (by simp only [List.Forall]; exact ⟨hostOps0_fresh, hostOps0_1_fresh, hostOps0_2_fresh⟩) main_chain

/-- The host operations do not write argument 0. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- The host operations do not write argument 1. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- The host operations do not write argument 2. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- The block window `w` shows at point `t`, out of the array the kernel finds. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0 holds its block at every point, as the body leaves it in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1 holds its block at every point, as the body leaves it in place. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2 holds its block at every point, as the body leaves it in place. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- A run that ends with the arrays at what the proof data says keeps the three arguments. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c)⟩) h

/-- A staging buffer of the output window, to state contents through. -/
abbrev VO0_3 : View sig .tc .vmem S1x512x256 .bf16 := (Memref.whole cc0_stg3_0 : Memref sig .tc .vmem S1x512x256 .bf16).view
/-- The staging buffer each window uses at point `t`. -/
abbrev ms0_0 (t : Fin cfg0.N) : Memref sig .tc .vmem S1x4x64x512 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x1x16x512x64 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1x16x80x512 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x512x256 .bf16 := win0_3.stage (cfg0.slots t 3)
abbrev hs0_3 (t : Fin cfg0.N) : (ms0_3 t).IsWhole := hstage0_3 ((cfg0.slots t 3).cast nbuf0_3)
/-- The two score buffers. -/
abbrev scM0_0 : Memref sig .tc .vmem S4x512x512 .f32 := Memref.whole cc0_scratch0
abbrev scM0_1 : Memref sig .tc .vmem S4x512x512 .f32 := Memref.whole cc0_scratch1

/-- Between points the kernel owns the score buffers at some contents. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

end Cert.KernelIdeal.Run

end
-- ==== Proof.Ideal.Run.lean ====
module

public import proofs.«01_k».proof.Proof.Ideal.Region

/-!
# The kernel body, run symbolically
-/

@[expose] public section

set_option maxRecDepth 16384
set_option maxHeartbeats 4000000

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The kernel body, run at any grid point on the blocks `x0`, `x1`, `x2`: the pieces it writes to
   the output block, with the proof that it does. -/
noncomputable def kernelRun0_A (c : Dev nD) (i : grid0.Coords) (arg3 : Memref sig .tc .vmem S1x4x64x512 .bf16) (harg3 : arg3.IsWhole) (arg4 : Memref sig .tc .vmem S1x1x16x512x64 .bf16) (harg4 : arg4.IsWhole) (arg5 : Memref sig .tc .vmem S1x1x16x80x512 .bf16) (harg5 : arg5.IsWhole) (arg6 : Memref sig .tc .vmem S1x512x256 .bf16) (harg6 : arg6.IsWhole) (arg7 : Memref sig .tc .vmem S4x512x512 .f32) (harg7 : arg7.IsWhole) (arg8 : Memref sig .tc .vmem S4x512x512 .f32) (harg8 : arg8.IsWhole)
    (x0 : Vec F S1x4x64x512 .bf16) (x1 : Vec F S1x1x16x512x64 .bf16) (x2 : Vec F S1x1x16x80x512 .bf16) :
    { L3 : List (View.Piece (Elt F) S1x512x256 .bf16) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d) ∗ (∃ d, owns (c : Thread nD τ) arg7 fullShare d) ∗ (∃ d, owns (c : Thread nD τ) arg8 fullShare d)
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f L3) ∗ (∃ d, owns (c : Thread nD τ) arg7 fullShare d) ∗ (∃ d, owns (c : Thread nD τ) arg8 fullShare d)) -∗ K ⟨⟩))
          ⊢ wp frame (wpE (defs₀ (F := F)) Variants.none c none) E (cc0_attn i arg3 harg3 arg4 harg4 arg5 harg5 arg6 harg6 arg7 harg7 arg8 harg8) K } := by
  refine ⟨?_, fun E K => ?run⟩
  case run =>
    simp only [cc0_attn_eq_skeleton]; unfold cc0_attn_skel
    simp only [k0_part102_eq_skeleton]; unfold k0_part102_skel
    simp only [
      k0_part62_eq_skeleton, k0_part63_eq_skeleton, k0_part64_eq_skeleton, k0_part65_eq_skeleton,
      k0_part66_eq_skeleton, k0_part67_eq_skeleton, k0_part68_eq_skeleton, k0_part69_eq_skeleton,
      k0_part70_eq_skeleton, k0_part71_eq_skeleton, k0_part72_eq_skeleton, k0_part73_eq_skeleton,
      k0_part74_eq_skeleton, k0_part75_eq_skeleton, k0_part76_eq_skeleton, k0_part77_eq_skeleton,
      k0_part78_eq_skeleton, k0_part79_eq_skeleton, k0_part80_eq_skeleton, k0_part81_eq_skeleton,
      k0_part82_eq_skeleton, k0_part83_eq_skeleton, k0_part84_eq_skeleton, k0_part85_eq_skeleton,
      k0_part86_eq_skeleton, k0_part87_eq_skeleton, k0_part88_eq_skeleton, k0_part89_eq_skeleton,
      k0_part90_eq_skeleton, k0_part91_eq_skeleton, k0_part92_eq_skeleton, k0_part93_eq_skeleton,
      k0_part94_eq_skeleton, k0_part95_eq_skeleton, k0_part96_eq_skeleton, k0_part97_eq_skeleton,
      k0_part98_eq_skeleton, k0_part99_eq_skeleton, k0_part100_eq_skeleton,
      k0_part101_eq_skeleton]
    unfold owns
    iintro ⟨⟨%f0, %hf0, H0⟩, ⟨%f1, %hf1, H1⟩, ⟨%f2, %hf2, H2⟩, ⟨%d3, %f3, -, H3⟩, ⟨%ds0, %fs0, -, HS0⟩, ⟨%ds1, %fs1, -, HS1⟩, Hk⟩
    obtain rfl := harg3.eq_unread hf0; obtain rfl := harg4.eq_unread hf1; obtain rfl := harg5.eq_unread hf2
    sl_exec
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    isplitl [HS0]
    · iexists _, _; isplitr; swap; · iexact HS0
      ipureintro; rfl
    iexists _, _; isplitr; swap; · iexact HS1
    ipureintro; rfl

end Cert.KernelIdeal.Run

end
-- ==== Proof.Ideal.Frame.lean ====
module

public import proofs.«01_k».proof.Proof.Ideal.Run
public import Idealize.ShloMosaic.Lib.Pipeline.FrameBody
public import Idealize.ShloMosaic.Lib.Ring
public import Idealize.ShloMosaic.Lib.Tactic
public import Idealize.ShloMosaic.Lib.WordCmp
public import Idealize.ShloMosaic.Lib.Claim
public import Idealize.ShloMosaic.Lib.Pipeline.Value

/-!
# The frame claim: the program ends and keeps its arguments
-/

@[expose] public section

set_option maxRecDepth 16384
set_option maxHeartbeats 4000000

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)
/-- The pieces the body writes cover the output block. -/
theorem cover0_A_3 (c : Dev nD) (i : grid0.Coords) (arg3 : Memref sig .tc .vmem S1x4x64x512 .bf16) (harg3 : arg3.IsWhole) (arg4 : Memref sig .tc .vmem S1x1x16x512x64 .bf16) (harg4 : arg4.IsWhole) (arg5 : Memref sig .tc .vmem S1x1x16x80x512 .bf16) (harg5 : arg5.IsWhole) (arg6 : Memref sig .tc .vmem S1x512x256 .bf16) (harg6 : arg6.IsWhole) (arg7 : Memref sig .tc .vmem S4x512x512 .f32) (harg7 : arg7.IsWhole) (arg8 : Memref sig .tc .vmem S4x512x512 .f32) (harg8 : arg8.IsWhole)
    (x0 : Vec F S1x4x64x512 .bf16) (x1 : Vec F S1x1x16x512x64 .bf16) (x2 : Vec F S1x1x16x80x512 .bf16) (y : S1x512x256.Idx) :
    ∃ pc ∈ (kernelRun0_A c i arg3 harg3 arg4 harg4 arg5 harg5 arg6 harg6 arg7 harg7 arg8 harg8 x0 x1 x2).1, y ∈ pc.1.set :=
  View.cover_of_tiledL (kernelRun0_A c i arg3 harg3 arg4 harg4 arg5 harg5 arg6 harg6 arg7 harg7 arg8 harg8 x0 x1 x2).1 S1x512x256.size (by sl_kernel_rfl) y

/-- The output block the body leaves. -/
def out0_A_3 (c : Dev nD) (i : grid0.Coords) (arg3 : Memref sig .tc .vmem S1x4x64x512 .bf16) (harg3 : arg3.IsWhole) (arg4 : Memref sig .tc .vmem S1x1x16x512x64 .bf16) (harg4 : arg4.IsWhole) (arg5 : Memref sig .tc .vmem S1x1x16x80x512 .bf16) (harg5 : arg5.IsWhole) (arg6 : Memref sig .tc .vmem S1x512x256 .bf16) (harg6 : arg6.IsWhole) (arg7 : Memref sig .tc .vmem S4x512x512 .f32) (harg7 : arg7.IsWhole) (arg8 : Memref sig .tc .vmem S4x512x512 .f32) (harg8 : arg8.IsWhole)
    (x0 : Vec F S1x4x64x512 .bf16) (x1 : Vec F S1x1x16x512x64 .bf16) (x2 : Vec F S1x1x16x80x512 .bf16) : Vec F S1x512x256 .bf16 :=
  VO0_3.read (Elt F) (VO0_3.writes (Elt F) VO0_3.junk (kernelRun0_A c i arg3 harg3 arg4 harg4 arg5 harg5 arg6 harg6 arg7 harg7 arg8 harg8 x0 x1 x2).1)

/-- The output block at point `t`. -/
def outsAt0 (c : Dev nD) (t : Fin cfg0.N) : Vec F S1x512x256 .bf16 :=
  out0_A_3 c (grid0.coords t) (ms0_0 t) (hs0_0 t) (ms0_1 t) (hs0_1 t) (ms0_2 t) (hs0_2 t) (ms0_3 t) (hs0_3 t) scM0_0 (Memref.isWhole_whole _) scM0_1 (Memref.isWhole_whole _) (iblk m c 0 t) (iblk m c 1 t) (iblk m c 2 t)

/-- What each window holds after the body at each point. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => (outsAt0 m c t)
  Φ _ := Pipeline.ΦA spec0 c
  q _ := fullShare
  owed _ := 0

/-- The arrays the launch starts from. -/
theorem A_eq (c : Dev nD) (w : Fin cfg0.W) : (dats m 0 c).A w = V m c (Pipeline.arrRef spec0 w) := by
  dsimp only [dats]

/-- What the point leaves in the query window, -/
theorem after0_0 (c : Dev nD) (t : Fin cfg0.N) : (dats m 0 c).after 0 t = iblk m c 0 t := by dsimp only [dats]
/-- the key window, -/
theorem after0_1 (c : Dev nD) (t : Fin cfg0.N) : (dats m 0 c).after 1 t = iblk m c 1 t := by dsimp only [dats]
/-- the value window, -/
theorem after0_2 (c : Dev nD) (t : Fin cfg0.N) : (dats m 0 c).after 2 t = iblk m c 2 t := by dsimp only [dats]
/-- and the result window. -/
theorem after0_3 (c : Dev nD) (t : Fin cfg0.N) : (dats m 0 c).after 3 t = (outsAt0 m c t) := by dsimp only [dats]

/-- What it finds in the query window, -/
theorem before0_0 (c : Dev nD) (t : Fin cfg0.N) (d) : (dats m 0 c).before 0 t d = iblk m c 0 t :=
  before0_0_of m (dats m 0 c) (A_eq m c 0) (after0_0 m c) t d
/-- the key window, -/
theorem before0_1 (c : Dev nD) (t : Fin cfg0.N) (d) : (dats m 0 c).before 1 t d = iblk m c 1 t :=
  before0_1_of m (dats m 0 c) (A_eq m c 1) (after0_1 m c) t d
/-- and the value window. -/
theorem before0_2 (c : Dev nD) (t : Fin cfg0.N) (d) : (dats m 0 c).before 2 t d = iblk m c 2 t :=
  before0_2_of m (dats m 0 c) (A_eq m c 2) (after0_2 m c) t d

/-- What the body is given at point `t`. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d)))

/-- What the body leaves at point `t`. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t))

/-- The body keeps its obligation at every point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl,
    after0_0, after0_1, after0_2, after0_3]
  rw [show (dats m 0 c).Φ t.castSucc = Pipeline.ΦA spec0 c from rfl, PhiA0_eq]
  unfold outsAt0
  unfold out0_A_3
  iintro ⟨⟨⟨HS0, HS1⟩, Hg⟩, Ho, ⟨%d0, H0⟩, ⟨%d1, H1⟩, ⟨%d2, H2⟩, ⟨%d3, H3⟩⟩
  iapply ((kernelRun0_A c (grid0.coords t) _ _ _ _ _ _ _ _ _ _ _ _ (iblk m c 0 t) (iblk m c 1 t) (iblk m c 2 t)).2 Set.univ _)
  isplitl [H0]; · iexact H0
  isplitl [H1]; · iexact H1
  isplitl [H2]; · iexact H2
  isplitl [H3]; · iexists _; iexact H3
  isplitl [HS0]; · iexact HS0
  isplitl [HS1]; · iexact HS1
  iintro ⟨H0, H1, H2, ⟨%e3, H3⟩, HS0, HS1⟩
  isplitl [HS0 HS1 Hg]
  · isplitl [HS0 HS1]
    · isplitl [HS0]
      · iexact HS0
      iexact HS1
    iexact Hg
  isplitl [Ho]; · iexact Ho
  isplitl [H0]; · iexact H0
  isplitl [H1]; · iexact H1
  isplitl [H2]; · iexact H2
  unfold owns; iexists _; isplitr
  swap; · iexact H3
  ipureintro; exact View.read_writes_of_cover _ _ _ _ _ (cover0_A_3 c _ _ _ _ _ _ _ _ _ _ _ _ _ _ _ _)

/-- The body the launch calls at a point. -/
theorem defs₀_row (t : Fin cfg0.N) :
    defs₀ (F := F) .tc cfg0.body (cfg0.bodyArgs t (cfg0.slots t)) = bodyAt0 t := by
  unfold defs₀; rw [Defs.onTc_tc]

/-- Every point's body runs as the proof data says. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
/-- The program ends with the arrays as the proof data says and all semaphores at rest. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The program ends with the arrays as the proof data says. -/
theorem run_main : θ_run defs (onTc (τ := τ) (main (F := F))) (s₀ m ρ) (Pipeline.FramePost cfgs (dats m) 0 (V m)) :=
  (θ_run defs _ _).mono (fun _ h => h.1) (run_main_quiescent m ρ)

/-- The program keeps its arguments. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

/-- The program ends, keeps its arguments, and leaves all semaphores at rest. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (unchanged m ρ) ((θ_run defs _ _).mono (fun _ h => h.2) (run_main_quiescent m ρ))

/-- What is copied back to the output array at point `t`. -/
theorem flushed3 (c : Dev nD) (t : Fin cfg0.N) :
    (dats m 0 c).flushed 3 t = (cfg0.win 3).cut (grid0.coords t) (outsAt0 m c t) := by
  show (cfg0.win 3).cut (grid0.coords t) ((dats m 0 c).after 3 t) = _
  rw [after0_3]

/-- What a flush writes of the result. -/
theorem flushed3_A (c : Dev nD) (t : Fin cfg0.N) :
    (dats m 0 c).flushed 3 t = (cfg0.win 3).cut (grid0.coords t) (out0_A_3 c (grid0.coords t) (ms0_0 t) (hs0_0 t) (ms0_1 t) (hs0_1 t) (ms0_2 t) (hs0_2 t) (ms0_3 t) (hs0_3 t) scM0_0 (Memref.isWhole_whole _) scM0_1 (Memref.isWhole_whole _) (iblk m c 0 t) (iblk m c 1 t) (iblk m c 2 t)) := by
  simp only [flushed3, outsAt0]

/-- An entry no flush writes is as it was. -/
theorem entry3 (c : Dev nD) (i : S8x8192x1024.Idx) (h : ∀ t : Fin cfg0.N, (cfg0.win 3).flush t = true → i ∉ ((cfg0.win 3).blk t).view.set) :
    (dats m 0 c).arrAt 3 cfg0.N i = V m c (Pipeline.arrRef spec0 3) i := by
  rw [(dats m 0 c).arrAt_apply_of_forall_not_mem 3 cfg0.N i (fun t _ hf => h t hf), A_eq]

/-- The result array at the end, -/
theorem post3 (r : PUnit × MemSt nD τ sig (Elt F)) (h : Pipeline.FramePost cfgs (dats m) 0 (V m) r) (c : Dev nD) :
    r.2.mem ((c : Thread nD τ).loc main_v14) = (dats m 0 c).arrAt 3 cfg0.N :=
  (h c).1 3

/-- the queries, -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).2 main_arg0 (Pipeline.mem_restRefs_of main_arg0 (by decide) (by decide))).trans (V_main_arg0 m c)

/-- the keys, -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).2 main_arg1 (Pipeline.mem_restRefs_of main_arg1 (by decide) (by decide))).trans (V_main_arg1 m c)

/-- and the values. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).2 main_arg2 (Pipeline.mem_restRefs_of main_arg2 (by decide) (by decide))).trans (V_main_arg2 m c)

/-- The program ends with the output array at the blocks the body leaves, and its arguments kept. -/
theorem run_blocks : θ_run defs (onTc (τ := τ) (main (F := F))) ⟨m, fun _ => 0, ρ⟩ fun r => ∀ c : Dev nD,
      r.2.mem ((c : Thread nD τ).loc main_v14) = (dats m 0 c).arrAt 3 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨post3 m r h c,
      kept_main_arg0 m r h c,
      kept_main_arg1 m r h c,
      kept_main_arg2 m r h c⟩)
    (run_main m ρ)

end Cert.KernelIdeal.Run

end
-- ==== Proof.Attn.Running.lean ====
module

public import Idealize.ShloMosaic.PureOps.Ideal.Laws

/-!
# The running softmax sums of one query, on the extended reals

A query meets its keys in blocks of 512.  `s t r` is its score against key `r` of block `t`, a real
number; `v t r` is one column of the values, any extended real.
-/

@[expose] public section

noncomputable section

namespace Cert.Attn

open Idealize.ShloMosaic

/-- The largest score of block `t`. -/
def bm (s : ℕ → Fin 512 → ℝ) (t : ℕ) : EReal := Finset.univ.sup fun r => ((s t r : ℝ) : EReal)

/-- The largest score of the first `T` blocks, `⊥` before the first. -/
def rm (s : ℕ → Fin 512 → ℝ) (T : ℕ) : EReal := (Finset.range T).sup (bm s)

/-- The values of the first `T` blocks, weighted by two to the power of score minus running maximum. -/
def ac (s : ℕ → Fin 512 → ℝ) (v : ℕ → Fin 512 → EReal) (T : ℕ) : EReal :=
  ∑ t ∈ Finset.range T, ∑ r, Ideal.exp2 (((s t r : ℝ) : EReal) - rm s T) * v t r

/-- Before the first tile the maximum is `-∞`, -/
@[simp] theorem rm_zero (s : ℕ → Fin 512 → ℝ) : rm s 0 = ⊥ := rfl

/-- and the accumulator zero. -/
@[simp] theorem ac_zero (s : ℕ → Fin 512 → ℝ) (v : ℕ → Fin 512 → EReal) : ac s v 0 = 0 := rfl

/-- One more block: the maximum of the old maximum and the block's. -/
theorem rm_succ (s : ℕ → Fin 512 → ℝ) (T : ℕ) : rm s (T + 1) = max (rm s T) (bm s T) := by
  unfold rm; rw [Finset.range_add_one, Finset.sup_insert, sup_comm]

/-- A block's maximum is a real number. -/
theorem bm_real (s : ℕ → Fin 512 → ℝ) (t : ℕ) : ∃ m : ℝ, bm s t = m := by
  obtain ⟨r, _, hr⟩ := Finset.exists_mem_eq_sup (Finset.univ : Finset (Fin 512)) ⟨0, Finset.mem_univ _⟩
    fun r => ((s t r : ℝ) : EReal)
  exact ⟨s t r, hr⟩

/-- After at least one block the running maximum is a real number. -/
theorem rm_real (s : ℕ → Fin 512 → ℝ) (T : ℕ) (h : 0 < T) : ∃ m : ℝ, rm s T = m := by
  obtain ⟨t, _, ht⟩ := Finset.exists_mem_eq_sup (Finset.range T) ⟨0, Finset.mem_range.2 h⟩ (bm s)
  obtain ⟨m, hm⟩ := bm_real s t
  exact ⟨m, ht.trans hm⟩

/-- A power of two at a real, -/
theorem exp2_coe (x : ℝ) : Ideal.exp2 (x : EReal) = ((2 : ℝ) ^ x : ℝ) := rfl

/-- and that none is negative. -/
theorem exp2_nonneg (x : EReal) : 0 ≤ Ideal.exp2 x := by
  induction x with
  | bot => exact le_rfl
  | top => exact le_top
  | coe r => exact EReal.coe_nonneg.2 (Real.rpow_nonneg (by norm_num) r)

/-- A nonnegative real factor goes into a finite sum of extended reals. -/
theorem mul_sum_of_real {ι : Type*} (I : Finset ι) (a : ℝ) (ha : 0 ≤ a) (f : ι → EReal) :
    (a : EReal) * ∑ i ∈ I, f i = ∑ i ∈ I, (a : EReal) * f i := by
  classical
  induction I using Finset.induction_on with
  | empty => simp
  | insert i I hi ih =>
    rw [Finset.sum_insert hi, Finset.sum_insert hi,
      EReal.left_distrib_of_nonneg_of_ne_top (EReal.coe_nonneg.2 ha) (EReal.coe_ne_top a), ih]

/-- Changing the running maximum rescales the weights. -/
theorem rescale (x m n : ℝ) (v : EReal) :
    Ideal.exp2 ((m : EReal) - n) * (Ideal.exp2 ((x : EReal) - m) * v) = Ideal.exp2 ((x : EReal) - n) * v := by
  rw [← mul_assoc]
  congr 1
  rw [← EReal.coe_sub, ← EReal.coe_sub, ← EReal.coe_sub, exp2_coe, exp2_coe, exp2_coe, ← EReal.coe_mul,
    ← Real.rpow_add (by norm_num)]
  congr 2; ring

/-- One more block: the old sum rescaled to the new maximum, plus the block's weighted values. -/
theorem ac_succ (s : ℕ → Fin 512 → ℝ) (v : ℕ → Fin 512 → EReal) (T : ℕ) :
    Ideal.exp2 (rm s T - rm s (T + 1)) * ac s v T
      + ∑ r, Ideal.exp2 (((s T r : ℝ) : EReal) - rm s (T + 1)) * v T r = ac s v (T + 1) := by
  have hs : ac s v (T + 1) = (∑ t ∈ Finset.range T, ∑ r, Ideal.exp2 (((s t r : ℝ) : EReal) - rm s (T + 1)) * v t r)
      + ∑ r, Ideal.exp2 (((s T r : ℝ) : EReal) - rm s (T + 1)) * v T r := Finset.sum_range_succ _ _
  rw [hs]
  congr 1
  obtain ⟨n, hn⟩ := rm_real s (T + 1) (Nat.succ_pos T)
  rcases Nat.eq_zero_or_pos T with rfl | hT
  · simp
  · obtain ⟨m, hm⟩ := rm_real s T hT
    unfold ac
    rw [hn, hm]
    have he : Ideal.exp2 ((m : EReal) - n) = (((2 : ℝ) ^ (m - n) : ℝ) : EReal) := by
      rw [← EReal.coe_sub, exp2_coe]
    have h0 : (0 : ℝ) ≤ (2 : ℝ) ^ (m - n) := Real.rpow_nonneg (by norm_num) _
    rw [he, mul_sum_of_real _ _ h0]
    refine Finset.sum_congr rfl fun t _ => ?_
    rw [mul_sum_of_real _ _ h0]
    refine Finset.sum_congr rfl fun r _ => ?_
    rw [← he, rescale]

end Cert.Attn

end
-- ==== Proof.Attn.Ops.lean ====
module

public import proofs.«01_k».proof.Proof.Attn.Running
public import proofs.«01_k».proof.Proof.Gen.KernelIdeal.Skeleton
public import Idealize.ShloMosaic.Lib.MatmulPlain
public import Idealize.ShloMosaic.Lib.ValueLayout
public import Idealize.ShloMosaic.Lib.Pointwise
public import Idealize.ShloMosaic.Lib.Writes

/-!
# The kernel's operations read at an index, on ideal values
-/

@[expose] public section

noncomputable section

namespace Cert.KernelIdeal.Attn

open Cert.KernelIdeal Cert.KernelIdeal.Gen
open Idealize.ShloMosaic Idealize.ShloMosaic.TcCoe

/-- The single precision word for minus infinity is `⊥`. -/
theorem word_bot : (FloatOps.ofBits (F := Ideal) .f32 4286578688#32 : EReal) = ⊥ := by
  show Ideal.ofBits .f32 4286578688#32 = ⊥
  simp [Ideal.ofBits, Ideal.ieee]

/-- The single precision zero word is `0`. -/
theorem word_zero : (FloatOps.ofBits (F := Ideal) .f32 0#32 : EReal) = 0 := Ideal.ofBits_zero_f32

/-- A maximum taken from `⊥` over all indices is the supremum. -/
theorem fold_max_bot {n : ℕ} (f : Fin n → EReal) :
    (Finset.univ : Finset (Fin n)).fold max (⊥ : EReal) f = Finset.univ.sup f := rfl

/-- The product of a 128 × 64 and a 64 × 512 matrix, at an index. -/
theorem dot_qk (a : FVec Ideal S128x64 .bf16) (b : FVec Ideal S64x512 .bf16) (i : Fin 128) (c : Fin 512) :
    matmul dot_S128x64_S64x512_S128x512_1_0_0_1_n_n none a b (constant S128x512 .f32 0#32) (ix2 i c)
      = ∑ k : Fin 64, a (ix2 i k) * b (ix2 k c) := by
  refine (Ideal.matmul_plain_apply none a b (constant S128x512 .f32 0#32) i c).trans ?_
  rw [constant_apply, word_zero, zero_add]; rfl

/-- The product of an 80 × 256 and a 256 × 512 matrix, at an index. -/
theorem dot_pv (a : FVec Ideal S80x256 .bf16) (b : FVec Ideal S256x512 .bf16) (i : Fin 80) (c : Fin 512) :
    matmul dot_S80x256_S256x512_S80x512_1_0_0_1_n_n none a b (constant S80x512 .f32 0#32) (ix2 i c)
      = ∑ k : Fin 256, a (ix2 i k) * b (ix2 k c) := by
  refine (Ideal.matmul_plain_apply none a b (constant S80x512 .f32 0#32) i c).trans ?_
  rw [constant_apply, word_zero, zero_add]; rfl

/-- The maxima of the columns of a 128 × 512 array over the rows equal to `e` modulo eight. -/
theorem max16 (x : FVec Ideal S128x512 .f32) (h : S128x512.ShapeCasts S16x8x512) (hr : S16x8x512.Reduces [0] S8x512)
    (hφ : FKind.Formats .f32) (hn : (4286578688#32 : BitVec 32) = FKind.maximumf.neutral .f32 hφ) (e : Fin 8) (c : Fin 512) :
    multiReduction FKind.maximumf [0] S8x512 (shapeCast S16x8x512 x h) 4286578688#32 hr hφ hn (ix2 e c)
      = Finset.univ.sup fun a : Fin 16 => x (ix2 (⟨a.val * 8 + e.val, by omega⟩ : Fin 128) c) := by
  rw [multiReduction_maximumf_eq_fold, hr.fold_fiber_r3_a0, word_bot]
  refine (fold_max_bot _).trans (Finset.sup_congr rfl fun a _ => ?_)
  refine shapeCast_apply x h _ _ ?_
  rw [Shape.rowMajor_val_three, Shape.rowMajor_val_two]
  rfl

/-- The maxima of the columns of an 8 × 512 array, as a row. -/
theorem max8 (x : FVec Ideal S8x512 .f32) (h : S512.ShapeCasts S1x512) (hr : S8x512.Reduces [0] S512)
    (hφ : FKind.Formats .f32) (hn : (4286578688#32 : BitVec 32) = FKind.maximumf.neutral .f32 hφ) (c : Fin 512) :
    shapeCast S1x512 (multiReduction FKind.maximumf [0] S512 x 4286578688#32 hr hφ hn) h (ix2 0 c)
      = Finset.univ.sup fun e : Fin 8 => x (ix2 e c) := by
  rw [shapeCast_apply _ h (ix2 0 c) (ix1 c) (by rw [Shape.rowMajor_val_one, Shape.rowMajor_val_two]; simp), multiReduction_maximumf_eq_fold, hr.fold_fiber_r2_a0, word_bot]
  exact fold_max_bot _

/-- Two stacked 128 × 512 arrays: the upper one in the first 128 rows, -/
theorem stack_lo (x y : FVec Ideal S128x512 .bf16) (h : Shape.Concatenates [S128x512, S128x512] S256x512 0)
    (i : Fin 128) (c : Fin 512) :
    concatenate S256x512 0 [⟨S128x512, x⟩, ⟨S128x512, y⟩] h (ix2 (Fin.castAdd 128 i) c) = x (ix2 i c) :=
  concatenate_pair_apply_left 0 x y h _ rfl _ fun b => by
    match b with
    | ⟨0, _⟩ => rfl
    | ⟨1, _⟩ => rfl

/-- and the lower one in the rest. -/
theorem stack_hi (x y : FVec Ideal S128x512 .bf16) (h : Shape.Concatenates [S128x512, S128x512] S256x512 0)
    (i : Fin 128) (c : Fin 512) :
    concatenate S256x512 0 [⟨S128x512, x⟩, ⟨S128x512, y⟩] h (ix2 (Fin.natAdd 128 i) c) = y (ix2 i c) :=
  concatenate_pair_apply_right 0 x y h _ rfl rfl _
    (fun b hb => by
      match b, hb with
      | ⟨0, _⟩, hb => exact absurd rfl hb
      | ⟨1, _⟩, _ => rfl)
    (Nat.add_comm _ _)

end Cert.KernelIdeal.Attn

end
-- ==== Proof.Attn.Softmax.lean ====
module

public import proofs.«01_k».proof.Proof.Attn.Running

/-!
# The running sums at the end are the softmax

With the scores taken to the base two, dividing the weighted sum of the values by the sum of the
weights gives the values weighted by the softmax of the scores.
-/

@[expose] public section

noncomputable section

namespace Cert.Attn

open Idealize.ShloMosaic

/-- Key `r` of block `t` among all keys. -/
def key (t : Fin 16) (r : Fin 512) : Fin 8192 := ⟨512 * t.val + r.val, by omega⟩

/-- A sum over blocks and rows is a sum over keys. -/
theorem sum_keys (f : Fin 8192 → EReal) (f' : ℕ → Fin 512 → EReal) (h : ∀ (t : Fin 16) r, f' t.val r = f (key t r)) :
    (∑ t ∈ Finset.range 16, ∑ r, f' t r) = ∑ j, f j := by
  rw [Finset.sum_range]
  rw [← Equiv.sum_comp (finProdFinEquiv (m := 16) (n := 512)) f, Fintype.sum_prod_type]
  refine Finset.sum_congr rfl fun t _ => Finset.sum_congr rfl fun r _ => (h t r).trans (congrArg f (Fin.ext ?_))
  show 512 * t.val + r.val = r.val + 512 * t.val
  omega

/-- Every key lies in a block. -/
theorem exists_key (j : Fin 8192) : ∃ t r, j = key t r :=
  ⟨⟨j.val / 512, by omega⟩, ⟨j.val % 512, by omega⟩, Fin.ext (by simp only [key]; omega)⟩

variable {x : Fin 8192 → ℝ} {s : ℕ → Fin 512 → ℝ}

/-- The largest score, to the base two and to the base e. -/
theorem max_scores (h : ∀ (t : Fin 16) r, s t.val r = x (key t r) * (Real.log 2)⁻¹) :
    ∃ M : ℝ, rm s 16 = ((M * (Real.log 2)⁻¹ : ℝ) : EReal) ∧ (Finset.univ.sup fun j => ((x j : ℝ) : EReal)) = M := by
  have hl : 0 < (Real.log 2)⁻¹ := inv_pos.2 (Real.log_pos one_lt_two)
  obtain ⟨j, _, hj⟩ := Finset.exists_mem_eq_sup (Finset.univ : Finset (Fin 8192)) ⟨0, Finset.mem_univ _⟩
    fun j => ((x j : ℝ) : EReal)
  refine ⟨x j, ?_, hj⟩
  have hx : ∀ k, x k ≤ x j := fun k => EReal.coe_le_coe_iff.1 ((Finset.le_sup (f := fun j => ((x j : ℝ) : EReal))
    (Finset.mem_univ k)).trans hj.le)
  refine le_antisymm (Finset.sup_le fun t ht => Finset.sup_le fun r _ => ?_) ?_
  · rw [h ⟨t, Finset.mem_range.1 ht⟩ r]
    exact EReal.coe_le_coe_iff.2 (mul_le_mul_of_nonneg_right (hx _) hl.le)
  · obtain ⟨t, r, rfl⟩ := exists_key j
    rw [← h t r]
    exact (Finset.le_sup (f := fun r => ((s t.val r : ℝ) : EReal)) (Finset.mem_univ r)).trans
      (Finset.le_sup (f := bm s) (Finset.mem_range.2 t.isLt))

/-- The weighted sum at the end, over all keys. -/
theorem ac_keys (h : ∀ (t : Fin 16) r, s t.val r = x (key t r) * (Real.log 2)⁻¹) {M : ℝ}
    (hM : rm s 16 = ((M * (Real.log 2)⁻¹ : ℝ) : EReal)) (v : Fin 8192 → EReal) (v' : ℕ → Fin 512 → EReal)
    (hv : ∀ (t : Fin 16) r, v' t.val r = v (key t r)) :
    ac s v' 16 = ∑ j, ((Real.exp (x j - M) : ℝ) : EReal) * v j := by
  refine sum_keys _ _ fun t r => ?_
  rw [hM, h t r, hv t r, ← EReal.coe_sub, exp2_coe]
  congr 2
  have hl : Real.log 2 ≠ 0 := (Real.log_pos one_lt_two).ne'
  rw [Real.rpow_def_of_pos two_pos]
  congr 1
  field_simp

/-- Dividing the running sum of the values by the running sum of the weights gives the softmax. -/
theorem softmax (h : ∀ (t : Fin 16) r, s t.val r = x (key t r) * (Real.log 2)⁻¹)
    (v : Fin 8192 → EReal) (v' e : ℕ → Fin 512 → EReal) (hv : ∀ (t : Fin 16) r, v' t.val r = v (key t r))
    (he : ∀ (t : Fin 16) r, e t.val r = 1) :
    ac s v' 16 * Ideal.div 1 (ac s e 16)
      = ∑ j, v j * Ideal.div (Ideal.exp (((x j : ℝ) : EReal) - Finset.univ.sup fun j => ((x j : ℝ) : EReal)))
          (∑ j, Ideal.exp (((x j : ℝ) : EReal) - Finset.univ.sup fun j => ((x j : ℝ) : EReal))) := by
  obtain ⟨M, hM, hx⟩ := max_scores h
  have e1 : ∀ j, Ideal.exp (((x j : ℝ) : EReal) - (M : EReal)) = ((Real.exp (x j - M) : ℝ) : EReal) := fun j => by
    rw [← EReal.coe_sub]; rfl
  rw [hx, ac_keys h hM v v' hv, ac_keys h hM (fun _ => 1) e he]
  simp only [mul_one, e1]
  have hs : (∑ j, ((Real.exp (x j - M) : ℝ) : EReal)) = ((∑ j, Real.exp (x j - M) : ℝ) : EReal) :=
    (map_sum (⟨⟨Real.toEReal, rfl⟩, EReal.coe_add⟩ : ℝ →+ EReal) _ _).symm
  have hp : 0 < ∑ j, Real.exp (x j - M) :=
    Finset.sum_pos (fun j _ => Real.exp_pos _) ⟨0, Finset.mem_univ _⟩
  rw [hs]
  generalize (∑ j, Real.exp (x j - M)) = L at hp
  have hd : ∀ y : EReal, Ideal.div y (L : EReal) = y * ((L⁻¹ : ℝ) : EReal) := fun y => by
    unfold Ideal.div
    rw [if_neg (by exact_mod_cast hp.ne'), EReal.coe_inv]
  rw [hd, one_mul, mul_comm, mul_sum_of_real _ _ (inv_nonneg.2 hp.le)]
  refine Finset.sum_congr rfl fun j _ => ?_
  rw [hd, mul_comm (v j), mul_comm (((Real.exp (x j - M) : ℝ) : EReal)) (((L⁻¹ : ℝ) : EReal)), mul_assoc]

end Cert.Attn

end
-- ==== Proof.Attn.Host.lean ====
module

public import proofs.«01_k».proof.Proof.Ideal.Region
public import proofs.«01_k».proof.Proof.Attn.Ops
public import proofs.«01_k».proof.Proof.Attn.Softmax
public import Idealize.ShloMosaic.Lib.Claim
public import Idealize.ShloMosaic.Lib.IdealHost

/-!
# What the host operations hand to the kernel, entry by entry
-/

@[expose] public section

noncomputable section

namespace Cert.KernelIdeal.Attn

open Cert.KernelIdeal Cert.KernelIdeal.Gen Cert.Attn
open Idealize.ShloMosaic Idealize.ShloMosaic.TcCoe Idealize.ShloMosaic.Tactic
open Idealize.ShloMosaic.StableHlo

variable (m : (ℓ : Loc nD τ sig) → Buf (Elt Ideal) ℓ) (c : Dev nD)

/-- The queries, keys and values the program is given. -/
abbrev qa : FVec Ideal S8x8192x16x64 .f32 := m ((c : Thread nD τ).loc main_arg0)
abbrev ka : FVec Ideal S8x8192x4x64 .f32 := m ((c : Thread nD τ).loc main_arg1)
abbrev va : FVec Ideal S8x8192x4x64 .f32 := m ((c : Thread nD τ).loc main_arg2)

/-- The queries as the host hands them over: transposed; -/
theorem host_q : Run.V m c main_v1 = (truncf .bf16 (transpose S8x16x64x8192 [0, 2, 3, 1] (qa m c)
    transposes_S8x8192x16x64_S8x16x64x8192_0_2_3_1) bitsLt_bf16_f32 : FVec Ideal S8x16x64x8192 .bf16) := by
  unfold_abbrev_sides
  simp only [hostOps0, hostOps0_1, hostOps0_2, List.flatten_cons, List.flatten_nil, List.append_nil, List.cons_append,
    List.nil_append]
  after_results

/-- the keys: cut into sixteen tiles; -/
theorem host_k : Run.V m c main_v4 = (truncf .bf16 (shapeCast S8x4x16x512x64 (transpose S8x4x8192x64 [0, 2, 1, 3] (ka m c)
    transposes_S8x8192x4x64_S8x4x8192x64_0_2_1_3) shapeCasts_S8x4x8192x64_S8x4x16x512x64) bitsLt_bf16_f32 : FVec Ideal S8x4x16x512x64 .bf16) := by
  unfold_abbrev_sides
  simp only [hostOps0, hostOps0_1, hostOps0_2, List.flatten_cons, List.flatten_nil, List.append_nil, List.cons_append,
    List.nil_append]
  after_results
  rfl

/-- the values: transposed, with a row of ones and fifteen of zeros below. -/
theorem host_v : Run.V m c main_v13 = (truncf .bf16 (concatenate S8x4x16x80x512 3
    [⟨S8x4x16x64x512, transpose S8x4x16x64x512 [0, 3, 1, 4, 2] (shapeCast S8x16x512x4x64 (va m c) shapeCasts_S8x8192x4x64_S8x16x512x4x64)
        transposes_S8x16x512x4x64_S8x4x16x64x512_0_3_1_4_2⟩,
      ⟨S8x4x16x16x512, select (cmpi .eq (iotaInDim S8x4x16x16x512 32 3)
          (broadcastInDim S8x4x16x16x512 ![] bcast_S_S8x4x16x16x512 (constantI S_ 32 0#32)))
        (broadcastInDim S8x4x16x16x512 ![] bcast_S_S8x4x16x16x512 (constant (F := Ideal) S_ .f32 0x3F800000#32))
        (broadcastInDim S8x4x16x16x512 ![] bcast_S_S8x4x16x16x512 (constant (F := Ideal) S_ .f32 0x00000000#32))⟩]
      concatenates_S8x4x16x64x512_S8x4x16x16x512_S8x4x16x80x512_d3) bitsLt_bf16_f32 : FVec Ideal S8x4x16x80x512 .bf16) := by
  unfold_abbrev_sides
  simp only [hostOps0, hostOps0_1, hostOps0_2, List.flatten_cons, List.flatten_nil, List.append_nil, List.cons_append,
    List.nil_append]
  after_results
  rfl

/-- The query array, entry by entry. -/
theorem q_entry (b : Fin 8) (h : Fin 16) (d : Fin 64) (i : Fin 8192) :
    (Run.V m c main_v1 : S8x16x64x8192.Idx → EReal) (ix4 b h d i) = qa m c (ix4 b i h d) := by
  rw [host_q]
  have et : ∀ (x : FVec Ideal S8x16x64x8192 .f32) (j : S8x16x64x8192.Idx), truncf FTy.bf16 x bitsLt_bf16_f32 j = x j := fun _ _ => rfl
  rw [et]
  exact transpose_apply _ _ _ _ (ix4 b i h d) fun a => by
    match a with
    | ⟨0, _⟩ => rfl
    | ⟨1, _⟩ => rfl
    | ⟨2, _⟩ => rfl
    | ⟨3, _⟩ => rfl

/-- The key array, entry by entry. -/
theorem k_entry (b : Fin 8) (h : Fin 4) (t : Fin 16) (r : Fin 512) (d : Fin 64) :
    (Run.V m c main_v4 : S8x4x16x512x64.Idx → EReal) (ix5 b h t r d) = ka m c (ix4 b (key t r) h d) := by
  rw [host_k]
  have et : ∀ (x : FVec Ideal S8x4x16x512x64 .f32) (j : S8x4x16x512x64.Idx), truncf FTy.bf16 x bitsLt_bf16_f32 j = x j := fun _ _ => rfl
  rw [et, shapeCast_apply _ _ (ix5 b h t r d) (ix4 b h (key t r) d) (by
    rw [Shape.rowMajor_val_four, Shape.rowMajor_val_five]
    show ((b.val * 4 + h.val) * 8192 + (512 * t.val + r.val)) * 64 + d.val
      = (((b.val * 4 + h.val) * 16 + t.val) * 512 + r.val) * 64 + d.val
    omega)]
  exact transpose_apply _ _ _ _ (ix4 b (key t r) h d) fun a => by
    match a with
    | ⟨0, _⟩ => rfl
    | ⟨1, _⟩ => rfl
    | ⟨2, _⟩ => rfl
    | ⟨3, _⟩ => rfl

/-- The value array: its first 64 entries of a key are the key's values, -/
theorem v_entry (b : Fin 8) (h : Fin 4) (t : Fin 16) (d : Fin 64) (r : Fin 512) :
    (Run.V m c main_v13 : S8x4x16x80x512.Idx → EReal) (ix5 b h t (⟨d.val, by omega⟩ : Fin 80) r) = va m c (ix4 b (key t r) h d) := by
  rw [host_v]
  have et : ∀ (x : FVec Ideal S8x4x16x80x512 .f32) (j : S8x4x16x80x512.Idx), truncf FTy.bf16 x bitsLt_bf16_f32 j = x j := fun _ _ => rfl
  rw [et, concatenate_pair_apply_left (t := S8x4x16x80x512) (s₁ := S8x4x16x64x512) (s₂ := S8x4x16x16x512) 3 _ _ _ (ix5 b h t (⟨d.val, by omega⟩ : Fin 80) r) rfl (ix5 b h t d r : S8x4x16x64x512.Idx) fun a => by
    match a with
    | ⟨0, _⟩ => rfl
    | ⟨1, _⟩ => rfl
    | ⟨2, _⟩ => rfl
    | ⟨3, _⟩ => rfl
    | ⟨4, _⟩ => rfl]
  refine (transpose_apply _ _ _ _ (ix5 b t r h d) fun a => ?_).trans ?_
  · match a with
    | ⟨0, _⟩ => rfl
    | ⟨1, _⟩ => rfl
    | ⟨2, _⟩ => rfl
    | ⟨3, _⟩ => rfl
    | ⟨4, _⟩ => rfl
  · refine shapeCast_apply _ _ _ _ ?_
    rw [Shape.rowMajor_val_four, Shape.rowMajor_val_five]
    show ((b.val * 8192 + (512 * t.val + r.val)) * 4 + h.val) * 64 + d.val
      = (((b.val * 16 + t.val) * 512 + r.val) * 4 + h.val) * 64 + d.val
    omega

/-- and its entry 64 is one. -/
theorem one_entry (b : Fin 8) (h : Fin 4) (t : Fin 16) (r : Fin 512) :
    (Run.V m c main_v13 : S8x4x16x80x512.Idx → EReal) (ix5 b h t (⟨64, by omega⟩ : Fin 80) r) = (1 : EReal) := by
  rw [host_v]
  have et : ∀ (x : FVec Ideal S8x4x16x80x512 .f32) (j : S8x4x16x80x512.Idx), truncf FTy.bf16 x bitsLt_bf16_f32 j = x j := fun _ _ => rfl
  rw [et, concatenate_pair_apply_right (t := S8x4x16x80x512) (s₁ := S8x4x16x64x512) (s₂ := S8x4x16x16x512) 3 _ _ _ (ix5 b h t (⟨64, by omega⟩ : Fin 80) r) rfl rfl (ix5 b h t (0 : Fin 16) r : S8x4x16x16x512.Idx)
    (fun a ha => by
      match a, ha with
      | ⟨0, _⟩, _ => rfl
      | ⟨1, _⟩, _ => rfl
      | ⟨2, _⟩, _ => rfl
      | ⟨3, _⟩, ha => exact absurd rfl ha
      | ⟨4, _⟩, _ => rfl) rfl]
  exact Ideal.ofBits_one_f32

end Cert.KernelIdeal.Attn
-- ==== Proof.Attn.Target.lean ====
module

public import proofs.«01_k».proof.Proof.Attn.Softmax

/-!
# Grouped-query attention, entry by entry

The function both programs are shown to compute: queries and keys are real, values are any.
-/

@[expose] public section

noncomputable section

namespace Cert.Attn

open Idealize.ShloMosaic

variable (q : Fin 8 → Fin 8192 → Fin 16 → Fin 64 → ℝ) (k : Fin 8 → Fin 8192 → Fin 4 → Fin 64 → ℝ)
  (v : Fin 8 → Fin 8192 → Fin 4 → Fin 64 → EReal)

/-- Query head `4 h + g`: the `g`-th of the four that share key head `h`. -/
def head (h g : Fin 4) : Fin 16 := ⟨4 * h.val + g.val, by omega⟩

/-- The scaled product of query `i` with key `j`. -/
def logit (b : Fin 8) (h g : Fin 4) (i j : Fin 8192) : ℝ := (∑ d, k b j h d * q b i (head h g) d) * 8⁻¹

/-- Entry `d` of the attention of query `i`: the values' mean under the softmax of the logits. -/
def att (b : Fin 8) (h g : Fin 4) (i : Fin 8192) (d : Fin 64) : EReal :=
  ∑ j, v b j h d * Ideal.div
    (Ideal.exp (((logit q k b h g i j : ℝ) : EReal) - Finset.univ.sup fun j => ((logit q k b h g i j : ℝ) : EReal)))
    (∑ j, Ideal.exp (((logit q k b h g i j : ℝ) : EReal) - Finset.univ.sup fun j => ((logit q k b h g i j : ℝ) : EReal)))

/-- The same at a column of the array of all heads. -/
def attAt (b : Fin 8) (i : Fin 8192) (w : Fin 1024) : EReal :=
  att q k v b ⟨w.val / 256, by omega⟩ ⟨w.val / 64 % 4, by omega⟩ i ⟨w.val % 64, by omega⟩

/-- Column `256 h + 64 g + d` is entry `d` of query head `4 h + g`. -/
theorem attAt_eq (b : Fin 8) (i : Fin 8192) (w : Fin 1024) (h g : Fin 4) (d : Fin 64)
    (e : w.val = 256 * h.val + 64 * g.val + d.val) : attAt q k v b i w = att q k v b h g i d := by
  have e1 : (⟨w.val / 256, by omega⟩ : Fin 4) = h := Fin.ext (by show w.val / 256 = h.val; omega)
  have e2 : (⟨w.val / 64 % 4, by omega⟩ : Fin 4) = g := Fin.ext (by show w.val / 64 % 4 = g.val; omega)
  have e3 : (⟨w.val % 64, by omega⟩ : Fin 64) = d := Fin.ext (by show w.val % 64 = d.val; omega)
  rw [attAt, e1, e2, e3]

end Cert.Attn
-- ==== Proof.Attn.Blocks.lean ====
module

public import proofs.«01_k».proof.Proof.Attn.Host
public import proofs.«01_k».proof.Proof.Attn.Target
public import Idealize.ShloMosaic.Lib.Pipeline.ValueKit

/-!
# The blocks a grid point is given, entry by entry
-/

@[expose] public section

noncomputable section

namespace Cert.KernelIdeal.Attn

open Cert.KernelIdeal Cert.KernelIdeal.Gen Cert.Attn
open Idealize.ShloMosaic Idealize.ShloMosaic.TcCoe Idealize.ShloMosaic.Tactic
open Idealize.ShloMosaic.StableHlo

variable (m : (ℓ : Loc nD τ sig) → Buf (Elt Ideal) ℓ) (c : Dev nD)

/-- A point's batch entry, -/
def pb (t : Fin grid0.N) : Fin 8 := grid0.coords t 0
/-- its key head, -/
def ph (t : Fin grid0.N) : Fin 4 := grid0.coords t 1
/-- and its block of queries. -/
def pi (t : Fin grid0.N) : Fin 16 := grid0.coords t 2

/-- A small grid coordinate, as a 32-bit word, is itself. -/
theorem word_val {n : ℕ} (x : Fin n) (h : n ≤ 16) : (BitVec.ofNat 32 x.val).toNat = x.val := by
  rw [BitVec.toNat_ofNat, Nat.mod_eq_of_lt (by have := x.isLt; omega)]

/-- The query window at a point: batch, key head, and the point's 512 queries; -/
theorem index0 (t : Fin grid0.N) : win0_0.index t = ![(pb t).val, (ph t).val, 0, (pi t).val] := by
  show cc0_transform_0 (grid0.coords t) = _
  funext a
  match a with
  | ⟨0, _⟩ => exact word_val (pb t) (by decide)
  | ⟨1, _⟩ => exact word_val (ph t) (by decide)
  | ⟨2, _⟩ => rfl
  | ⟨3, _⟩ => exact word_val (pi t) (by decide)

/-- the key window: batch and key head, all keys; -/
theorem index1 (t : Fin grid0.N) : win0_1.index t = ![(pb t).val, (ph t).val, 0, 0, 0] := by
  show cc0_transform_1 (grid0.coords t) = _
  funext a
  match a with
  | ⟨0, _⟩ => exact word_val (pb t) (by decide)
  | ⟨1, _⟩ => exact word_val (ph t) (by decide)
  | ⟨2, _⟩ => rfl
  | ⟨3, _⟩ => rfl
  | ⟨4, _⟩ => rfl

/-- the value window: the same; -/
theorem index2 (t : Fin grid0.N) : win0_2.index t = ![(pb t).val, (ph t).val, 0, 0, 0] := by
  show cc0_transform_2 (grid0.coords t) = _
  funext a
  match a with
  | ⟨0, _⟩ => exact word_val (pb t) (by decide)
  | ⟨1, _⟩ => exact word_val (ph t) (by decide)
  | ⟨2, _⟩ => rfl
  | ⟨3, _⟩ => rfl
  | ⟨4, _⟩ => rfl

/-- and the result window: batch, the 512 queries, and the columns of the four heads. -/
theorem index3 (t : Fin grid0.N) : win0_3.index t = ![(pb t).val, (pi t).val, (ph t).val] := by
  show cc0_transform_3 (grid0.coords t) = _
  funext a
  match a with
  | ⟨0, _⟩ => exact word_val (pb t) (by decide)
  | ⟨1, _⟩ => exact word_val (pi t) (by decide)
  | ⟨2, _⟩ => exact word_val (ph t) (by decide)

/-- The query block's entries, in the array the host prepared; -/
theorem blk0 (t : Fin grid0.N) (g : Fin 4) (d : Fin 64) (i : Fin 512) :
    (Run.iblk m c 0 t : S1x4x64x512.Idx → EReal) (ix4 0 g d i) = qa m c (ix4 (pb t) (key (pi t) i) (head (ph t) g) d) := by
  rw [← q_entry]
  blk_ext [Run.iblk, index0 t, key, head]

/-- the key block's; -/
theorem blk1 (t : Fin grid0.N) (k : Fin 16) (r : Fin 512) (d : Fin 64) :
    (Run.iblk m c 1 t : S1x1x16x512x64.Idx → EReal) (ix5 0 0 k r d) = ka m c (ix4 (pb t) (key k r) (ph t) d) := by
  rw [← k_entry]
  blk_ext [Run.iblk, index1 t]

/-- the value block's. -/
theorem blk2 (t : Fin grid0.N) (k : Fin 16) (d : Fin 80) (r : Fin 512) :
    (Run.iblk m c 2 t : S1x1x16x80x512.Idx → EReal) (ix5 0 0 k d r) = (Run.V m c main_v13 : S8x4x16x80x512.Idx → EReal) (ix5 (pb t) (ph t) k d r) := by
  blk_ext [Run.iblk, index2 t]

end Cert.KernelIdeal.Attn
-- ==== Proof.Attn.Step.lean ====
module

public import proofs.«01_k».proof.Proof.Attn.Ops

/-!
# One key block of one head

`S t r c` is the score of key `r` of block `t` against query column `c`, a real number; `V t i r` is
entry `i` of the value column of that key.  Each theorem says what one of the kernel's steps does to
the running maxima and the running sums.
-/

@[expose] public section

noncomputable section

namespace Cert.KernelIdeal.Attn

open Cert.KernelIdeal Cert.KernelIdeal.Gen Cert.Attn
open Idealize.ShloMosaic Idealize.ShloMosaic.TcCoe

/-- The scores of one head: by key block, key row and query column. -/
abbrev Scores := ℕ → Fin 512 → Fin 512 → ℝ

/-- The value columns: by key block, entry and key row. -/
abbrev Vals := ℕ → Fin 80 → Fin 512 → EReal

/-- Row `a` of the `n`th quarter of a key block. -/
def row (n : Fin 4) (a : Fin 128) : Fin 512 := ⟨128 * n.val + a.val, by omega⟩

/-- Row `k` of the `h`th half of a key block. -/
def half (h : Fin 2) (k : Fin 256) : Fin 512 := ⟨256 * h.val + k.val, by omega⟩

/-- `pm` holds, over eight residues, the column maxima of block `t`. -/
def PM (S : Scores) (t : ℕ) (pm : FVec Ideal S8x512 .f32) : Prop :=
  ∀ c, (Finset.univ.sup fun e : Fin 8 => (pm (ix2 e c) : EReal)) = bm (fun t r => S t r c) t

/-- `ms` is the row of running maxima over the first `T` blocks. -/
def MS (S : Scores) (T : ℕ) (ms : FVec Ideal S1x512 .f32) : Prop :=
  ∀ c, ms (ix2 0 c) = rm (fun t r => S t r c) T

/-- `acc` is the array of running weighted sums over the first `T` blocks. -/
def AC (S : Scores) (V : Vals) (T : ℕ) (acc : FVec Ideal S80x512 .f32) : Prop :=
  ∀ i c, acc (ix2 i c) = ac (fun t r => S t r c) (fun t r => V t i r) T

/-- `x` is the `n`th quarter of block `t`'s scores. -/
def CH (S : Scores) (t : ℕ) (n : Fin 4) (x : FVec Ideal S128x512 .f32) : Prop :=
  ∀ a c, x (ix2 a c) = ((S t (row n a) c : ℝ) : EReal)

/-- `v` is the `h`th half of block `t`'s value columns. -/
def VB (V : Vals) (t : ℕ) (h : Fin 2) (v : FVec Ideal S80x256 .bf16) : Prop :=
  ∀ i k, v (ix2 i k) = V t i (half h k)

/-- The new running maxima. -/
theorem ms_step {S : Scores} {T : ℕ} {pm : FVec Ideal S8x512 .f32} {ms : FVec Ideal S1x512 .f32}
    (hp : PM S T pm) (hm : MS S T ms) (h : S512.ShapeCasts S1x512) (hr : S8x512.Reduces [0] S512)
    (hφ : FKind.Formats .f32) (hn : (4286578688#32 : BitVec 32) = FKind.maximumf.neutral .f32 hφ) :
    MS S (T + 1) (maximumf ms (shapeCast S1x512 (multiReduction FKind.maximumf [0] S512 pm 4286578688#32 hr hφ hn) h)) := by
  intro c
  rw [maximumf_apply, max8, hp c, hm c, rm_succ]
  rfl

/-- The maxima of the four quarters of a block. -/
theorem pm_step {S : Scores} {t : ℕ} {x0 x1 x2 x3 : FVec Ideal S128x512 .f32}
    (h0 : CH S t 0 x0) (h1 : CH S t 1 x1) (h2 : CH S t 2 x2) (h3 : CH S t 3 x3)
    (k0 k1 k2 k3 : S128x512.ShapeCasts S16x8x512) (r0 r1 r2 r3 : S16x8x512.Reduces [0] S8x512)
    (f0 f1 f2 f3 : FKind.Formats .f32)
    (n0 : (4286578688#32 : BitVec 32) = FKind.maximumf.neutral .f32 f0)
    (n1 : (4286578688#32 : BitVec 32) = FKind.maximumf.neutral .f32 f1)
    (n2 : (4286578688#32 : BitVec 32) = FKind.maximumf.neutral .f32 f2)
    (n3 : (4286578688#32 : BitVec 32) = FKind.maximumf.neutral .f32 f3) :
    PM S t (maximumf (maximumf (maximumf
      (multiReduction FKind.maximumf [0] S8x512 (shapeCast S16x8x512 x0 k0) 4286578688#32 r0 f0 n0)
      (multiReduction FKind.maximumf [0] S8x512 (shapeCast S16x8x512 x1 k1) 4286578688#32 r1 f1 n1))
      (multiReduction FKind.maximumf [0] S8x512 (shapeCast S16x8x512 x2 k2) 4286578688#32 r2 f2 n2))
      (multiReduction FKind.maximumf [0] S8x512 (shapeCast S16x8x512 x3 k3) 4286578688#32 r3 f3 n3)) := by
  intro c
  let q : Fin 4 → Fin 8 → EReal := fun n e =>
    Finset.univ.sup fun a : Fin 16 => ((S t (row n ⟨a.val * 8 + e.val, by omega⟩) c : ℝ) : EReal)
  have hq : ∀ (n : Fin 4) (x : FVec Ideal S128x512 .f32) (k : S128x512.ShapeCasts S16x8x512) (r : S16x8x512.Reduces [0] S8x512)
      (f : FKind.Formats .f32) (w : (4286578688#32 : BitVec 32) = FKind.maximumf.neutral .f32 f), CH S t n x → ∀ e,
      multiReduction FKind.maximumf [0] S8x512 (shapeCast S16x8x512 x k) 4286578688#32 r f w (ix2 e c) = q n e :=
    fun n x k r f w hx e => (max16 x k r f w e c).trans (Finset.sup_congr rfl fun a _ => hx _ c)
  refine (Finset.sup_congr rfl fun e _ => ?_ : _ = Finset.univ.sup fun e => max (max (max (q 0 e) (q 1 e)) (q 2 e)) (q 3 e)).trans ?_
  · rw [maximumf_apply, maximumf_apply, maximumf_apply, hq 0 x0 k0 r0 f0 n0 h0, hq 1 x1 k1 r1 f1 n1 h1,
      hq 2 x2 k2 r2 f2 n2 h2, hq 3 x3 k3 r3 f3 n3 h3]
    rfl
  apply le_antisymm
  · refine Finset.sup_le fun e _ => ?_
    have le : ∀ n, q n e ≤ bm (fun t r => S t r c) t := fun n => Finset.sup_le fun a _ =>
      Finset.le_sup (f := fun r => ((S t r c : ℝ) : EReal)) (Finset.mem_univ _)
    exact max_le (max_le (max_le (le 0) (le 1)) (le 2)) (le 3)
  · refine Finset.sup_le fun r _ => ?_
    obtain ⟨n, a, e, rfl⟩ : ∃ (n : Fin 4) (a : Fin 16) (e : Fin 8), r = row n ⟨a.val * 8 + e.val, by omega⟩ :=
      ⟨⟨r.val / 128, by omega⟩, ⟨r.val % 128 / 8, by omega⟩, ⟨r.val % 8, by omega⟩, Fin.ext (by simp only [row]; omega)⟩
    have key : ((S t (row n ⟨a.val * 8 + e.val, by omega⟩) c : ℝ) : EReal) ≤ q n e :=
      Finset.le_sup (f := fun a : Fin 16 => ((S t (row n ⟨a.val * 8 + e.val, by omega⟩) c : ℝ) : EReal)) (Finset.mem_univ a)
    refine key.trans (le_trans ?_ (Finset.le_sup (Finset.mem_univ e)))
    match n with
    | 0 => exact le_trans (le_max_left _ _) (le_trans (le_max_left _ _) (le_max_left _ _))
    | 1 => exact le_trans (le_max_right _ _) (le_trans (le_max_left _ _) (le_max_left _ _))
    | 2 => exact le_trans (le_max_right _ _) (le_max_left _ _)
    | 3 => exact le_max_right _ _

/-- A sum over a key block, split into its two halves and each half into its two quarters. -/
theorem sum_quarters (f : Fin 512 → EReal) :
    ∑ r, f r = ((∑ a : Fin 128, f (row 0 a)) + ∑ a : Fin 128, f (row 1 a))
      + ((∑ a : Fin 128, f (row 2 a)) + ∑ a : Fin 128, f (row 3 a)) := by
  have h2 : ∑ r, f r = (∑ k : Fin 256, f (half 0 k)) + ∑ k : Fin 256, f (half 1 k) := by
    refine (Fin.sum_univ_add (a := 256) (b := 256) f).trans ?_
    congr 1
    all_goals refine Finset.sum_congr rfl fun k _ => congrArg f (Fin.ext ?_)
    all_goals simp [half, Fin.castAdd, Fin.natAdd]
  have h4 : ∀ g : Fin 256 → EReal, ∑ k, g k = (∑ a : Fin 128, g (Fin.castAdd 128 a)) + ∑ a : Fin 128, g (Fin.natAdd 128 a) :=
    fun g => Fin.sum_univ_add (a := 128) (b := 128) g
  rw [h2, h4, h4]
  congr 2
  all_goals refine Finset.sum_congr rfl fun k _ => congrArg f (Fin.ext ?_)
  all_goals simp [half, row, Fin.castAdd, Fin.natAdd]

/-- Half a block's weighted values, from the two quarters of its scores. -/
theorem half_sum {V : Vals} {S : Scores} {t : ℕ} {m : EReal} (c : Fin 512) (h : Fin 2) (n n' : Fin 4)
    (e : ∀ a, half h (Fin.castAdd 128 a) = row n a) (e' : ∀ a, half h (Fin.natAdd 128 a) = row n' a)
    {v : FVec Ideal S80x256 .bf16} {p q : FVec Ideal S128x512 .bf16} (hv : VB V t h v)
    (hp : ∀ a, p (ix2 a c) = Ideal.exp2 (((S t (row n a) c : ℝ) : EReal) - m))
    (hq : ∀ a, q (ix2 a c) = Ideal.exp2 (((S t (row n' a) c : ℝ) : EReal) - m))
    (hc : Shape.Concatenates [S128x512, S128x512] S256x512 0) (i : Fin 80) :
    matmul dot_S80x256_S256x512_S80x512_1_0_0_1_n_n none v (concatenate S256x512 0 [⟨S128x512, p⟩, ⟨S128x512, q⟩] hc)
        (constant S80x512 .f32 0#32) (ix2 i c)
      = (∑ a : Fin 128, Ideal.exp2 (((S t (row n a) c : ℝ) : EReal) - m) * V t i (row n a))
        + ∑ a : Fin 128, Ideal.exp2 (((S t (row n' a) c : ℝ) : EReal) - m) * V t i (row n' a) := by
  rw [dot_pv]
  refine (Fin.sum_univ_add (a := 128) (b := 128) _).trans ?_
  congr 1
  all_goals refine Finset.sum_congr rfl fun a _ => ?_
  · rw [hv, e, stack_lo, hp, mul_comm]
  · rw [hv, e', stack_hi, hq, mul_comm]

/-- The new running sums: the old ones rescaled to the new maxima, plus both halves of the block. -/
theorem ac_step {S : Scores} {V : Vals} {T : ℕ} {ms mn : FVec Ideal S1x512 .f32} {acc : FVec Ideal S80x512 .f32}
    {x0 x1 x2 x3 : FVec Ideal S128x512 .f32} {v0 v1 : FVec Ideal S80x256 .bf16}
    (hm : MS S T ms) (hn : MS S (T + 1) mn) (ha : AC S V T acc)
    (h0 : CH S T 0 x0) (h1 : CH S T 1 x1) (h2 : CH S T 2 x2) (h3 : CH S T 3 x3)
    (hv0 : VB V T 0 v0) (hv1 : VB V T 1 v1)
    (b : S1x512.Broadcasts S80x512) (b0 b1 b2 b3 : S1x512.Broadcasts S128x512)
    (w0 w1 w2 w3 : FTy.bf16.bits < FTy.f32.bits)
    (k0 k1 : Shape.Concatenates [S128x512, S128x512] S256x512 0) :
    AC S V (T + 1) (addf (addf (mulf (broadcastTo S80x512 (exp2 (subf ms mn)) b) acc)
      (matmul dot_S80x256_S256x512_S80x512_1_0_0_1_n_n none v0
        (concatenate S256x512 0 [⟨S128x512, truncf FTy.bf16 (exp2 (subf x0 (broadcastTo S128x512 mn b0))) w0⟩,
          ⟨S128x512, truncf FTy.bf16 (exp2 (subf x1 (broadcastTo S128x512 mn b1))) w1⟩] k0)
        (constant S80x512 .f32 0#32)))
      (matmul dot_S80x256_S256x512_S80x512_1_0_0_1_n_n none v1
        (concatenate S256x512 0 [⟨S128x512, truncf FTy.bf16 (exp2 (subf x2 (broadcastTo S128x512 mn b2))) w2⟩,
          ⟨S128x512, truncf FTy.bf16 (exp2 (subf x3 (broadcastTo S128x512 mn b3))) w3⟩] k1)
        (constant S80x512 .f32 0#32))) := by
  intro i c
  have bc : ∀ (x : FVec Ideal S1x512 .f32) (h : S1x512.Broadcasts S80x512), broadcastTo S80x512 x h (ix2 i c) = x (ix2 0 c) :=
    fun x h => ValueIdx.broadcastTo_1b_ab_apply x h i c
  have bq : ∀ (x : FVec Ideal S1x512 .f32) (h : S1x512.Broadcasts S128x512) (a : Fin 128),
      broadcastTo S128x512 x h (ix2 a c) = x (ix2 0 c) := fun x h a => ValueIdx.broadcastTo_1b_ab_apply x h a c
  have pw : ∀ (n : Fin 4) (x : FVec Ideal S128x512 .f32) (h : S1x512.Broadcasts S128x512) (w : FTy.bf16.bits < FTy.f32.bits),
      CH S T n x → ∀ a, truncf FTy.bf16 (exp2 (subf x (broadcastTo S128x512 mn h))) w (ix2 a c)
        = Ideal.exp2 (((S T (row n a) c : ℝ) : EReal) - rm (fun t r => S t r c) (T + 1)) := by
    intro n x h w hx a
    show Ideal.exp2 (x (ix2 a c) - broadcastTo S128x512 mn h (ix2 a c)) = _
    rw [hx a c, bq, hn c]
  rw [addf_apply, addf_apply, mulf_apply, bc,
    half_sum (S := S) c 0 0 1 (fun a => rfl) (fun a => Fin.ext (by simp [half, row, Nat.add_comm])) hv0 (pw 0 x0 b0 w0 h0) (pw 1 x1 b1 w1 h1),
    half_sum (S := S) c 1 2 3 (fun a => Fin.ext (by simp [half, row])) (fun a => Fin.ext (by simp [half, row]; omega)) hv1 (pw 2 x2 b2 w2 h2) (pw 3 x3 b3 w3 h3),
    ha i c, ← ac_succ, sum_quarters]
  show (Ideal.exp2 (ms (ix2 0 c) - mn (ix2 0 c)) * _ + _) + _ = _
  rw [hm c, hn c]
  exact add_assoc _ _ _

end Cert.KernelIdeal.Attn

end
-- ==== Proof.Attn.Buffers.lean ====
module

public import proofs.«01_k».proof.Proof.Attn.Step

/-!
# The blocks in the buffers

What the kernel's reads of the key, value and score buffers give, and what a block of scores written
in sixteen pieces leaves.
-/

@[expose] public section

noncomputable section

namespace Cert.KernelIdeal.Attn

open Cert.KernelIdeal Cert.KernelIdeal.Gen Cert.Attn
open Idealize.ShloMosaic Idealize.ShloMosaic.TcCoe

/-- The score buffer holds block `t`'s scores of the four heads. -/
def SB (S : Fin 4 → Scores) (t : ℕ) (v : View sig .tc .vmem S4x512x512 .f32) (f : v.ty.Contents (Elt Ideal)) : Prop :=
  ∀ g r c, v.read (Elt Ideal) f (ix3 g r c) = ((S g t r c : ℝ) : EReal)

/-- The key buffer holds the key blocks `K`. -/
def KB (K : ℕ → Fin 512 → Fin 64 → ℝ) (v : View sig .tc .vmem S1x1x16x512x64 .bf16) (f : v.ty.Contents (Elt Ideal)) : Prop :=
  ∀ (t : Fin 16) r d, v.read (Elt Ideal) f (ix5 0 0 t r d) = ((K t.val r d : ℝ) : EReal)

/-- The value buffer holds the value columns `V`. -/
def VV (V : Vals) (v : View sig .tc .vmem S1x1x16x80x512 .bf16) (f : v.ty.Contents (Elt Ideal)) : Prop :=
  ∀ (t : Fin 16) i r, v.read (Elt Ideal) f (ix5 0 0 t i r) = V t.val i r

/-- `q` is the array of scaled query columns `Q`. -/
def QB (Q : Fin 64 → Fin 512 → ℝ) (q : FVec Ideal S64x512 .bf16) : Prop :=
  ∀ d c, q (ix2 d c) = ((Q d c : ℝ) : EReal)

/-- The scores of keys `K` against query columns `Q`. -/
def score (K : ℕ → Fin 512 → Fin 64 → ℝ) (Q : Fin 64 → Fin 512 → ℝ) : Scores :=
  fun t r c => ∑ d, K t r d * Q d c

/-- A finite sum of reals, taken among the extended reals. -/
theorem coe_sum {ι : Type*} (I : Finset ι) (f : ι → ℝ) : ((∑ i ∈ I, f i : ℝ) : EReal) = ∑ i ∈ I, ((f i : ℝ) : EReal) := by
  classical
  induction I using Finset.induction_on with
  | empty => simp
  | insert i I hi ih => rw [Finset.sum_insert hi, Finset.sum_insert hi, EReal.coe_add, ih]

/-- A quarter of the score buffer, read. -/
theorem score_read {S : Fin 4 → Scores} {t : ℕ} {v : View sig .tc .vmem S4x512x512 .f32} {f : v.ty.Contents (Elt Ideal)}
    (hs : SB S t v f) (g n : Fin 4) {off : Fin 3 → ℕ} (ho : off = ![g.val, 128 * n.val, 0])
    (hb : ∀ a, off a + S1x128x512.size a ≤ S4x512x512.size a) (h : S1x128x512.ShapeCasts S128x512) :
    CH (S g) t n (shapeCast S128x512 (View.readAt (Elt Ideal) v (Rect.unit (s := S4x512x512) off S1x128x512.size hb).toLoadRect f) h) := by
  subst ho
  intro a c
  rw [shapeCast_apply _ h (ix2 a c) (ix3 0 a c) (by
    rw [Shape.rowMajor_val_three, Shape.rowMajor_val_two]; show (0 * 128 + a.val) * 512 + c.val = a.val * 512 + c.val; omega)]
  rw [← hs g (row n a) c, View.readAt_apply]
  congr 1
  funext b
  refine Fin.ext ?_
  match b with
  | ⟨0, _⟩ => show g.val + 1 * 0 = g.val; omega
  | ⟨1, _⟩ => show 128 * n.val + 1 * a.val = 128 * n.val + a.val; omega
  | ⟨2, _⟩ => show 0 + 1 * c.val = c.val; omega

/-- A quarter of a key block times the query columns: a quarter of the scores. -/
theorem score_dot {K : ℕ → Fin 512 → Fin 64 → ℝ} {Q : Fin 64 → Fin 512 → ℝ} {v : View sig .tc .vmem S1x1x16x512x64 .bf16}
    {f : v.ty.Contents (Elt Ideal)} {q : FVec Ideal S64x512 .bf16} (hk : KB K v f) (hq : QB Q q) (t : Fin 16) (n : Fin 4)
    {off : Fin 5 → ℕ} (ho : off = ![0, 0, t.val, 128 * n.val, 0])
    (hb : ∀ a, off a + S1x1x1x128x64.size a ≤ S1x1x16x512x64.size a) (h : S1x1x1x128x64.ShapeCasts S128x64) :
    CH (score K Q) t.val n (matmul (φ₁ := .bf16) dot_S128x64_S64x512_S128x512_1_0_0_1_n_n none
      (shapeCast S128x64 (View.readAt (Elt Ideal) v (Rect.unit (s := S1x1x16x512x64) off S1x1x1x128x64.size hb).toLoadRect f) h) q
      (constant S128x512 .f32 0#32)) := by
  subst ho
  intro a c
  rw [dot_qk, score, coe_sum]
  refine Finset.sum_congr rfl fun d _ => ?_
  rw [EReal.coe_mul, hq d c, ← hk t (row n a) d]
  congr 1
  rw [shapeCast_apply _ h (ix2 a d) (ix5 0 0 0 a d) (by
    rw [Shape.rowMajor_val_five, Shape.rowMajor_val_two]
    show (((0 * 1 + 0) * 1 + 0) * 128 + a.val) * 64 + d.val = a.val * 64 + d.val; omega), View.readAt_apply]
  congr 1
  funext b
  refine Fin.ext ?_
  match b with
  | ⟨0, _⟩ => rfl
  | ⟨1, _⟩ => rfl
  | ⟨2, _⟩ => show t.val + 1 * 0 = t.val; omega
  | ⟨3, _⟩ => show 128 * n.val + 1 * a.val = 128 * n.val + a.val; omega
  | ⟨4, _⟩ => show 0 + 1 * d.val = d.val; omega

/-- Half of a block of value columns, read. -/
theorem value_read {V : Vals} {v : View sig .tc .vmem S1x1x16x80x512 .bf16} {f : v.ty.Contents (Elt Ideal)} (hv : VV V v f)
    (t : Fin 16) (n : Fin 2) {off : Fin 5 → ℕ} (ho : off = ![0, 0, t.val, 0, 256 * n.val])
    (hb : ∀ a, off a + S1x1x1x80x256.size a ≤ S1x1x16x80x512.size a) (h : S1x1x1x80x256.ShapeCasts S80x256) :
    VB V t.val n (shapeCast S80x256 (View.readAt (Elt Ideal) v (Rect.unit (s := S1x1x16x80x512) off S1x1x1x80x256.size hb).toLoadRect f) h) := by
  subst ho
  intro i k
  rw [shapeCast_apply _ h (ix2 i k) (ix5 0 0 0 i k) (by
    rw [Shape.rowMajor_val_five, Shape.rowMajor_val_two]
    show (((0 * 1 + 0) * 1 + 0) * 80 + i.val) * 256 + k.val = i.val * 256 + k.val; omega), View.readAt_apply, ← hv t i (half n k)]
  congr 1
  funext b
  refine Fin.ext ?_
  match b with
  | ⟨0, _⟩ => rfl
  | ⟨1, _⟩ => rfl
  | ⟨2, _⟩ => show t.val + 1 * 0 = t.val; omega
  | ⟨3, _⟩ => show 0 + 1 * i.val = i.val; omega
  | ⟨4, _⟩ => show 256 * n.val + 1 * k.val = 256 * n.val + k.val; omega

/-- Where the first pieces of a list of writes cover a place and all say `G` there, the buffer reads `G`. -/
theorem read_prefix {s : Shape} {e : EltTy} {v : View sig .tc .vmem s e} (f : v.ty.Contents (Elt Ideal)) (G : s.Idx → Elt Ideal e)
    (rest : List (View.Piece (Elt Ideal) s e)) (L : List (View.Piece (Elt Ideal) s e))
    (hL : ∀ p ∈ L, ∀ x : p.1.shape.Idx, p.2 x = G (p.1.emb x)) (y : s.Idx) (hy : ∃ p ∈ L, y ∈ p.1.set) :
    v.read (Elt Ideal) (v.writes (Elt Ideal) f (L ++ rest)) y = G y := by
  rw [View.writes_append]
  exact View.read_writes_apply_of_pieces v _ G L hL y hy

/-- One piece of a block of scores: a quarter of one head's scores, as a piece of the score buffer. -/
theorem piece_agrees {S : Fin 4 → Scores} {t : ℕ} (g n : Fin 4) {x : FVec Ideal S128x512 .f32} (hx : CH (S g) t n x)
    {off : Fin 3 → ℕ} (ho : off = ![g.val, 128 * n.val, 0]) (hb : ∀ a, off a + S1x128x512.size a ≤ S4x512x512.size a)
    (h : S128x512.ShapeCasts S1x128x512) (y : (Rect.unit (s := S4x512x512) off S1x128x512.size hb).shape.Idx) :
    shapeCast S1x128x512 x h y
      = ((fun z : S4x512x512.Idx => ((S (z 0) t (z 1) (z 2) : ℝ) : EReal)) ((Rect.unit (s := S4x512x512) off S1x128x512.size hb).emb y)) := by
  subst ho
  obtain ⟨a, c, rfl⟩ : ∃ (a : Fin 128) (c : Fin 512), y = ix3 (n0 := 1) 0 a c := ⟨y 1, y 2, by
    funext b
    match b with
    | ⟨0, _⟩ => exact Subsingleton.elim (α := Fin 1) _ _
    | ⟨1, _⟩ => rfl
    | ⟨2, _⟩ => rfl⟩
  rw [shapeCast_apply x h (ix3 0 a c) (ix2 a c) (by
    rw [Shape.rowMajor_val_three, Shape.rowMajor_val_two]; show a.val * 512 + c.val = (0 * 128 + a.val) * 512 + c.val; omega), hx a c]
  have e0 : ∀ z : Fin 4, z.val = g.val + 1 * 0 → z = g := fun z hz => Fin.ext (by omega)
  have e1 : ∀ z : Fin 512, z.val = 128 * n.val + 1 * a.val → z = row n a := fun z hz => Fin.ext (by simp only [row]; omega)
  have e2 : ∀ z : Fin 512, z.val = 0 + 1 * c.val → z = c := fun z hz => Fin.ext (by omega)
  have E0 := e0 ((Rect.unit (s := S4x512x512) ![g.val, 128 * n.val, 0] S1x128x512.size hb).emb (ix3 0 a c) 0) rfl
  have E1 := e1 ((Rect.unit (s := S4x512x512) ![g.val, 128 * n.val, 0] S1x128x512.size hb).emb (ix3 0 a c) 1) rfl
  have E2 := e2 ((Rect.unit (s := S4x512x512) ![g.val, 128 * n.val, 0] S1x128x512.size hb).emb (ix3 0 a c) 2) rfl
  show _ = ((S _ t _ _ : ℝ) : EReal)
  rw [E0, E1, E2]

end Cert.KernelIdeal.Attn

end
-- ==== Proof.Attn.Tick.lean ====
module

public import proofs.«01_k».proof.Proof.Attn.Buffers

/-!
# One tick of the pipeline: a key block's scores, and the block before it summed

A tick multiplies one key block by the query columns of the four heads and, at the same time, takes
the scores of the block before it into the running sums.
-/

@[expose] public section

noncomputable section

namespace Cert.KernelIdeal.Attn

open Cert.KernelIdeal Cert.KernelIdeal.Gen Cert.Attn
open Idealize.ShloMosaic Idealize.ShloMosaic.TcCoe

section Terms
variable (vk : View sig .tc .vmem S1x1x16x512x64 .bf16) (fk : vk.ty.Contents (Elt Ideal))
variable (o : Fin 5 → ℕ) (hb : ∀ a, o a + S1x1x1x128x64.size a ≤ S1x1x16x512x64.size a) (q : FVec Ideal S64x512 .bf16)

/-- A quarter of a key block times the query columns. -/
abbrev kq : FVec Ideal S128x512 .f32 :=
  matmul (φ₁ := .bf16) dot_S128x64_S64x512_S128x512_1_0_0_1_n_n none
    (shapeCast S128x64 (View.readAt (Elt Ideal) vk (Rect.unit (s := S1x1x16x512x64) o S1x1x1x128x64.size hb).toLoadRect fk)
      shapeCasts_S1x1x1x128x64_S128x64) q (constant S128x512 .f32 0#32)

/-- The column maxima of a quarter, over eight residues. -/
abbrev mx (x : FVec Ideal S128x512 .f32) : FVec Ideal S8x512 .f32 :=
  multiReduction FKind.maximumf [0] S8x512 (shapeCast S16x8x512 x shapeCasts_S128x512_S16x8x512) 4286578688#32
    reduces_S16x8x512_S8x512 (.inl rfl) rfl

/-- The new row of running maxima. -/
abbrev mnew (ms : FVec Ideal S1x512 .f32) (pm : FVec Ideal S8x512 .f32) : FVec Ideal S1x512 .f32 :=
  maximumf ms (shapeCast S1x512 (multiReduction FKind.maximumf [0] S512 pm 4286578688#32 reduces_S8x512_S512 (.inl rfl) rfl)
    shapeCasts_S512_S1x512)

variable (vs : View sig .tc .vmem S4x512x512 .f32) (fs : vs.ty.Contents (Elt Ideal)) (mn : FVec Ideal S1x512 .f32)
variable (p : Fin 3 → ℕ) (pb : ∀ a, p a + S1x128x512.size a ≤ S4x512x512.size a)

/-- A quarter of a head's scores, read back. -/
abbrev sq : FVec Ideal S128x512 .f32 :=
  shapeCast S128x512 (View.readAt (Elt Ideal) vs (Rect.unit (s := S4x512x512) p S1x128x512.size pb).toLoadRect fs)
    shapeCasts_S1x128x512_S128x512

/-- The weights of a quarter. -/
abbrev wt (x : FVec Ideal S128x512 .f32) : FVec Ideal S128x512 .bf16 :=
  truncf FTy.bf16 (exp2 (subf x (broadcastTo S128x512 mn broadcasts_S1x512_S128x512))) bitsLt_bf16_f32

variable (vv : View sig .tc .vmem S1x1x16x80x512 .bf16) (fv : vv.ty.Contents (Elt Ideal))
variable (w : Fin 5 → ℕ) (wb : ∀ a, w a + S1x1x1x80x256.size a ≤ S1x1x16x80x512.size a)

/-- Half of a block of value columns times the weights of its two quarters. -/
abbrev pv (x y : FVec Ideal S128x512 .f32) : FVec Ideal S80x512 .f32 :=
  matmul (φ₁ := .bf16) dot_S80x256_S256x512_S80x512_1_0_0_1_n_n none
    (shapeCast S80x256 (View.readAt (Elt Ideal) vv (Rect.unit (s := S1x1x16x80x512) w S1x1x1x80x256.size wb).toLoadRect fv)
      shapeCasts_S1x1x1x80x256_S80x256)
    (concatenate S256x512 0 [⟨S128x512, wt mn x⟩, ⟨S128x512, wt mn y⟩] concatenates_S128x512_S128x512_S256x512_d0)
    (constant S80x512 .f32 0#32)

/-- The old sums rescaled to the new maxima. -/
abbrev resc (ms : FVec Ideal S1x512 .f32) (acc : FVec Ideal S80x512 .f32) : FVec Ideal S80x512 .f32 :=
  mulf (broadcastTo S80x512 (exp2 (subf ms mn)) broadcasts_S1x512_S80x512) acc

end Terms

/-- The place of a quarter of a head's scores lies in the score buffer. -/
theorem place (g n : ℕ) (hg : g < 4) (hn : 128 * n < 512) :
    ∀ a, (![g, 128 * n, 0] : Fin 3 → ℕ) a + S1x128x512.size a ≤ S4x512x512.size a
  | ⟨0, _⟩ => by show g + 1 ≤ 4; omega
  | ⟨1, _⟩ => by show 128 * n + 128 ≤ 512; omega
  | ⟨2, _⟩ => by show 0 + 512 ≤ 512; omega

/-- What is known before the sums of block `T` are taken: its column maxima, the running maxima and
sums of the blocks before it, and its scores in a score buffer. -/
structure Good (S : Fin 4 → Scores) (V : Vals) (T : ℕ) (pm : Fin 4 → FVec Ideal S8x512 .f32)
    (ms : Fin 4 → FVec Ideal S1x512 .f32) (acc : Fin 4 → FVec Ideal S80x512 .f32)
    (vs : View sig .tc .vmem S4x512x512 .f32) (fs : vs.ty.Contents (Elt Ideal)) : Prop where
  pm : ∀ g, PM (S g) T (pm g)
  ms : ∀ g, MS (S g) T (ms g)
  acc : ∀ g, AC (S g) V T (acc g)
  sb : SB S T vs fs

section Block
variable {K : ℕ → Fin 512 → Fin 64 → ℝ} {Q : Fin 4 → Fin 64 → Fin 512 → ℝ} {V : Vals}
variable {vk : View sig .tc .vmem S1x1x16x512x64 .bf16} {fk : vk.ty.Contents (Elt Ideal)}
variable {q0 q1 q2 q3 : FVec Ideal S64x512 .bf16}
variable {o0 o1 o2 o3 : Fin 5 → ℕ} {b0 : ∀ a, o0 a + S1x1x1x128x64.size a ≤ S1x1x16x512x64.size a}
  {b1 : ∀ a, o1 a + S1x1x1x128x64.size a ≤ S1x1x16x512x64.size a}
  {b2 : ∀ a, o2 a + S1x1x1x128x64.size a ≤ S1x1x16x512x64.size a}
  {b3 : ∀ a, o3 a + S1x1x1x128x64.size a ≤ S1x1x16x512x64.size a}

/-- One head's scores as they are written, the last quarter first. -/
abbrev quarter (g n : ℕ) (hp : ∀ a, (![g, n, 0] : Fin 3 → ℕ) a + S1x128x512.size a ≤ S4x512x512.size a)
    (x : FVec Ideal S128x512 .f32) : View.Piece (Elt Ideal) S4x512x512 .f32 :=
  ⟨Rect.unit (s := S4x512x512) ![g, n, 0] S1x128x512.size hp, shapeCast S1x128x512 x shapeCasts_S128x512_S1x128x512⟩

/-- A block of scores as it is written, in sixteen pieces, the last first. -/
abbrev written (x00 x01 x02 x03 x10 x11 x12 x13 x20 x21 x22 x23 x30 x31 x32 x33 : FVec Ideal S128x512 .f32)
    (rest : List (View.Piece (Elt Ideal) S4x512x512 .f32)) : List (View.Piece (Elt Ideal) S4x512x512 .f32) :=
  quarter 3 384 (place 3 3 (by decide) (by decide)) x33 :: quarter 3 256 (place 3 2 (by decide) (by decide)) x32
    :: quarter 3 128 (place 3 1 (by decide) (by decide)) x31 :: quarter 3 0 (place 3 0 (by decide) (by decide)) x30
    :: quarter 2 384 (place 2 3 (by decide) (by decide)) x23 :: quarter 2 256 (place 2 2 (by decide) (by decide)) x22
    :: quarter 2 128 (place 2 1 (by decide) (by decide)) x21 :: quarter 2 0 (place 2 0 (by decide) (by decide)) x20
    :: quarter 1 384 (place 1 3 (by decide) (by decide)) x13 :: quarter 1 256 (place 1 2 (by decide) (by decide)) x12
    :: quarter 1 128 (place 1 1 (by decide) (by decide)) x11 :: quarter 1 0 (place 1 0 (by decide) (by decide)) x10
    :: quarter 0 384 (place 0 3 (by decide) (by decide)) x03 :: quarter 0 256 (place 0 2 (by decide) (by decide)) x02
    :: quarter 0 128 (place 0 1 (by decide) (by decide)) x01 :: quarter 0 0 (place 0 0 (by decide) (by decide)) x00 :: rest

/-- Sixteen pieces that are the quarters of a block leave the block's scores in the buffer. -/
theorem sb_written {S : Fin 4 → Scores} {t : ℕ} {vs : View sig .tc .vmem S4x512x512 .f32} {fs : vs.ty.Contents (Elt Ideal)}
    {x00 x01 x02 x03 x10 x11 x12 x13 x20 x21 x22 x23 x30 x31 x32 x33 : FVec Ideal S128x512 .f32}
    (h : ∀ g n, CH (S g) t n ((![![x00, x01, x02, x03], ![x10, x11, x12, x13], ![x20, x21, x22, x23], ![x30, x31, x32, x33]] :
      Fin 4 → Fin 4 → FVec Ideal S128x512 .f32) g n)) (rest : List (View.Piece (Elt Ideal) S4x512x512 .f32)) :
    SB S t vs (vs.writes (Elt Ideal) fs
      (written x00 x01 x02 x03 x10 x11 x12 x13 x20 x21 x22 x23 x30 x31 x32 x33 rest)) := by
  intro g r c
  refine read_prefix fs (fun z => ((S (z 0) t (z 1) (z 2) : ℝ) : EReal)) rest
    (written x00 x01 x02 x03 x10 x11 x12 x13 x20 x21 x22 x23 x30 x31 x32 x33 []) ?_ (ix3 g r c) ?_
  · have key : ∀ (g n : Fin 4) (p : View.Piece (Elt Ideal) S4x512x512 .f32) (L : List (View.Piece (Elt Ideal) S4x512x512 .f32))
        (m : ℕ) (hp : ∀ a, (![g.val, m, 0] : Fin 3 → ℕ) a + S1x128x512.size a ≤ S4x512x512.size a),
        m = 128 * n.val →
        p = quarter g.val m hp ((![![x00, x01, x02, x03], ![x10, x11, x12, x13], ![x20, x21, x22, x23], ![x30, x31, x32, x33]] :
          Fin 4 → Fin 4 → FVec Ideal S128x512 .f32) g n) →
        (∀ p ∈ L, ∀ x : p.1.shape.Idx, p.2 x = (fun z : S4x512x512.Idx => ((S (z 0) t (z 1) (z 2) : ℝ) : EReal)) (p.1.emb x)) →
        ∀ p' ∈ p :: L, ∀ x : p'.1.shape.Idx, p'.2 x = (fun z : S4x512x512.Idx => ((S (z 0) t (z 1) (z 2) : ℝ) : EReal)) (p'.1.emb x) := by
      intro g n p L m hp hm he hL
      subst hm he
      exact List.forall_mem_cons.2 ⟨fun x => piece_agrees g n (h g n) rfl hp _ x, hL⟩
    refine key 3 3 _ _ 384 _ rfl rfl (key 3 2 _ _ 256 _ rfl rfl (key 3 1 _ _ 128 _ rfl rfl (key 3 0 _ _ 0 _ rfl rfl ?_)))
    refine key 2 3 _ _ 384 _ rfl rfl (key 2 2 _ _ 256 _ rfl rfl (key 2 1 _ _ 128 _ rfl rfl (key 2 0 _ _ 0 _ rfl rfl ?_)))
    refine key 1 3 _ _ 384 _ rfl rfl (key 1 2 _ _ 256 _ rfl rfl (key 1 1 _ _ 128 _ rfl rfl (key 1 0 _ _ 0 _ rfl rfl ?_)))
    refine key 0 3 _ _ 384 _ rfl rfl (key 0 2 _ _ 256 _ rfl rfl (key 0 1 _ _ 128 _ rfl rfl (key 0 0 _ _ 0 _ rfl rfl ?_)))
    exact fun p hp => absurd hp List.not_mem_nil
  · obtain ⟨n, a, rfl⟩ : ∃ (n : Fin 4) (a : Fin 128), r = row n a :=
      ⟨⟨r.val / 128, by omega⟩, ⟨r.val % 128, by omega⟩, Fin.ext (by simp only [row]; omega)⟩
    have hin : ix3 g (row n a) c ∈ (Rect.unit (s := S4x512x512) ![g.val, 128 * n.val, 0] S1x128x512.size
        (place g.val n.val g.isLt (by omega))).set := by
      refine (LoadRect.mem_set _).2 fun b => ?_
      match b with
      | ⟨0, _⟩ => exact ⟨0, Nat.one_pos, by show g.val = g.val + 1 * 0; omega⟩
      | ⟨1, _⟩ => exact ⟨a.val, a.isLt, by show 128 * n.val + a.val = 128 * n.val + 1 * a.val; omega⟩
      | ⟨2, _⟩ => exact ⟨c.val, c.isLt, by show c.val = 0 + 1 * c.val; omega⟩
    refine ⟨(written x00 x01 x02 x03 x10 x11 x12 x13 x20 x21 x22 x23 x30 x31 x32 x33 [])[15 - (4 * g.val + n.val)]'(by
      show _ < 16; omega), List.getElem_mem _, ?_⟩
    fin_cases g <;> fin_cases n <;> exact hin

variable {vs vs' : View sig .tc .vmem S4x512x512 .f32} {fs : vs.ty.Contents (Elt Ideal)} {fs' : vs'.ty.Contents (Elt Ideal)}
variable {rest : List (View.Piece (Elt Ideal) S4x512x512 .f32)}

/-- The maxima of a head's four quarters. -/
abbrev mx4 (x0 x1 x2 x3 : FVec Ideal S128x512 .f32) : FVec Ideal S8x512 .f32 :=
  maximumf (maximumf (maximumf (mx x0) (mx x1)) (mx x2)) (mx x3)

/-- What the first halves of a tick leave: the scores of block `t` and their column maxima. -/
theorem scores_step (t : Fin 16) (hk : KB K vk fk) (hq : ∀ g, QB (Q g) ((![q0, q1, q2, q3] : Fin 4 → FVec Ideal S64x512 .bf16) g))
    (h0 : o0 = ![0, 0, t.val, 0, 0]) (h1 : o1 = ![0, 0, t.val, 128, 0]) (h2 : o2 = ![0, 0, t.val, 256, 0])
    (h3 : o3 = ![0, 0, t.val, 384, 0]) :
    (∀ g, PM (score K (Q g)) t.val ((![
      mx4 (kq vk fk o0 b0 q0) (kq vk fk o1 b1 q0) (kq vk fk o2 b2 q0) (kq vk fk o3 b3 q0),
      mx4 (kq vk fk o0 b0 q1) (kq vk fk o1 b1 q1) (kq vk fk o2 b2 q1) (kq vk fk o3 b3 q1),
      mx4 (kq vk fk o0 b0 q2) (kq vk fk o1 b1 q2) (kq vk fk o2 b2 q2) (kq vk fk o3 b3 q2),
      mx4 (kq vk fk o0 b0 q3) (kq vk fk o1 b1 q3) (kq vk fk o2 b2 q3) (kq vk fk o3 b3 q3)] : Fin 4 → FVec Ideal S8x512 .f32) g))
    ∧ SB (fun g => score K (Q g)) t.val vs' (vs'.writes (Elt Ideal) fs' (written
      (kq vk fk o0 b0 q0) (kq vk fk o1 b1 q0) (kq vk fk o2 b2 q0) (kq vk fk o3 b3 q0)
      (kq vk fk o0 b0 q1) (kq vk fk o1 b1 q1) (kq vk fk o2 b2 q1) (kq vk fk o3 b3 q1)
      (kq vk fk o0 b0 q2) (kq vk fk o1 b1 q2) (kq vk fk o2 b2 q2) (kq vk fk o3 b3 q2)
      (kq vk fk o0 b0 q3) (kq vk fk o1 b1 q3) (kq vk fk o2 b2 q3) (kq vk fk o3 b3 q3) rest)) := by
  have c0 : ∀ g q, QB (Q g) q → CH (score K (Q g)) t.val 0 (kq vk fk o0 b0 q) := fun g q h => score_dot hk h t 0 h0 b0 _
  have c1 : ∀ g q, QB (Q g) q → CH (score K (Q g)) t.val 1 (kq vk fk o1 b1 q) := fun g q h => score_dot hk h t 1 h1 b1 _
  have c2 : ∀ g q, QB (Q g) q → CH (score K (Q g)) t.val 2 (kq vk fk o2 b2 q) := fun g q h => score_dot hk h t 2 h2 b2 _
  have c3 : ∀ g q, QB (Q g) q → CH (score K (Q g)) t.val 3 (kq vk fk o3 b3 q) := fun g q h => score_dot hk h t 3 h3 b3 _
  have e : ∀ g q, QB (Q g) q →
      PM (score K (Q g)) t.val (mx4 (kq vk fk o0 b0 q) (kq vk fk o1 b1 q) (kq vk fk o2 b2 q) (kq vk fk o3 b3 q)) :=
    fun g q h => pm_step (c0 g q h) (c1 g q h) (c2 g q h) (c3 g q h) _ _ _ _ _ _ _ _ _ _ _ _ _ _ _ _
  constructor
  · intro g
    match g with
    | 0 => exact e 0 q0 (hq 0)
    | 1 => exact e 1 q1 (hq 1)
    | 2 => exact e 2 q2 (hq 2)
    | 3 => exact e 3 q3 (hq 3)
  · refine sb_written (fun g n => ?_) rest
    match g, n with
    | 0, 0 => exact c0 0 q0 (hq 0)
    | 0, 1 => exact c1 0 q0 (hq 0)
    | 0, 2 => exact c2 0 q0 (hq 0)
    | 0, 3 => exact c3 0 q0 (hq 0)
    | 1, 0 => exact c0 1 q1 (hq 1)
    | 1, 1 => exact c1 1 q1 (hq 1)
    | 1, 2 => exact c2 1 q1 (hq 1)
    | 1, 3 => exact c3 1 q1 (hq 1)
    | 2, 0 => exact c0 2 q2 (hq 2)
    | 2, 1 => exact c1 2 q2 (hq 2)
    | 2, 2 => exact c2 2 q2 (hq 2)
    | 2, 3 => exact c3 2 q2 (hq 2)
    | 3, 0 => exact c0 3 q3 (hq 3)
    | 3, 1 => exact c1 3 q3 (hq 3)
    | 3, 2 => exact c2 3 q3 (hq 3)
    | 3, 3 => exact c3 3 q3 (hq 3)

variable {vv : View sig .tc .vmem S1x1x16x80x512 .bf16} {fv : vv.ty.Contents (Elt Ideal)}
variable {w0 w1 : Fin 5 → ℕ} {wb0 : ∀ a, w0 a + S1x1x1x80x256.size a ≤ S1x1x16x80x512.size a}
  {wb1 : ∀ a, w1 a + S1x1x1x80x256.size a ≤ S1x1x16x80x512.size a}

/-- The new sums of one head, from its scores read back: `g` the head's place in the score buffer. -/
abbrev anew (vs : View sig .tc .vmem S4x512x512 .f32) (fs : vs.ty.Contents (Elt Ideal)) (vv : View sig .tc .vmem S1x1x16x80x512 .bf16)
    (fv : vv.ty.Contents (Elt Ideal)) (w0 w1 : Fin 5 → ℕ) (wb0 : ∀ a, w0 a + S1x1x1x80x256.size a ≤ S1x1x16x80x512.size a)
    (wb1 : ∀ a, w1 a + S1x1x1x80x256.size a ≤ S1x1x16x80x512.size a) (g : ℕ) (hg : g < 4)
    (ms mn : FVec Ideal S1x512 .f32) (acc : FVec Ideal S80x512 .f32) : FVec Ideal S80x512 .f32 :=
  addf (addf (resc mn ms acc)
    (pv mn vv fv w0 wb0 (sq vs fs ![g, 0, 0] (place g 0 hg (by decide))) (sq vs fs ![g, 128, 0] (place g 1 hg (by decide)))))
    (pv mn vv fv w1 wb1 (sq vs fs ![g, 256, 0] (place g 2 hg (by decide))) (sq vs fs ![g, 384, 0] (place g 3 hg (by decide))))

/-- What the second halves of a tick leave: the running maxima and sums with block `T` taken in. -/
theorem sums_step {S : Fin 4 → Scores} (T : Fin 16) (hv : VV V vv fv) (h0 : w0 = ![0, 0, T.val, 0, 0]) (h1 : w1 = ![0, 0, T.val, 0, 256])
    {pm : Fin 4 → FVec Ideal S8x512 .f32} {ms : Fin 4 → FVec Ideal S1x512 .f32} {acc : Fin 4 → FVec Ideal S80x512 .f32}
    (G : Good S V T.val pm ms acc vs fs) (g : Fin 4) :
    MS (S g) (T.val + 1) (mnew (ms g) (pm g))
    ∧ AC (S g) V (T.val + 1) (anew vs fs vv fv w0 w1 wb0 wb1 g.val g.isLt (ms g) (mnew (ms g) (pm g)) (acc g)) := by
  have hm : MS (S g) (T.val + 1) (mnew (ms g) (pm g)) := ms_step (G.pm g) (G.ms g) _ _ _ _
  exact ⟨hm, ac_step (G.ms g) hm (G.acc g) (score_read G.sb g 0 rfl _ _) (score_read G.sb g 1 rfl _ _)
    (score_read G.sb g 2 rfl _ _) (score_read G.sb g 3 rfl _ _) (value_read hv T 0 h0 wb0 _) (value_read hv T 1 h1 wb1 _)
    _ _ _ _ _ _ _ _ _ _ _⟩

/-- A whole tick, for the four heads. -/
theorem tick_step (T : ℕ) (hT : T + 1 < 16) (hk : KB K vk fk) (hv : VV V vv fv)
    (hq : ∀ g, QB (Q g) ((![q0, q1, q2, q3] : Fin 4 → FVec Ideal S64x512 .bf16) g))
    {pm0 pm1 pm2 pm3 : FVec Ideal S8x512 .f32} {ms0 ms1 ms2 ms3 : FVec Ideal S1x512 .f32}
    {ac0 ac1 ac2 ac3 : FVec Ideal S80x512 .f32}
    (G : Good (fun g => score K (Q g)) V T ![pm0, pm1, pm2, pm3] ![ms0, ms1, ms2, ms3] ![ac0, ac1, ac2, ac3] vs fs)
    (h0 : o0 = ![0, 0, T + 1, 0, 0]) (h1 : o1 = ![0, 0, T + 1, 128, 0]) (h2 : o2 = ![0, 0, T + 1, 256, 0])
    (h3 : o3 = ![0, 0, T + 1, 384, 0]) (hw0 : w0 = ![0, 0, T, 0, 0]) (hw1 : w1 = ![0, 0, T, 0, 256]) :
    Good (fun g => score K (Q g)) V (T + 1)
      ![mx4 (kq vk fk o0 b0 q0) (kq vk fk o1 b1 q0) (kq vk fk o2 b2 q0) (kq vk fk o3 b3 q0),
        mx4 (kq vk fk o0 b0 q1) (kq vk fk o1 b1 q1) (kq vk fk o2 b2 q1) (kq vk fk o3 b3 q1),
        mx4 (kq vk fk o0 b0 q2) (kq vk fk o1 b1 q2) (kq vk fk o2 b2 q2) (kq vk fk o3 b3 q2),
        mx4 (kq vk fk o0 b0 q3) (kq vk fk o1 b1 q3) (kq vk fk o2 b2 q3) (kq vk fk o3 b3 q3)]
      ![mnew ms0 pm0, mnew ms1 pm1, mnew ms2 pm2, mnew ms3 pm3]
      ![anew vs fs vv fv w0 w1 wb0 wb1 0 (by decide) ms0 (mnew ms0 pm0) ac0,
        anew vs fs vv fv w0 w1 wb0 wb1 1 (by decide) ms1 (mnew ms1 pm1) ac1,
        anew vs fs vv fv w0 w1 wb0 wb1 2 (by decide) ms2 (mnew ms2 pm2) ac2,
        anew vs fs vv fv w0 w1 wb0 wb1 3 (by decide) ms3 (mnew ms3 pm3) ac3]
      vs' (vs'.writes (Elt Ideal) fs' (written
      (kq vk fk o0 b0 q0) (kq vk fk o1 b1 q0) (kq vk fk o2 b2 q0) (kq vk fk o3 b3 q0)
      (kq vk fk o0 b0 q1) (kq vk fk o1 b1 q1) (kq vk fk o2 b2 q1) (kq vk fk o3 b3 q1)
      (kq vk fk o0 b0 q2) (kq vk fk o1 b1 q2) (kq vk fk o2 b2 q2) (kq vk fk o3 b3 q2)
      (kq vk fk o0 b0 q3) (kq vk fk o1 b1 q3) (kq vk fk o2 b2 q3) (kq vk fk o3 b3 q3) rest)) := by
  have A := scores_step (vs' := vs') (fs' := fs') (rest := rest) (b0 := b0) (b1 := b1) (b2 := b2) (b3 := b3)
    ⟨T + 1, hT⟩ hk hq h0 h1 h2 h3
  have B := sums_step (wb0 := wb0) (wb1 := wb1) ⟨T, by omega⟩ hv hw0 hw1 G
  refine ⟨A.1, fun g => ?_, fun g => ?_, A.2⟩
  · match g with
    | 0 => exact (B 0).1
    | 1 => exact (B 1).1
    | 2 => exact (B 2).1
    | 3 => exact (B 3).1
  · match g with
    | 0 => exact (B 0).2
    | 1 => exact (B 1).2
    | 2 => exact (B 2).2
    | 3 => exact (B 3).2

/-- The first tick: the first block's scores, nothing summed yet. -/
theorem tick_first (hk : KB K vk fk) (hq : ∀ g, QB (Q g) ((![q0, q1, q2, q3] : Fin 4 → FVec Ideal S64x512 .bf16) g))
    {ms0 ms1 ms2 ms3 : FVec Ideal S1x512 .f32} {ac0 ac1 ac2 ac3 : FVec Ideal S80x512 .f32}
    (hms : ∀ g c, ((![ms0, ms1, ms2, ms3] : Fin 4 → FVec Ideal S1x512 .f32) g) (ix2 0 c) = (⊥ : EReal))
    (hac : ∀ g i c, ((![ac0, ac1, ac2, ac3] : Fin 4 → FVec Ideal S80x512 .f32) g) (ix2 i c) = (0 : EReal))
    (h0 : o0 = ![0, 0, 0, 0, 0]) (h1 : o1 = ![0, 0, 0, 128, 0]) (h2 : o2 = ![0, 0, 0, 256, 0])
    (h3 : o3 = ![0, 0, 0, 384, 0]) :
    Good (fun g => score K (Q g)) V 0
      ![mx4 (kq vk fk o0 b0 q0) (kq vk fk o1 b1 q0) (kq vk fk o2 b2 q0) (kq vk fk o3 b3 q0),
        mx4 (kq vk fk o0 b0 q1) (kq vk fk o1 b1 q1) (kq vk fk o2 b2 q1) (kq vk fk o3 b3 q1),
        mx4 (kq vk fk o0 b0 q2) (kq vk fk o1 b1 q2) (kq vk fk o2 b2 q2) (kq vk fk o3 b3 q2),
        mx4 (kq vk fk o0 b0 q3) (kq vk fk o1 b1 q3) (kq vk fk o2 b2 q3) (kq vk fk o3 b3 q3)]
      ![ms0, ms1, ms2, ms3] ![ac0, ac1, ac2, ac3]
      vs' (vs'.writes (Elt Ideal) fs' (written
      (kq vk fk o0 b0 q0) (kq vk fk o1 b1 q0) (kq vk fk o2 b2 q0) (kq vk fk o3 b3 q0)
      (kq vk fk o0 b0 q1) (kq vk fk o1 b1 q1) (kq vk fk o2 b2 q1) (kq vk fk o3 b3 q1)
      (kq vk fk o0 b0 q2) (kq vk fk o1 b1 q2) (kq vk fk o2 b2 q2) (kq vk fk o3 b3 q2)
      (kq vk fk o0 b0 q3) (kq vk fk o1 b1 q3) (kq vk fk o2 b2 q3) (kq vk fk o3 b3 q3) rest)) := by
  have A := scores_step (vs' := vs') (fs' := fs') (rest := rest) (b0 := b0) (b1 := b1) (b2 := b2) (b3 := b3)
    0 hk hq h0 h1 h2 h3
  exact ⟨A.1, fun g c => (hms g c).trans (rm_zero _).symm, fun g i c => (hac g i c).trans (ac_zero _ _).symm, A.2⟩

/-- The last tick: the last block summed. -/
theorem tick_last {S : Fin 4 → Scores} (hv : VV V vv fv)
    {pm0 pm1 pm2 pm3 : FVec Ideal S8x512 .f32} {ms0 ms1 ms2 ms3 : FVec Ideal S1x512 .f32}
    {ac0 ac1 ac2 ac3 : FVec Ideal S80x512 .f32}
    (G : Good S V 15 ![pm0, pm1, pm2, pm3] ![ms0, ms1, ms2, ms3] ![ac0, ac1, ac2, ac3] vs fs)
    (hw0 : w0 = ![0, 0, 15, 0, 0]) (hw1 : w1 = ![0, 0, 15, 0, 256]) :
    AC (S 0) V 16 (anew vs fs vv fv w0 w1 wb0 wb1 0 (by decide) ms0 (mnew ms0 pm0) ac0)
    ∧ AC (S 1) V 16 (anew vs fs vv fv w0 w1 wb0 wb1 1 (by decide) ms1 (mnew ms1 pm1) ac1)
    ∧ AC (S 2) V 16 (anew vs fs vv fv w0 w1 wb0 wb1 2 (by decide) ms2 (mnew ms2 pm2) ac2)
    ∧ AC (S 3) V 16 (anew vs fs vv fv w0 w1 wb0 wb1 3 (by decide) ms3 (mnew ms3 pm3) ac3) := by
  have B := sums_step (wb0 := wb0) (wb1 := wb1) 15 hv hw0 hw1 G
  exact ⟨(B 0).2, (B 1).2, (B 2).2, (B 3).2⟩

end Block

end Cert.KernelIdeal.Attn

end
-- ==== Proof.Attn.Trip.lean ====
module

public import proofs.«01_k».proof.Proof.Attn.Tick
public import proofs.«01_k».proof.Proof.Ideal.Loops

/-!
# The loop: six ticks a trip, two trips
-/

@[expose] public section

set_option maxRecDepth 100000
set_option maxHeartbeats 4000000

noncomputable section

namespace Cert.KernelIdeal.Attn

open Cert.KernelIdeal Cert.KernelIdeal.Gen Cert.Attn
open Idealize.ShloMosaic Idealize.ShloMosaic.TcCoe

/-- A trip is the first or the second. -/
theorem trip_cases (k : Fin k0_t1_loop.trips) :
    (∃ h, k = ⟨0, h⟩) ∨ (∃ h, k = ⟨1, h⟩) := by
  obtain ⟨k, h⟩ := k
  have := Nat.lt_of_lt_of_le h k0_t1_abs.2.1
  interval_cases k
  · exact .inl ⟨h, rfl⟩
  · exact .inr ⟨h, rfl⟩

/-- Where a trip's key and value reads start. -/
theorem off1 (k : Fin k0_t1_loop.trips) (u : Fin 6) :
    k0_off1 k (BitVec.ofNat 32 u.val) = ![0, 0, 6 * k.val + 1 + u.val + 1, 0, 0] := by
  rcases trip_cases k with ⟨h, rfl⟩ | ⟨h, rfl⟩ <;> fin_cases u <;> rfl
/-- The tiles a trip's six ticks read: offsets, as words and as numbers. -/
theorem off2 (k : Fin k0_t1_loop.trips) (u : Fin 6) :
    k0_off2 k (BitVec.ofNat 32 u.val) = ![0, 0, 6 * k.val + 1 + u.val + 1, 128, 0] := by
  rcases trip_cases k with ⟨h, rfl⟩ | ⟨h, rfl⟩ <;> fin_cases u <;> rfl
/-- The same at another load, -/
theorem off4 (k : Fin k0_t1_loop.trips) (u : Fin 6) :
    k0_off4 k (BitVec.ofNat 32 u.val) = ![0, 0, 6 * k.val + 1 + u.val + 1, 256, 0] := by
  rcases trip_cases k with ⟨h, rfl⟩ | ⟨h, rfl⟩ <;> fin_cases u <;> rfl
/-- another, -/
theorem off5 (k : Fin k0_t1_loop.trips) (u : Fin 6) :
    k0_off5 k (BitVec.ofNat 32 u.val) = ![0, 0, 6 * k.val + 1 + u.val + 1, 384, 0] := by
  rcases trip_cases k with ⟨h, rfl⟩ | ⟨h, rfl⟩ <;> fin_cases u <;> rfl
/-- another, -/
theorem off3 (k : Fin k0_t1_loop.trips) (u : Fin 6) :
    k0_off3 k (BitVec.ofNat 32 u.val) = ![0, 0, 6 * k.val + 1 + u.val, 0, 0] := by
  rcases trip_cases k with ⟨h, rfl⟩ | ⟨h, rfl⟩ <;> fin_cases u <;> decide +revert
/-- and the last. -/
theorem off6 (k : Fin k0_t1_loop.trips) (u : Fin 6) :
    k0_off6 k (BitVec.ofNat 32 u.val) = ![0, 0, 6 * k.val + 1 + u.val, 0, 256] := by
  rcases trip_cases k with ⟨h, rfl⟩ | ⟨h, rfl⟩ <;> fin_cases u <;> decide +revert

section
variable (𝒱 : Variants) (c : Dev nD) (bd : Option 𝒱.V)
variable
  (i : grid0.Coords) (arg3 : Memref sig .tc .vmem S1x4x64x512 .bf16) (harg3 : arg3.IsWhole)
  (arg4 : Memref sig .tc .vmem S1x1x16x512x64 .bf16) (harg4 : arg4.IsWhole)
  (arg5 : Memref sig .tc .vmem S1x1x16x80x512 .bf16) (harg5 : arg5.IsWhole)
  (arg6 : Memref sig .tc .vmem S1x512x256 .bf16) (harg6 : arg6.IsWhole)
  (arg7 : Memref sig .tc .vmem S4x512x512 .f32) (harg7 : arg7.IsWhole)
  (arg8 : Memref sig .tc .vmem S4x512x512 .f32) (harg8 : arg8.IsWhole) (v5 : FVec Ideal S64x512 .bf16)
  (v11 : FVec Ideal S64x512 .bf16) (v17 : FVec Ideal S64x512 .bf16) (v23 : FVec Ideal S64x512 .bf16)
  (v174 : FVec Ideal S1x512 .f32) (v236 : FVec Ideal S8x512 .f32) (v247 : FVec Ideal S80x512 .f32)
  (v250 : FVec Ideal S1x512 .f32) (v312 : FVec Ideal S8x512 .f32) (v323 : FVec Ideal S80x512 .f32)
  (v326 : FVec Ideal S1x512 .f32) (v388 : FVec Ideal S8x512 .f32) (v399 : FVec Ideal S80x512 .f32)
  (v402 : FVec Ideal S1x512 .f32) (v464 : FVec Ideal S8x512 .f32) (v475 : FVec Ideal S80x512 .f32)
  (c0_i32 : BitVec 32)
variable (X_arg4 : BufTy.Contents (Elt Ideal) arg4.view.ty) (X_arg5 : BufTy.Contents (Elt Ideal) arg5.view.ty)
variable {K : ℕ → Fin 512 → Fin 64 → ℝ} {Q : Fin 4 → Fin 64 → Fin 512 → ℝ} {V : Vals}

/-- What is known of a carried value before block `T` is summed. -/
abbrev GoodC (S : Fin 4 → Scores) (V : Vals) (T : ℕ) (a : Run.Carry Ideal) (vs : View sig .tc .vmem S4x512x512 .f32)
    (fs : vs.ty.Contents (Elt Ideal)) : Prop :=
  Good S V T ![a.1, a.2.1, a.2.2.1, a.2.2.2.1]
    ![a.2.2.2.2.1, a.2.2.2.2.2.1, a.2.2.2.2.2.2.1, a.2.2.2.2.2.2.2.1]
    ![a.2.2.2.2.2.2.2.2.1, a.2.2.2.2.2.2.2.2.2.1, a.2.2.2.2.2.2.2.2.2.2.1, a.2.2.2.2.2.2.2.2.2.2.2] vs fs

/-- A trip takes six blocks into the sums. -/
theorem trip_good (k : Fin k0_t1_loop.trips) (hk : KB K arg4.view X_arg4) (hv : VV V arg5.view X_arg5)
    (hq : ∀ g, QB (Q g) ((![v5, v11, v17, v23] : Fin 4 → FVec Ideal S64x512 .bf16) g))
    (a : Run.Carry Ideal) (f7 : BufTy.Contents (Elt Ideal) arg7.view.ty) (f8 f8' : BufTy.Contents (Elt Ideal) arg8.view.ty)
    (rest : List (View.Piece (Elt Ideal) S4x512x512 .f32))
    (G : GoodC (fun g => score K (Q g)) V (6 * k.val + 1) a arg8.view f8) :
    let T := Run.trip (F := Ideal) 𝒱 c bd i arg3 harg3 arg4 harg4 arg5 harg5 arg6 harg6 arg7 harg7 arg8 harg8 v5 v11 v17 v23 v174 v236 v247 v250 v312 v323 v326 v388 v399 v402 v464 v475 c0_i32 X_arg4 X_arg5 k
    GoodC (fun g => score K (Q g)) V (6 * k.val + 7) (T.1 a f7 f8) arg8.view
      (arg8.view.writes (Elt Ideal) f8' (T.2.2.1 a f7 f8 ++ rest)) := by
  have hk2 : k.val < 2 := Nat.lt_of_lt_of_le k.isLt k0_t1_abs.2.1
  unfold Run.trip
  dsimp only [GoodC]
  refine tick_step (6 * k.val + 6) (by omega) hk hv hq ?_ (off1 k 5) (off2 k 5) (off4 k 5) (off5 k 5) (off3 k 5) (off6 k 5)
  refine tick_step (6 * k.val + 5) (by omega) hk hv hq ?_ (off1 k 4) (off2 k 4) (off4 k 4) (off5 k 4) (off3 k 4) (off6 k 4)
  refine tick_step (6 * k.val + 4) (by omega) hk hv hq ?_ (off1 k 3) (off2 k 3) (off4 k 3) (off5 k 3) (off3 k 3) (off6 k 3)
  refine tick_step (6 * k.val + 3) (by omega) hk hv hq ?_ (off1 k 2) (off2 k 2) (off4 k 2) (off5 k 2) (off3 k 2) (off6 k 2)
  refine tick_step (6 * k.val + 2) (by omega) hk hv hq ?_ (off1 k 1) (off2 k 1) (off4 k 1) (off5 k 1) (off3 k 1) (off6 k 1)
  exact tick_step (6 * k.val + 1) (by omega) hk hv hq G (off1 k 0) (off2 k 0) (off4 k 0) (off5 k 0) (off3 k 0) (off6 k 0)

variable (G_arg7 : BufTy.Contents (Elt Ideal) arg7.view.ty) (G_arg8 : BufTy.Contents (Elt Ideal) arg8.view.ty) (init : Run.Carry Ideal)

/-- The two trips take blocks one to twelve into the sums. -/
theorem loop_good (hk : KB K arg4.view X_arg4) (hv : VV V arg5.view X_arg5)
    (hq : ∀ g, QB (Q g) ((![v5, v11, v17, v23] : Fin 4 → FVec Ideal S64x512 .bf16) g))
    (G : GoodC (fun g => score K (Q g)) V 1 init arg8.view G_arg8) (f8' : BufTy.Contents (Elt Ideal) arg8.view.ty)
    (rest : List (View.Piece (Elt Ideal) S4x512x512 .f32)) (n : ℕ) (hn : n = 2) :
    let s := Run.st (F := Ideal) 𝒱 c bd i arg3 harg3 arg4 harg4 arg5 harg5 arg6 harg6 arg7 harg7 arg8 harg8 v5 v11 v17 v23 v174 v236 v247 v250 v312 v323 v326 v388 v399 v402 v464 v475 c0_i32 X_arg4 X_arg5 G_arg7 G_arg8 init n
    GoodC (fun g => score K (Q g)) V 13 s.1 arg8.view (arg8.view.writes (Elt Ideal) f8' (s.2.2 ++ rest)) := by
  subst hn
  have ht : k0_t1_loop.trips = 2 := by decide
  have e1 := Run.st_succ (F := Ideal) 𝒱 c bd i arg3 harg3 arg4 harg4 arg5 harg5 arg6 harg6 arg7 harg7 arg8 harg8 v5 v11 v17 v23 v174 v236 v247 v250 v312 v323 v326 v388 v399 v402 v464 v475 c0_i32 X_arg4 X_arg5 G_arg7 G_arg8 init ⟨0, by omega⟩
  have e2 := Run.st_succ (F := Ideal) 𝒱 c bd i arg3 harg3 arg4 harg4 arg5 harg5 arg6 harg6 arg7 harg7 arg8 harg8 v5 v11 v17 v23 v174 v236 v247 v250 v312 v323 v326 v388 v399 v402 v464 v475 c0_i32 X_arg4 X_arg5 G_arg7 G_arg8 init ⟨1, by omega⟩
  have e0 := Run.st_zero (F := Ideal) 𝒱 c bd i arg3 harg3 arg4 harg4 arg5 harg5 arg6 harg6 arg7 harg7 arg8 harg8 v5 v11 v17 v23 v174 v236 v247 v250 v312 v323 v326 v388 v399 v402 v464 v475 c0_i32 X_arg4 X_arg5 G_arg7 G_arg8 init
  dsimp only at e1 e2
  rw [e0] at e1
  rw [e1] at e2
  dsimp only
  rw [e2]
  have A := trip_good 𝒱 c bd i arg3 harg3 arg4 harg4 arg5 harg5 arg6 harg6 arg7 harg7 arg8 harg8 v5 v11 v17 v23 v174 v236 v247 v250 v312 v323 v326 v388 v399 v402 v464 v475 c0_i32 X_arg4 X_arg5 ⟨0, by omega⟩ hk hv hq init (arg7.view.writes (Elt Ideal) G_arg7 [])
    (arg8.view.writes (Elt Ideal) G_arg8 []) G_arg8 [] G
  rw [List.append_assoc]
  exact trip_good 𝒱 c bd i arg3 harg3 arg4 harg4 arg5 harg5 arg6 harg6 arg7 harg7 arg8 harg8 v5 v11 v17 v23 v174 v236 v247 v250 v312 v323 v326 v388 v399 v402 v464 v475 c0_i32 X_arg4 X_arg5 ⟨1, by omega⟩ hk hv hq _ _ _ f8' _ A

end

end Cert.KernelIdeal.Attn
-- ==== Proof.Attn.Body.lean ====
module

public import proofs.«01_k».proof.Proof.Attn.Trip
public import proofs.«01_k».proof.Proof.Ideal.Run

/-!
# The body at a grid point: two ticks, the loop, three ticks
-/

@[expose] public section

set_option maxRecDepth 100000
set_option maxHeartbeats 4000000

noncomputable section

namespace Cert.KernelIdeal.Attn

open Cert.KernelIdeal Cert.KernelIdeal.Gen Cert.Attn
open Idealize.ShloMosaic Idealize.ShloMosaic.TcCoe

/-- The block the body stores, from the four heads' sums. -/
abbrev block (a0 a1 a2 a3 : FVec Ideal S80x512 .f32) : FVec Ideal S1x512x256 .bf16 :=
  k0_pay1 (k0_pay692 a2 a3 (k0_pay688 a0) (k0_pay689 a1) (k0_pay690 a1) k0_pay691)

/-- The four rows of running maxima start from minus infinity. -/
theorem start_max (g : Fin 4) (c : Fin 512) :
    ((![k0_pay417, k0_pay418, k0_pay419, k0_pay420] : Fin 4 → FVec Ideal S1x512 .f32) g) (ix2 0 c) = (⊥ : EReal) := by
  match g with
  | 0 => exact word_bot
  | 1 => exact word_bot
  | 2 => exact word_bot
  | 3 => exact word_bot

/-- The four blocks of sums start from zero. -/
theorem start_sum (g : Fin 4) (i : Fin 80) (c : Fin 512) :
    ((![k0_pay421, k0_pay422, Run.kernelRun0_A.sl.r_4, k0_pay424] : Fin 4 → FVec Ideal S80x512 .f32) g) (ix2 i c) = (0 : EReal) := by
  match g with
  | 0 => exact word_zero
  | 1 => exact word_zero
  | 2 => exact word_zero
  | 3 => exact word_zero

section
variable (c : Dev nD)
variable
  (i : grid0.Coords) (arg3 : Memref sig .tc .vmem S1x4x64x512 .bf16) (harg3 : arg3.IsWhole)
  (arg4 : Memref sig .tc .vmem S1x1x16x512x64 .bf16) (harg4 : arg4.IsWhole)
  (arg5 : Memref sig .tc .vmem S1x1x16x80x512 .bf16) (harg5 : arg5.IsWhole)
  (arg6 : Memref sig .tc .vmem S1x512x256 .bf16) (harg6 : arg6.IsWhole)
  (arg7 : Memref sig .tc .vmem S4x512x512 .f32) (harg7 : arg7.IsWhole)
  (arg8 : Memref sig .tc .vmem S4x512x512 .f32) (harg8 : arg8.IsWhole)
  (x0 : Vec Ideal S1x4x64x512 .bf16) (x1 : Vec Ideal S1x1x16x512x64 .bf16) (x2 : Vec Ideal S1x1x16x80x512 .bf16)
variable {K : ℕ → Fin 512 → Fin 64 → ℝ} {Q : Fin 4 → Fin 64 → Fin 512 → ℝ} {V : Vals}

/-- Before the loop: block 0 is summed, block 1's scores are ready. -/
theorem before_loop (hk : KB K arg4.view (harg4.unread x1)) (hv : VV V arg5.view (harg5.unread x2))
    (hq : ∀ g, QB (Q g) ((![Run.kernelRun0_A.sl.r c arg3 harg3 x0, Run.kernelRun0_A.sl.r_1 c arg3 harg3 x0, Run.kernelRun0_A.sl.r_2 c arg3 harg3 x0, Run.kernelRun0_A.sl.r_3 c arg3 harg3 x0] : Fin 4 → FVec Ideal S64x512 .bf16) g)) :
    GoodC (fun g => score K (Q g)) V 1
      (Run.kernelRun0_A.sl.r_22 c arg3 harg3 arg4 harg4 x0 x1, Run.kernelRun0_A.sl.r_30 c arg3 harg3 arg4 harg4 x0 x1,
        Run.kernelRun0_A.sl.r_43 c arg3 harg3 arg4 harg4 x0 x1, Run.kernelRun0_A.sl.r_51 c arg3 harg3 arg4 harg4 x0 x1,
        Run.kernelRun0_A.sl.r_15 c arg3 harg3 arg4 harg4 x0 x1, Run.kernelRun0_A.sl.r_24 c arg3 harg3 arg4 harg4 x0 x1,
        Run.kernelRun0_A.sl.r_33 c arg3 harg3 arg4 harg4 x0 x1, Run.kernelRun0_A.sl.r_45 c arg3 harg3 arg4 harg4 x0 x1,
        Run.kernelRun0_A.sl.r_23 c arg3 harg3 arg4 harg4 arg5 harg5 arg7 x0 x1 x2,
        Run.kernelRun0_A.sl.r_32 c arg3 harg3 arg4 harg4 arg5 harg5 arg7 x0 x1 x2,
        Run.kernelRun0_A.sl.r_44 c arg3 harg3 arg4 harg4 arg5 harg5 arg7 x0 x1 x2,
        Run.kernelRun0_A.sl.r_52 c arg3 harg3 arg4 harg4 arg5 harg5 arg7 x0 x1 x2)
      arg8.view (arg8.view.writes (Elt Ideal) arg8.view.junk (Run.kernelRun0_A.sl.HS1_16 c arg3 harg3 arg4 harg4 x0 x1)) := by
  dsimp only [GoodC]
  refine tick_step 0 (by omega) hk hv hq ?_ rfl rfl rfl rfl rfl rfl
  exact tick_first hk hq start_max start_sum rfl rfl rfl rfl

/-- At the end: all sixteen blocks are in the sums. -/
theorem after_loop (hk : KB K arg4.view (harg4.unread x1)) (hv : VV V arg5.view (harg5.unread x2))
    (hq : ∀ g, QB (Q g) ((![Run.kernelRun0_A.sl.r c arg3 harg3 x0, Run.kernelRun0_A.sl.r_1 c arg3 harg3 x0, Run.kernelRun0_A.sl.r_2 c arg3 harg3 x0, Run.kernelRun0_A.sl.r_3 c arg3 harg3 x0] : Fin 4 → FVec Ideal S64x512 .bf16) g)) :
    AC (score K (Q 0)) V 16 (Run.kernelRun0_A.sl.r_142 c i arg3 harg3 arg4 harg4 arg5 harg5 arg6 harg6 arg7 harg7 arg8 harg8 x0 x1 x2)
    ∧ AC (score K (Q 1)) V 16 (Run.kernelRun0_A.sl.r_147 c i arg3 harg3 arg4 harg4 arg5 harg5 arg6 harg6 arg7 harg7 arg8 harg8 x0 x1 x2)
    ∧ AC (score K (Q 2)) V 16 (Run.kernelRun0_A.sl.r_153 c i arg3 harg3 arg4 harg4 arg5 harg5 arg6 harg6 arg7 harg7 arg8 harg8 x0 x1 x2)
    ∧ AC (score K (Q 3)) V 16 (Run.kernelRun0_A.sl.r_157 c i arg3 harg3 arg4 harg4 arg5 harg5 arg6 harg6 arg7 harg7 arg8 harg8 x0 x1 x2) := by
  refine tick_last (S := fun g => score K (Q g)) hv ?_ rfl rfl
  refine tick_step 14 (by omega) hk hv hq ?_ rfl rfl rfl rfl rfl rfl
  refine tick_step 13 (by omega) hk hv hq ?_ rfl rfl rfl rfl rfl rfl
  exact loop_good Variants.none c none i arg3 harg3 arg4 harg4 arg5 harg5 arg6 harg6 arg7 harg7 arg8 harg8 _ _ _ _ _ _ _ _ _ _ _ _ _ _ _ _ _
    _ _ _ _ _ hk hv hq (before_loop c arg3 harg3 arg4 harg4 arg5 harg5 arg7 arg8 x0 x1 x2 hk hv hq) _ _ _ (by decide)

/-- What the body stores: the block of the four heads' sums over all sixteen blocks. -/
theorem body_value (hk : KB K arg4.view (harg4.unread x1)) (hv : VV V arg5.view (harg5.unread x2))
    (hq : ∀ g, QB (Q g) ((![Run.kernelRun0_A.sl.r c arg3 harg3 x0, Run.kernelRun0_A.sl.r_1 c arg3 harg3 x0, Run.kernelRun0_A.sl.r_2 c arg3 harg3 x0, Run.kernelRun0_A.sl.r_3 c arg3 harg3 x0] : Fin 4 → FVec Ideal S64x512 .bf16) g)) :
    ∃ a0 a1 a2 a3, AC (score K (Q 0)) V 16 a0 ∧ AC (score K (Q 1)) V 16 a1 ∧ AC (score K (Q 2)) V 16 a2
      ∧ AC (score K (Q 3)) V 16 a3
      ∧ (Run.kernelRun0_A (F := Ideal) c i arg3 harg3 arg4 harg4 arg5 harg5 arg6 harg6 arg7 harg7 arg8 harg8 x0 x1 x2).1
        = [⟨Rect.unit (s := S1x512x256) ![0, 0, 0] S1x512x256.size inb_S1x512x256_S1x512x256_0_0_0, block a0 a1 a2 a3⟩] := by
  have A := after_loop c i arg3 harg3 arg4 harg4 arg5 harg5 arg6 harg6 arg7 harg7 arg8 harg8 x0 x1 x2 hk hv hq
  exact ⟨_, _, _, _, A.1, A.2.1, A.2.2.1, A.2.2.2, rfl⟩

end

end Cert.KernelIdeal.Attn
-- ==== Proof.Attn.Out.lean ====
module

public import proofs.«01_k».proof.Proof.Attn.Body

/-!
# The block a grid point stores, entry by entry
-/

@[expose] public section

noncomputable section

namespace Cert.KernelIdeal.Attn

open Cert.KernelIdeal Cert.KernelIdeal.Gen Cert.Attn
open Idealize.ShloMosaic Idealize.ShloMosaic.TcCoe

/-- The word of one. -/
theorem word_one : (FloatOps.ofBits (F := Ideal) .f32 1065353216#32 : EReal) = 1 := by
  show Ideal.ofBits .f32 1065353216#32 = 1
  exact Ideal.ofBits_one_f32

/-- One head's sums, each divided by the sum of the weights. -/
abbrev normal (a : FVec Ideal S80x512 .f32) : FVec Ideal S64x512 .f32 :=
  mulf (extractStridedSlice S64x512 ![0, 0] a slices_S80x512_o0_0_S64x512)
    (broadcastTo S64x512 (divf (broadcast S1x512 (FloatOps.ofBits (F := Ideal) .f32 1065353216#32))
      (extractStridedSlice S1x512 ![64, 0] a slices_S80x512_o64_0_S1x512)) broadcasts_S1x512_S64x512)

/-- The accumulator divided by its row of sums, at an entry. -/
theorem normal_apply (a : FVec Ideal S80x512 .f32) (d : Fin 64) (c : Fin 512) :
    normal a (ix2 d c) = a (ix2 (⟨d.val, by omega⟩ : Fin 80) c) * Ideal.div 1 (a (ix2 (⟨64, by omega⟩ : Fin 80) c)) := by
  have e1 : extractStridedSlice S64x512 ![0, 0] a slices_S80x512_o0_0_S64x512 (ix2 d c)
      = a (ix2 (⟨d.val, by omega⟩ : Fin 80) c) := extractStridedSlice_apply _ a _ _ _ fun b => by
    match b with
    | ⟨0, _⟩ => exact (Nat.zero_add _).symm
    | ⟨1, _⟩ => exact (Nat.zero_add _).symm
  have e2 : extractStridedSlice S1x512 ![64, 0] a slices_S80x512_o64_0_S1x512 (ix2 0 c)
      = a (ix2 (⟨64, by omega⟩ : Fin 80) c) := extractStridedSlice_apply _ a _ _ _ fun b => by
    match b with
    | ⟨0, _⟩ => rfl
    | ⟨1, _⟩ => exact (Nat.zero_add _).symm
  have e3 := ValueIdx.broadcastTo_1b_ab_apply (a := 64) (divf (broadcast S1x512 (FloatOps.ofBits (F := Ideal) .f32 1065353216#32))
      (extractStridedSlice S1x512 ![64, 0] a slices_S80x512_o64_0_S1x512)) broadcasts_S1x512_S64x512 d c
  refine congrArg₂ (fun x y : EReal => x * y) e1 (e3.trans ?_)
  exact congrArg₂ Ideal.div word_one e2

/-- Entry `(c, 64 g + d)` of the block is head `g`'s entry `d` of query `c`. -/
theorem block_apply (a : Fin 4 → FVec Ideal S80x512 .f32) (g : Fin 4) (d : Fin 64) (c : Fin 512) (w : Fin 256)
    (hw : w.val = 64 * g.val + d.val) :
    block (a 0) (a 1) (a 2) (a 3) (ix3 0 c w) = normal (a g) (ix2 d c) := by
  have e0 : block (a 0) (a 1) (a 2) (a 3) = shapeCast S1x512x256 (truncf .bf16 (transpose S512x256 [1, 0]
      (concatenate S256x512 0 [⟨S64x512, normal (a 0)⟩, ⟨S64x512, normal (a 1)⟩, ⟨S64x512, normal (a 2)⟩, ⟨S64x512, normal (a 3)⟩]
        concatenates_S64x512_S64x512_S64x512_S64x512_S256x512_d0)
      transposes_S256x512_p1_0_S512x256) bitsLt_bf16_f32) shapeCasts_S512x256_S1x512x256 := rfl
  rw [e0]
  rw [shapeCast_apply _ shapeCasts_S512x256_S1x512x256 (ix3 0 c w) (ix2 c w) (by
    rw [Shape.rowMajor_val_two, Shape.rowMajor_val_three]
    show c.val * 256 + w.val = ((0 : ℕ) * 512 + c.val) * 256 + w.val
    omega)]
  have et : ∀ (x : FVec Ideal S512x256 .f32) (j : S512x256.Idx), truncf FTy.bf16 x bitsLt_bf16_f32 j = x j := fun _ _ => rfl
  rw [et]
  refine (transpose_apply [1, 0] _ transposes_S256x512_p1_0_S512x256 (ix2 c w) (ix2 w c) fun b => ?_).trans ?_
  · match b with
    | ⟨0, _⟩ => rfl
    | ⟨1, _⟩ => rfl
  · refine concatenate_apply_piece 0 _ _ (ix2 w c) g.val (by exact g.isLt) S64x512 (normal (a g)) ?_ rfl (64 * g.val) ?_ (ix2 d c) ?_ ?_
    · match g with
      | 0 => rfl
      | 1 => rfl
      | 2 => rfl
      | 3 => rfl
    · match g with
      | 0 => rfl
      | 1 => rfl
      | 2 => rfl
      | 3 => rfl
    · intro b hb
      match b, hb with
      | ⟨0, _⟩, hb => exact absurd rfl hb
      | ⟨1, _⟩, _ => rfl
    · exact hw.symm

end Cert.KernelIdeal.Attn
-- ==== Proof.Attn.Point.lean ====
module

public import proofs.«01_k».proof.Proof.Attn.Blocks
public import proofs.«01_k».proof.Proof.Attn.Body
public import proofs.«01_k».proof.Proof.Attn.Out
public import proofs.«01_k».proof.Proof.Ideal.Frame
public import Idealize.ShloMosaic.Lib.WholeRead

/-!
# What a grid point leaves: the attention of its block of queries
-/

@[expose] public section

noncomputable section

namespace Cert.KernelIdeal.Attn

open Cert.KernelIdeal Cert.KernelIdeal.Gen Cert.Attn
open Idealize.ShloMosaic Idealize.ShloMosaic.TcCoe Idealize.ShloMosaic.Tactic

/-- The scale: the base-2 logarithm of `e`, over 8. -/
def scale : ℝ := (Real.log 2)⁻¹ * 8⁻¹

/-- A loaded block of queries, scaled. -/
abbrev scaled (x : Vec Ideal S1x1x64x512 .bf16) : FVec Ideal S64x512 .bf16 := k0_pay413 x

/-- One head's queries, scaled, at an entry; -/
theorem scaled_apply (x : Vec Ideal S1x1x64x512 .bf16) (d : Fin 64) (c : Fin 512) :
    scaled x (ix2 d c) = (x : S1x1x64x512.Idx → EReal) (ix4 0 0 d c) * ((scale : ℝ) : EReal) := by
  have e : scaled x (ix2 d c) = shapeCast S64x512 x shapeCasts_S1x1x64x512_S64x512 (ix2 d c)
      * (Named.named (F := Ideal) (φ := .f32) κ "log2e_8" 0x3E38AA3B#32 : EReal) := rfl
  rw [e, IdealRules.named_const.ideal_named_scalar _ _ _ (((Real.log 2)⁻¹ * 8⁻¹ : ℝ) : EReal) rfl,
    shapeCast_apply _ _ (ix2 d c) (ix4 0 0 d c) (by
      rw [Shape.rowMajor_val_four, Shape.rowMajor_val_two]
      show ((0 * 1 + 0) * 64 + d.val) * 512 + c.val = d.val * 512 + c.val; omega)]
  rfl

/-- and the same as read from the query block. -/
theorem scaled_read {arg : Memref sig .tc .vmem S1x4x64x512 .bf16} (h : arg.IsWhole) (x : Vec Ideal S1x4x64x512 .bf16)
    {Q : Fin 64 → Fin 512 → ℝ} (g : Fin 4) (hx : ∀ d c, (x : S1x4x64x512.Idx → EReal) (ix4 0 g d c) = ((Q d c : ℝ) : EReal))
    {off : Fin 4 → ℕ} (ho : off = ![0, g.val, 0, 0]) (hb : ∀ a, off a + S1x1x64x512.size a ≤ S1x4x64x512.size a) :
    QB (fun d c => Q d c * scale) (scaled (View.readAt (Elt Ideal) arg.view
      (Rect.unit (s := S1x4x64x512) off S1x1x64x512.size hb).toLoadRect (h.unread x))) := by
  subst ho
  intro d c
  rw [scaled_apply, EReal.coe_mul, ← hx]
  congr 1
  rw [h.readAt_unread]
  congr 1
  funext b
  refine Fin.ext ?_
  match b with
  | ⟨0, _⟩ => rfl
  | ⟨1, _⟩ => show g.val + 1 * 0 = g.val; omega
  | ⟨2, _⟩ => show 0 + 1 * d.val = d.val; omega
  | ⟨3, _⟩ => show 0 + 1 * c.val = c.val; omega

variable (m : (ℓ : Loc nD τ sig) → Buf (Elt Ideal) ℓ) (c : Dev nD)

variable {q : Fin 8 → Fin 8192 → Fin 16 → Fin 64 → ℝ} {k : Fin 8 → Fin 8192 → Fin 4 → Fin 64 → ℝ}
  {v : Fin 8 → Fin 8192 → Fin 4 → Fin 64 → EReal}

/-- A point's keys, block by block. -/
def ptK (k : Fin 8 → Fin 8192 → Fin 4 → Fin 64 → ℝ) (t : Fin grid0.N) : ℕ → Fin 512 → Fin 64 → ℝ := fun n r d =>
  if h : n < 16 then k (pb t) (key ⟨n, h⟩ r) (ph t) d else 0

/-- A point's queries of head `g`. -/
def ptQ (q : Fin 8 → Fin 8192 → Fin 16 → Fin 64 → ℝ) (t : Fin grid0.N) (g : Fin 4) : Fin 64 → Fin 512 → ℝ := fun d i =>
  q (pb t) (key (pi t) i) (head (ph t) g) d

/-- A point's value columns, block by block. -/
def ptV (t : Fin grid0.N) : Vals := fun n i r =>
  if h : n < 16 then (Run.V m c main_v13 : S8x4x16x80x512.Idx → EReal) (ix5 (pb t) (ph t) ⟨n, h⟩ i r) else 0

/-- A scaled score is the logit times `log2 e`. -/
theorem score_eq (t : Fin grid0.N) (g : Fin 4) (n : Fin 16) (r i : Fin 512) :
    score (ptK k t) (fun d c => ptQ q t g d c * scale) n.val r i
      = logit q k (pb t) (ph t) g (key (pi t) i) (key n r) * (Real.log 2)⁻¹ := by
  rw [score, logit, Finset.sum_mul, Finset.sum_mul]
  refine Finset.sum_congr rfl fun d _ => ?_
  rw [ptK, dif_pos n.isLt, ptQ, scale]
  show k _ (key n r) _ _ * _ = _
  ring

/-- What the body leaves at a point, at an entry of its block. -/
theorem out_apply (hq : ∀ b i h d, qa m c (ix4 b i h d) = ((q b i h d : ℝ) : EReal))
    (hk : ∀ b i h d, ka m c (ix4 b i h d) = ((k b i h d : ℝ) : EReal)) (hv : ∀ b i h d, va m c (ix4 b i h d) = v b i h d)
    (t : Fin grid0.N) (g : Fin 4) (d : Fin 64) (i : Fin 512) (w : Fin 256) (hw : w.val = 64 * g.val + d.val) :
    (Run.outsAt0 m c t : S1x512x256.Idx → EReal) (ix3 0 i w) = att q k v (pb t) (ph t) g (key (pi t) i) d := by
  obtain ⟨a0, a1, a2, a3, h0, h1, h2, h3, e⟩ := body_value c (grid0.coords t) (Run.ms0_0 t) (Run.hs0_0 t) (Run.ms0_1 t) (Run.hs0_1 t)
    (Run.ms0_2 t) (Run.hs0_2 t) (Run.ms0_3 t) (Run.hs0_3 t) Run.scM0_0 (Memref.isWhole_whole _) Run.scM0_1 (Memref.isWhole_whole _)
    (Run.iblk m c 0 t) (Run.iblk m c 1 t) (Run.iblk m c 2 t) (K := ptK k t) (Q := fun g d c => ptQ q t g d c * scale) (V := ptV m c t)
    (by
      intro n r d
      rw [(Run.hs0_1 t).read_unread]
      refine (blk1 m c t n r d).trans ?_
      rw [hk, ptK, dif_pos n.isLt])
    (by
      intro n i r
      rw [(Run.hs0_2 t).read_unread]
      refine (blk2 m c t n i r).trans ?_
      rw [ptV, dif_pos n.isLt])
    (by
      intro g
      have hx : ∀ g d i, (Run.iblk m c 0 t : S1x4x64x512.Idx → EReal) (ix4 0 g d i) = ((ptQ q t g d i : ℝ) : EReal) := fun g d i => by
        rw [blk0, hq, ptQ]
      match g with
      | 0 => exact scaled_read (Run.hs0_0 t) _ 0 (hx 0) rfl _
      | 1 => exact scaled_read (Run.hs0_0 t) _ 1 (hx 1) rfl _
      | 2 => exact scaled_read (Run.hs0_0 t) _ 2 (hx 2) rfl _
      | 3 => exact scaled_read (Run.hs0_0 t) _ 3 (hx 3) rfl _)
  have ho : Run.outsAt0 m c t = block a0 a1 a2 a3 := by
    rw [Run.outsAt0, Run.out0_A_3, View.read_writes_junk_eq_canon, e, View.canon_cons_unit_lit _ _ _ (by decide)]
  have ha : ∀ g, AC (score (ptK k t) (fun d c => ptQ q t g d c * scale)) (ptV m c t) 16 ((![a0, a1, a2, a3] : Fin 4 → FVec Ideal S80x512 .f32) g) := fun g => by
    match g with
    | 0 => exact h0
    | 1 => exact h1
    | 2 => exact h2
    | 3 => exact h3
  rw [ho]
  refine (block_apply ![a0, a1, a2, a3] g d i w hw).trans ?_
  rw [normal_apply, ha g, ha g]
  exact softmax (x := fun j => logit q k (pb t) (ph t) g (key (pi t) i) j) (fun n r => score_eq t g n r i) (fun j => v (pb t) j (ph t) d) _ _
    (fun n r => by rw [ptV, dif_pos n.isLt]; exact (v_entry m c _ _ n d r).trans (hv _ _ _ _))
    (fun n r => by rw [ptV, dif_pos n.isLt]; exact one_entry m c _ _ n r)

end Cert.KernelIdeal.Attn
-- ==== Proof.Attn.Array.lean ====
module

public import proofs.«01_k».proof.Proof.Attn.Point

/-!
# The kernel's result array
-/

@[expose] public section

noncomputable section

namespace Cert.KernelIdeal.Attn

open Cert.KernelIdeal Cert.KernelIdeal.Gen Cert.Attn
open Idealize.ShloMosaic Idealize.ShloMosaic.TcCoe Idealize.ShloMosaic.Tactic

variable (m : (ℓ : Loc nD τ sig) → Buf (Elt Ideal) ℓ) (c : Dev nD)

variable {q : Fin 8 → Fin 8192 → Fin 16 → Fin 64 → ℝ} {k : Fin 8 → Fin 8192 → Fin 4 → Fin 64 → ℝ}
  {v : Fin 8 → Fin 8192 → Fin 4 → Fin 64 → EReal}

/-- Real queries and keys: the kernel's result array is the attention, entry by entry. -/
theorem array (hq : ∀ b i h d, qa m c (ix4 b i h d) = ((q b i h d : ℝ) : EReal))
    (hk : ∀ b i h d, ka m c (ix4 b i h d) = ((k b i h d : ℝ) : EReal)) (hv : ∀ b i h d, va m c (ix4 b i h d) = v b i h d) :
    (Run.dats m 0 c).arrAt 3 cfg0.N = fun y : S8x8192x1024.Idx => attAt q k v (y 0) (y 1) (y 2) := by
  refine (Run.dats m 0 c).arrAt_eq_of_covers 3 _ (by decide +kernel) fun t hf y => ?_
  blk_simp
  have hi := index3 t
  have e0 : ((win0_3.blk t).view.emb y 0 : Fin 8) = pb t := Fin.ext (by
    have h0 : (y 0).val < 1 := (y 0).isLt
    blk_simp [hi])
  have e1 : ((win0_3.blk t).view.emb y 1 : Fin 8192) = key (pi t) (y 1) := Fin.ext (by
    blk_simp [hi]
    show _ = 512 * (pi t).val + (y 1).val
    omega)
  have e2 : ((win0_3.blk t).view.emb y 2 : Fin 1024).val = 256 * (ph t).val + (y 2).val := by
    blk_simp [hi]
    omega
  rw [e0, e1, Run.after0_3]
  have h0 : (y 0).val < 1 := (y 0).isLt
  have h2 : (y 2).val < 256 := (y 2).isLt
  have ey : y = (ix3 (0 : Fin 1) (y 1 : Fin 512) (y 2 : Fin 256) : S1x512x256.Idx) := funext fun a => Fin.ext (by
    match a with
    | ⟨0, _⟩ => exact Nat.lt_one_iff.mp h0
    | ⟨1, _⟩ => rfl
    | ⟨2, _⟩ => rfl)
  refine (congrArg (Run.outsAt0 m c t) ey).trans ?_
  refine (out_apply m c hq hk hv t ⟨(y 2).val / 64, by omega⟩ ⟨(y 2).val % 64, by omega⟩ (y 1) (y 2)
    (by show (y 2).val = 64 * ((y 2).val / 64) + (y 2).val % 64; omega)).trans ?_
  refine (attAt_eq q k v _ _ _ _ _ _ ?_).symm
  rw [e2]
  show 256 * (ph t).val + (y 2).val = 256 * (ph t).val + 64 * ((y 2).val / 64) + (y 2).val % 64
  omega

end Cert.KernelIdeal.Attn
-- ==== Proof.Attn.Reference.lean ====
module

public import proofs.«01_k».proof.Proof.Gen.ReferenceIdeal.Run
public import proofs.«01_k».proof.Proof.Attn.Target
public import proofs.«01_k».proof.Proof.Attn.Ops
public import Idealize.ShloMosaic.Lib.Pointwise
public import Idealize.ShloMosaic.Lib.IdealHost

/-!
# The reference's result, entry by entry
-/

@[expose] public section

noncomputable section

namespace Cert.ReferenceIdeal.Attn

open Cert.ReferenceIdeal Cert.ReferenceIdeal.Gen Cert.Attn
open Idealize.ShloMosaic Idealize.ShloMosaic.TcCoe Idealize.ShloMosaic.Tactic

variable (q : FVec Ideal S8x8192x16x64 .f32) (k v : FVec Ideal S8x8192x4x64 .f32)

/-- The logits, -/
abbrev logits : FVec Ideal S8x4x4x8192x8192 .f32 :=
  mulf (transpose S8x4x4x8192x8192 [0, 1, 4, 3, 2] (Host.dotGeneral dot_S8x8192x4x64_S8x8192x4x4x64_S8x4x8192x8192x4_3_4_1_13_02_02 none k
    (shapeCast S8x8192x4x4x64 q shapeCasts_S8x8192x16x64_S8x8192x4x4x64)) transposes_S8x4x8192x8192x4_S8x4x4x8192x8192_0_1_4_3_2)
    (broadcastInDim S8x4x4x8192x8192 ![] bcast_S_S8x4x4x8192x8192 (constant S_ .f32 0x3E000000#32))

/-- their maxima over the keys, -/
abbrev maxima (s : FVec Ideal S8x4x4x8192x8192 .f32) : FVec Ideal S8x4x4x8192 .f32 :=
  maximumf (broadcastInDim S8x4x4x8192 ![] bcast_S_S8x4x4x8192 (constant S_ .f32 0xFF800000#32))
    (Host.reduce FloatOps.maximumf s (constant S_ .f32 0xFF800000#32) reducesTo_S8x4x4x8192x8192_S8x4x4x8192_d4 h_S_)

/-- a row's number at every key, -/
abbrev spread (x : FVec Ideal S8x4x4x8192 .f32) : FVec Ideal S8x4x4x8192x8192 .f32 :=
  broadcastInDim S8x4x4x8192x8192 ![0, 1, 2, 3, 4] bcast_S8x4x4x8192x1_S8x4x4x8192x8192_0_1_2_3_4
    (broadcastInDim S8x4x4x8192x1 ![0, 1, 2, 3] bcast_S8x4x4x8192_S8x4x4x8192x1_0_1_2_3 x)

/-- the exponentials, -/
abbrev exps (s : FVec Ideal S8x4x4x8192x8192 .f32) : FVec Ideal S8x4x4x8192x8192 .f32 := Host.exp (subf s (spread (maxima s)))

/-- the weights, -/
abbrev weights (s : FVec Ideal S8x4x4x8192x8192 .f32) : FVec Ideal S8x4x4x8192x8192 .f32 :=
  Host.divf (exps s) (spread (Host.reduceAdd (exps s) (constant S_ .f32 0x00000000#32) reducesTo_S8x4x4x8192x8192_S8x4x4x8192_d4 h_S_))

/-- and the result. -/
abbrev result (p : FVec Ideal S8x4x4x8192x8192 .f32) : FVec Ideal S8x8192x1024 .bf16 :=
  truncf .bf16 (shapeCast S8x8192x1024 (transpose S8x8192x4x4x64 [0, 4, 1, 3, 2]
    (Host.dotGeneral dot_S8x8192x4x64_S8x4x4x8192x8192_S8x4x64x4x8192_1_4_3_23_02_01 none v p)
    transposes_S8x4x64x4x8192_S8x8192x4x4x64_0_4_1_3_2) shapeCasts_S8x8192x4x4x64_S8x8192x1024) bitsLt_bf16_f32

/-- The scale's word is an eighth. -/
theorem word_eighth : Ideal.ofBits .f32 0x3E000000#32 = ((8⁻¹ : ℝ) : EReal) := by
  simp [Ideal.ofBits, Ideal.ieee]
  rw [← EReal.coe_mul]
  norm_num

section
variable {n0 n1 n2 n3 n4 : ℕ} (s : FVec Ideal ⟨5, ![n0, n1, n2, n3, n4]⟩ .f32)
  (hr : (⟨5, ![n0, n1, n2, n3, n4]⟩ : Shape).ReducesTo [4] ⟨4, ![n0, n1, n2, n3]⟩) (hz : 0 < S_.numel)
  (b : Fin n0) (h : Fin n1) (g : Fin n2) (i : Fin n3)

/-- A maximum over the last axis, from a constant. -/
theorem reduce_max (w : BitVec 32) : Host.reduce FloatOps.maximumf s (constant (F := Ideal) S_ .f32 w) hr hz (ix4 b h g i)
    = (Finset.univ : Finset (Fin n4)).fold max (Ideal.ofBits .f32 w) (fun j => (s (ix5 b h g i j) : EReal)) := by
  simp only [pointwise]

/-- A number at every row: -/
theorem splat_apply {t : Shape} (w : BitVec 32) (hb) (j : t.Idx) :
    broadcastInDim t ![] hb (constant (F := Ideal) S_ .f32 w) j = Ideal.ofBits .f32 w := rfl

/-- A row's number, read at a key. -/
theorem spread_apply (x : FVec Ideal ⟨4, ![n0, n1, n2, n3]⟩ .f32) (h1) (h2) (j : Fin n4) :
    broadcastInDim ⟨5, ![n0, n1, n2, n3, n4]⟩ ![0, 1, 2, 3, 4] h1 (broadcastInDim ⟨5, ![n0, n1, n2, n3, 1]⟩ ![0, 1, 2, 3] h2 x)
      (ix5 b h g i j) = x (ix4 b h g i) := by
  rw [broadcastInDim_apply _ _ _ _ (ix5 b h g i (0 : Fin 1)) fun a => ?_, broadcastInDim_apply _ _ _ _ (ix4 b h g i) fun a => ?_]
  · have := b.isLt; have := h.isLt; have := g.isLt; have := i.isLt
    match a with
    | ⟨0, _⟩ => show b.val = if n0 = 1 then 0 else b.val; split <;> omega
    | ⟨1, _⟩ => show h.val = if n1 = 1 then 0 else h.val; split <;> omega
    | ⟨2, _⟩ => show g.val = if n2 = 1 then 0 else g.val; split <;> omega
    | ⟨3, _⟩ => show i.val = if n3 = 1 then 0 else i.val; split <;> omega
  · have := b.isLt; have := h.isLt; have := g.isLt; have := i.isLt
    match a with
    | ⟨0, _⟩ => show b.val = if n0 = 1 then 0 else b.val; split <;> omega
    | ⟨1, _⟩ => show h.val = if n1 = 1 then 0 else h.val; split <;> omega
    | ⟨2, _⟩ => show g.val = if n2 = 1 then 0 else g.val; split <;> omega
    | ⟨3, _⟩ => show i.val = if n3 = 1 then 0 else i.val; split <;> omega
    | ⟨4, _⟩ => rfl

/-- A sum over the last axis, from a constant. -/
theorem reduce_add (w : BitVec 32) : Host.reduceAdd s (constant (F := Ideal) S_ .f32 w) hr hz (ix4 b h g i)
    = Ideal.ofBits .f32 w + ∑ j : Fin n4, (s (ix5 b h g i j) : EReal) := by
  simp only [pointwise]

end

/-- A logit is a sum of products, scaled; -/
theorem logits_raw (b : Fin 8) (h g : Fin 4) (i j : Fin 8192) :
    logits q k (ix5 b h g i j) = (∑ d : Fin 64, (k (ix4 b j h d) : EReal) * (q (ix4 b i (head h g) d) : EReal)) * ((8⁻¹ : ℝ) : EReal) := by
  have e : logits q k (ix5 b h g i j) = (transpose S8x4x4x8192x8192 [0, 1, 4, 3, 2] (Host.dotGeneral dot_S8x8192x4x64_S8x8192x4x4x64_S8x4x8192x8192x4_3_4_1_13_02_02 none k
    (shapeCast S8x8192x4x4x64 q shapeCasts_S8x8192x16x64_S8x8192x4x4x64)) transposes_S8x4x8192x8192x4_S8x4x4x8192x8192_0_1_4_3_2 (ix5 b h g i j) : EReal)
      * Ideal.ofBits .f32 0x3E000000#32 := rfl
  rw [e, word_eighth]
  congr 1
  simp only [pointwise]
  rw [zero_add]
  refine Finset.sum_congr rfl fun d _ => ?_
  have hh : ∀ hlt, (⟨h.val * 4 + g.val, hlt⟩ : Fin 16) = head h g := fun _ => Fin.ext (by show h.val * 4 + g.val = 4 * h.val + g.val; omega)
  rw [hh]

/-- an entry of the result is a sum over the keys; -/
theorem result_raw (p : FVec Ideal S8x4x4x8192x8192 .f32) (b : Fin 8) (i : Fin 8192) (h g : Fin 4) (d : Fin 64) (w : Fin 1024)
    (hw : w.val = 256 * h.val + 64 * g.val + d.val) :
    result v p (ix3 b i w) = (∑ j : Fin 8192, (v (ix4 b j h d) : EReal) * (p (ix5 b h g i j) : EReal)) := by
  have et : ∀ (x : FVec Ideal S8x8192x1024 .f32) (j : S8x8192x1024.Idx), truncf FTy.bf16 x bitsLt_bf16_f32 j = x j := fun _ _ => rfl
  dsimp only [result]
  rw [et, shapeCast_apply _ _ (ix3 b i w) (ix5 b i h g d) (by
    rw [Shape.rowMajor_val_three, Shape.rowMajor_val_five]
    show (((b.val * 8192 + i.val) * 4 + h.val) * 4 + g.val) * 64 + d.val = (b.val * 8192 + i.val) * 1024 + w.val
    omega)]
  simp only [pointwise]
  rw [zero_add]

/-- The word maxima start at is `-∞`. -/
theorem word_bot : Ideal.ofBits .f32 0xFF800000#32 = ⊥ := by simp [Ideal.ofBits, Ideal.ieee]

/-- a maximum is over the keys; -/
theorem maxima_raw (s : FVec Ideal S8x4x4x8192x8192 .f32) (b : Fin 8) (h g : Fin 4) (i : Fin 8192) :
    maxima s (ix4 b h g i) = Finset.univ.sup fun j : Fin 8192 => (s (ix5 b h g i j) : EReal) := by
  have em : ∀ (x y : FVec Ideal S8x4x4x8192 .f32) (j : S8x4x4x8192.Idx), maximumf x y j = max (x j : EReal) (y j) := fun _ _ _ => rfl
  dsimp only [maxima]
  rw [em, splat_apply, reduce_max, word_bot, max_eq_right bot_le]
  rfl

/-- an exponential is of the logit less the maximum; -/
theorem exps_raw (s : FVec Ideal S8x4x4x8192x8192 .f32) (b : Fin 8) (h g : Fin 4) (i j : Fin 8192) :
    exps s (ix5 b h g i j) = Ideal.exp ((s (ix5 b h g i j) : EReal) - Finset.univ.sup fun j : Fin 8192 => (s (ix5 b h g i j) : EReal)) := by
  have ee : ∀ (x y : FVec Ideal S8x4x4x8192x8192 .f32) (j : S8x4x4x8192x8192.Idx), Host.exp (subf x y) j = Ideal.exp ((x j : EReal) - y j) :=
    fun _ _ _ => rfl
  rw [← maxima_raw]
  dsimp only [exps, spread]
  rw [ee, spread_apply]

/-- and a weight is an exponential over the sum of them. -/
theorem weights_raw (s : FVec Ideal S8x4x4x8192x8192 .f32) (b : Fin 8) (h g : Fin 4) (i j : Fin 8192) :
    weights s (ix5 b h g i j) = Ideal.div (exps s (ix5 b h g i j)) (∑ j : Fin 8192, (exps s (ix5 b h g i j) : EReal)) := by
  have ed : ∀ (x y : FVec Ideal S8x4x4x8192x8192 .f32) (j : S8x4x4x8192x8192.Idx), Host.divf x y j = Ideal.div (x j) (y j) := fun _ _ _ => rfl
  dsimp only [weights, spread]
  rw [ed, spread_apply, reduce_add, Ideal.ofBits_zero_f32, zero_add]

/-- The reference's result is the attention of its arguments. -/
theorem result_apply {q' : Fin 8 → Fin 8192 → Fin 16 → Fin 64 → ℝ} {k' : Fin 8 → Fin 8192 → Fin 4 → Fin 64 → ℝ}
    {v' : Fin 8 → Fin 8192 → Fin 4 → Fin 64 → EReal} (hq : ∀ b i h d, q (ix4 b i h d) = ((q' b i h d : ℝ) : EReal))
    (hk : ∀ b i h d, k (ix4 b i h d) = ((k' b i h d : ℝ) : EReal)) (hv : ∀ b i h d, v (ix4 b i h d) = v' b i h d)
    (b : Fin 8) (i : Fin 8192) (w : Fin 1024) :
    result v (weights (logits q k)) (ix3 b i w) = attAt q' k' v' b i w := by
  have hl : ∀ h g j, logits q k (ix5 b h g i j) = ((logit q' k' b h g i j : ℝ) : EReal) := fun h g j => by
    rw [logits_raw, logit, EReal.coe_mul]
    congr 1
    refine Eq.trans ?_ (map_sum (⟨⟨Real.toEReal, rfl⟩, EReal.coe_add⟩ : ℝ →+ EReal) _ _).symm
    refine Finset.sum_congr rfl fun d _ => ?_
    rw [hq, hk]
    exact (EReal.coe_mul _ _).symm
  rw [result_raw v _ b i ⟨w.val / 256, by omega⟩ ⟨w.val / 64 % 4, by omega⟩ ⟨w.val % 64, by omega⟩ w
    (by show w.val = 256 * (w.val / 256) + 64 * (w.val / 64 % 4) + w.val % 64; omega), attAt, att]
  refine Finset.sum_congr rfl fun j _ => ?_
  rw [hv, weights_raw]
  simp only [exps_raw, hl]

end Cert.ReferenceIdeal.Attn
-- ==== Proof.Attn.Finite.lean ====
module

public import proofs.«01_k».proof.Pre_finite_qk
public import Idealize.ShloMosaic.Lib.ReduceAll
public import Idealize.ShloMosaic.Lib.Pointwise
public import Idealize.ShloMosaic.Lib.IdealHost
public import Idealize.ShloMosaic.Lib.Decide

/-!
# What the precondition gives

The predicate says that no query and no key is infinite: every entry of both arrays is then a real number.
-/

@[expose] public section

noncomputable section

namespace Cert.Pre_finite_qk

open Idealize.ShloMosaic

/-- The shape relations the predicate's operations take hold. -/
instance shapes : Facts where
  bcast_S_S8x8192x16x64 := by decide
  reducesTo_S8x8192x16x64_S_d0_1_2_3 := by decide
  h_S_ := by decide
  bcast_S_S8x8192x4x64 := by decide
  reducesTo_S8x8192x4x64_S_d0_1_2_3 := by decide

/-- The bound's word is infinity. -/
theorem word_top : Ideal.ofBits .f32 0x7F800000#32 = ⊤ := by
  simp [Ideal.ofBits, Ideal.ieee]

/-- An extended real whose absolute value is below infinity is a real. -/
theorem real_of_abs_lt {x : EReal} (h : max x (-x) < ⊤) : x = ((x.toReal : ℝ) : EReal) := by
  induction x with
  | bot => simp at h
  | top => simp at h
  | coe r => rfl

instance : Subsingleton S_.Idx := ⟨fun _ _ => funext fun a => a.elim0⟩

/-- An array all of whose entries compare below infinity in absolute value has real entries only. -/
theorem entries_real {s : Shape} {axes : List (Fin s.rank)} (x : FVec Ideal s .f32) (hb : S_.BroadcastsInDim s ![])
    (hr : s.ReducesTo axes S_) (h0 : 0 < S_.numel) (j : S_.Idx)
    (e : Host.reduce IntOp.andi (cmpf .olt (Host.absf x) (broadcastInDim s ![] hb (constant (F := Ideal) S_ .f32 0x7F800000#32)))
      (constantI S_ 1 1#1) hr h0 j = 1#1) (i : s.Idx) : x i = ((EReal.toReal (x i) : ℝ) : EReal) := by
  have h : Ideal.cmp .olt (max (x i) (-(x i))) (Ideal.ofBits .f32 0x7F800000#32) = 1 := Host.reduce_andi_all _ _ hr h0 j e i
  rw [word_top] at h
  exact real_of_abs_lt ((Ideal.cmp_olt_eq_one _ _).1 h)

/-- Where the predicate holds every query and every key is a real number. -/
theorem real {a0 : FVec Ideal S8x8192x16x64 .f32} {a1 a2 : FVec Ideal S8x8192x4x64 .f32}
    (h : fn (F := Ideal) a0 a1 a2 = fun _ => 1#1) :
    (∀ i, a0 i = ((EReal.toReal (a0 i) : ℝ) : EReal)) ∧ ∀ i, a1 i = ((EReal.toReal (a1 i) : ℝ) : EReal) := by
  have e := IntOp.andi_eq_one.1 (congrFun h fun a => a.elim0)
  exact ⟨entries_real a0 _ _ _ _ e.1, entries_real a1 _ _ _ _ e.2⟩

end Cert.Pre_finite_qk

end
-- ==== Proof.Last.Target.lean ====
module

public import Idealize.ShloMosaic.PureOps.Ideal

/-!
# The layer's last step on one row, on ideal values

A row of the residual, of both recurrent branches, of their gate and of the attention; two gains; and the weights.
-/

@[expose] public section

noncomputable section

namespace Cert.Last

open Idealize.ShloMosaic

/-- A row, and a square matrix. -/
abbrev Row := Fin 1024 → EReal
abbrev Mat := Fin 1024 → Fin 1024 → EReal

/-- The row over its root mean square, times a gain. -/
def norm (x g : Row) : Row := fun j =>
  x j * Ideal.rsqrt (Ideal.div (∑ k, x k * x k) (Ideal.ofBits .f32 0x44800000#32) + Ideal.ofBits .f32 0x358637BD#32) * g j

/-- A row times a matrix. -/
def dot (a : Row) (w : Mat) : Row := fun j => ∑ k, a k * w k j

/-- The recurrent branch: both directions' sum, gated, through its projection. -/
def recur (hf hb gate : Row) (wm : Mat) : Row := dot (fun k => (hf k + hb k) * gate k) wm

/-- The attention branch: gated by `z * logistic z`, through its projection. -/
def attend (att z : Row) (wa : Mat) : Row := dot (fun k => att k * (z k * Ideal.logistic (z k))) wa

/-- The branches, each weighed by a logistic gate. -/
def merge (gm ym ga ya : Row) : Row := fun j => Ideal.logistic (gm j) * ym j + Ideal.logistic (ga j) * ya j

/-- The whole step: merge the branches, project, add the residual, normalise. -/
def step (x hf hb gate att gpre gfin : Row) (wz wgm wga wm wa wo : Mat) : Row :=
  norm (fun j => x j + dot (merge (dot (norm x gpre) wgm) (recur hf hb gate wm) (dot (norm x gpre) wga)
    (attend att (dot (norm x gpre) wz) wa)) wo j) gfin

/-- Column `j` of the three blocks of columns of the wide matrix that the step uses. -/
def colZ (j : Fin 1024) : Fin 9744 := ⟨6672 + j.val, by omega⟩
def colM (j : Fin 1024) : Fin 9744 := ⟨7696 + j.val, by omega⟩
def colA (j : Fin 1024) : Fin 9744 := ⟨8720 + j.val, by omega⟩

/-- The batch entry and the token of a row of the result. -/
def batch (r : Fin 65536) : Fin 8 := ⟨r.val / 8192, by omega⟩
def token (r : Fin 65536) : Fin 8192 := ⟨r.val % 8192, by omega⟩

/-- Every row's step: the result at row `r` and column `j`. -/
def result (x hf hb gate att : Fin 8 → Fin 8192 → Row) (w : Fin 1024 → Fin 9744 → EReal) (gpre : Row) (wm wa wo : Mat)
    (gfin : Row) (r : Fin 65536) : Row :=
  step (x (batch r) (token r)) (hf (batch r) (token r)) (hb (batch r) (token r)) (gate (batch r) (token r))
    (att (batch r) (token r)) gpre gfin (fun k j => w k (colZ j)) (fun k j => w k (colM j)) (fun k j => w k (colA j)) wm wa wo

end Cert.Last

end
-- ==== Proof.Last.Ops.lean ====
module

public import proofs.«01_k».proof.Proof.Gen.FinalIdeal.Skeleton
public import proofs.«01_k».proof.Proof.Last.Target
public import Idealize.ShloMosaic.Lib.MatmulPlain
public import Idealize.ShloMosaic.Lib.ValueLayout
public import Idealize.ShloMosaic.Lib.Pointwise
public import Idealize.ShloMosaic.Lib.IdealHost

/-!
# The kernel body's values, row by row
-/

@[expose] public section

noncomputable section

namespace Cert.FinalIdeal.Last

open Cert.FinalIdeal Cert.FinalIdeal.Gen Cert.Last
open Idealize.ShloMosaic Idealize.ShloMosaic.TcCoe

/-- Row `r` of a block. -/
abbrev row {φ : FTy} (x : FVec Ideal S256x1024 φ) (r : Fin 256) : Row := fun j => x (ix2 r j)
/-- The row of a block of one row. -/
abbrev one (g : FVec Ideal S1x1024 .f32) : Row := fun j => g (ix2 0 j)
/-- A matrix's entries. -/
abbrev mat (w : FVec Ideal S1024x1024 .bf16) : Mat := fun k j => w (ix2 k j)

/-- A block's product with a matrix. -/
theorem dot_apply (a : FVec Ideal S256x1024 .bf16) (b : FVec Ideal S1024x1024 .bf16) (r : Fin 256) (j : Fin 1024) :
    matmul dot_S256x1024_S1024x1024_S256x1024_1_0_0_1_n_n none a b (constant S256x1024 .f32 0#32) (ix2 r j)
      = dot (row a r) (mat b) j := by
  refine (Ideal.matmul_plain_apply none a b (constant S256x1024 .f32 0#32) r j).trans ?_
  rw [constant_apply, show (FloatOps.ofBits (F := Ideal) .f32 0#32 : EReal) = 0 from Ideal.ofBits_zero_f32, zero_add]; rfl

section
variable {n w : ℕ}

/-- The sum of a row, kept as a column's entry. -/
theorem mean_apply (v : FVec Ideal ⟨2, ![n, w]⟩ .f32) (hr : (⟨2, ![n, w]⟩ : Shape).Reduces [1] ⟨1, ![n]⟩)
    (hφ : FKind.Formats .f32) (hn : (0#32 : BitVec 32) = FKind.add.neutral .f32 hφ)
    (hs : (⟨1, ![n]⟩ : Shape).ShapeCasts ⟨2, ![n, 1]⟩) (r : Fin n) :
    shapeCast ⟨2, ![n, 1]⟩ (multiReduction FKind.add [1] ⟨1, ![n]⟩ v 0#32 hr hφ hn) hs (ix2 r 0)
      = ∑ k : Fin w, (v (ix2 r k) : EReal) := by
  rw [shapeCast_apply _ hs (ix2 r 0) (ix1 r) (by rw [Shape.rowMajor_val_one, Shape.rowMajor_val_two]; show r.val = r.val * 1 + 0; omega)]
  simp only [pointwise]

/-- A column laid along every row. -/
theorem col_apply (v : FVec Ideal ⟨2, ![n, 1]⟩ .f32) (h : (⟨2, ![n, 1]⟩ : Shape).Broadcasts ⟨2, ![n, w]⟩) (r : Fin n) (j : Fin w) :
    broadcastTo ⟨2, ![n, w]⟩ v h (ix2 r j) = v (ix2 r 0) := by
  refine broadcastTo_apply v h (ix2 r j) (ix2 r 0) fun a => ?_
  have := r.isLt
  match a with
  | ⟨0, _⟩ => show r.val = if n = 1 then 0 else r.val; split <;> omega
  | ⟨1, _⟩ => rfl

/-- A row laid along every column. -/
theorem row_apply (v : FVec Ideal ⟨2, ![1, w]⟩ .f32) (h : (⟨2, ![1, w]⟩ : Shape).Broadcasts ⟨2, ![n, w]⟩) (r : Fin n) (j : Fin w) :
    broadcastTo ⟨2, ![n, w]⟩ v h (ix2 r j) = v (ix2 0 j) := by
  refine broadcastTo_apply v h (ix2 r j) (ix2 0 j) fun a => ?_
  have := j.isLt
  match a with
  | ⟨0, _⟩ => rfl
  | ⟨1, _⟩ => show j.val = if w = 1 then 0 else j.val; split <;> omega

end

/-- A block's rows normalised, as the body writes it. -/
abbrev normed (x : FVec Ideal S256x1024 .f32) (g : FVec Ideal S1x1024 .f32) : FVec Ideal S256x1024 .f32 :=
  mulf (mulf x (broadcastTo S256x1024 (rsqrt (addf (divf (shapeCast S256x1 (multiReduction .add [1] S256 (mulf x x) 0x00000000#32
    reduces_S256x1024_S256 (.inl rfl) rfl) shapeCasts_S256_S256x1) (broadcast S256x1 (Scalar.ofBits (F := Ideal) .f32 0x44800000#32)))
    (broadcast S256x1 (Scalar.ofBits (F := Ideal) .f32 0x358637BD#32)))) broadcasts_S256x1_S256x1024))
    (broadcastTo S256x1024 g broadcasts_S1x1024_S256x1024)

/-- It is `norm` of every row. -/
theorem normed_apply (x : FVec Ideal S256x1024 .f32) (g : FVec Ideal S1x1024 .f32) (r : Fin 256) (j : Fin 1024) :
    normed x g (ix2 r j) = norm (row x r) (one g) j := by
  have e : normed x g (ix2 r j) = (x (ix2 r j) * broadcastTo S256x1024 (rsqrt (addf (divf (shapeCast S256x1 (multiReduction .add [1] S256 (mulf x x) 0x00000000#32
    reduces_S256x1024_S256 (.inl rfl) rfl) shapeCasts_S256_S256x1) (broadcast S256x1 (Scalar.ofBits (F := Ideal) .f32 0x44800000#32)))
    (broadcast S256x1 (Scalar.ofBits (F := Ideal) .f32 0x358637BD#32)))) broadcasts_S256x1_S256x1024 (ix2 r j)
    * broadcastTo S256x1024 g broadcasts_S1x1024_S256x1024 (ix2 r j) : EReal) := rfl
  rw [e, col_apply, row_apply]
  have e2 : ∀ (s : FVec Ideal S256x1 .f32), rsqrt (addf (divf s (broadcast S256x1 (Scalar.ofBits (F := Ideal) .f32 0x44800000#32)))
    (broadcast S256x1 (Scalar.ofBits (F := Ideal) .f32 0x358637BD#32))) (ix2 r 0)
      = Ideal.rsqrt (Ideal.div (s (ix2 r 0)) (Ideal.ofBits .f32 0x44800000#32) + Ideal.ofBits .f32 0x358637BD#32) := fun _ => rfl
  rw [e2]
  exact congrArg (fun s : EReal => (x (ix2 r j) * Ideal.rsqrt (Ideal.div s (Ideal.ofBits .f32 0x44800000#32)
    + Ideal.ofBits .f32 0x358637BD#32) * g (ix2 0 j) : EReal)) (mean_apply (mulf x x) reduces_S256x1024_S256 (.inl rfl) rfl shapeCasts_S256_S256x1 r)

variable (x : FVec Ideal S256x1024 .f32) (g5 g6 : FVec Ideal S1x1024 .f32) (hf hb gate att : FVec Ideal S256x1024 .bf16)
  (wz wgm wga wm wa wo : FVec Ideal S1024x1024 .bf16)

/-- The normalised residual; -/
theorem pay3_row (r : Fin 256) : row (k0_pay3 x g5) r = norm (row x r) (one g5) := by
  have e : k0_pay3 x g5 = (truncf .bf16 (normed x g5) bitsLt_bf16_f32 : FVec Ideal S256x1024 .bf16) := by
    simp only [k0_pay3, k0_pay2, shapeCast_id]
  rw [e]
  exact funext fun j => normed_apply x g5 r j

/-- the gated sum of the directions; -/
theorem pay4_row (r : Fin 256) : row (k0_pay4 hf hb gate) r = fun k => (row hf r k + row hb r k) * row gate r k := by
  simp only [k0_pay4, shapeCast_id]
  rfl

/-- the gated attention; -/
theorem pay5_row (r : Fin 256) : row (k0_pay5 x g5 wz att) r
    = fun k => row att r k * (dot (norm (row x r) (one g5)) (mat wz) k * Ideal.logistic (dot (norm (row x r) (one g5)) (mat wz) k)) := by
  funext k
  simp only [k0_pay5, shapeCast_id]
  rw [← pay3_row, ← dot_apply (k0_pay3 x g5) wz r k]
  rfl

/-- and the step's result. -/
theorem pay1_row (r : Fin 256) :
    row (k0_pay1 (k0_pay2 x) (k0_pay3 x g5) (k0_pay4 hf hb gate) (k0_pay5 x g5 wz att) wm wa wgm wga wo g6) r
      = step (row x r) (row hf r) (row hb r) (row gate r) (row att r) (one g5) (one g6) (mat wz) (mat wgm) (mat wga)
          (mat wm) (mat wa) (mat wo) := by
  let mg : FVec Ideal S256x1024 .bf16 := truncf .bf16 (addf
    (mulf (logistic (matmul dot_S256x1024_S1024x1024_S256x1024_1_0_0_1_n_n none (k0_pay3 x g5) wgm (constant S256x1024 .f32 0x00000000#32)))
      (matmul dot_S256x1024_S1024x1024_S256x1024_1_0_0_1_n_n none (k0_pay4 hf hb gate) wm (constant S256x1024 .f32 0x00000000#32)))
    (mulf (logistic (matmul dot_S256x1024_S1024x1024_S256x1024_1_0_0_1_n_n none (k0_pay3 x g5) wga (constant S256x1024 .f32 0x00000000#32)))
      (matmul dot_S256x1024_S1024x1024_S256x1024_1_0_0_1_n_n none (k0_pay5 x g5 wz att) wa (constant S256x1024 .f32 0x00000000#32)))) bitsLt_bf16_f32
  let z : FVec Ideal S256x1024 .f32 := addf x (matmul dot_S256x1024_S1024x1024_S256x1024_1_0_0_1_n_n none mg wo (constant S256x1024 .f32 0x00000000#32))
  have e : k0_pay1 (k0_pay2 x) (k0_pay3 x g5) (k0_pay4 hf hb gate) (k0_pay5 x g5 wz att) wm wa wgm wga wo g6 = normed z g6 := by
    simp only [k0_pay1, k0_pay2, shapeCast_id]
    rfl
  have em : row mg r = merge (dot (norm (row x r) (one g5)) (mat wgm)) (recur (row hf r) (row hb r) (row gate r) (mat wm))
      (dot (norm (row x r) (one g5)) (mat wga)) (attend (row att r) (dot (norm (row x r) (one g5)) (mat wz)) (mat wa)) := by
    funext j
    have : row mg r j = (Ideal.logistic (matmul dot_S256x1024_S1024x1024_S256x1024_1_0_0_1_n_n none (k0_pay3 x g5) wgm (constant S256x1024 .f32 0x00000000#32) (ix2 r j))
        * matmul dot_S256x1024_S1024x1024_S256x1024_1_0_0_1_n_n none (k0_pay4 hf hb gate) wm (constant S256x1024 .f32 0x00000000#32) (ix2 r j)
      + Ideal.logistic (matmul dot_S256x1024_S1024x1024_S256x1024_1_0_0_1_n_n none (k0_pay3 x g5) wga (constant S256x1024 .f32 0x00000000#32) (ix2 r j))
        * matmul dot_S256x1024_S1024x1024_S256x1024_1_0_0_1_n_n none (k0_pay5 x g5 wz att) wa (constant S256x1024 .f32 0x00000000#32) (ix2 r j) : EReal) := rfl
    rw [this, dot_apply, dot_apply, dot_apply, dot_apply, pay3_row, pay4_row, pay5_row]
    rfl
  have ez : row z r = fun j => row x r j + dot (row mg r) (mat wo) j := by
    funext j
    rw [← dot_apply mg wo r j]
    rfl
  rw [e]
  refine (funext fun j => normed_apply z g6 r j).trans ?_
  rw [ez, em]
  rfl

end Cert.FinalIdeal.Last

end
-- ==== Proof.Last.Host.lean ====
module

public import proofs.«01_k».proof.Proof.Gen.FinalIdeal.Value
public import proofs.«01_k».proof.Proof.Last.Ops
public import Idealize.ShloMosaic.Lib.Claim
public import Idealize.ShloMosaic.Lib.Pipeline.ValueKit

/-!
# What the host operations hand to the last step's kernel, entry by entry
-/

@[expose] public section

noncomputable section

namespace Cert.FinalIdeal.Last

open Cert.FinalIdeal Cert.FinalIdeal.Gen Cert.Last
open Idealize.ShloMosaic Idealize.ShloMosaic.TcCoe Idealize.ShloMosaic.Tactic
open Idealize.ShloMosaic.StableHlo

variable (m : (ℓ : Loc nD τ sig) → Buf (Elt Ideal) ℓ) (c : Dev nD)

/-- The rows of the residual, of the two directions, of their gate and of the attention, as the program is given them; -/
def xs : Fin 8 → Fin 8192 → Row := fun b i j => (m ((c : Thread nD τ).loc main_arg0) : S8x8192x1024.Idx → EReal) (ix3 b i j)
def hfs : Fin 8 → Fin 8192 → Row := fun b i j => (m ((c : Thread nD τ).loc main_arg1) : S8x8192x1024.Idx → EReal) (ix3 b i j)
def hbs : Fin 8 → Fin 8192 → Row := fun b i j => (m ((c : Thread nD τ).loc main_arg2) : S8x8192x1024.Idx → EReal) (ix3 b i j)
def gates : Fin 8 → Fin 8192 → Row := fun b i j => (m ((c : Thread nD τ).loc main_arg3) : S8x8192x1024.Idx → EReal) (ix3 b i j)
def atts : Fin 8 → Fin 8192 → Row := fun b i j => (m ((c : Thread nD τ).loc main_arg4) : S8x8192x1024.Idx → EReal) (ix3 b i j)
/-- the wide matrix, the first gain, the three projections and the last gain. -/
def wide : Fin 1024 → Fin 9744 → EReal := fun k j => (m ((c : Thread nD τ).loc main_arg5) : S1024x9744.Idx → EReal) (ix2 k j)
def gpre : Row := fun j => (m ((c : Thread nD τ).loc main_arg6) : S1024.Idx → EReal) (ix1 j)
def wmem : Mat := fun k j => (m ((c : Thread nD τ).loc main_arg7) : S1024x1024.Idx → EReal) (ix2 k j)
def watt : Mat := fun k j => (m ((c : Thread nD τ).loc main_arg8) : S1024x1024.Idx → EReal) (ix2 k j)
def wout : Mat := fun k j => (m ((c : Thread nD τ).loc main_arg9) : S1024x1024.Idx → EReal) (ix2 k j)
def gfin : Row := fun j => (m ((c : Thread nD τ).loc main_arg10) : S1024.Idx → EReal) (ix1 j)

/-- A reshape of batch entries and tokens into rows: row `r` is token `r % 8192` of entry `r / 8192`. -/
theorem rows_apply {α : Type} (v : S8x8192x1024.Idx → α) (h : S8x8192x1024.ShapeCasts S65536x1024) (r : Fin 65536) (j : Fin 1024) :
    shapeCast S65536x1024 v h (ix2 r j) = v (ix3 (batch r) (token r) j) := by
  refine shapeCast_apply v h _ _ ?_
  rw [Shape.rowMajor_val_three, Shape.rowMajor_val_two]
  show (r.val / 8192 * 8192 + r.val % 8192) * 1024 + j.val = r.val * 1024 + j.val
  omega

/-- The residual's rows; -/
theorem host0 (r : Fin 65536) (j : Fin 1024) : (V m c main_v2 : S65536x1024.Idx → EReal) (ix2 r j) = xs m c (batch r) (token r) j := by
  have e : V m c main_v2 = shapeCast S65536x1024 (m ((c : Thread nD τ).loc main_arg0)) shapeCasts_S8x8192x1024_S65536x1024 := by
    unfold_abbrev_sides
    simp only [hostOps0]
    after_results
    rfl
  rw [e]; exact rows_apply _ _ r j

/-- the forward direction's; -/
theorem host1 (r : Fin 65536) (j : Fin 1024) : (V m c main_v3 : S65536x1024.Idx → EReal) (ix2 r j) = hfs m c (batch r) (token r) j := by
  have e : V m c main_v3 = shapeCast S65536x1024 (m ((c : Thread nD τ).loc main_arg1)) shapeCasts_S8x8192x1024_S65536x1024 := by
    unfold_abbrev_sides
    simp only [hostOps0]
    after_results
    rfl
  rw [e]; exact rows_apply _ _ r j

/-- the backward direction's; -/
theorem host2 (r : Fin 65536) (j : Fin 1024) : (V m c main_v4 : S65536x1024.Idx → EReal) (ix2 r j) = hbs m c (batch r) (token r) j := by
  have e : V m c main_v4 = shapeCast S65536x1024 (m ((c : Thread nD τ).loc main_arg2)) shapeCasts_S8x8192x1024_S65536x1024 := by
    unfold_abbrev_sides
    simp only [hostOps0]
    after_results
    rfl
  rw [e]; exact rows_apply _ _ r j

/-- the gate's; -/
theorem host3 (r : Fin 65536) (j : Fin 1024) : (V m c main_v5 : S65536x1024.Idx → EReal) (ix2 r j) = gates m c (batch r) (token r) j := by
  have e : V m c main_v5 = shapeCast S65536x1024 (m ((c : Thread nD τ).loc main_arg3)) shapeCasts_S8x8192x1024_S65536x1024 := by
    unfold_abbrev_sides
    simp only [hostOps0]
    after_results
    rfl
  rw [e]; exact rows_apply _ _ r j

/-- the attention's; -/
theorem host4 (r : Fin 65536) (j : Fin 1024) : (V m c main_v6 : S65536x1024.Idx → EReal) (ix2 r j) = atts m c (batch r) (token r) j := by
  have e : V m c main_v6 = shapeCast S65536x1024 (m ((c : Thread nD τ).loc main_arg4)) shapeCasts_S8x8192x1024_S65536x1024 := by
    unfold_abbrev_sides
    simp only [hostOps0]
    after_results
    rfl
  rw [e]; exact rows_apply _ _ r j

/-- A row made a matrix of one row. -/
theorem gain_apply {α : Type} (v : S1024.Idx → α) (h : S1024.ShapeCasts S1x1024) (j : Fin 1024) :
    shapeCast S1x1024 v h (ix2 0 j) = v (ix1 j) := by
  refine shapeCast_apply v h _ _ ?_
  rw [Shape.rowMajor_val_one, Shape.rowMajor_val_two]
  show j.val = 0 * 1024 + j.val
  omega

/-- The first gain, -/
theorem host5 (j : Fin 1024) : (V m c main_v7 : S1x1024.Idx → EReal) (ix2 0 j) = gpre m c j := by
  have e : V m c main_v7 = shapeCast S1x1024 (m ((c : Thread nD τ).loc main_arg6)) shapeCasts_S1024_S1x1024 := by
    unfold_abbrev_sides
    simp only [hostOps0]
    after_results
    rfl
  rw [e]; exact gain_apply _ _ j

/-- and the last. -/
theorem host6 (j : Fin 1024) : (V m c main_v8 : S1x1024.Idx → EReal) (ix2 0 j) = gfin m c j := by
  have e : V m c main_v8 = shapeCast S1x1024 (m ((c : Thread nD τ).loc main_arg10)) shapeCasts_S1024_S1x1024 := by
    unfold_abbrev_sides
    simp only [hostOps0]
    after_results
    rfl
  rw [e]; exact gain_apply _ _ j

/-- The last 3072 columns of the wide matrix; -/
theorem host7 (k : Fin 1024) (j : Fin 3072) :
    (V m c main_v1 : S1024x3072.Idx → EReal) (ix2 k j) = wide m c k ⟨6672 + j.val, by omega⟩ := by
  have e : V m c main_v1 = (extractStridedSlice S1024x3072 ![0, 6672] (truncf .bf16 (m ((c : Thread nD τ).loc main_arg5)) bitsLt_bf16_f32)
      slices_S1024x9744_S1024x3072_0_6672 : FVec Ideal S1024x3072 .bf16) := by
    unfold_abbrev_sides
    simp only [hostOps0]
    after_results
  rw [e]
  exact extractStridedSlice_apply _ _ _ _ (ix2 k (⟨6672 + j.val, by omega⟩ : Fin 9744)) fun a => by
    match a with
    | ⟨0, _⟩ => exact (Nat.zero_add _).symm
    | ⟨1, _⟩ => rfl

/-- the recurrent branch's projection, -/
theorem host8 (k j : Fin 1024) : (V m c main_v9 : S1024x1024.Idx → EReal) (ix2 k j) = wmem m c k j := by
  have e : V m c main_v9 = (truncf .bf16 (m ((c : Thread nD τ).loc main_arg7)) bitsLt_bf16_f32 : FVec Ideal S1024x1024 .bf16) := by
    unfold_abbrev_sides
    simp only [hostOps0]
    after_results
  rw [e]; rfl

/-- the attention's, -/
theorem host9 (k j : Fin 1024) : (V m c main_v10 : S1024x1024.Idx → EReal) (ix2 k j) = watt m c k j := by
  have e : V m c main_v10 = (truncf .bf16 (m ((c : Thread nD τ).loc main_arg8)) bitsLt_bf16_f32 : FVec Ideal S1024x1024 .bf16) := by
    unfold_abbrev_sides
    simp only [hostOps0]
    after_results
  rw [e]; rfl

/-- and the merged branches'. -/
theorem host10 (k j : Fin 1024) : (V m c main_v11 : S1024x1024.Idx → EReal) (ix2 k j) = wout m c k j := by
  have e : V m c main_v11 = (truncf .bf16 (m ((c : Thread nD τ).loc main_arg9)) bitsLt_bf16_f32 : FVec Ideal S1024x1024 .bf16) := by
    unfold_abbrev_sides
    simp only [hostOps0]
    after_results
  rw [e]; rfl

end Cert.FinalIdeal.Last

end
-- ==== Proof.Last.Array.lean ====
module

public import proofs.«01_k».proof.Proof.Last.Host

/-!
# The last step's result array
-/

@[expose] public section

noncomputable section

namespace Cert.FinalIdeal.Last

open Cert.FinalIdeal Cert.FinalIdeal.Gen Cert.Last
open Idealize.ShloMosaic Idealize.ShloMosaic.TcCoe Idealize.ShloMosaic.Tactic

variable (m : (ℓ : Loc nD τ sig) → Buf (Elt Ideal) ℓ) (c : Dev nD)

/-- A point's block of rows, -/
def tile (t : Fin grid0.N) : Fin 256 := grid0.coords t 0

/-- and row `r` of it, among all rows. -/
def whole (t : Fin grid0.N) (r : Fin 256) : Fin 65536 := ⟨256 * (tile t).val + r.val, by have := (tile t).isLt; omega⟩

/-- A tile's number, as a 32-bit word, is itself. -/
theorem tile_val (t : Fin grid0.N) : (BitVec.ofNat 32 (tile t).val).toNat = (tile t).val := by
  rw [BitVec.toNat_ofNat, Nat.mod_eq_of_lt (by have := (tile t).isLt; omega)]

/-- The windows that move with the point are at the point's rows; -/
theorem moves (t : Fin grid0.N) : ∀ i ∈ [win0_0.index t, win0_1.index t, win0_2.index t, win0_3.index t, win0_4.index t, win0_11.index t],
    i = ![(tile t).val, 0] := by
  have h : (![(BitVec.ofNat 32 (tile t).val).toNat, 0] : Fin 2 → ℕ) = ![(tile t).val, 0] := by rw [tile_val]
  intro i hi
  simp only [List.mem_cons, List.not_mem_nil, or_false] at hi
  rcases hi with rfl | rfl | rfl | rfl | rfl | rfl <;> exact h

/-- the others stay. -/
theorem stays (t : Fin grid0.N) : ∀ i ∈ [win0_5.index t, win0_6.index t, win0_7.index t, win0_8.index t, win0_9.index t, win0_10.index t],
    i = ![0, 0] := by
  intro i hi
  simp only [List.mem_cons, List.not_mem_nil, or_false] at hi
  rcases hi with rfl | rfl | rfl | rfl | rfl | rfl <;> rfl

section blocks
variable (t : Fin grid0.N) (r : Fin 256) (k j : Fin 1024)

/-- The blocks' entries: the residual's, -/
theorem blk0 : (iblk m c 0 t : S256x1024.Idx → EReal) (ix2 r j) = xs m c (batch (whole t r)) (token (whole t r)) j := by
  rw [← host0]
  blk_ext [iblk, moves t (win0_0.index t) (by simp), whole]

/-- the forward direction's, -/
theorem blk1 : (iblk m c 1 t : S256x1024.Idx → EReal) (ix2 r j) = hfs m c (batch (whole t r)) (token (whole t r)) j := by
  rw [← host1]
  blk_ext [iblk, moves t (win0_1.index t) (by simp), whole]

/-- the backward direction's, -/
theorem blk2 : (iblk m c 2 t : S256x1024.Idx → EReal) (ix2 r j) = hbs m c (batch (whole t r)) (token (whole t r)) j := by
  rw [← host2]
  blk_ext [iblk, moves t (win0_2.index t) (by simp), whole]

/-- the gate's, -/
theorem blk3 : (iblk m c 3 t : S256x1024.Idx → EReal) (ix2 r j) = gates m c (batch (whole t r)) (token (whole t r)) j := by
  rw [← host3]
  blk_ext [iblk, moves t (win0_3.index t) (by simp), whole]

/-- the attention's; -/
theorem blk4 : (iblk m c 4 t : S256x1024.Idx → EReal) (ix2 r j) = atts m c (batch (whole t r)) (token (whole t r)) j := by
  rw [← host4]
  blk_ext [iblk, moves t (win0_4.index t) (by simp), whole]

/-- the first gain's, -/
theorem blk5 : (iblk m c 5 t : S1x1024.Idx → EReal) (ix2 0 j) = gpre m c j := by
  rw [← host5]
  blk_ext [iblk, stays t (win0_5.index t) (by simp)]

/-- the last gain's, -/
theorem blk6 : (iblk m c 6 t : S1x1024.Idx → EReal) (ix2 0 j) = gfin m c j := by
  rw [← host6]
  blk_ext [iblk, stays t (win0_6.index t) (by simp)]

/-- the wide matrix's columns, -/
theorem blk7 (j : Fin 3072) : (iblk m c 7 t : S1024x3072.Idx → EReal) (ix2 k j) = wide m c k ⟨6672 + j.val, by omega⟩ := by
  rw [← host7]
  blk_ext [iblk, stays t (win0_7.index t) (by simp)]

/-- the recurrent branch's projection's, -/
theorem blk8 : (iblk m c 8 t : S1024x1024.Idx → EReal) (ix2 k j) = wmem m c k j := by
  rw [← host8]
  blk_ext [iblk, stays t (win0_8.index t) (by simp)]

/-- the attention's projection's, -/
theorem blk9 : (iblk m c 9 t : S1024x1024.Idx → EReal) (ix2 k j) = watt m c k j := by
  rw [← host9]
  blk_ext [iblk, stays t (win0_9.index t) (by simp)]

/-- and the last projection's. -/
theorem blk10 : (iblk m c 10 t : S1024x1024.Idx → EReal) (ix2 k j) = wout m c k j := by
  rw [← host10]
  blk_ext [iblk, stays t (win0_10.index t) (by simp)]
end blocks

/-- Two zeros, however spelt. -/
theorem zeros : (![0, 0] : Fin 2 → ℕ) = fun _ => 0 := by
  funext a
  match a with
  | ⟨0, _⟩ => rfl
  | ⟨1, _⟩ => rfl

/-- A load of 1024 columns of the wide block, from column `o`. -/
theorem cols_apply (x : Vec Ideal S1024x3072 .bf16) (o : ℕ) (h : ∀ a, (![0, o] : Fin 2 → ℕ) a + S1024x1024.size a ≤ S1024x3072.size a)
    (k j : Fin 1024) (i : Fin 3072) (hi : i.val = o + j.val) :
    (View.ld x (Rect.unit (s := S1024x3072) ![0, o] S1024x1024.size h) : S1024x1024.Idx → EReal) (ix2 k j) = (x : S1024x3072.Idx → EReal) (ix2 k i) := by
  rw [View.ld_unit]
  exact extractStridedSlice_apply _ _ _ _ (ix2 k i) fun a => by
    match a with
    | ⟨0, _⟩ => exact (Nat.zero_add _).symm
    | ⟨1, _⟩ => exact hi

/-- What the body leaves in the result's block: the step of every row. -/
theorem out_apply (x0 : Vec Ideal S256x1024 .f32) (x1 x2 x3 x4 : Vec Ideal S256x1024 .bf16) (x5 x6 : Vec Ideal S1x1024 .f32)
    (x7 : Vec Ideal S1024x3072 .bf16) (x8 x9 x10 : Vec Ideal S1024x1024 .bf16) (r : Fin 256) (j : Fin 1024) :
    (out0_11 x0 x1 x2 x3 x4 x5 x6 x7 x8 x9 x10 : S256x1024.Idx → EReal) (ix2 r j)
      = step (row (φ := .f32) x0 r) (row (φ := .bf16) x1 r) (row (φ := .bf16) x2 r) (row (φ := .bf16) x3 r) (row (φ := .bf16) x4 r)
          (one x5) (one x6) (mat (View.ld x7 r0_2)) (mat (View.ld x7 r0_4)) (mat (View.ld x7 r0_5)) (mat x8) (mat x9) (mat x10) j := by
  unfold out0_11
  rw [View.canon_cons_unit_zero zeros, View.ld_unit_zero zeros, View.ld_unit_zero zeros, View.ld_unit_zero zeros,
    View.ld_unit_zero zeros, View.ld_unit_zero zeros, View.ld_unit_zero zeros, View.ld_unit_zero zeros, View.ld_unit_zero zeros,
    View.ld_unit_zero zeros, View.ld_unit_zero zeros]
  exact congrFun (pay1_row x0 x5 x6 x1 x2 x3 x4 (View.ld x7 r0_2) (View.ld x7 r0_4) (View.ld x7 r0_5) x8 x9 x10 r) j

/-- The kernel's result array is every row's step. -/
theorem array : (dats m 0 c).arrAt 11 cfg0.N = fun y : S65536x1024.Idx =>
    result (xs m c) (hfs m c) (hbs m c) (gates m c) (atts m c) (wide m c) (gpre m c) (wmem m c) (watt m c) (wout m c) (gfin m c)
      (y 0) (y 1) := by
  refine (dats m 0 c).arrAt_eq_of_covers 11 _ (by decide +kernel) fun t hf y => ?_
  blk_simp
  have hi := moves t (win0_11.index t) (by simp)
  have e0 : ((win0_11.blk t).view.emb y 0 : Fin 65536) = whole t (y 0) := Fin.ext (by
    blk_simp [hi]
    show _ = 256 * (tile t).val + (y 0).val
    omega)
  have e1 : ((win0_11.blk t).view.emb y 1 : Fin 1024) = y 1 := Fin.ext (by
    blk_simp [hi])
  rw [e0, e1, after0_11]
  have ey : y = (ix2 (y 0 : Fin 256) (y 1 : Fin 1024) : S256x1024.Idx) := funext fun a => Fin.ext (by
    match a with
    | ⟨0, _⟩ => rfl
    | ⟨1, _⟩ => rfl)
  refine (congrArg (out0_11 (F := Ideal) _ _ _ _ _ _ _ _ _ _ _) ey).trans ((out_apply _ _ _ _ _ _ _ _ _ _ _ _ _).trans ?_)
  rw [show row (φ := .f32) (iblk m c 0 t) (y 0) = _ from funext (blk0 m c t (y 0)), show row (φ := .bf16) (iblk m c 1 t) (y 0) = _ from funext (blk1 m c t (y 0)),
    show row (φ := .bf16) (iblk m c 2 t) (y 0) = _ from funext (blk2 m c t (y 0)), show row (φ := .bf16) (iblk m c 3 t) (y 0) = _ from funext (blk3 m c t (y 0)),
    show row (φ := .bf16) (iblk m c 4 t) (y 0) = _ from funext (blk4 m c t (y 0)), show one (iblk m c 5 t) = _ from funext (blk5 m c t),
    show one (iblk m c 6 t) = _ from funext (blk6 m c t),
    show mat (iblk m c 8 t) = _ from funext fun k => funext (blk8 m c t k), show mat (iblk m c 9 t) = _ from funext fun k => funext (blk9 m c t k),
    show mat (iblk m c 10 t) = _ from funext fun k => funext (blk10 m c t k),
    show mat (View.ld (iblk m c 7 t) r0_2) = fun k j => wide m c k (colZ j) from funext fun k => funext fun j =>
      (cols_apply (iblk m c 7 t) 0 _ k j ⟨j.val, by omega⟩ (Nat.zero_add _).symm).trans (blk7 m c t k _),
    show mat (View.ld (iblk m c 7 t) r0_4) = fun k j => wide m c k (colM j) from funext fun k => funext fun j =>
      (cols_apply (iblk m c 7 t) 1024 _ k j ⟨1024 + j.val, by omega⟩ rfl).trans ((blk7 m c t k _).trans
        (congrArg (wide m c k) (Fin.ext (by show 6672 + (1024 + j.val) = 7696 + j.val; omega)))),
    show mat (View.ld (iblk m c 7 t) r0_5) = fun k j => wide m c k (colA j) from funext fun k => funext fun j =>
      (cols_apply (iblk m c 7 t) 2048 _ k j ⟨2048 + j.val, by omega⟩ rfl).trans ((blk7 m c t k _).trans
        (congrArg (wide m c k) (Fin.ext (by show 6672 + (2048 + j.val) = 8720 + j.val; omega))))]
  rfl

end Cert.FinalIdeal.Last

end
-- ==== Proof.Last.Reference.lean ====
module

public import proofs.«01_k».proof.Proof.Gen.ReferenceFinalIdeal.Run
public import proofs.«01_k».proof.Proof.Last.Target
public import Idealize.ShloMosaic.Lib.Pointwise
public import Idealize.ShloMosaic.Lib.IdealHost

/-!
# The last step's reference, entry by entry
-/

@[expose] public section

noncomputable section

namespace Cert.ReferenceFinalIdeal.Last

open Cert.ReferenceFinalIdeal Cert.ReferenceFinalIdeal.Gen Cert.Last
open Idealize.ShloMosaic Idealize.ShloMosaic.TcCoe Idealize.ShloMosaic.Tactic

/-- All rows of 1024 numbers. -/
abbrev Rows := FVec Ideal S8x8192x1024 .f32

/-- Row `i` of batch entry `b`; a gain's row; a matrix's entries. -/
abbrev row {φ : FTy} (x : FVec Ideal S8x8192x1024 φ) (b : Fin 8) (i : Fin 8192) : Row := fun j => x (ix3 b i j)
abbrev one (g : FVec Ideal S1024 .f32) : Row := fun j => g (ix1 j)
abbrev mat (w : FVec Ideal S1024x1024 .f32) : Mat := fun k j => w (ix2 k j)

/-- Rows normalised, -/
abbrev normed (x : Rows) (g : FVec Ideal S1024 .f32) : Rows :=
  mulf (mulf x (broadcastInDim S8x8192x1024 ![0, 1, 2] bcast_S8x8192x1_S8x8192x1024_0_1_2 (Host.rsqrt (addf (Host.divf
    (broadcastInDim S8x8192x1 ![0, 1] bcast_S8x8192_S8x8192x1_0_1 (Host.reduceAdd (mulf x x) (constant S_ .f32 0x00000000#32)
      reducesTo_S8x8192x1024_S8x8192_d2 h_S_)) (broadcastInDim S8x8192x1 ![] bcast_S_S8x8192x1 (constant S_ .f32 0x44800000#32)))
    (broadcastInDim S8x8192x1 ![] bcast_S_S8x8192x1 (constant S_ .f32 0x358637BD#32))))))
    (broadcastInDim S8x8192x1024 ![0, 1, 2] bcast_S1x1x1024_S8x8192x1024_0_1_2 (broadcastInDim S1x1x1024 ![2] bcast_S1024_S1x1x1024_2 g))

/-- the logistic function of every entry, -/
abbrev sigmoid (x : Rows) : Rows :=
  Host.divf (broadcastInDim S8x8192x1024 ![] bcast_S_S8x8192x1024 (constant S_ .f32 0x3F800000#32))
    (addf (broadcastInDim S8x8192x1024 ![] bcast_S_S8x8192x1024 (constant S_ .f32 0x3F800000#32)) (Host.exp (Host.negf x)))

/-- rows times a square matrix, -/
abbrev times (x : Rows) (w : FVec Ideal S1024x1024 .f32) : Rows :=
  Host.dotGeneral dot_S8x8192x1024_S1024x1024_S8x8192x1024_2_0_01_1_n_n none x w

/-- rows times the wide matrix, -/
abbrev widely (x : Rows) (w : FVec Ideal S1024x9744 .f32) : FVec Ideal S8x8192x9744 .f32 :=
  Host.dotGeneral dot_S8x8192x1024_S1024x9744_S8x8192x9744_2_0_01_1_n_n none x w

/-- and the step. -/
abbrev merged (hf hb gate att : FVec Ideal S8x8192x1024 .bf16) (p : FVec Ideal S8x8192x9744 .f32) (wm wa : FVec Ideal S1024x1024 .f32) : Rows :=
  addf (mulf (sigmoid (extractStridedSlice S8x8192x1024 ![0, 0, 7696] p slices_S8x8192x9744_S8x8192x1024_0_0_7696))
      (times (mulf (addf (extf .f32 hf bitsLt_bf16_f32) (extf .f32 hb bitsLt_bf16_f32)) (extf .f32 gate bitsLt_bf16_f32)) wm))
    (mulf (sigmoid (extractStridedSlice S8x8192x1024 ![0, 0, 8720] p slices_S8x8192x9744_S8x8192x1024_0_0_8720))
      (times (mulf (extf .f32 att bitsLt_bf16_f32) (mulf (extractStridedSlice S8x8192x1024 ![0, 0, 6672] p slices_S8x8192x9744_S8x8192x1024_0_0_6672)
        (sigmoid (extractStridedSlice S8x8192x1024 ![0, 0, 6672] p slices_S8x8192x9744_S8x8192x1024_0_0_6672)))) wa))

section
variable {n0 n1 n2 : ℕ} (b : Fin n0) (i : Fin n1)

/-- A sum over the last axis, from zero. -/
theorem sum_apply (s : FVec Ideal ⟨3, ![n0, n1, n2]⟩ .f32)
    (hr : (⟨3, ![n0, n1, n2]⟩ : Shape).ReducesTo [2] ⟨2, ![n0, n1]⟩) (hz : 0 < S_.numel) :
    Host.reduceAdd s (constant (F := Ideal) S_ .f32 0#32) hr hz (ix2 b i) = ∑ j : Fin n2, (s (ix3 b i j) : EReal) := by
  simp only [pointwise]
  rw [zero_add]

/-- A row's number, given a last axis of one, -/
theorem unit_apply (x : FVec Ideal ⟨2, ![n0, n1]⟩ .f32) (h1) :
    broadcastInDim ⟨3, ![n0, n1, 1]⟩ ![0, 1] h1 x (ix3 b i 0) = x (ix2 b i) := by
  refine broadcastInDim_apply _ _ _ _ (ix2 b i) fun a => ?_
  have := b.isLt; have := i.isLt
  match a with
  | ⟨0, _⟩ => show b.val = if n0 = 1 then 0 else b.val; split <;> omega
  | ⟨1, _⟩ => show i.val = if n1 = 1 then 0 else i.val; split <;> omega

/-- and read at every column. -/
theorem spread_apply (x : FVec Ideal ⟨3, ![n0, n1, 1]⟩ .f32) (h1) (j : Fin n2) :
    broadcastInDim ⟨3, ![n0, n1, n2]⟩ ![0, 1, 2] h1 x (ix3 b i j) = x (ix3 b i 0) := by
  refine broadcastInDim_apply _ _ _ _ (ix3 b i (0 : Fin 1)) fun a => ?_
  have := b.isLt; have := i.isLt
  match a with
  | ⟨0, _⟩ => show b.val = if n0 = 1 then 0 else b.val; split <;> omega
  | ⟨1, _⟩ => show i.val = if n1 = 1 then 0 else i.val; split <;> omega
  | ⟨2, _⟩ => rfl

/-- A gain, read at every row. -/
theorem gain_apply (g : FVec Ideal ⟨1, ![n2]⟩ .f32) (h1) (h2) (j : Fin n2) :
    broadcastInDim ⟨3, ![n0, n1, n2]⟩ ![0, 1, 2] h1 (broadcastInDim ⟨3, ![1, 1, n2]⟩ ![2] h2 g) (ix3 b i j) = g (ix1 j) := by
  have := j.isLt
  rw [broadcastInDim_apply _ _ _ _ (ix3 (0 : Fin 1) (0 : Fin 1) j) fun a => ?_, broadcastInDim_apply _ _ _ _ (ix1 j) fun a => ?_]
  · match a with
    | ⟨0, _⟩ => show j.val = if n2 = 1 then 0 else j.val; split <;> omega
  · match a with
    | ⟨0, _⟩ => rfl
    | ⟨1, _⟩ => rfl
    | ⟨2, _⟩ => show j.val = if n2 = 1 then 0 else j.val; split <;> omega

/-- A run of columns, from column `o`. -/
theorem cols_apply {n o : ℕ} (p : FVec Ideal ⟨3, ![n0, n1, n2]⟩ .f32) (h : (⟨3, ![n0, n1, n2]⟩ : Shape).Slices ![0, 0, o] ⟨3, ![n0, n1, n]⟩)
    (j : Fin n) (k : Fin n2) (hk : k.val = o + j.val) :
    extractStridedSlice ⟨3, ![n0, n1, n]⟩ ![0, 0, o] p h (ix3 b i j) = p (ix3 b i k) :=
  extractStridedSlice_apply _ _ _ _ (ix3 b i k) fun a => by
    match a with
    | ⟨0, _⟩ => exact (Nat.zero_add _).symm
    | ⟨1, _⟩ => exact (Nat.zero_add _).symm
    | ⟨2, _⟩ => exact hk

end

/-- Rows normalised, at an entry; -/
theorem normed_apply (x : Rows) (g : FVec Ideal S1024 .f32) (b : Fin 8) (i : Fin 8192) (j : Fin 1024) :
    normed x g (ix3 b i j) = norm (row x b i) (one g) j := by
  have e : normed x g (ix3 b i j) = (x (ix3 b i j) * broadcastInDim S8x8192x1024 ![0, 1, 2] bcast_S8x8192x1_S8x8192x1024_0_1_2 (Host.rsqrt (addf (Host.divf
    (broadcastInDim S8x8192x1 ![0, 1] bcast_S8x8192_S8x8192x1_0_1 (Host.reduceAdd (mulf x x) (constant S_ .f32 0x00000000#32)
      reducesTo_S8x8192x1024_S8x8192_d2 h_S_)) (broadcastInDim S8x8192x1 ![] bcast_S_S8x8192x1 (constant S_ .f32 0x44800000#32)))
    (broadcastInDim S8x8192x1 ![] bcast_S_S8x8192x1 (constant S_ .f32 0x358637BD#32)))) (ix3 b i j)
      * broadcastInDim S8x8192x1024 ![0, 1, 2] bcast_S1x1x1024_S8x8192x1024_0_1_2 (broadcastInDim S1x1x1024 ![2] bcast_S1024_S1x1x1024_2 g) (ix3 b i j) : EReal) := rfl
  have e2 : ∀ (s : FVec Ideal S8x8192x1 .f32), Host.rsqrt (addf (Host.divf s (broadcastInDim S8x8192x1 ![] bcast_S_S8x8192x1 (constant S_ .f32 0x44800000#32)))
    (broadcastInDim S8x8192x1 ![] bcast_S_S8x8192x1 (constant S_ .f32 0x358637BD#32))) (ix3 b i 0)
      = Ideal.rsqrt (Ideal.div (s (ix3 b i 0)) (Ideal.ofBits .f32 0x44800000#32) + Ideal.ofBits .f32 0x358637BD#32) := fun _ => rfl
  rw [e, spread_apply, gain_apply, e2, unit_apply, sum_apply]
  rfl

/-- the logistic function, at an entry; -/
theorem sigmoid_apply (x : Rows) (b : Fin 8) (i : Fin 8192) (j : Fin 1024) :
    sigmoid x (ix3 b i j) = Ideal.logistic (x (ix3 b i j)) := by
  have e : sigmoid x (ix3 b i j) = Ideal.div (Ideal.ofBits .f32 0x3F800000#32) (Ideal.ofBits .f32 0x3F800000#32 + Ideal.exp (-(x (ix3 b i j) : EReal))) := rfl
  rw [e, Ideal.ofBits_one_f32]
  rfl

/-- a product with a square matrix, at an entry; -/
theorem times_apply (x : Rows) (w : FVec Ideal S1024x1024 .f32) (b : Fin 8) (i : Fin 8192) (j : Fin 1024) :
    times x w (ix3 b i j) = dot (row x b i) (mat w) j := by
  simp only [pointwise]
  rw [zero_add]
  rfl

/-- a product with the wide matrix, at an entry. -/
theorem widely_apply (x : Rows) (w : FVec Ideal S1024x9744 .f32) (b : Fin 8) (i : Fin 8192) (j : Fin 9744) :
    widely x w (ix3 b i j) = ∑ k, row x b i k * w (ix2 k j) := by
  simp only [pointwise]
  rw [zero_add]

/-- The merged branches, at an entry. -/
theorem merged_apply (hf hb gate att : FVec Ideal S8x8192x1024 .bf16) (p : FVec Ideal S8x8192x9744 .f32) (wm wa : FVec Ideal S1024x1024 .f32)
    (b : Fin 8) (i : Fin 8192) (j : Fin 1024) :
    merged hf hb gate att p wm wa (ix3 b i j) = merge (fun j => p (ix3 b i (colM j))) (recur (row hf b i) (row hb b i) (row gate b i) (mat wm))
      (fun j => p (ix3 b i (colA j))) (attend (row att b i) (fun j => p (ix3 b i (colZ j))) (mat wa)) j := by
  have e : merged hf hb gate att p wm wa (ix3 b i j)
    = (sigmoid (extractStridedSlice S8x8192x1024 ![0, 0, 7696] p slices_S8x8192x9744_S8x8192x1024_0_0_7696) (ix3 b i j)
      * times (mulf (addf (extf .f32 hf bitsLt_bf16_f32) (extf .f32 hb bitsLt_bf16_f32)) (extf .f32 gate bitsLt_bf16_f32)) wm (ix3 b i j)
    + sigmoid (extractStridedSlice S8x8192x1024 ![0, 0, 8720] p slices_S8x8192x9744_S8x8192x1024_0_0_8720) (ix3 b i j)
      * times (mulf (extf .f32 att bitsLt_bf16_f32) (mulf (extractStridedSlice S8x8192x1024 ![0, 0, 6672] p slices_S8x8192x9744_S8x8192x1024_0_0_6672)
        (sigmoid (extractStridedSlice S8x8192x1024 ![0, 0, 6672] p slices_S8x8192x9744_S8x8192x1024_0_0_6672)))) wa (ix3 b i j) : EReal) := rfl
  have ez : row (mulf (extf .f32 att bitsLt_bf16_f32) (mulf (extractStridedSlice S8x8192x1024 ![0, 0, 6672] p slices_S8x8192x9744_S8x8192x1024_0_0_6672)
        (sigmoid (extractStridedSlice S8x8192x1024 ![0, 0, 6672] p slices_S8x8192x9744_S8x8192x1024_0_0_6672)))) b i
      = fun k => row att b i k * ((p (ix3 b i (colZ k)) : EReal) * Ideal.logistic (p (ix3 b i (colZ k)))) := by
    funext k
    have : (row (mulf (extf .f32 att bitsLt_bf16_f32) (mulf (extractStridedSlice S8x8192x1024 ![0, 0, 6672] p slices_S8x8192x9744_S8x8192x1024_0_0_6672)
        (sigmoid (extractStridedSlice S8x8192x1024 ![0, 0, 6672] p slices_S8x8192x9744_S8x8192x1024_0_0_6672)))) b i k : EReal)
        = row att b i k * (extractStridedSlice S8x8192x1024 ![0, 0, 6672] p slices_S8x8192x9744_S8x8192x1024_0_0_6672 (ix3 b i k)
          * sigmoid (extractStridedSlice S8x8192x1024 ![0, 0, 6672] p slices_S8x8192x9744_S8x8192x1024_0_0_6672) (ix3 b i k)) := rfl
    rw [this, sigmoid_apply, cols_apply b i p _ k (colZ k) rfl]
  rw [e, sigmoid_apply, sigmoid_apply, times_apply, times_apply, cols_apply b i p _ j (colM j) rfl, cols_apply b i p _ j (colA j) rfl, ez]
  rfl

/-- The reference's result is every row's step. -/
theorem result_apply (x : Rows) (hf hb gate att : FVec Ideal S8x8192x1024 .bf16) (w : FVec Ideal S1024x9744 .f32) (gpre : FVec Ideal S1024 .f32)
    (wm wa wo : FVec Ideal S1024x1024 .f32) (gfin : FVec Ideal S1024 .f32) (r : Fin 65536) (j : Fin 1024) :
    shapeCast S65536x1024 (normed (addf x (times (merged hf hb gate att (widely (normed x gpre) w) wm wa) wo)) gfin)
        shapeCasts_S8x8192x1024_S65536x1024 (ix2 r j)
      = result (row x) (row hf) (row hb) (row gate) (row att) (fun k j => w (ix2 k j)) (one gpre) (mat wm) (mat wa) (mat wo) (one gfin) r j := by
  rw [shapeCast_apply _ _ (ix2 r j) (ix3 (batch r) (token r) j) (by
    rw [Shape.rowMajor_val_three, Shape.rowMajor_val_two]
    show (r.val / 8192 * 8192 + r.val % 8192) * 1024 + j.val = r.val * 1024 + j.val
    omega), normed_apply]
  have hn : row (normed x gpre) (batch r) (token r) = norm (row x (batch r) (token r)) (one gpre) :=
    funext fun k => normed_apply x gpre _ _ k
  have hw : ∀ j, widely (normed x gpre) w (ix3 (batch r) (token r) j)
      = ∑ k, norm (row x (batch r) (token r)) (one gpre) k * w (ix2 k j) := fun j => by rw [widely_apply, hn]
  have hm : row (merged hf hb gate att (widely (normed x gpre) w) wm wa) (batch r) (token r) = _ :=
    funext fun k => merged_apply hf hb gate att (widely (normed x gpre) w) wm wa (batch r) (token r) k
  have hz : row (addf x (times (merged hf hb gate att (widely (normed x gpre) w) wm wa) wo)) (batch r) (token r)
      = fun j => row x (batch r) (token r) j + dot (row (merged hf hb gate att (widely (normed x gpre) w) wm wa) (batch r) (token r)) (mat wo) j := by
    funext j
    rw [← times_apply]
    rfl
  rw [hz, hm]
  simp only [hw]
  rfl

/-- The reference's run ends with that array. -/
theorem array (m : (ℓ : Loc nD τ sig) → Buf (Elt Ideal) ℓ) (c : Dev nD) : Value.res_main_v66 m c = fun y : S65536x1024.Idx =>
    result (row (φ := .f32) (m ((c.tc : Thread nD τ).loc main_arg0))) (row (φ := .bf16) (m ((c.tc : Thread nD τ).loc main_arg1)))
      (row (φ := .bf16) (m ((c.tc : Thread nD τ).loc main_arg2))) (row (φ := .bf16) (m ((c.tc : Thread nD τ).loc main_arg3)))
      (row (φ := .bf16) (m ((c.tc : Thread nD τ).loc main_arg4)))
      (fun k j => (m ((c.tc : Thread nD τ).loc main_arg5) : S1024x9744.Idx → EReal) (ix2 k j)) (one (m ((c.tc : Thread nD τ).loc main_arg6)))
      (mat (m ((c.tc : Thread nD τ).loc main_arg7))) (mat (m ((c.tc : Thread nD τ).loc main_arg8)))
      (mat (m ((c.tc : Thread nD τ).loc main_arg9))) (one (m ((c.tc : Thread nD τ).loc main_arg10))) (y 0) (y 1) := by
  funext y
  have ey : y = (ix2 (y 0 : Fin 65536) (y 1 : Fin 1024) : S65536x1024.Idx) := funext fun a => Fin.ext (by
    match a with
    | ⟨0, _⟩ => rfl
    | ⟨1, _⟩ => rfl)
  exact (congrArg (Value.res_main_v66 m c) ey).trans (result_apply _ _ _ _ _ _ _ _ _ _ _ (y 0) (y 1))

end Cert.ReferenceFinalIdeal.Last

end
-- ==== Proof.Feed.Target.lean ====
module

public import proofs.«01_k».proof.Proof.Last.Target
public import Idealize.ShloMosaic.Lib.IdealHost

/-!
# The layer's projections on one token, on ideal values

A row of the residual, the gain of its norm, the wide matrix; then, for the attention's heads, a norm over a head's 64 numbers, a gain
and a turn in two axes of 32.
-/

@[expose] public section

noncomputable section

namespace Cert.Feed

open Idealize.ShloMosaic Cert.Last

/-- The wide matrix's entries, and a head's numbers. -/
abbrev Wide := Fin 1024 → Fin 9744 → EReal
/-- The 64 numbers of one head. -/
abbrev Head := Fin 64 → EReal

/-- A token's projection: its normalised row times a column of the wide matrix. -/
def feed (x g : Row) (w : Wide) (n : Fin 9744) : EReal := ∑ k, norm x g k * w k n

/-- The recurrence's output gate, from its two columns. -/
def gate (x g : Row) (w : Wide) (j : Fin 1024) : EReal :=
  Ideal.logistic (feed x g w ⟨3072 + j.val, by omega⟩)
    * (feed x g w ⟨4096 + j.val, by omega⟩ * Ideal.logistic (feed x g w ⟨4096 + j.val, by omega⟩))

/-- Number `j` of half `h` of axis `a`, among a head's 64. -/
def place (a h : Fin 2) (j : Fin 16) : Fin 64 := ⟨32 * a.val + 16 * h.val + j.val, by omega⟩

/-- Every number of a head has such a place. -/
theorem place_split (d : Fin 64) : ∃ a h j, d = place a h j :=
  ⟨⟨d.val / 32, by omega⟩, ⟨d.val % 32 / 16, by omega⟩, ⟨d.val % 16, by omega⟩, Fin.ext (by show d.val = 32 * (d.val / 32) + 16 * (d.val % 32 / 16) + d.val % 16; omega)⟩

/-- A head over its root mean square. -/
def unit (t : Head) : Head := fun d =>
  t d * Ideal.rsqrt (Ideal.div (∑ e, t e * t e) (Ideal.ofBits .f32 0x42800000#32) + Ideal.ofBits .f32 0x358637BD#32)

/-- The frequency of number `j` of an axis' half. -/
def freq (j : Fin 16) : EReal :=
  Ideal.pow (Ideal.ofBits .f32 0x461C4000#32)
    (Ideal.div (-(Ideal.ofBits .f32 0x00000000#32 + Ideal.ofBits .f32 0x40000000#32 * ((BitVec.ofNat 32 j.val).toInt : ℝ))) (Ideal.ofBits .f32 0x42000000#32))

/-- A token's position along axis `a`: its row of 64 tokens, or its column. -/
def pos (a : Fin 2) (s : ℕ) : ℕ := if a = 0 then s / 64 else s % 64

/-- The angle of that position at that frequency. -/
def angle (a : Fin 2) (s : ℕ) (j : Fin 16) : EReal := (((BitVec.ofNat 32 (pos a s)).toInt : ℝ) : EReal) * freq j

/-- A head normalised, times its gain, turned. -/
def turn (t g : Head) (s : ℕ) (a h : Fin 2) (j : Fin 16) : EReal :=
  if h = 0 then unit t (place a 0 j) * g (place a 0 j) * Ideal.cos (angle a s j) - unit t (place a 1 j) * g (place a 1 j) * Ideal.sin (angle a s j)
  else unit t (place a 1 j) * g (place a 1 j) * Ideal.cos (angle a s j) + unit t (place a 0 j) * g (place a 0 j) * Ideal.sin (angle a s j)

/-- The half's sign. -/
def sign (h : Fin 2) : EReal := if h = 0 then Ideal.ofBits .f32 0xBF800000#32 else Ideal.ofBits .f32 0x3F800000#32

/-- The pattern of minus one. -/
theorem neg_one : Ideal.ofBits .f32 0xBF800000#32 = -(1 : EReal) := by
  rw [show (-(1 : EReal)) = ((-(1 : ℝ) : ℝ) : EReal) by simp]
  simp [Ideal.ofBits, Ideal.ieee, -EReal.coe_mul, -EReal.coe_neg]; norm_num

/-- The same turn, with the gain, the sign and the angle gathered in two factors. -/
theorem turn_eq (t g : Head) (s : ℕ) (a h : Fin 2) (j : Fin 16) :
    unit t (place a h j) * (g (place a h j) * Ideal.cos (angle a s j))
      + unit t (place a (1 - h) j) * (sign h * g (place a (1 - h) j) * Ideal.sin (angle a s j)) = turn t g s a h j := by
  match h with
  | 0 =>
    rw [turn, if_pos rfl, sign, if_pos rfl, neg_one, show (1 - 0 : Fin 2) = 1 from rfl, neg_mul, one_mul, neg_mul, mul_neg, ← sub_eq_add_neg,
      mul_assoc, mul_assoc]
  | 1 =>
    rw [turn, if_neg (by decide), sign, if_neg (by decide), Ideal.ofBits_one_f32, show (1 - 1 : Fin 2) = 0 from rfl, one_mul, mul_assoc, mul_assoc]

end Cert.Feed

end
-- ==== Proof.Feed.Tables.lean ====
module

public import proofs.«01_k».proof.Proof.Gen.ProjIdeal.Skeleton
public import proofs.«01_k».proof.Proof.Feed.Target
public import Idealize.ShloMosaic.Lib.Pointwise
public import Idealize.ShloMosaic.Lib.Pipeline.Value
public import Idealize.ShloMosaic.Lib.KernelVsHost

/-!
# The tables of the turn, entry by entry

Each row of a table is a number of a head, each column a token.
-/

@[expose] public section

noncomputable section

namespace Cert.ProjIdeal.Feed

open Cert.ProjIdeal Cert.ProjIdeal.Gen Cert.Feed
open Idealize.ShloMosaic Idealize.ShloMosaic.TcCoe

/-- One number of a table for every index of a column. -/
abbrev takes (N R : ℕ) (wf : GatherDims.WF ⟨1, ![N]⟩ ⟨2, ![R, 1]⟩ ⟨1, ![R]⟩ [] [0] [] [0] [] 1 ![1]) : GatherDims ⟨1, ![N]⟩ ⟨2, ![R, 1]⟩ ⟨1, ![R]⟩ where
  offsetDims := []
  collapsedSliceDims := [0]
  operandBatchingDims := []
  startIndicesBatchingDims := []
  startIndexMap := [0]
  indexVectorDim := 1
  sliceSizes := ![1]
  wf := wf

/-- A table read at one index for every result index, the indices a column. -/
theorem take_apply {α : Type} {N R : ℕ} (hN : 0 < N) (wf : GatherDims.WF ⟨1, ![N]⟩ ⟨2, ![R, 1]⟩ ⟨1, ![R]⟩ [] [0] [] [0] [] 1 ![1])
    (x : (⟨1, ![N]⟩ : Shape).Idx → α) (idx : IVec ⟨2, ![R, 1]⟩ 32) (e : Fin R) :
    Host.gather (takes N R wf) x idx (ix1 e)
      = x (ix1 ⟨min (idx (ix2 e 0)).toInt.toNat (N - 1), by omega⟩) := by
  generalize hd : takes N R wf = D
  have hm : (0 : Fin 1) ∈ D.startIndexMap := by subst hd; exact List.mem_singleton.mpr rfl
  have hb : D.batchCoord (ix1 e) 0 = 0 := by subst hd; exact GatherDims.batchCoord_eq_zero _ _ _ List.not_mem_nil
  have ho : D.offCoord (ix1 e) 0 = 0 := by
    subst hd
    exact GatherDims.offCoord_eq_zero _ _ _ fun h => ((GatherDims.mem_sKept _ _).mp h).1 (List.mem_singleton.mpr rfl)
  have hs : D.siIdx (ix1 e) ⟨List.idxOf (0 : Fin 1) D.startIndexMap, List.idxOf_lt_length_iff.2 hm⟩ = ix2 e 0 := by
    subst hd
    funext b
    refine Fin.ext ?_
    match b with
    | ⟨0, _⟩ => rfl
    | ⟨1, _⟩ => rfl
  have hst : D.start (ix1 e) idx 0 = min (idx (ix2 e 0)).toInt.toNat (N - 1) := by
    unfold GatherDims.start
    rw [dif_pos hm, hs]
    subst hd
    rfl
  unfold Host.gather
  congr 1
  funext a
  obtain rfl : a = 0 := Subsingleton.elim _ _
  refine Fin.ext ?_
  show D.start (ix1 e) idx 0 + D.batchCoord (ix1 e) 0 + D.offCoord (ix1 e) 0 = _
  rw [hb, ho, hst]
  rfl

/-- A constant of 64 numbers, -/
def spread {α : Type} (l : Fin 64 → α) : S64.Idx → α := fun i => l (S64.rowMajor i)

/-- read at a number. -/
theorem spread_apply {α : Type} (l : Fin 64 → α) (e : Fin 64) : spread l (ix1 e) = l e :=
  congrArg l (Fin.ext (Shape.rowMajor_val_one _))

/-- A number made a column, -/
theorem upright_apply {α : Type} (v : S64.Idx → α) (e : Fin 64) : broadcastInDim S64x1 ![0] bcast_S64_S64x1_0 v (ix2 e 0) = v (ix1 e) :=
  broadcastInDim_apply _ _ _ _ (ix1 e) fun a => by
    match a with
    | ⟨0, _⟩ => rfl

/-- the column laid along the tokens, -/
theorem along_apply {α : Type} (v : S64x1.Idx → α) (e : Fin 64) (s : Fin 8192) :
    broadcastInDim S64x8192 ![0, 1] bcast_S64x1_S64x8192_0_1 v (ix2 e s) = v (ix2 e 0) :=
  broadcastInDim_apply _ _ _ _ (ix2 e 0) fun a => by
    match a with
    | ⟨0, _⟩ => rfl
    | ⟨1, _⟩ => rfl

/-- and a row of tokens laid along the numbers. -/
theorem across_apply {α : Type} (v : S8192.Idx → α) (e : Fin 64) (s : Fin 8192) :
    broadcastInDim S64x8192 ![0, 1] bcast_S1x8192_S64x8192_0_1 (broadcastInDim S1x8192 ![1] bcast_S8192_S1x8192_1 v) (ix2 e s) = v (ix1 s) := by
  rw [broadcastInDim_apply _ _ _ _ (ix2 (0 : Fin 1) s) fun a => ?_, broadcastInDim_apply _ _ _ _ (ix1 s) fun a => ?_]
  · match a with
    | ⟨0, _⟩ => rfl
  · match a with
    | ⟨0, _⟩ => rfl
    | ⟨1, _⟩ => rfl

/-- The same word for every token, and for every number. -/
abbrev every (w : BitVec 32) : IVec S8192 32 := broadcastInDim S8192 ![] bcast_S_S8192 (constantI S_ 32 w)
/-- One word at all 64 places of a head. -/
abbrev every64 (w : BitVec 32) : IVec S64 32 := broadcastInDim S64 ![] bcast_S_S64 (constantI S_ 32 w)

/-- The tokens' rows; -/
abbrev rowsV : IVec S8192 32 :=
  select (andi (cmpi .ne (signi (iotaInDim S8192 32 0)) (broadcastInDim S8192 ![] bcast_S_S8192 (signi (constantI S_ 32 64#32))))
      (cmpi .ne (Host.remsi (iotaInDim S8192 32 0) (every 64#32)) (every 0#32)))
    (subi (Host.divsi (iotaInDim S8192 32 0) (every 64#32)) (every 1#32)) (Host.divsi (iotaInDim S8192 32 0) (every 64#32))

/-- the divisor of their columns; -/
abbrev modV : IVec S_ 32 :=
  select (cmpi .eq (constantI S_ 32 64#32) (constantI S_ 32 0#32)) (constantI S_ 32 1#32) (constantI S_ 32 64#32)

/-- their columns. -/
abbrev colsV : IVec S8192 32 :=
  select (andi (cmpi .ne (cmpi .slt (Host.remsi (iotaInDim S8192 32 0) (broadcastInDim S8192 ![] bcast_S_S8192 modV)) (every 0#32))
        (broadcastInDim S8192 ![] bcast_S_S8192 (cmpi .slt modV (constantI S_ 32 0#32))))
      (cmpi .ne (Host.remsi (iotaInDim S8192 32 0) (broadcastInDim S8192 ![] bcast_S_S8192 modV)) (every 0#32)))
    (addi (Host.remsi (iotaInDim S8192 32 0) (broadcastInDim S8192 ![] bcast_S_S8192 modV)) (broadcastInDim S8192 ![] bcast_S_S8192 modV))
    (Host.remsi (iotaInDim S8192 32 0) (broadcastInDim S8192 ![] bcast_S_S8192 modV))

/-- A word's sign. -/
def signWord (x : BitVec 32) : BitVec 32 := if x = 0 then 0 else if x.msb then -1 else 1

/-- The word of a token's row, from the token's. -/
def rowWord (x : BitVec 32) : BitVec 32 :=
  Scalar.select (IntOp.andi (IntOp.cmpi .ne (signWord x) (signWord 64#32))
    (IntOp.cmpi .ne (IntOp.remsi .host x 64#32) 0#32)) (IntOp.subi (IntOp.divsi .host x 64#32) 1#32) (IntOp.divsi .host x 64#32)

/-- The word of its column. -/
def colWord (x : BitVec 32) : BitVec 32 :=
  let d := Scalar.select (IntOp.cmpi .eq (64#32) 0#32) (1#32) 64#32
  Scalar.select (IntOp.andi (IntOp.cmpi .ne (IntOp.cmpi .slt (IntOp.remsi .host x d) 0#32) (IntOp.cmpi .slt d 0#32))
    (IntOp.cmpi .ne (IntOp.remsi .host x d) 0#32)) (IntOp.addi (IntOp.remsi .host x d) d) (IntOp.remsi .host x d)

/-- The token in row `r`, column `c`. -/
theorem words (r : Fin 128) : ∀ c : Fin 64, rowWord (BitVec.ofNat 32 (64 * r.val + c.val)) = BitVec.ofNat 32 r.val
    ∧ colWord (BitVec.ofNat 32 (64 * r.val + c.val)) = BitVec.ofNat 32 c.val := by
  revert r
  decide +kernel

/-- A token's row, -/
theorem rowsV_apply (s : Fin 8192) : rowsV (ix1 s) = BitVec.ofNat 32 (s.val / 64) := by
  have h := (words ⟨s.val / 64, by omega⟩ ⟨s.val % 64, by omega⟩).1
  rw [show 64 * (s.val / 64) + s.val % 64 = s.val by omega] at h
  exact h

/-- and its column. -/
theorem colsV_apply (s : Fin 8192) : colsV (ix1 s) = BitVec.ofNat 32 (s.val % 64) := by
  have h := (words ⟨s.val / 64, by omega⟩ ⟨s.val % 64, by omega⟩).2
  rw [show 64 * (s.val / 64) + s.val % 64 = s.val by omega] at h
  exact h

/-- The positions: of each number's axis, at each token. -/
abbrev posV : IVec S64x8192 32 :=
  select (broadcastInDim S64x8192 ![0, 1] bcast_S64x1_S64x8192_0_1
      (cmpi .eq (broadcastInDim S64x1 ![0] bcast_S64_S64x1_0 (spread lit0)) (broadcastInDim S64x1 ![] bcast_S_S64x1 (constantI S_ 32 0#32))))
    (broadcastInDim S64x8192 ![0, 1] bcast_S1x8192_S64x8192_0_1 (broadcastInDim S1x8192 ![1] bcast_S8192_S1x8192_1 rowsV))
    (broadcastInDim S64x8192 ![0, 1] bcast_S1x8192_S64x8192_0_1 (broadcastInDim S1x8192 ![1] bcast_S8192_S1x8192_1 colsV))

/-- A number's axis is its place's. -/
theorem axis_word : ∀ (a h : Fin 2) (j : Fin 16), IntOp.cmpi .eq (lit0 (place a h j)) 0#32 = if a = 0 then 1#1 else 0#1 := by decide +kernel

/-- The position of a token along the axis that a place of the head belongs to. -/
theorem posV_apply (a h : Fin 2) (j : Fin 16) (s : Fin 8192) : posV (ix2 (place a h j) s) = BitVec.ofNat 32 (pos a s.val) := by
  have e : ∀ (b : IVec S64x8192 1) (u v : IVec S64x8192 32) (i : S64x8192.Idx), select b u v i = Scalar.select (b i) (u i) (v i) := fun _ _ _ _ => rfl
  have e2 : ∀ (b : IVec S64x1 32) (i : S64x1.Idx), cmpi .eq b (broadcastInDim S64x1 ![] bcast_S_S64x1 (constantI S_ 32 0#32)) i = IntOp.cmpi .eq (b i) 0#32 :=
    fun _ _ => rfl
  refine (e _ _ _ _).trans ?_
  rw [along_apply, across_apply, across_apply, e2, upright_apply, spread_apply, axis_word, rowsV_apply, colsV_apply, pos]
  split <;> rfl

/-- The frequencies. -/
abbrev freqV : FVec Ideal S16 .f32 :=
  Host.powf (broadcastInDim S16 ![] bcast_S_S16 (constant S_ .f32 0x461C4000#32)) (Host.divf (Host.negf (addf
    (broadcastInDim S16 ![] bcast_S_S16 (constant S_ .f32 0x00000000#32)) (mulf (broadcastInDim S16 ![] bcast_S_S16 (constant S_ .f32 0x40000000#32))
      (sitofp .f32 (iotaInDim S16 32 0))))) (broadcastInDim S16 ![] bcast_S_S16 (constant S_ .f32 0x42000000#32)))

/-- The frequencies, entry by entry. -/
theorem freqV_apply (j : Fin 16) : freqV (ix1 j) = freq j := rfl

/-- Which frequency a number's is, and which number its partner is: words that count from the end if negative. -/
abbrev wrap (l : Fin 64 → BitVec 32) (n : BitVec 32) : IVec S64 32 :=
  select (cmpi .slt (spread l) (every64 0#32)) (addi (spread l) (every64 n)) (spread l)

/-- An index that is negative counts from the end: the word that results at one place. -/
theorem wrap_apply (l : Fin 64 → BitVec 32) (n : BitVec 32) (e : Fin 64) :
    wrap l n (ix1 e) = Scalar.select (IntOp.cmpi .slt (l e) 0#32) (IntOp.addi (l e) n) (l e) := by
  have h : ∀ v : IVec S64 32, select (cmpi .slt v (every64 0#32)) (addi v (every64 n)) v (ix1 e)
      = Scalar.select (IntOp.cmpi .slt (v (ix1 e)) 0#32) (IntOp.addi (v (ix1 e)) n) (v (ix1 e)) := fun _ => rfl
  exact (h _).trans (by rw [spread_apply])

/-- The frequency that a place of the head takes. -/
theorem freq_word : ∀ (a h : Fin 2) (j : Fin 16), min (Scalar.select (IntOp.cmpi .slt (lit1 (place a h j)) 0#32) (IntOp.addi (lit1 (place a h j)) 16#32)
    (lit1 (place a h j))).toInt.toNat (16 - 1) = j.val := by decide +kernel

/-- The partner of a place of the head: the same number of the other half. -/
theorem partner_word : ∀ (a h : Fin 2) (j : Fin 16), min (Scalar.select (IntOp.cmpi .slt (lit3 (place a h j)) 0#32) (IntOp.addi (lit3 (place a h j)) 64#32)
    (lit3 (place a h j))).toInt.toNat (64 - 1) = (place a (1 - h) j).val := by decide +kernel

/-- The lower half of each axis is the one whose sign turns. -/
theorem sign_word : ∀ (a h : Fin 2) (j : Fin 16), lit2 (place a h j) = if h = 0 then 1#1 else 0#1 := by decide +kernel

/-- The angles, -/
abbrev angleV : FVec Ideal S64x8192 .f32 :=
  mulf (sitofp .f32 posV) (broadcastInDim S64x8192 ![0, 1] bcast_S64x1_S64x8192_0_1 (broadcastInDim S64x1 ![0] bcast_S64_S64x1_0
    (Host.gather gather_S16_S64x1_S64_n_0_n_n_0_1_1 freqV (broadcastInDim S64x1 ![0] bcast_S64_S64x1_0 (wrap lit1 16#32)))))

/-- at an entry; -/
theorem angleV_apply (a h : Fin 2) (j : Fin 16) (s : Fin 8192) : angleV (ix2 (place a h j) s) = angle a s.val j := by
  have e : ∀ (p : IVec S64x8192 32) (u : FVec Ideal S64x8192 .f32) (i : S64x8192.Idx), mulf (sitofp .f32 p) u i = (((p i).toInt : ℝ) : EReal) * u i := fun _ _ _ => rfl
  refine (e _ _ _).trans ?_
  rw [posV_apply, along_apply, upright_apply]
  refine congrArg (fun x : EReal => _ * x) ((take_apply (by decide) _ freqV _ _).trans ?_)
  refine (congrArg (fun k => freqV (ix1 k)) (Fin.ext ?_)).trans (freqV_apply j)
  show min _ (16 - 1) = j.val
  rw [upright_apply, wrap_apply]
  exact freq_word a h j

/-- The gain, as it is scaled by one. -/
abbrev gainV (g : FVec Ideal S64 .f32) : FVec Ideal S64 .f32 := mulf g (broadcastInDim S64 ![] bcast_S_S64 (constant S_ .f32 0x3F800000#32))

/-- The gain times one is the gain. -/
theorem gainV_apply (g : FVec Ideal S64 .f32) (e : Fin 64) : gainV g (ix1 e) = g (ix1 e) := by
  refine (show gainV g (ix1 e) = (g (ix1 e) * Ideal.ofBits .f32 0x3F800000#32 : EReal) from rfl).trans ?_
  rw [Ideal.ofBits_one_f32, mul_one]

/-- The table a number is multiplied by, -/
abbrev ownV (g : FVec Ideal S64 .f32) : FVec Ideal S64x8192 .f32 :=
  mulf (broadcastInDim S64x8192 ![0, 1] bcast_S64x1_S64x8192_0_1 (broadcastInDim S64x1 ![0] bcast_S64_S64x1_0 (gainV g))) (Host.cos angleV)

/-- and its partner's. -/
abbrev otherV (g : FVec Ideal S64 .f32) : FVec Ideal S64x8192 .f32 :=
  mulf (broadcastInDim S64x8192 ![0, 1] bcast_S64x1_S64x8192_0_1 (mulf
    (id (broadcastInDim S64x1 ![0] bcast_S64_S64x1_0 (select (spread lit2) (broadcastInDim S64 ![] bcast_S_S64 (constant (F := Ideal) S_ .f32 0xBF800000#32))
      (broadcastInDim S64 ![] bcast_S_S64 (constant (F := Ideal) S_ .f32 0x3F800000#32)))))
    (broadcastInDim S64x1 ![0] bcast_S64_S64x1_0 (Host.gather gather_S64_S64x1_S64_n_0_n_n_0_1_1 (gainV g)
      (broadcastInDim S64x1 ![0] bcast_S64_S64x1_0 (wrap lit3 64#32)))))) (Host.sin angleV)

/-- The table a number itself is multiplied by, entry by entry. -/
theorem ownV_apply (g : FVec Ideal S64 .f32) (a h : Fin 2) (j : Fin 16) (s : Fin 8192) :
    ownV g (ix2 (place a h j) s) = g (ix1 (place a h j)) * Ideal.cos (angle a s.val j) := by
  have e : ∀ (u v : FVec Ideal S64x8192 .f32) (i : S64x8192.Idx), mulf u (Host.cos v) i = (u i * Ideal.cos (v i) : EReal) := fun _ _ _ => rfl
  refine (e _ _ _).trans ?_
  rw [along_apply, upright_apply, gainV_apply, angleV_apply]

/-- The table a number's partner is multiplied by, entry by entry. -/
theorem otherV_apply (g : FVec Ideal S64 .f32) (a h : Fin 2) (j : Fin 16) (s : Fin 8192) :
    otherV g (ix2 (place a h j) s) = sign h * g (ix1 (place a (1 - h) j)) * Ideal.sin (angle a s.val j) := by
  have e : ∀ (u v : FVec Ideal S64x8192 .f32) (i : S64x8192.Idx), mulf u (Host.sin v) i = (u i * Ideal.sin (v i) : EReal) := fun _ _ _ => rfl
  have e2 : ∀ (u v : FVec Ideal S64x1 .f32) (i : S64x1.Idx), mulf (id u) v i = (u i * v i : EReal) := fun _ _ _ => rfl
  have e3 : ∀ (b : IVec S64 1) (i : S64.Idx), select b (broadcastInDim S64 ![] bcast_S_S64 (constant (F := Ideal) S_ .f32 0xBF800000#32))
      (broadcastInDim S64 ![] bcast_S_S64 (constant (F := Ideal) S_ .f32 0x3F800000#32)) i
      = Scalar.select (b i) (Ideal.ofBits .f32 0xBF800000#32) (Ideal.ofBits .f32 0x3F800000#32) := fun _ _ => rfl
  refine (e _ _ _).trans ?_
  rw [along_apply, e2, upright_apply, upright_apply, angleV_apply, e3, spread_apply, sign_word]
  refine congrArg₂ (fun x y : EReal => x * y * _) ?_ ((take_apply (by decide) _ (gainV g) _ _).trans ?_)
  · rw [sign]
    split <;> rfl
  · refine (congrArg (fun k => gainV g (ix1 k)) (Fin.ext ?_)).trans (gainV_apply g _)
    show min _ (64 - 1) = (place a (1 - h) j).val
    rw [upright_apply, wrap_apply]
    exact partner_word a h j

end Cert.ProjIdeal.Feed

end
-- ==== Proof.Feed.Host.lean ====
module

public import proofs.«01_k».proof.Proof.Gen.ProjIdeal.Frame
public import proofs.«01_k».proof.Proof.Feed.Tables
public import Idealize.ShloMosaic.Lib.Claim
public import Idealize.ShloMosaic.Lib.Pipeline.ValueKit

/-!
# What the host operations hand to the projections' kernel, entry by entry
-/

@[expose] public section

noncomputable section

namespace Cert.ProjIdeal.Feed

open Cert.ProjIdeal Cert.ProjIdeal.Gen Cert.Last Cert.Feed
open Idealize.ShloMosaic Idealize.ShloMosaic.TcCoe Idealize.ShloMosaic.Tactic
open Idealize.ShloMosaic.StableHlo

variable (m : (ℓ : Loc nD τ sig) → Buf (Elt Ideal) ℓ) (c : Dev nD)

/-- The rows of the residual; the wide matrix; the gains of its norm and of the attention's queries and keys. -/
def xs : Fin 8 → Fin 8192 → Row := fun b i j => (m ((c : Thread nD τ).loc main_arg0) : S8x8192x1024.Idx → EReal) (ix3 b i j)
/-- The input weights, as a function of row and column. -/
def wide : Wide := fun k j => (m ((c : Thread nD τ).loc main_arg1) : S1024x9744.Idx → EReal) (ix2 k j)
/-- The gain of the first norm. -/
def gpre : Row := fun j => (m ((c : Thread nD τ).loc main_arg2) : S1024.Idx → EReal) (ix1 j)
/-- The gain of the query heads. -/
def gq : Head := fun j => (m ((c : Thread nD τ).loc main_arg3) : S64.Idx → EReal) (ix1 j)
/-- The gain of the key heads. -/
def gk : Head := fun j => (m ((c : Thread nD τ).loc main_arg4) : S64.Idx → EReal) (ix1 j)

/-- The wide matrix, in the kernel's format. -/
abbrev wideV : FVec Ideal S1024x9744 .bf16 := truncf .bf16 (m ((c : Thread nD τ).loc main_arg1)) bitsLt_bf16_f32

/-- A run of its columns, from column `o`. -/
theorem run_apply {n o : ℕ} (h : S1024x9744.Slices ![0, o] ⟨2, ![1024, n]⟩) (k : Fin 1024) (j : Fin n) (i : Fin 9744) (hi : i.val = o + j.val) :
    extractStridedSlice ⟨2, ![1024, n]⟩ ![0, o] (wideV m c) h (ix2 k j) = wide m c k i :=
  extractStridedSlice_apply _ _ _ _ (ix2 k i) fun a => by
    match a with
    | ⟨0, _⟩ => exact (Nat.zero_add _).symm
    | ⟨1, _⟩ => exact hi

/-- The residual's rows; -/
theorem host0 (b : Fin 8) (i : Fin 8192) (j : Fin 1024) : (V m c main_arg0 : S8x8192x1024.Idx → EReal) (ix3 b i j) = xs m c b i j := by
  rw [V_main_arg0]; rfl

/-- the gain of their norm; -/
theorem host1 (j : Fin 1024) : (V m c main_v1 : S1x1024.Idx → EReal) (ix2 0 j) = gpre m c j := by
  have e : V m c main_v1 = shapeCast S1x1024 (m ((c : Thread nD τ).loc main_arg2)) shapeCasts_S1024_S1x1024 := by
    unfold_abbrev_sides
    simp only [hostOps0, hostOps0_1, hostOps0_2, hostOps0_3, hostOps0_4, hostOps0_5, hostOps0_6, hostOps0_7, hostOps0_8, hostOps0_9, hostOps0_10,
      List.flatten_cons, List.flatten_nil, List.cons_append, List.nil_append]
    after_results
    rfl
  rw [e]
  refine shapeCast_apply _ shapeCasts_S1024_S1x1024 _ (ix1 j) ?_
  rw [Shape.rowMajor_val_one, Shape.rowMajor_val_two]
  show j.val = 0 * 1024 + j.val
  omega

/-- the columns of the recurrence's queries, -/
theorem host2q (k j : Fin 1024) (i : Fin 4096) (hi : i.val = j.val) :
    (V m c main_v4 : S1024x4096.Idx → EReal) (ix2 k i) = wide m c k ⟨j.val, by omega⟩ := by
  have e : V m c main_v4 = concatenate S1024x4096 1 [⟨S1024x1024, extractStridedSlice S1024x1024 ![0, 0] (wideV m c) slices_S1024x9744_S1024x1024_0_0⟩,
      ⟨S1024x3072, extractStridedSlice S1024x3072 ![0, 2048] (wideV m c) slices_S1024x9744_S1024x3072_0_2048⟩] concatenates_S1024x1024_S1024x3072_S1024x4096_d1 := by
    unfold_abbrev_sides
    simp only [hostOps0, hostOps0_1, hostOps0_2, hostOps0_3, hostOps0_4, hostOps0_5, hostOps0_6, hostOps0_7, hostOps0_8, hostOps0_9, hostOps0_10,
      List.flatten_cons, List.flatten_nil, List.cons_append, List.nil_append]
    after_results
  rw [e]
  refine (concatenate_pair_apply_left (t := S1024x4096) (s₁ := S1024x1024) (s₂ := S1024x3072) 1 _ _ _ _ rfl (ix2 k j) fun b => ?_).trans
    (run_apply m c slices_S1024x9744_S1024x1024_0_0 k j _ (Nat.zero_add _).symm)
  match b with
  | ⟨0, _⟩ => rfl
  | ⟨1, _⟩ => exact hi.symm

/-- and of its values and gate, -/
theorem host2v (k : Fin 1024) (j : Fin 3072) (i : Fin 4096) (hi : i.val = 1024 + j.val) :
    (V m c main_v4 : S1024x4096.Idx → EReal) (ix2 k i) = wide m c k ⟨2048 + j.val, by omega⟩ := by
  have e : V m c main_v4 = concatenate S1024x4096 1 [⟨S1024x1024, extractStridedSlice S1024x1024 ![0, 0] (wideV m c) slices_S1024x9744_S1024x1024_0_0⟩,
      ⟨S1024x3072, extractStridedSlice S1024x3072 ![0, 2048] (wideV m c) slices_S1024x9744_S1024x3072_0_2048⟩] concatenates_S1024x1024_S1024x3072_S1024x4096_d1 := by
    unfold_abbrev_sides
    simp only [hostOps0, hostOps0_1, hostOps0_2, hostOps0_3, hostOps0_4, hostOps0_5, hostOps0_6, hostOps0_7, hostOps0_8, hostOps0_9, hostOps0_10,
      List.flatten_cons, List.flatten_nil, List.cons_append, List.nil_append]
    after_results
  rw [e]
  refine (concatenate_pair_apply_right (t := S1024x4096) (s₁ := S1024x1024) (s₂ := S1024x3072) 1 _ _ _ _ rfl rfl (ix2 k j) (fun b hb => ?_) ?_).trans
    (run_apply m c slices_S1024x9744_S1024x3072_0_2048 k j _ rfl)
  · match b with
    | ⟨0, _⟩ => rfl
    | ⟨1, _⟩ => exact absurd rfl hb
  · show j.val + 1024 = i.val
    omega

/-- the columns of the recurrence's keys, transposed, -/
theorem host3 (j k : Fin 1024) : (V m c main_v6 : S1024x1024.Idx → EReal) (ix2 j k) = wide m c k ⟨1024 + j.val, by omega⟩ := by
  have e : V m c main_v6 = transpose S1024x1024 [1, 0] (extractStridedSlice S1024x1024 ![0, 1024] (wideV m c) slices_S1024x9744_S1024x1024_0_1024)
      transposes_S1024x1024_S1024x1024_1_0 := by
    unfold_abbrev_sides
    simp only [hostOps0, hostOps0_1, hostOps0_2, hostOps0_3, hostOps0_4, hostOps0_5, hostOps0_6, hostOps0_7, hostOps0_8, hostOps0_9, hostOps0_10,
      List.flatten_cons, List.flatten_nil, List.cons_append, List.nil_append]
    after_results
  rw [e]
  exact (transpose_apply _ _ _ (ix2 j k) (ix2 k j) (fun b => match b with | ⟨0, _⟩ => rfl | ⟨1, _⟩ => rfl)).trans
    (run_apply m c slices_S1024x9744_S1024x1024_0_1024 k j _ rfl)

/-- its gates' columns, -/
theorem host4 (k : Fin 1024) (j : Fin 16) (i : Fin 128) (hi : i.val = j.val) :
    (V m c main_v8 : S1024x128.Idx → EReal) (ix2 k i) = wide m c k ⟨5120 + j.val, by omega⟩ := by
  have e : V m c main_v8 = pad S1024x128 ![0, 0] ![0, 112] ![0, 0] (extractStridedSlice S1024x16 ![0, 5120] (wideV m c) slices_S1024x9744_S1024x16_0_5120)
      (sitofp .bf16 (constantI S_ 32 0#32)) pads_S1024x16_S1024x128_000_01120 h_S_ := by
    unfold_abbrev_sides
    simp only [hostOps0, hostOps0_1, hostOps0_2, hostOps0_3, hostOps0_4, hostOps0_5, hostOps0_6, hostOps0_7, hostOps0_8, hostOps0_9, hostOps0_10,
      List.flatten_cons, List.flatten_nil, List.cons_append, List.nil_append]
    after_results
    rfl
  rw [e]
  refine (pad_apply_of_inside _ _ _ _ _ _ _ _ (ix2 k j) fun a => ?_).trans (run_apply m c slices_S1024x9744_S1024x16_0_5120 k j _ rfl)
  match a with
  | ⟨0, _⟩ => show k.val = 0 + k.val * (0 + 1); omega
  | ⟨1, _⟩ => show i.val = 0 + j.val * (0 + 1); omega

/-- the columns of the attention's queries, transposed, -/
theorem host5 (j k : Fin 1024) : (V m c main_v10 : S1024x1024.Idx → EReal) (ix2 j k) = wide m c k ⟨5136 + j.val, by omega⟩ := by
  have e : V m c main_v10 = transpose S1024x1024 [1, 0] (extractStridedSlice S1024x1024 ![0, 5136] (wideV m c) slices_S1024x9744_S1024x1024_0_5136)
      transposes_S1024x1024_S1024x1024_1_0 := by
    unfold_abbrev_sides
    simp only [hostOps0, hostOps0_1, hostOps0_2, hostOps0_3, hostOps0_4, hostOps0_5, hostOps0_6, hostOps0_7, hostOps0_8, hostOps0_9, hostOps0_10,
      List.flatten_cons, List.flatten_nil, List.cons_append, List.nil_append]
    after_results
  rw [e]
  exact (transpose_apply _ _ _ (ix2 j k) (ix2 k j) (fun b => match b with | ⟨0, _⟩ => rfl | ⟨1, _⟩ => rfl)).trans
    (run_apply m c slices_S1024x9744_S1024x1024_0_5136 k j _ rfl)

/-- of its keys, -/
theorem host6 (j : Fin 256) (k : Fin 1024) : (V m c main_v12 : S256x1024.Idx → EReal) (ix2 j k) = wide m c k ⟨6160 + j.val, by omega⟩ := by
  have e : V m c main_v12 = transpose S256x1024 [1, 0] (extractStridedSlice S1024x256 ![0, 6160] (wideV m c) slices_S1024x9744_S1024x256_0_6160)
      transposes_S1024x256_S256x1024_1_0 := by
    unfold_abbrev_sides
    simp only [hostOps0, hostOps0_1, hostOps0_2, hostOps0_3, hostOps0_4, hostOps0_5, hostOps0_6, hostOps0_7, hostOps0_8, hostOps0_9, hostOps0_10,
      List.flatten_cons, List.flatten_nil, List.cons_append, List.nil_append]
    after_results
  rw [e]
  exact (transpose_apply _ _ _ (ix2 j k) (ix2 k j) (fun b => match b with | ⟨0, _⟩ => rfl | ⟨1, _⟩ => rfl)).trans
    (run_apply m c slices_S1024x9744_S1024x256_0_6160 k j _ rfl)

/-- and of its values; -/
theorem host7 (j : Fin 256) (k : Fin 1024) : (V m c main_v14 : S256x1024.Idx → EReal) (ix2 j k) = wide m c k ⟨6416 + j.val, by omega⟩ := by
  have e : V m c main_v14 = transpose S256x1024 [1, 0] (extractStridedSlice S1024x256 ![0, 6416] (wideV m c) slices_S1024x9744_S1024x256_0_6416)
      transposes_S1024x256_S256x1024_1_0 := by
    unfold_abbrev_sides
    simp only [hostOps0, hostOps0_1, hostOps0_2, hostOps0_3, hostOps0_4, hostOps0_5, hostOps0_6, hostOps0_7, hostOps0_8, hostOps0_9, hostOps0_10,
      List.flatten_cons, List.flatten_nil, List.cons_append, List.nil_append]
    after_results
  rw [e]
  exact (transpose_apply _ _ _ (ix2 j k) (ix2 k j) (fun b => match b with | ⟨0, _⟩ => rfl | ⟨1, _⟩ => rfl)).trans
    (run_apply m c slices_S1024x9744_S1024x256_0_6416 k j _ rfl)

/-- the tables of the queries' turn, -/
theorem host8 (a h : Fin 2) (j : Fin 16) (s : Fin 8192) : (V m c main_v53 : S64x8192.Idx → EReal) (ix2 (place a h j) s)
    = gq m c (place a h j) * Ideal.cos (angle a s.val j) := by
  have e : V m c main_v53 = ownV (m ((c : Thread nD τ).loc main_arg3)) := by
    unfold_abbrev_sides
    simp only [hostOps0, hostOps0_1, hostOps0_2, hostOps0_3, hostOps0_4, hostOps0_5, hostOps0_6, hostOps0_7, hostOps0_8, hostOps0_9, hostOps0_10,
      List.flatten_cons, List.flatten_nil, List.cons_append, List.nil_append]
    after_results
    rfl
  rw [e]
  exact ownV_apply _ a h j s

/-- The queries' table for a number's partner, entry by entry. -/
theorem host9 (a h : Fin 2) (j : Fin 16) (s : Fin 8192) : (V m c main_v65 : S64x8192.Idx → EReal) (ix2 (place a h j) s)
    = sign h * gq m c (place a (1 - h) j) * Ideal.sin (angle a s.val j) := by
  have e : V m c main_v65 = otherV (m ((c : Thread nD τ).loc main_arg3)) := by
    unfold_abbrev_sides
    simp only [hostOps0, hostOps0_1, hostOps0_2, hostOps0_3, hostOps0_4, hostOps0_5, hostOps0_6, hostOps0_7, hostOps0_8, hostOps0_9, hostOps0_10,
      List.flatten_cons, List.flatten_nil, List.cons_append, List.nil_append]
    after_results
    rfl
  rw [e]
  exact otherV_apply _ a h j s

/-- and of the keys'. -/
theorem host10 (a h : Fin 2) (j : Fin 16) (s : Fin 8192) : (V m c main_v70 : S64x8192.Idx → EReal) (ix2 (place a h j) s)
    = gk m c (place a h j) * Ideal.cos (angle a s.val j) := by
  have e : V m c main_v70 = ownV (m ((c : Thread nD τ).loc main_arg4)) := by
    unfold_abbrev_sides
    simp only [hostOps0, hostOps0_1, hostOps0_2, hostOps0_3, hostOps0_4, hostOps0_5, hostOps0_6, hostOps0_7, hostOps0_8, hostOps0_9, hostOps0_10,
      List.flatten_cons, List.flatten_nil, List.cons_append, List.nil_append]
    after_results
    rfl
  rw [e]
  exact ownV_apply _ a h j s

/-- The keys' table for a number's partner, entry by entry. -/
theorem host11 (a h : Fin 2) (j : Fin 16) (s : Fin 8192) : (V m c main_v82 : S64x8192.Idx → EReal) (ix2 (place a h j) s)
    = sign h * gk m c (place a (1 - h) j) * Ideal.sin (angle a s.val j) := by
  have e : V m c main_v82 = otherV (m ((c : Thread nD τ).loc main_arg4)) := by
    unfold_abbrev_sides
    simp only [hostOps0, hostOps0_1, hostOps0_2, hostOps0_3, hostOps0_4, hostOps0_5, hostOps0_6, hostOps0_7, hostOps0_8, hostOps0_9, hostOps0_10,
      List.flatten_cons, List.flatten_nil, List.cons_append, List.nil_append]
    after_results
    rfl
  rw [e]
  exact otherV_apply _ a h j s

end Cert.ProjIdeal.Feed

end
-- ==== Proof.Feed.Point.lean ====
module

public import proofs.«01_k».proof.Proof.Feed.Host
public import Idealize.ShloMosaic.Lib.WholeRead

/-!
# What a point of the projections' grid leaves in its blocks
-/

@[expose] public section

noncomputable section

namespace Cert.ProjIdeal.Feed

open Cert.ProjIdeal Cert.ProjIdeal.Gen Cert.Last Cert.Feed
open Idealize.ShloMosaic Idealize.ShloMosaic.TcCoe Idealize.ShloMosaic.Tactic
open Idealize.ShloMosaic.StableHlo

/-- A load of a whole block reads it. -/
theorem read_all {sp : Space} {s : Shape} {e : EltTy} {arg : Memref sig .tc sp s e} (h : arg.IsWhole) (x : Vec Ideal s e) {off : Fin s.rank → ℕ}
    (ho : ∀ a, off a = 0) (hb : ∀ a, off a + s.size a ≤ s.size a) :
    View.readAt (Elt Ideal) arg.view (Rect.unit (s := s) off s.size hb).toLoadRect (h.unread x) = x := by
  funext y
  refine (h.readAt_unread x _ y).trans (congrArg x (funext fun a => Fin.ext ?_))
  show off a + 1 * (y a).val = (y a).val
  rw [ho]; omega

/-- The same for the blocks the body loads: the rows, -/
theorem read0 {arg : Memref sig .tc .vmem S1x512x1024 .f32} (h : arg.IsWhole) (x : Vec Ideal S1x512x1024 .f32)
    (hb : ∀ a, (![0, 0, 0] : Fin 3 → ℕ) a + S1x512x1024.size a ≤ S1x512x1024.size a) :
    View.readAt (Elt Ideal) arg.view (Rect.unit (s := S1x512x1024) ![0, 0, 0] S1x512x1024.size hb).toLoadRect (h.unread x) = x := read_all h x (by decide) hb

/-- the gain, -/
theorem read1 {arg : Memref sig .tc .vmem S1x1024 .f32} (h : arg.IsWhole) (x : Vec Ideal S1x1024 .f32)
    (hb : ∀ a, (![0, 0] : Fin 2 → ℕ) a + S1x1024.size a ≤ S1x1024.size a) :
    View.readAt (Elt Ideal) arg.view (Rect.unit (s := S1x1024) ![0, 0] S1x1024.size hb).toLoadRect (h.unread x) = x := read_all h x (by decide) hb

/-- the square matrices, -/
theorem read3 {arg : Memref sig .tc .vmem S1024x1024 .bf16} (h : arg.IsWhole) (x : Vec Ideal S1024x1024 .bf16)
    (hb : ∀ a, (![0, 0] : Fin 2 → ℕ) a + S1024x1024.size a ≤ S1024x1024.size a) :
    View.readAt (Elt Ideal) arg.view (Rect.unit (s := S1024x1024) ![0, 0] S1024x1024.size hb).toLoadRect (h.unread x) = x := read_all h x (by decide) hb

/-- the gates' columns, -/
theorem read4 {arg : Memref sig .tc .vmem S1024x128 .bf16} (h : arg.IsWhole) (x : Vec Ideal S1024x128 .bf16)
    (hb : ∀ a, (![0, 0] : Fin 2 → ℕ) a + S1024x128.size a ≤ S1024x128.size a) :
    View.readAt (Elt Ideal) arg.view (Rect.unit (s := S1024x128) ![0, 0] S1024x128.size hb).toLoadRect (h.unread x) = x := read_all h x (by decide) hb

/-- the narrow matrices, -/
theorem read6 {arg : Memref sig .tc .vmem S256x1024 .bf16} (h : arg.IsWhole) (x : Vec Ideal S256x1024 .bf16)
    (hb : ∀ a, (![0, 0] : Fin 2 → ℕ) a + S256x1024.size a ≤ S256x1024.size a) :
    View.readAt (Elt Ideal) arg.view (Rect.unit (s := S256x1024) ![0, 0] S256x1024.size hb).toLoadRect (h.unread x) = x := read_all h x (by decide) hb

/-- and the tables. -/
theorem read8 {arg : Memref sig .tc .vmem S64x512 .f32} (h : arg.IsWhole) (x : Vec Ideal S64x512 .f32)
    (hb : ∀ a, (![0, 0] : Fin 2 → ℕ) a + S64x512.size a ≤ S64x512.size a) :
    View.readAt (Elt Ideal) arg.view (Rect.unit (s := S64x512) ![0, 0] S64x512.size hb).toLoadRect (h.unread x) = x := read_all h x (by decide) hb

/-- A run of 1024 columns of the 4096, from column `o`. -/
def part (o : ℕ) (x : Vec Ideal S1024x4096 .bf16) (ho : o + 1024 ≤ 4096) : Vec Ideal S1024x1024 .bf16 := fun y =>
  x (ix2 (y 0 : Fin 1024) (⟨o + (y 1).val, by have : (y 1).val < 1024 := (y 1).isLt; omega⟩ : Fin 4096))

/-- Its load. -/
theorem read2 {arg : Memref sig .tc .vmem S1024x4096 .bf16} (h : arg.IsWhole) (x : Vec Ideal S1024x4096 .bf16) (o : ℕ) (ho : o + 1024 ≤ 4096)
    (hb : ∀ a, (![0, o] : Fin 2 → ℕ) a + S1024x1024.size a ≤ S1024x4096.size a) :
    View.readAt (Elt Ideal) arg.view (Rect.unit (s := S1024x4096) ![0, o] S1024x1024.size hb).toLoadRect (h.unread x) = part o x ho := by
  funext y
  refine (h.readAt_unread x _ y).trans (congrArg x (funext fun a => Fin.ext ?_))
  match a with
  | ⟨0, _⟩ => show 0 + 1 * (y 0).val = (y 0).val; omega
  | ⟨1, _⟩ => show o + 1 * (y 1).val = o + (y 1).val; omega

variable (m : (ℓ : Loc nD τ sig) → Buf (Elt Ideal) ℓ) (c : Dev nD) (t : Fin grid0.N)

/-- The normalised rows of a point's block. -/
def hn : FVec Ideal S512x1024 .bf16 := k0_pay3 (F := Ideal) (iblk m c 0 t) (iblk m c 1 t)

/-- They are what the body computes. -/
theorem hn_run : kernelRun0_A.sl.r c (ms0_0 t) (hs0_0 t) (ms0_1 t) (hs0_1 t) (iblk m c 0 t) (iblk m c 1 t) = hn m c t := by
  unfold kernelRun0_A.sl.r hn
  rw [read0, read1]

/-- What a grid point leaves in its block of result 12. -/
theorem point12 : (outsAt0 m c t).1 = k0_pay4 (F := Ideal) (iblk m c 0 t) (iblk m c 1 t) (part 0 (iblk m c 2 t) (by decide)) := by
  rw [outsAt0]
  dsimp only
  rw [out0_A_12, View.read_writes_junk_eq_canon]
  unfold kernelRun0_A
  dsimp only
  refine (View.canon_cons_unit_lit _ _ _ (by decide)).trans ?_
  rw [read0, read1, read2]

/-- What a grid point leaves in its block of result 14. -/
theorem point14 : (outsAt0 m c t).2.2.1 = k0_pay5 (F := Ideal) (iblk m c 0 t) (iblk m c 1 t) (part 1024 (iblk m c 2 t) (by decide)) := by
  rw [outsAt0]
  dsimp only
  rw [out0_A_14, View.read_writes_junk_eq_canon]
  unfold kernelRun0_A
  dsimp only
  refine (View.canon_cons_unit_lit _ _ _ (by decide)).trans ?_
  rw [read0, read1, read2]

/-- What a grid point leaves in its block of result 15. -/
theorem point15 : (outsAt0 m c t).2.2.2.1 = k0_pay7 (hn m c t) (k0_pay6 (part 2048 (iblk m c 2 t) (by decide))) (constant S512x1024 .f32 0#32)
    (part 3072 (iblk m c 2 t) (by decide)) := by
  rw [outsAt0]
  dsimp only
  rw [out0_A_15, View.read_writes_junk_eq_canon]
  unfold kernelRun0_A
  dsimp only
  refine (View.canon_cons_unit_lit _ _ _ (by decide)).trans ?_
  rw [hn_run, kernelRun0_A.sl.r_1, kernelRun0_A.sl.cst_18, read2, read2]

/-- What a grid point leaves in its block of result 16. -/
theorem point16 : (outsAt0 m c t).2.2.2.2.1 = k0_pay8 (hn m c t) (iblk m c 4 t) := by
  rw [outsAt0]
  dsimp only
  rw [out0_A_16, View.read_writes_junk_eq_canon]
  unfold kernelRun0_A
  dsimp only
  refine (View.canon_cons_unit_lit _ _ _ (by decide)).trans ?_
  rw [hn_run, read4]

/-- What a grid point leaves in its block of result 17. -/
theorem point17 : (outsAt0 m c t).2.2.2.2.2.1
    = k0_pay29 (k0_pay27 (hn m c t) (iblk m c 5 t) (iblk m c 8 t)) (k0_pay28 (hn m c t) (iblk m c 5 t) (iblk m c 9 t)) := by
  rw [outsAt0]
  dsimp only
  rw [out0_A_17, View.read_writes_junk_eq_canon]
  unfold kernelRun0_A
  dsimp only
  refine (View.canon_cons_unit_lit _ _ _ (by decide)).trans ?_
  rw [kernelRun0_A.sl.r_6, kernelRun0_A.sl.r_7, hn_run, read3, read8, read8]

end Cert.ProjIdeal.Feed

end
-- ==== Proof.Feed.Pieces.lean ====
module

public import proofs.«01_k».proof.Proof.Feed.Point

/-!
# The blocks a point stores in several pieces
-/

@[expose] public section

noncomputable section

namespace Cert.ProjIdeal.Feed

open Cert.ProjIdeal Cert.ProjIdeal.Gen Cert.Last Cert.Feed
open Idealize.ShloMosaic Idealize.ShloMosaic.TcCoe Idealize.ShloMosaic.Tactic
open Idealize.ShloMosaic.StableHlo

/-- The transposed keys' block, from the keys: 256 numbers of 128 tokens apiece. -/
def keysBlock (v : FVec Ideal S1024x512 .f32) : S4x4x256x128.Idx → EReal := fun y =>
  v (ix2 (⟨256 * (y 0).val + (y 2).val, by have h0 : (y 0).val < 4 := (y 0).isLt; have h2 : (y 2).val < 256 := (y 2).isLt; omega⟩ : Fin 1024)
    (⟨128 * (y 1).val + (y 3).val, by have h1 : (y 1).val < 4 := (y 1).isLt; have h3 : (y 3).val < 128 := (y 3).isLt; omega⟩ : Fin 512))

/-- A piece of it is a slice of the keys. -/
theorem keys_piece (v : FVec Ideal S1024x512 .f32) (p q : ℕ) {o₁ o₂ : ℕ} (hs : S1024x512.Slices ![o₁, o₂] S256x128)
    (hc : S256x128.ShapeCasts S1x1x256x128) (h₁ : o₁ = 256 * p) (h₂ : o₂ = 128 * q)
    (hb : ∀ a, (![p, q, 0, 0] : Fin 4 → ℕ) a + S1x1x256x128.size a ≤ S4x4x256x128.size a) (x : S1x1x256x128.Idx) :
    (shapeCast S1x1x256x128 (truncf .bf16 (extractStridedSlice S256x128 ![o₁, o₂] v hs) bitsLt_bf16_f32 : FVec Ideal S256x128 .bf16) hc x : EReal)
      = keysBlock v ((Rect.unit (s := S4x4x256x128) ![p, q, 0, 0] S1x1x256x128.size hb).emb x) := by
  subst h₁ h₂
  have h0 : (x 0).val < 1 := (x 0).isLt
  have h1 : (x 1).val < 1 := (x 1).isLt
  refine (shapeCast_apply _ hc x (ix2 (x 2 : Fin 256) (x 3 : Fin 128)) ?_).trans ?_
  · rw [Shape.rowMajor_val_two, Shape.rowMajor_val_four]
    show (x 2).val * 128 + (x 3).val = (((x 0).val * 1 + (x 1).val) * 256 + (x 2).val) * 128 + (x 3).val
    omega
  refine extractStridedSlice_apply _ v hs _ _ fun a => ?_
  match a with
  | ⟨0, _⟩ => show 256 * (p + 1 * (x 0).val) + (0 + 1 * (x 2).val) = 256 * p + (x 2).val; omega
  | ⟨1, _⟩ => show 128 * (q + 1 * (x 1).val) + (0 + 1 * (x 3).val) = 128 * q + (x 3).val; omega

/-- The rotated keys' block, from the keys padded to 128 columns a head. -/
def turnedBlock (v : FVec Ideal S512x512 .f32) : S1x4x1x512x64.Idx → EReal := fun y =>
  v (ix2 (y 3 : Fin 512) (⟨128 * (y 1).val + (y 4).val, by have h1 : (y 1).val < 4 := (y 1).isLt; have h4 : (y 4).val < 64 := (y 4).isLt; omega⟩ : Fin 512))

/-- A piece of it is a slice of those. -/
theorem turned_piece (v : FVec Ideal S512x512 .f32) (p : ℕ) {o : ℕ} (hs : S512x512.Slices ![0, o] S512x64)
    (hc : S512x64.ShapeCasts S1x1x1x512x64) (h : o = 128 * p)
    (hb : ∀ a, (![0, p, 0, 0, 0] : Fin 5 → ℕ) a + S1x1x1x512x64.size a ≤ S1x4x1x512x64.size a) (x : S1x1x1x512x64.Idx) :
    (shapeCast S1x1x1x512x64 (truncf .bf16 (extractStridedSlice S512x64 ![0, o] v hs) bitsLt_bf16_f32 : FVec Ideal S512x64 .bf16) hc x : EReal)
      = turnedBlock v ((Rect.unit (s := S1x4x1x512x64) ![0, p, 0, 0, 0] S1x1x1x512x64.size hb).emb x) := by
  subst h
  have h0 : (x 0).val < 1 := (x 0).isLt
  have h1 : (x 1).val < 1 := (x 1).isLt
  have h2 : (x 2).val < 1 := (x 2).isLt
  refine (shapeCast_apply _ hc x (ix2 (x 3 : Fin 512) (x 4 : Fin 64)) ?_).trans ?_
  · rw [Shape.rowMajor_val_two, Shape.rowMajor_val_five]
    show (x 3).val * 64 + (x 4).val = ((((x 0).val * 1 + (x 1).val) * 1 + (x 2).val) * 512 + (x 3).val) * 64 + (x 4).val
    omega
  refine extractStridedSlice_apply _ v hs _ _ fun a => ?_
  match a with
  | ⟨0, _⟩ => show 0 + 1 * (x 3).val = 0 + (x 3).val; omega
  | ⟨1, _⟩ => show 128 * (p + 1 * (x 1).val) + (0 + 1 * (x 4).val) = 128 * p + (x 4).val; omega

/-- The values' block: 64 rows of a head's values, then the 16 rows `u`. -/
def valuesBlock (v : FVec Ideal S256x512 .f32) (u : FVec Ideal S16x512 .bf16) : S1x4x1x80x512.Idx → EReal := fun y =>
  if h : (y 3).val < 64 then
    v (ix2 (⟨64 * (y 1).val + (y 3).val, by have h1 : (y 1).val < 4 := (y 1).isLt; omega⟩ : Fin 256) (y 4 : Fin 512))
  else u (ix2 (⟨(y 3).val - 64, by have h3 : (y 3).val < 80 := (y 3).isLt; omega⟩ : Fin 16) (y 4 : Fin 512))

/-- A piece of it is a slice of the values, -/
theorem values_piece (v : FVec Ideal S256x512 .f32) (u : FVec Ideal S16x512 .bf16) (p : ℕ) {o : ℕ} (hs : S256x512.Slices ![o, 0] S64x512)
    (hc : S64x512.ShapeCasts S1x1x1x64x512) (h : o = 64 * p)
    (hb : ∀ a, (![0, p, 0, 0, 0] : Fin 5 → ℕ) a + S1x1x1x64x512.size a ≤ S1x4x1x80x512.size a) (x : S1x1x1x64x512.Idx) :
    (shapeCast S1x1x1x64x512 (truncf .bf16 (extractStridedSlice S64x512 ![o, 0] v hs) bitsLt_bf16_f32 : FVec Ideal S64x512 .bf16) hc x : EReal)
      = valuesBlock v u ((Rect.unit (s := S1x4x1x80x512) ![0, p, 0, 0, 0] S1x1x1x64x512.size hb).emb x) := by
  subst h
  have h0 : (x 0).val < 1 := (x 0).isLt
  have h1 : (x 1).val < 1 := (x 1).isLt
  have h2 : (x 2).val < 1 := (x 2).isLt
  have h3 : (x 3).val < 64 := (x 3).isLt
  refine (shapeCast_apply _ hc x (ix2 (x 3 : Fin 64) (x 4 : Fin 512)) ?_).trans ?_
  · rw [Shape.rowMajor_val_two, Shape.rowMajor_val_five]
    show (x 3).val * 512 + (x 4).val = ((((x 0).val * 1 + (x 1).val) * 1 + (x 2).val) * 64 + (x 3).val) * 512 + (x 4).val
    omega
  refine Eq.trans ?_ (dif_pos (show 0 + 1 * (x 3).val < 64 by omega)).symm
  refine extractStridedSlice_apply _ v hs _ _ fun a => ?_
  match a with
  | ⟨0, _⟩ => show 64 * (p + 1 * (x 1).val) + (0 + 1 * (x 3).val) = 64 * p + (x 3).val; omega
  | ⟨1, _⟩ => show 0 + 1 * (x 4).val = 0 + (x 4).val; omega

/-- or the rows below them. -/
theorem below_piece (v : FVec Ideal S256x512 .f32) (u : FVec Ideal S16x512 .bf16) (p : ℕ)
    (hc : S16x512.ShapeCasts S1x1x1x16x512)
    (hb : ∀ a, (![0, p, 0, 64, 0] : Fin 5 → ℕ) a + S1x1x1x16x512.size a ≤ S1x4x1x80x512.size a) (x : S1x1x1x16x512.Idx) :
    (shapeCast S1x1x1x16x512 u hc x : EReal)
      = valuesBlock v u ((Rect.unit (s := S1x4x1x80x512) ![0, p, 0, 64, 0] S1x1x1x16x512.size hb).emb x) := by
  have h0 : (x 0).val < 1 := (x 0).isLt
  have h1 : (x 1).val < 1 := (x 1).isLt
  have h2 : (x 2).val < 1 := (x 2).isLt
  refine Eq.trans ?_ (dif_neg (show ¬ 64 + 1 * (x 3).val < 64 by omega)).symm
  refine shapeCast_apply _ hc x _ ?_
  rw [Shape.rowMajor_val_two, Shape.rowMajor_val_five]
  show (64 + 1 * (x 3).val - 64) * 512 + (0 + 1 * (x 4).val) = ((((x 0).val * 1 + (x 1).val) * 1 + (x 2).val) * 16 + (x 3).val) * 512 + (x 4).val
  omega

variable (m : (ℓ : Loc nD τ sig) → Buf (Elt Ideal) ℓ) (c : Dev nD) (t : Fin grid0.N)

/-- The keys a point computes, -/
theorem keys_run : kernelRun0_A.sl.r_2 c (ms0_0 t) (hs0_0 t) (ms0_1 t) (hs0_1 t) (ms0_3 t) (hs0_3 t) (iblk m c 0 t) (iblk m c 1 t) (iblk m c 3 t)
    = k0_pay9 (hn m c t) (iblk m c 3 t) := by
  rw [kernelRun0_A.sl.r_2, hn_run, read3]

/-- the attention's keys, -/
theorem turned_run : kernelRun0_A.sl.r_8 c (ms0_0 t) (hs0_0 t) (ms0_1 t) (hs0_1 t) (ms0_6 t) (hs0_6 t) (ms0_10 t) (hs0_10 t) (ms0_11 t) (hs0_11 t)
      (iblk m c 0 t) (iblk m c 1 t) (iblk m c 6 t) (iblk m c 10 t) (iblk m c 11 t)
    = k0_pay30 (hn m c t) (iblk m c 6 t) (iblk m c 10 t) (iblk m c 11 t) := by
  rw [kernelRun0_A.sl.r_8, hn_run, read6, read8, read8]

/-- and its values. -/
theorem values_run : kernelRun0_A.sl.r_10 c (ms0_0 t) (hs0_0 t) (ms0_1 t) (hs0_1 t) (ms0_7 t) (hs0_7 t) (iblk m c 0 t) (iblk m c 1 t) (iblk m c 7 t)
    = k0_pay36 (hn m c t) (iblk m c 7 t) := by
  rw [kernelRun0_A.sl.r_10, hn_run, read6]

/-- What a grid point leaves in its block of result 13, written in several pieces. -/
theorem point13 (y : S4x4x256x128.Idx) : ((outsAt0 m c t).2.1 : S4x4x256x128.Idx → EReal) y = keysBlock (k0_pay9 (hn m c t) (iblk m c 3 t)) y := by
  rw [outsAt0]
  dsimp only
  rw [out0_A_13, View.read_writes_junk_eq_canon]
  refine View.canon_apply_of_pieces (Val := Elt Ideal) (e := .bf16) (keysBlock (k0_pay9 (hn m c t) (iblk m c 3 t))) _ ?_ y (cover0_A_13 ..)
  unfold kernelRun0_A
  dsimp only
  rw [keys_run, kernelRun0_A.sl.r_3, kernelRun0_A.sl.r_4, kernelRun0_A.sl.r_5, keys_run, hn_run, read3]
  simp only [k0_pay10, k0_pay11, k0_pay12, k0_pay13, k0_pay14, k0_pay15, k0_pay16, k0_pay17, k0_pay18, k0_pay19, k0_pay20, k0_pay21, k0_pay22,
    k0_pay23, k0_pay24, k0_pay25]
  generalize k0_pay9 (hn m c t) (iblk m c 3 t) = v
  intro pc hp
  simp only [List.mem_cons, List.not_mem_nil, or_false] at hp
  rcases hp with rfl | rfl | rfl | rfl | rfl | rfl | rfl | rfl | rfl | rfl | rfl | rfl | rfl | rfl | rfl | rfl <;> intro x
  all_goals exact keys_piece v _ _ _ _ (by rfl) (by rfl) (by decide) x

/-- What a grid point leaves in its block of result 18, written in several pieces. -/
theorem point18 (y : S1x4x1x512x64.Idx) : ((outsAt0 m c t).2.2.2.2.2.2.1 : S1x4x1x512x64.Idx → EReal) y
    = turnedBlock (k0_pay30 (hn m c t) (iblk m c 6 t) (iblk m c 10 t) (iblk m c 11 t)) y := by
  rw [outsAt0]
  dsimp only
  rw [out0_A_18, View.read_writes_junk_eq_canon]
  refine View.canon_apply_of_pieces (Val := Elt Ideal) (e := .bf16) (turnedBlock (k0_pay30 (hn m c t) (iblk m c 6 t) (iblk m c 10 t) (iblk m c 11 t))) _ ?_ y (cover0_A_18 ..)
  unfold kernelRun0_A
  dsimp only
  rw [turned_run, kernelRun0_A.sl.r_9, hn_run, read6, read8, read8]
  simp only [k0_pay31, k0_pay32, k0_pay33, k0_pay34, k0_pay35]
  generalize k0_pay30 (hn m c t) (iblk m c 6 t) (iblk m c 10 t) (iblk m c 11 t) = v
  intro pc hp
  simp only [List.mem_cons, List.not_mem_nil, or_false] at hp
  rcases hp with rfl | rfl | rfl | rfl <;> intro x
  all_goals exact turned_piece v _ _ _ (by rfl) (by decide) x

/-- What a grid point leaves in its block of result 19, written in several pieces. -/
theorem point19 (y : S1x4x1x80x512.Idx) : ((outsAt0 m c t).2.2.2.2.2.2.2 : S1x4x1x80x512.Idx → EReal) y
    = valuesBlock (k0_pay36 (hn m c t) (iblk m c 7 t)) k0_pay37 y := by
  rw [outsAt0]
  dsimp only
  rw [out0_A_19, View.read_writes_junk_eq_canon]
  refine View.canon_apply_of_pieces (Val := Elt Ideal) (e := .bf16) (valuesBlock (k0_pay36 (hn m c t) (iblk m c 7 t)) k0_pay37) _ ?_ y (cover0_A_19 ..)
  unfold kernelRun0_A
  dsimp only
  rw [kernelRun0_A.sl.r_12, values_run, kernelRun0_A.sl.r_11, hn_run, read6]
  simp only [k0_pay38, k0_pay39, k0_pay40, k0_pay41, k0_pay42, k0_pay43, k0_pay44, k0_pay45, k0_pay1, k0_pay2]
  generalize k0_pay36 (hn m c t) (iblk m c 7 t) = v
  generalize (k0_pay37 : FVec Ideal S16x512 .bf16) = u
  intro pc hp
  simp only [List.mem_cons, List.not_mem_nil, or_false] at hp
  rcases hp with rfl | rfl | rfl | rfl | rfl | rfl | rfl | rfl <;> intro x
  all_goals first
    | exact values_piece v u _ _ _ (by rfl) (by decide) x
    | exact below_piece v u _ _ (by decide) x

end Cert.ProjIdeal.Feed

end
-- ==== Proof.Feed.Generic.lean ====
module

public import proofs.«01_k».proof.Proof.Feed.Target
public import Idealize.ShloMosaic.Lib.MatmulPlain
public import Idealize.ShloMosaic.Lib.ValueLayout
public import Idealize.ShloMosaic.Lib.Pointwise
public import Idealize.ShloMosaic.Lib.Pipeline.ValueKit

/-!
# The body's operations at an entry, at any size
-/

@[expose] public section

noncomputable section

namespace Cert.Feed

open Idealize.ShloMosaic Idealize.ShloMosaic.TcCoe Cert.Last

section rows
variable {n w : ℕ}

/-- The sum of a row, kept as a column's entry. -/
theorem sum_apply (v : FVec Ideal ⟨2, ![n, w]⟩ .f32) (hr : (⟨2, ![n, w]⟩ : Shape).Reduces [1] ⟨1, ![n]⟩)
    (hφ : FKind.Formats .f32) (hn : (0#32 : BitVec 32) = FKind.add.neutral .f32 hφ)
    (hs : (⟨1, ![n]⟩ : Shape).ShapeCasts ⟨2, ![n, 1]⟩) (r : Fin n) :
    shapeCast ⟨2, ![n, 1]⟩ (multiReduction FKind.add [1] ⟨1, ![n]⟩ v 0#32 hr hφ hn) hs (ix2 r 0)
      = ∑ k : Fin w, (v (ix2 r k) : EReal) := by
  rw [shapeCast_apply _ hs (ix2 r 0) (ix1 r) (by rw [Shape.rowMajor_val_one, Shape.rowMajor_val_two]; show r.val = r.val * 1 + 0; omega)]
  simp only [pointwise]

/-- A column laid along every row. -/
theorem column_apply (v : FVec Ideal ⟨2, ![n, 1]⟩ .f32) (h : (⟨2, ![n, 1]⟩ : Shape).Broadcasts ⟨2, ![n, w]⟩) (r : Fin n) (j : Fin w) :
    broadcastTo ⟨2, ![n, w]⟩ v h (ix2 r j) = v (ix2 r 0) := by
  refine broadcastTo_apply v h (ix2 r j) (ix2 r 0) fun a => ?_
  have := r.isLt
  match a with
  | ⟨0, _⟩ => show r.val = if n = 1 then 0 else r.val; split <;> omega
  | ⟨1, _⟩ => rfl

/-- A row laid along every column. -/
theorem line_apply (v : FVec Ideal ⟨2, ![1, w]⟩ .f32) (h : (⟨2, ![1, w]⟩ : Shape).Broadcasts ⟨2, ![n, w]⟩) (r : Fin n) (j : Fin w) :
    broadcastTo ⟨2, ![n, w]⟩ v h (ix2 r j) = v (ix2 0 j) := by
  refine broadcastTo_apply v h (ix2 r j) (ix2 0 j) fun a => ?_
  have := j.isLt
  match a with
  | ⟨0, _⟩ => rfl
  | ⟨1, _⟩ => show j.val = if w = 1 then 0 else j.val; split <;> omega

end rows

section heads
variable {n d w : ℕ}

/-- The sum over a head's numbers, kept with an axis of one. -/
theorem headSum_apply (v : FVec Ideal ⟨3, ![n, d, w]⟩ .f32) (hr : (⟨3, ![n, d, w]⟩ : Shape).Reduces [1] ⟨2, ![n, w]⟩)
    (hφ : FKind.Formats .f32) (hn : (0#32 : BitVec 32) = FKind.add.neutral .f32 hφ)
    (hs : (⟨2, ![n, w]⟩ : Shape).ShapeCasts ⟨3, ![n, 1, w]⟩) (i : Fin n) (r : Fin w) :
    shapeCast ⟨3, ![n, 1, w]⟩ (multiReduction FKind.add [1] ⟨2, ![n, w]⟩ v 0#32 hr hφ hn) hs (ix3 i 0 r)
      = ∑ e : Fin d, (v (ix3 i e r) : EReal) := by
  rw [shapeCast_apply _ hs (ix3 i 0 r) (ix2 i r) (by
    rw [Shape.rowMajor_val_two, Shape.rowMajor_val_three]; show i.val * w + r.val = (i.val * 1 + 0) * w + r.val; rw [mul_one, add_zero])]
  simp only [pointwise]

/-- A head's one number laid along its axis, -/
theorem headSpread_apply (v : FVec Ideal ⟨3, ![n, 1, w]⟩ .f32) (h : (⟨3, ![n, 1, w]⟩ : Shape).Broadcasts ⟨3, ![n, d, w]⟩)
    (i : Fin n) (e : Fin d) (r : Fin w) : broadcastTo ⟨3, ![n, d, w]⟩ v h (ix3 i e r) = v (ix3 i 0 r) := by
  refine broadcastTo_apply v h (ix3 i e r) (ix3 i 0 r) fun a => ?_
  have := i.isLt; have := r.isLt
  match a with
  | ⟨0, _⟩ => show i.val = if n = 1 then 0 else i.val; split <;> omega
  | ⟨1, _⟩ => rfl
  | ⟨2, _⟩ => show r.val = if w = 1 then 0 else r.val; split <;> omega

/-- and a table laid along the heads. -/
theorem table_apply (v : FVec Ideal ⟨2, ![d, w]⟩ .f32) (hs : (⟨2, ![d, w]⟩ : Shape).ShapeCasts ⟨3, ![1, d, w]⟩)
    (h : (⟨3, ![1, d, w]⟩ : Shape).Broadcasts ⟨3, ![n, d, w]⟩)
    (i : Fin n) (e : Fin d) (r : Fin w) : broadcastTo ⟨3, ![n, d, w]⟩ (shapeCast ⟨3, ![1, d, w]⟩ v hs) h (ix3 i e r) = v (ix2 e r) := by
  have := e.isLt; have := r.isLt
  rw [broadcastTo_apply _ h (ix3 i e r) (ix3 0 e r) fun a => ?_, shapeCast_apply v hs (ix3 0 e r) (ix2 e r) ?_]
  · rw [Shape.rowMajor_val_two, Shape.rowMajor_val_three]
    show e.val * w + r.val = (0 * d + e.val) * w + r.val
    rw [zero_mul, zero_add]
  · match a with
    | ⟨0, _⟩ => rfl
    | ⟨1, _⟩ => show e.val = if d = 1 then 0 else e.val; split <;> omega
    | ⟨2, _⟩ => show r.val = if w = 1 then 0 else r.val; split <;> omega

end heads

section turns
variable {n : ℕ}

/-- A head's rows, among all the projection's. -/
theorem heads_apply {N : ℕ} (v : FVec Ideal ⟨2, ![N, 512]⟩ .f32) (hs : (⟨2, ![N, 512]⟩ : Shape).ShapeCasts ⟨3, ![n, 64, 512]⟩)
    (i : Fin n) (e : Fin 64) (r : Fin 512) (k : Fin N) (hk : k.val = 64 * i.val + e.val) :
    shapeCast ⟨3, ![n, 64, 512]⟩ v hs (ix3 i e r) = v (ix2 k r) := by
  refine shapeCast_apply v hs _ _ ?_
  rw [Shape.rowMajor_val_two, Shape.rowMajor_val_three]
  show k.val * 512 + r.val = (i.val * 64 + e.val) * 512 + r.val
  omega

/-- A head's numbers by axis and half, -/
theorem split_apply (v : FVec Ideal ⟨3, ![n, 64, 512]⟩ .f32) (hs : (⟨3, ![n, 64, 512]⟩ : Shape).ShapeCasts ⟨5, ![n, 2, 2, 16, 512]⟩)
    (i : Fin n) (a h : Fin 2) (j : Fin 16) (r : Fin 512) :
    shapeCast ⟨5, ![n, 2, 2, 16, 512]⟩ v hs (ix5 i a h j r) = v (ix3 i (place a h j) r) := by
  refine shapeCast_apply v hs _ _ ?_
  rw [Shape.rowMajor_val_three, Shape.rowMajor_val_five]
  show (i.val * 64 + (32 * a.val + 16 * h.val + j.val)) * 512 + r.val = (((i.val * 2 + a.val) * 2 + h.val) * 16 + j.val) * 512 + r.val
  omega

/-- and back. -/
theorem join_apply (v : FVec Ideal ⟨5, ![n, 2, 2, 16, 512]⟩ .f32) (hs : (⟨5, ![n, 2, 2, 16, 512]⟩ : Shape).ShapeCasts ⟨3, ![n, 64, 512]⟩)
    (i : Fin n) (a h : Fin 2) (j : Fin 16) (r : Fin 512) :
    shapeCast ⟨3, ![n, 64, 512]⟩ v hs (ix3 i (place a h j) r) = v (ix5 i a h j r) := by
  refine shapeCast_apply v hs _ _ ?_
  rw [Shape.rowMajor_val_three, Shape.rowMajor_val_five]
  show (((i.val * 2 + a.val) * 2 + h.val) * 16 + j.val) * 512 + r.val = (i.val * 64 + (32 * a.val + 16 * h.val + j.val)) * 512 + r.val
  omega

/-- One half of every axis. -/
theorem half_apply (v : FVec Ideal ⟨5, ![n, 2, 2, 16, 512]⟩ .f32) (o : Fin 2)
    (hs : (⟨5, ![n, 2, 2, 16, 512]⟩ : Shape).Slices ![0, 0, o.val, 0, 0] ⟨5, ![n, 2, 1, 16, 512]⟩)
    (i : Fin n) (a : Fin 2) (j : Fin 16) (r : Fin 512) :
    extractStridedSlice ⟨5, ![n, 2, 1, 16, 512]⟩ ![0, 0, o.val, 0, 0] v hs (ix5 i a 0 j r) = v (ix5 i a o j r) :=
  extractStridedSlice_apply _ _ _ _ (ix5 i a o j r) fun b => by
    match b with
    | ⟨0, _⟩ => exact (Nat.zero_add _).symm
    | ⟨1, _⟩ => exact (Nat.zero_add _).symm
    | ⟨2, _⟩ => rfl
    | ⟨3, _⟩ => exact (Nat.zero_add _).symm
    | ⟨4, _⟩ => exact (Nat.zero_add _).symm

/-- The halves exchanged. -/
theorem swap_apply (v : FVec Ideal ⟨5, ![n, 2, 2, 16, 512]⟩ .f32)
    (h1 : (⟨5, ![n, 2, 2, 16, 512]⟩ : Shape).Slices ![0, 0, 1, 0, 0] ⟨5, ![n, 2, 1, 16, 512]⟩)
    (h0 : (⟨5, ![n, 2, 2, 16, 512]⟩ : Shape).Slices ![0, 0, 0, 0, 0] ⟨5, ![n, 2, 1, 16, 512]⟩)
    (hc : Shape.Concatenates [⟨5, ![n, 2, 1, 16, 512]⟩, ⟨5, ![n, 2, 1, 16, 512]⟩] ⟨5, ![n, 2, 2, 16, 512]⟩ 2)
    (i : Fin n) (a h : Fin 2) (j : Fin 16) (r : Fin 512) :
    concatenate ⟨5, ![n, 2, 2, 16, 512]⟩ 2 [⟨⟨5, ![n, 2, 1, 16, 512]⟩, extractStridedSlice ⟨5, ![n, 2, 1, 16, 512]⟩ ![0, 0, 1, 0, 0] v h1⟩,
      ⟨⟨5, ![n, 2, 1, 16, 512]⟩, extractStridedSlice ⟨5, ![n, 2, 1, 16, 512]⟩ ![0, 0, 0, 0, 0] v h0⟩] hc (ix5 i a h j r) = v (ix5 i a (1 - h) j r) := by
  match h with
  | 0 =>
    refine (concatenate_pair_apply_left (t := ⟨5, ![n, 2, 2, 16, 512]⟩) (s₁ := ⟨5, ![n, 2, 1, 16, 512]⟩) (s₂ := ⟨5, ![n, 2, 1, 16, 512]⟩)
      2 _ _ hc (ix5 i a 0 j r) rfl (ix5 i a 0 j r) fun b => ?_).trans (half_apply v 1 h1 i a j r)
    match b with
    | ⟨0, _⟩ => rfl
    | ⟨1, _⟩ => rfl
    | ⟨2, _⟩ => rfl
    | ⟨3, _⟩ => rfl
    | ⟨4, _⟩ => rfl
  | 1 =>
    refine (concatenate_pair_apply_right (t := ⟨5, ![n, 2, 2, 16, 512]⟩) (s₁ := ⟨5, ![n, 2, 1, 16, 512]⟩) (s₂ := ⟨5, ![n, 2, 1, 16, 512]⟩)
      2 _ _ hc (ix5 i a 1 j r) rfl rfl (ix5 i a 0 j r) (fun b hb => ?_) rfl).trans (half_apply v 0 h0 i a j r)
    match b with
    | ⟨0, _⟩ => rfl
    | ⟨1, _⟩ => rfl
    | ⟨2, _⟩ => exact absurd rfl hb
    | ⟨3, _⟩ => rfl
    | ⟨4, _⟩ => rfl

/-- A head over its root mean square, as the body writes it; -/
abbrev unitV (v : FVec Ideal ⟨3, ![n, 64, 512]⟩ .f32) (hr : (⟨3, ![n, 64, 512]⟩ : Shape).Reduces [1] ⟨2, ![n, 512]⟩)
    (hs : (⟨2, ![n, 512]⟩ : Shape).ShapeCasts ⟨3, ![n, 1, 512]⟩) (hb : (⟨3, ![n, 1, 512]⟩ : Shape).Broadcasts ⟨3, ![n, 64, 512]⟩) :
    FVec Ideal ⟨3, ![n, 64, 512]⟩ .f32 :=
  mulf v (broadcastTo ⟨3, ![n, 64, 512]⟩ (rsqrt (addf (divf (shapeCast ⟨3, ![n, 1, 512]⟩ (multiReduction .add [1] ⟨2, ![n, 512]⟩ (mulf v v)
    0x00000000#32 hr (.inl rfl) rfl) hs) (broadcast ⟨3, ![n, 1, 512]⟩ (Scalar.ofBits (F := Ideal) .f32 0x42800000#32)))
    (broadcast ⟨3, ![n, 1, 512]⟩ (Scalar.ofBits (F := Ideal) .f32 0x358637BD#32)))) hb)

/-- at an entry. -/
theorem unitV_apply (v : FVec Ideal ⟨3, ![n, 64, 512]⟩ .f32) (hr) (hs) (hb) (i : Fin n) (e : Fin 64) (r : Fin 512) :
    unitV v hr hs hb (ix3 i e r) = unit (fun d => v (ix3 i d r)) e := by
  have e1 : ∀ (u : FVec Ideal ⟨3, ![n, 64, 512]⟩ .f32), mulf v u (ix3 i e r) = (v (ix3 i e r) * u (ix3 i e r) : EReal) := fun _ => rfl
  have e2 : ∀ (s : FVec Ideal ⟨3, ![n, 1, 512]⟩ .f32), rsqrt (addf (divf s (broadcast ⟨3, ![n, 1, 512]⟩ (Scalar.ofBits (F := Ideal) .f32 0x42800000#32)))
    (broadcast ⟨3, ![n, 1, 512]⟩ (Scalar.ofBits (F := Ideal) .f32 0x358637BD#32))) (ix3 i 0 r)
      = Ideal.rsqrt (Ideal.div (s (ix3 i 0 r)) (Ideal.ofBits .f32 0x42800000#32) + Ideal.ofBits .f32 0x358637BD#32) := fun _ => rfl
  refine (e1 _).trans ?_
  rw [headSpread_apply, e2]
  exact congrArg (fun s : EReal => (v (ix3 i e r) * Ideal.rsqrt (Ideal.div s (Ideal.ofBits .f32 0x42800000#32)
    + Ideal.ofBits .f32 0x358637BD#32) : EReal)) (headSum_apply (mulf v v) hr (.inl rfl) rfl hs i r)

/-- A head with its halves exchanged, at an entry. -/
theorem swapV_apply (v : FVec Ideal ⟨3, ![n, 64, 512]⟩ .f32) (hs : (⟨3, ![n, 64, 512]⟩ : Shape).ShapeCasts ⟨5, ![n, 2, 2, 16, 512]⟩)
    (h1) (h0) (hc) (hj : (⟨5, ![n, 2, 2, 16, 512]⟩ : Shape).ShapeCasts ⟨3, ![n, 64, 512]⟩)
    (i : Fin n) (a h : Fin 2) (j : Fin 16) (r : Fin 512) :
    shapeCast ⟨3, ![n, 64, 512]⟩ (concatenate ⟨5, ![n, 2, 2, 16, 512]⟩ 2
      [⟨⟨5, ![n, 2, 1, 16, 512]⟩, extractStridedSlice ⟨5, ![n, 2, 1, 16, 512]⟩ ![0, 0, 1, 0, 0] (shapeCast ⟨5, ![n, 2, 2, 16, 512]⟩ v hs) h1⟩,
      ⟨⟨5, ![n, 2, 1, 16, 512]⟩, extractStridedSlice ⟨5, ![n, 2, 1, 16, 512]⟩ ![0, 0, 0, 0, 0] (shapeCast ⟨5, ![n, 2, 2, 16, 512]⟩ v hs) h0⟩] hc)
      hj (ix3 i (place a h j) r) = v (ix3 i (place a (1 - h) j) r) := by
  rw [join_apply, swap_apply, split_apply]

end turns

end Cert.Feed

end
-- ==== Proof.Feed.Ops.lean ====
module

public import proofs.«01_k».proof.Proof.Gen.ProjIdeal.Skeleton
public import proofs.«01_k».proof.Proof.Feed.Generic

/-!
# The projections' body, entry by entry
-/

@[expose] public section

noncomputable section

namespace Cert.ProjIdeal.Feed

open Cert.ProjIdeal Cert.ProjIdeal.Gen Cert.Last Cert.Feed
open Idealize.ShloMosaic Idealize.ShloMosaic.TcCoe
open Idealize.ShloMosaic.ValueIdx (shapeCast_1ab_ab_apply shapeCast_ab_1ab_apply shapeCast_abc_1abc_apply)

/-- Row `r` of a block; the row of a block of one row. -/
abbrev row (x : FVec Ideal S1x512x1024 .f32) (r : Fin 512) : Row := fun j => x (ix3 0 r j)
/-- A gain kept as an array of one row, as a function of the column. -/
abbrev one (g : FVec Ideal S1x1024 .f32) : Row := fun j => g (ix2 0 j)

/-- A block's rows normalised, as the body writes it. -/
abbrev normed (x : FVec Ideal S512x1024 .f32) (g : FVec Ideal S1x1024 .f32) : FVec Ideal S512x1024 .f32 :=
  mulf (mulf x (broadcastTo S512x1024 (rsqrt (addf (divf (shapeCast S512x1 (multiReduction .add [1] S512 (mulf x x) 0x00000000#32
    reduces_S512x1024_S512 (.inl rfl) rfl) shapeCasts_S512_S512x1) (broadcast S512x1 (Scalar.ofBits (F := Ideal) .f32 0x44800000#32)))
    (broadcast S512x1 (Scalar.ofBits (F := Ideal) .f32 0x358637BD#32)))) broadcasts_S512x1_S512x1024))
    (broadcastTo S512x1024 g broadcasts_S1x1024_S512x1024)

/-- It is `norm` of every row. -/
theorem normed_apply (x : FVec Ideal S512x1024 .f32) (g : FVec Ideal S1x1024 .f32) (r : Fin 512) (j : Fin 1024) :
    normed x g (ix2 r j) = norm (fun j => x (ix2 r j)) (one g) j := by
  have e : ∀ u v : FVec Ideal S512x1024 .f32, mulf (mulf x u) v (ix2 r j) = (x (ix2 r j) * u (ix2 r j) * v (ix2 r j) : EReal) := fun _ _ => rfl
  have e2 : ∀ (s : FVec Ideal S512x1 .f32), rsqrt (addf (divf s (broadcast S512x1 (Scalar.ofBits (F := Ideal) .f32 0x44800000#32)))
    (broadcast S512x1 (Scalar.ofBits (F := Ideal) .f32 0x358637BD#32))) (ix2 r 0)
      = Ideal.rsqrt (Ideal.div (s (ix2 r 0)) (Ideal.ofBits .f32 0x44800000#32) + Ideal.ofBits .f32 0x358637BD#32) := fun _ => rfl
  refine (e _ _).trans ?_
  rw [column_apply, line_apply, e2]
  exact congrArg (fun s : EReal => (x (ix2 r j) * Ideal.rsqrt (Ideal.div s (Ideal.ofBits .f32 0x44800000#32)
    + Ideal.ofBits .f32 0x358637BD#32) * g (ix2 0 j) : EReal)) (sum_apply (mulf x x) reduces_S512x1024_S512 (.inl rfl) rfl shapeCasts_S512_S512x1 r)

/-- The normalised block. -/
theorem pay3_apply (x : FVec Ideal S1x512x1024 .f32) (g : FVec Ideal S1x1024 .f32) (r : Fin 512) (j : Fin 1024) :
    k0_pay3 (F := Ideal) x g (ix2 r j) = norm (row x r) (one g) j := by
  have e : k0_pay3 x g = (truncf .bf16 (normed (shapeCast S512x1024 x shapeCasts_S1x512x1024_S512x1024) g) bitsLt_bf16_f32 : FVec Ideal S512x1024 .bf16) := by
    simp only [k0_pay3, shapeCast_id]
  rw [e]
  refine (normed_apply _ g r j).trans ?_
  rw [show (fun j => shapeCast S512x1024 x shapeCasts_S1x512x1024_S512x1024 (ix2 r j)) = row x r from
    funext fun j => shapeCast_1ab_ab_apply x shapeCasts_S1x512x1024_S512x1024 r j]

/-- Zero, where a product is added to it. -/
theorem from_zero (s : EReal) : (FloatOps.ofBits (F := Ideal) .f32 0#32 : EReal) + s = s := by
  rw [show (FloatOps.ofBits (F := Ideal) .f32 0#32 : EReal) = 0 from Ideal.ofBits_zero_f32, zero_add]

variable (h : FVec Ideal S512x1024 .bf16)

/-- Rows times a square matrix, -/
theorem dot_apply (w : FVec Ideal S1024x1024 .bf16) (r : Fin 512) (j : Fin 1024) :
    matmul dot_S512x1024_S1024x1024_S512x1024_1_0_0_1_n_n none h w (constant S512x1024 .f32 0#32) (ix2 r j)
      = ∑ k : Fin 1024, (h (ix2 r k) * w (ix2 k j) : EReal) :=
  (Ideal.matmul_plain_apply none h w (constant S512x1024 .f32 0#32) r j).trans (from_zero _)

/-- rows times a matrix of 128 columns, -/
theorem dotGates_apply (w : FVec Ideal S1024x128 .bf16) (r : Fin 512) (j : Fin 128) :
    matmul dot_S512x1024_S1024x128_S512x128_1_0_0_1_n_n none h w (constant S512x128 .f32 0#32) (ix2 r j)
      = ∑ k : Fin 1024, (h (ix2 r k) * w (ix2 k j) : EReal) :=
  (Ideal.matmul_plain_apply none h w (constant S512x128 .f32 0#32) r j).trans (from_zero _)

/-- a transposed matrix times the transposed rows, -/
theorem dotWide_apply (w : FVec Ideal S1024x1024 .bf16) (j : Fin 1024) (r : Fin 512) :
    matmul dot_S1024x1024_S512x1024_S1024x512_1_1_0_0_n_n none w h (constant S1024x512 .f32 0#32) (ix2 j r)
      = ∑ k : Fin 1024, (h (ix2 r k) * w (ix2 j k) : EReal) :=
  ((Ideal.matmul_transposedRhs_apply none w h (constant S1024x512 .f32 0#32) j r).trans (from_zero _)).trans
    (Finset.sum_congr rfl fun _ _ => mul_comm _ _)

/-- and the same of 256. -/
theorem dotNarrow_apply (w : FVec Ideal S256x1024 .bf16) (j : Fin 256) (r : Fin 512) :
    matmul dot_S256x1024_S512x1024_S256x512_1_1_0_0_n_n none w h (constant S256x512 .f32 0#32) (ix2 j r)
      = ∑ k : Fin 1024, (h (ix2 r k) * w (ix2 j k) : EReal) :=
  ((Ideal.matmul_transposedRhs_apply none w h (constant S256x512 .f32 0#32) j r).trans (from_zero _)).trans
    (Finset.sum_congr rfl fun _ _ => mul_comm _ _)

/-- The recurrence's queries; -/
theorem pay4_apply (x : FVec Ideal S1x512x1024 .f32) (g : FVec Ideal S1x1024 .f32) (w : FVec Ideal S1024x1024 .bf16) (r : Fin 512) (j : Fin 1024) :
    k0_pay4 (F := Ideal) x g w (ix3 0 r j) = ∑ k : Fin 1024, (k0_pay3 (F := Ideal) x g (ix2 r k) * w (ix2 k j) : EReal) := by
  simp only [k0_pay4, shapeCast_id]
  exact (shapeCast_ab_1ab_apply _ shapeCasts_S512x1024_S1x512x1024 0 r j).trans (dot_apply _ w r j)

/-- its values; -/
theorem pay5_apply (x : FVec Ideal S1x512x1024 .f32) (g : FVec Ideal S1x1024 .f32) (w : FVec Ideal S1024x1024 .bf16) (r : Fin 512) (j : Fin 1024) :
    k0_pay5 (F := Ideal) x g w (ix3 0 r j) = ∑ k : Fin 1024, (k0_pay3 (F := Ideal) x g (ix2 r k) * w (ix2 k j) : EReal) := by
  simp only [k0_pay5, shapeCast_id]
  exact (shapeCast_ab_1ab_apply _ shapeCasts_S512x1024_S1x512x1024 0 r j).trans (dot_apply _ w r j)

/-- its output gate; -/
theorem pay7_apply (wo wz : FVec Ideal S1024x1024 .bf16) (r : Fin 512) (j : Fin 1024) :
    k0_pay7 h (k0_pay6 wo) (constant S512x1024 .f32 0#32) wz (ix3 0 r j)
      = Ideal.logistic (∑ k : Fin 1024, (h (ix2 r k) * wo (ix2 k j) : EReal))
        * ((∑ k : Fin 1024, (h (ix2 r k) * wz (ix2 k j) : EReal)) * Ideal.logistic (∑ k : Fin 1024, (h (ix2 r k) * wz (ix2 k j) : EReal))) := by
  simp only [k0_pay7, k0_pay6, shapeCast_id]
  refine (shapeCast_ab_1ab_apply _ shapeCasts_S512x1024_S1x512x1024 0 r j).trans ?_
  rw [← dot_apply, ← dot_apply]
  rfl

/-- its input and forget gates; -/
theorem pay8_apply (w : FVec Ideal S1024x128 .bf16) (r : Fin 512) (j : Fin 128) :
    k0_pay8 h w (ix3 0 r j) = ∑ k : Fin 1024, (h (ix2 r k) * w (ix2 k j) : EReal) := by
  simp only [k0_pay8, shapeCast_id]
  exact (shapeCast_ab_1ab_apply _ shapeCasts_S512x128_S1x512x128 0 r j).trans (dotGates_apply h w r j)

/-- its scaled keys, transposed. -/
theorem pay9_apply (w : FVec Ideal S1024x1024 .bf16) (j : Fin 1024) (r : Fin 512) :
    k0_pay9 h w (ix2 j r) = (∑ k : Fin 1024, (h (ix2 r k) * w (ix2 j k) : EReal)) * Ideal.ofBits .f32 0x3D800000#32 := by
  simp only [k0_pay9, shapeCast_id]
  rw [← dotWide_apply]
  rfl

/-- A head of the attention's queries at a token. -/
abbrev headQ (w : FVec Ideal S1024x1024 .bf16) (i : Fin 16) (r : Fin 512) : Head := fun e =>
  ∑ k : Fin 1024, (h (ix2 r k) * w (ix2 (⟨64 * i.val + e.val, by omega⟩ : Fin 1024) k) : EReal)

/-- A head of the attention's keys. -/
abbrev headK (w : FVec Ideal S256x1024 .bf16) (i : Fin 4) (r : Fin 512) : Head := fun e =>
  ∑ k : Fin 1024, (h (ix2 r k) * w (ix2 (⟨64 * i.val + e.val, by omega⟩ : Fin 256) k) : EReal)

/-- The attention's queries, normalised; -/
theorem pay26_apply (w : FVec Ideal S1024x1024 .bf16) (i : Fin 16) (e : Fin 64) (r : Fin 512) :
    k0_pay26 h w (ix3 i e r) = unit (headQ h w i r) e := by
  have e1 : k0_pay26 h w = unitV (shapeCast S16x64x512 (matmul dot_S1024x1024_S512x1024_S1024x512_1_1_0_0_n_n none w h (constant S1024x512 .f32 0#32))
      shapeCasts_S1024x512_S16x64x512) reduces_S16x64x512_S16x512 shapeCasts_S16x512_S16x1x512 broadcasts_S16x1x512_S16x64x512 := by
    simp only [k0_pay26, shapeCast_id]
  rw [e1]
  refine (unitV_apply _ _ _ _ i e r).trans (congrFun (congrArg unit (funext fun d => ?_)) e)
  exact (heads_apply _ shapeCasts_S1024x512_S16x64x512 i d r ⟨64 * i.val + d.val, by omega⟩ rfl).trans (dotWide_apply h w _ r)

/-- and turned, with the tables the body is given. -/
theorem pay29_apply (w : FVec Ideal S1024x1024 .bf16) (ta tb : FVec Ideal S64x512 .f32) (i : Fin 16) (a b : Fin 2) (j : Fin 16) (r : Fin 512) :
    k0_pay29 (k0_pay27 h w ta) (k0_pay28 h w tb) (ix4 0 i (place a b j) r)
      = unit (headQ h w i r) (place a b j) * ta (ix2 (place a b j) r) + unit (headQ h w i r) (place a (1 - b) j) * tb (ix2 (place a b j) r) := by
  simp only [k0_pay29, k0_pay27, k0_pay28, shapeCast_id]
  refine (shapeCast_abc_1abc_apply _ shapeCasts_S16x64x512_S1x16x64x512 0 i (place a b j) r).trans ?_
  have e : ∀ u p v q : FVec Ideal S16x64x512 .f32, (truncf .bf16 (addf (mulf u p) (mulf v q)) bitsLt_bf16_f32 : FVec Ideal S16x64x512 .bf16) (ix3 i (place a b j) r)
      = (u (ix3 i (place a b j) r) * p (ix3 i (place a b j) r) + v (ix3 i (place a b j) r) * q (ix3 i (place a b j) r) : EReal) := fun _ _ _ _ => rfl
  refine (e _ _ _ _).trans ?_
  rw [table_apply, table_apply, swapV_apply, pay26_apply, pay26_apply]

/-- The attention's keys, normalised, as the body writes them; -/
abbrev keysV (w : FVec Ideal S256x1024 .bf16) : FVec Ideal S4x64x512 .f32 :=
  unitV (shapeCast S4x64x512 (matmul dot_S256x1024_S512x1024_S256x512_1_1_0_0_n_n none w h (constant S256x512 .f32 0#32))
      shapeCasts_S256x512_S4x64x512) reduces_S4x64x512_S4x512 shapeCasts_S4x512_S4x1x512 broadcasts_S4x1x512_S4x64x512

/-- at an entry; -/
theorem keysV_apply (w : FVec Ideal S256x1024 .bf16) (i : Fin 4) (e : Fin 64) (r : Fin 512) :
    keysV h w (ix3 i e r) = unit (headK h w i r) e := by
  refine (unitV_apply _ _ _ _ i e r).trans (congrFun (congrArg unit (funext fun d => ?_)) e)
  exact (heads_apply _ shapeCasts_S256x512_S4x64x512 i d r ⟨64 * i.val + d.val, by omega⟩ rfl).trans (dotNarrow_apply h w _ r)

/-- turned, with the tables the body is given, -/
abbrev turnedV (w : FVec Ideal S256x1024 .bf16) (ta tb : FVec Ideal S64x512 .f32) : FVec Ideal S4x64x512 .f32 :=
  addf (mulf (keysV h w) (broadcastTo S4x64x512 (shapeCast S1x64x512 ta shapeCasts_S64x512_S1x64x512) broadcasts_S1x64x512_S4x64x512))
    (mulf (shapeCast S4x64x512 (concatenate S4x2x2x16x512 2
      [⟨S4x2x1x16x512, extractStridedSlice S4x2x1x16x512 ![0, 0, 1, 0, 0] (shapeCast S4x2x2x16x512 (keysV h w) shapeCasts_S4x64x512_S4x2x2x16x512)
        slices_S4x2x2x16x512_o0_0_1_0_0_S4x2x1x16x512⟩,
      ⟨S4x2x1x16x512, extractStridedSlice S4x2x1x16x512 ![0, 0, 0, 0, 0] (shapeCast S4x2x2x16x512 (keysV h w) shapeCasts_S4x64x512_S4x2x2x16x512)
        slices_S4x2x2x16x512_o0_0_0_0_0_S4x2x1x16x512⟩] concatenates_S4x2x1x16x512_S4x2x1x16x512_S4x2x2x16x512_d2) shapeCasts_S4x2x2x16x512_S4x64x512)
      (broadcastTo S4x64x512 (shapeCast S1x64x512 tb shapeCasts_S64x512_S1x64x512) broadcasts_S1x64x512_S4x64x512))

/-- at an entry; -/
theorem turnedV_apply (w : FVec Ideal S256x1024 .bf16) (ta tb : FVec Ideal S64x512 .f32) (i : Fin 4) (a b : Fin 2) (j : Fin 16) (r : Fin 512) :
    turnedV h w ta tb (ix3 i (place a b j) r)
      = unit (headK h w i r) (place a b j) * ta (ix2 (place a b j) r) + unit (headK h w i r) (place a (1 - b) j) * tb (ix2 (place a b j) r) := by
  have e : ∀ u p v q : FVec Ideal S4x64x512 .f32, addf (mulf u p) (mulf v q) (ix3 i (place a b j) r)
      = (u (ix3 i (place a b j) r) * p (ix3 i (place a b j) r) + v (ix3 i (place a b j) r) * q (ix3 i (place a b j) r) : EReal) := fun _ _ _ _ => rfl
  refine (e _ _ _ _).trans ?_
  rw [table_apply, table_apply, swapV_apply]
  exact congrArg₂ (fun u v : EReal => u * ta (ix2 (place a b j) r) + v * tb (ix2 (place a b j) r)) (keysV_apply h w i _ r) (keysV_apply h w i _ r)

/-- the body's layout of them by token: -/
theorem pay30_eq (w : FVec Ideal S256x1024 .bf16) (ta tb : FVec Ideal S64x512 .f32) :
    k0_pay30 h w ta tb = transpose S512x512 [1, 0] (shapeCast S512x512 (concatenate S4x128x512 1 [⟨S4x64x512, turnedV h w ta tb⟩,
      ⟨S4x64x512, broadcast S4x64x512 (Scalar.ofBits (F := Ideal) .f32 0x00000000#32)⟩] concatenates_S4x64x512_S4x64x512_S4x128x512_d1)
      shapeCasts_S4x128x512_S512x512) transposes_S512x512_p1_0_S512x512 := by
  unfold k0_pay30
  rw [shapeCast_id, shapeCast_id, shapeCast_id]

/-- head `i` takes columns from `128 i`. -/
theorem pay30_apply (w : FVec Ideal S256x1024 .bf16) (ta tb : FVec Ideal S64x512 .f32) (i : Fin 4) (a b : Fin 2) (j : Fin 16) (r c : Fin 512)
    (hc : c.val = 128 * i.val + (place a b j).val) :
    k0_pay30 h w ta tb (ix2 r c)
      = unit (headK h w i r) (place a b j) * ta (ix2 (place a b j) r) + unit (headK h w i r) (place a (1 - b) j) * tb (ix2 (place a b j) r) := by
  rw [pay30_eq, ← turnedV_apply]
  generalize turnedV h w ta tb = u
  generalize place a b j = d at hc ⊢
  refine (transpose_apply _ _ _ (ix2 r c) (ix2 c r) (fun b => match b with | ⟨0, _⟩ => rfl | ⟨1, _⟩ => rfl)).trans ?_
  refine (shapeCast_apply _ shapeCasts_S4x128x512_S512x512 (ix2 c r) (ix3 i (⟨d.val, by omega⟩ : Fin 128) r) ?_).trans ?_
  · rw [Shape.rowMajor_val_two, Shape.rowMajor_val_three]
    show (i.val * 128 + d.val) * 512 + r.val = c.val * 512 + r.val
    omega
  refine concatenate_pair_apply_left (t := S4x128x512) (s₁ := S4x64x512) (s₂ := S4x64x512) 1 _ _ _ _ rfl (ix3 i d r) fun b => ?_
  match b with
  | ⟨0, _⟩ => rfl
  | ⟨1, _⟩ => rfl
  | ⟨2, _⟩ => rfl

/-- The attention's values, transposed. -/
theorem pay36_apply (w : FVec Ideal S256x1024 .bf16) (j : Fin 256) (r : Fin 512) :
    k0_pay36 h w (ix2 j r) = ∑ k : Fin 1024, (h (ix2 r k) * w (ix2 j k) : EReal) := by
  simp only [k0_pay36, shapeCast_id]
  exact dotNarrow_apply h w j r

end Cert.ProjIdeal.Feed

end
-- ==== Proof.Feed.Blocks.lean ====
module

public import proofs.«01_k».proof.Proof.Feed.Pieces
public import proofs.«01_k».proof.Proof.Feed.Ops

/-!
# The blocks a point of the projections' grid is given, and what it computes from them
-/

@[expose] public section

noncomputable section

namespace Cert.ProjIdeal.Feed

open Cert.ProjIdeal Cert.ProjIdeal.Gen Cert.Last Cert.Feed
open Idealize.ShloMosaic Idealize.ShloMosaic.TcCoe Idealize.ShloMosaic.Tactic
open Idealize.ShloMosaic.StableHlo

/-- A point's batch entry, -/
def pb (t : Fin grid0.N) : Fin 8 := grid0.coords t 0
/-- its block of 512 tokens, -/
def pi (t : Fin grid0.N) : Fin 16 := grid0.coords t 1
/-- and token `r` of it, among the entry's. -/
def tok (t : Fin grid0.N) (r : Fin 512) : Fin 8192 := ⟨512 * (pi t).val + r.val, by have := (pi t).isLt; omega⟩

/-- A small grid coordinate, as a 32-bit word, is itself. -/
theorem word_val {n : ℕ} (x : Fin n) (h : n ≤ 16) : (BitVec.ofNat 32 x.val).toNat = x.val := by
  rw [BitVec.toNat_ofNat, Nat.mod_eq_of_lt (by have := x.isLt; omega)]

/-- The windows of rows are at the point's entry and block; -/
theorem rows_index (t : Fin grid0.N) : ∀ i ∈ [win0_0.index t, win0_12.index t, win0_14.index t, win0_15.index t, win0_16.index t],
    i = ![(pb t).val, (pi t).val, 0] := by
  have h : (![(BitVec.ofNat 32 (pb t).val).toNat, (BitVec.ofNat 32 (pi t).val).toNat, 0] : Fin 3 → ℕ) = ![(pb t).val, (pi t).val, 0] := by
    rw [word_val _ (by decide), word_val _ (by decide)]
  intro i hi
  simp only [List.mem_cons, List.not_mem_nil, or_false] at hi
  rcases hi with rfl | rfl | rfl | rfl | rfl <;> exact h

/-- the matrices' windows stay; -/
theorem stays (t : Fin grid0.N) : ∀ i ∈ [win0_1.index t, win0_2.index t, win0_3.index t, win0_4.index t, win0_5.index t, win0_6.index t, win0_7.index t],
    i = ![0, 0] := by
  intro i hi
  simp only [List.mem_cons, List.not_mem_nil, or_false] at hi
  rcases hi with rfl | rfl | rfl | rfl | rfl | rfl | rfl <;> rfl

/-- the tables' are at the block; -/
theorem tables_index (t : Fin grid0.N) : ∀ i ∈ [win0_8.index t, win0_9.index t, win0_10.index t, win0_11.index t], i = ![0, (pi t).val] := by
  have h : (![0, (BitVec.ofNat 32 (pi t).val).toNat] : Fin 2 → ℕ) = ![0, (pi t).val] := by rw [word_val _ (by decide)]
  intro i hi
  simp only [List.mem_cons, List.not_mem_nil, or_false] at hi
  rcases hi with rfl | rfl | rfl | rfl <;> exact h

/-- the transposed keys' is at the entry's and block's four chunks of 128 tokens; -/
theorem chunk_val (a b : ℕ) (ha : a < 8) (hb : b < 16) :
    (Scalar.addi (Scalar.muli (BitVec.ofNat 32 a) 16#32) (BitVec.ofNat 32 b)).toNat = 16 * a + b := by
  show (BitVec.ofNat 32 a * 16#32 + BitVec.ofNat 32 b).toNat = _
  rw [BitVec.toNat_add, BitVec.toNat_mul, BitVec.toNat_ofNat, BitVec.toNat_ofNat, BitVec.toNat_ofNat]
  omega

/-- The block of the keys of the mLSTM that a grid point writes. -/
theorem index13 (t : Fin grid0.N) : win0_13.index t = ![0, 16 * (pb t).val + (pi t).val, 0, 0] := by
  show cc0_transform_13 (grid0.coords t) = _
  rw [← chunk_val (pb t).val (pi t).val (pb t).isLt (pi t).isLt]
  unfold cc0_transform_13 pb pi
  rfl

/-- the attention's queries' is at the entry and block, -/
theorem index17 (t : Fin grid0.N) : win0_17.index t = ![(pb t).val, 0, 0, (pi t).val] := by
  have h : (![(BitVec.ofNat 32 (pb t).val).toNat, 0, 0, (BitVec.ofNat 32 (pi t).val).toNat] : Fin 4 → ℕ) = ![(pb t).val, 0, 0, (pi t).val] := by
    rw [word_val _ (by decide), word_val _ (by decide)]
  exact h

/-- and so are its keys' -/
theorem index18 (t : Fin grid0.N) : win0_18.index t = ![(pb t).val, 0, (pi t).val, 0, 0] := by
  show cc0_transform_18 (grid0.coords t) = _
  funext a
  match a with
  | ⟨0, _⟩ => exact word_val (pb t) (by decide)
  | ⟨1, _⟩ => rfl
  | ⟨2, _⟩ => exact word_val (pi t) (by decide)
  | ⟨3, _⟩ => rfl
  | ⟨4, _⟩ => rfl

/-- and values'. -/
theorem index19 (t : Fin grid0.N) : win0_19.index t = ![(pb t).val, 0, (pi t).val, 0, 0] := by
  show cc0_transform_19 (grid0.coords t) = _
  funext a
  match a with
  | ⟨0, _⟩ => exact word_val (pb t) (by decide)
  | ⟨1, _⟩ => rfl
  | ⟨2, _⟩ => exact word_val (pi t) (by decide)
  | ⟨3, _⟩ => rfl
  | ⟨4, _⟩ => rfl

variable (m : (ℓ : Loc nD τ sig) → Buf (Elt Ideal) ℓ) (c : Dev nD) (t : Fin grid0.N)

/-- The blocks' entries: the rows', -/
theorem blk0 (r : Fin 512) (j : Fin 1024) : (iblk m c 0 t : S1x512x1024.Idx → EReal) (ix3 0 r j) = xs m c (pb t) (tok t r) j := by
  rw [← host0]
  blk_ext [iblk, rows_index t (win0_0.index t) (by simp), tok]

/-- the gain's, -/
theorem blk1 (j : Fin 1024) : (iblk m c 1 t : S1x1024.Idx → EReal) (ix2 0 j) = gpre m c j := by
  rw [← host1]
  blk_ext [iblk, stays t (win0_1.index t) (by simp)]

/-- the 4096 columns', -/
theorem blk2 (k : Fin 1024) (j : Fin 4096) : (iblk m c 2 t : S1024x4096.Idx → EReal) (ix2 k j) = (V m c main_v4 : S1024x4096.Idx → EReal) (ix2 k j) := by
  blk_ext [iblk, stays t (win0_2.index t) (by simp)]

/-- the recurrence's keys', -/
theorem blk3 (j k : Fin 1024) : (iblk m c 3 t : S1024x1024.Idx → EReal) (ix2 j k) = wide m c k ⟨1024 + j.val, by omega⟩ := by
  rw [← host3]
  blk_ext [iblk, stays t (win0_3.index t) (by simp)]

/-- its gates', -/
theorem blk4 (k : Fin 1024) (j : Fin 128) : (iblk m c 4 t : S1024x128.Idx → EReal) (ix2 k j) = (V m c main_v8 : S1024x128.Idx → EReal) (ix2 k j) := by
  blk_ext [iblk, stays t (win0_4.index t) (by simp)]

/-- the attention's queries', -/
theorem blk5 (j k : Fin 1024) : (iblk m c 5 t : S1024x1024.Idx → EReal) (ix2 j k) = wide m c k ⟨5136 + j.val, by omega⟩ := by
  rw [← host5]
  blk_ext [iblk, stays t (win0_5.index t) (by simp)]

/-- its keys', -/
theorem blk6 (j : Fin 256) (k : Fin 1024) : (iblk m c 6 t : S256x1024.Idx → EReal) (ix2 j k) = wide m c k ⟨6160 + j.val, by omega⟩ := by
  rw [← host6]
  blk_ext [iblk, stays t (win0_6.index t) (by simp)]

/-- its values', -/
theorem blk7 (j : Fin 256) (k : Fin 1024) : (iblk m c 7 t : S256x1024.Idx → EReal) (ix2 j k) = wide m c k ⟨6416 + j.val, by omega⟩ := by
  rw [← host7]
  blk_ext [iblk, stays t (win0_7.index t) (by simp)]

/-- and the tables'. -/
theorem blk8 (a h : Fin 2) (j : Fin 16) (r : Fin 512) : (iblk m c 8 t : S64x512.Idx → EReal) (ix2 (place a h j) r)
    = gq m c (place a h j) * Ideal.cos (angle a (tok t r).val j) := by
  rw [← host8]
  blk_ext [iblk, tables_index t (win0_8.index t) (by simp), tok]

/-- Operand 9 of a grid point: the rotary table at the point's tokens. -/
theorem blk9 (a h : Fin 2) (j : Fin 16) (r : Fin 512) : (iblk m c 9 t : S64x512.Idx → EReal) (ix2 (place a h j) r)
    = sign h * gq m c (place a (1 - h) j) * Ideal.sin (angle a (tok t r).val j) := by
  rw [← host9]
  blk_ext [iblk, tables_index t (win0_9.index t) (by simp), tok]

/-- Operand 10 of a grid point: the rotary table at the point's tokens. -/
theorem blk10 (a h : Fin 2) (j : Fin 16) (r : Fin 512) : (iblk m c 10 t : S64x512.Idx → EReal) (ix2 (place a h j) r)
    = gk m c (place a h j) * Ideal.cos (angle a (tok t r).val j) := by
  rw [← host10]
  blk_ext [iblk, tables_index t (win0_10.index t) (by simp), tok]

/-- Operand 11 of a grid point: the rotary table at the point's tokens. -/
theorem blk11 (a h : Fin 2) (j : Fin 16) (r : Fin 512) : (iblk m c 11 t : S64x512.Idx → EReal) (ix2 (place a h j) r)
    = sign h * gk m c (place a (1 - h) j) * Ideal.sin (angle a (tok t r).val j) := by
  rw [← host11]
  blk_ext [iblk, tables_index t (win0_11.index t) (by simp), tok]

/-- The projection of token `s` of entry `b` on column `n`. -/
abbrev fed (b : Fin 8) (s : Fin 8192) (n : Fin 9744) : EReal := feed (xs m c b s) (gpre m c) (wide m c) n

/-- The normalised rows. -/
theorem hn_apply (r : Fin 512) (k : Fin 1024) : (hn m c t : S512x1024.Idx → EReal) (ix2 r k) = norm (xs m c (pb t) (tok t r)) (gpre m c) k := by
  refine (pay3_apply _ _ r k).trans ?_
  rw [show row (iblk m c 0 t) r = _ from funext (blk0 m c t r), show one (iblk m c 1 t) = _ from funext (blk1 m c t)]

/-- A product of those rows with a column is the token's projection on it. -/
theorem fed_eq (r : Fin 512) (w : Fin 1024 → EReal) (n : Fin 9744) (hw : ∀ k, w k = wide m c k n) :
    (∑ k : Fin 1024, ((hn m c t : S512x1024.Idx → EReal) (ix2 r k) * w k : EReal)) = fed m c (pb t) (tok t r) n :=
  Finset.sum_congr rfl fun k _ => by rw [hn_apply, hw]

/-- The runs of 1024 columns: the recurrence's queries, -/
theorem part0 (k j : Fin 1024) : (part 0 (iblk m c 2 t) (by decide) : S1024x1024.Idx → EReal) (ix2 k j) = wide m c k ⟨j.val, by omega⟩ :=
  (blk2 m c t k _).trans (host2q m c k j _ (Nat.zero_add _))

/-- and its values and gate. -/
theorem partv (o : ℕ) (ho : o + 2048 ≤ 4096) (k j : Fin 1024) : (part (1024 + o) (iblk m c 2 t) (by omega) : S1024x1024.Idx → EReal) (ix2 k j)
    = wide m c k ⟨2048 + o + j.val, by omega⟩ :=
  (blk2 m c t k _).trans ((host2v m c k (⟨o + j.val, by omega⟩ : Fin 3072) _ (Nat.add_assoc _ _ _)).trans
    (congrArg (wide m c k) (Fin.ext (Nat.add_assoc _ _ _).symm)))

/-- A point's queries of the recurrence, -/
theorem entry12 (r : Fin 512) (j : Fin 1024) : ((outsAt0 m c t).1 : S1x512x1024.Idx → EReal) (ix3 0 r j)
    = fed m c (pb t) (tok t r) ⟨j.val, by omega⟩ := by
  rw [point12]
  exact (pay4_apply _ _ _ r j).trans (fed_eq m c t r _ _ fun k => part0 m c t k j)

/-- its values, -/
theorem entry14 (r : Fin 512) (j : Fin 1024) : ((outsAt0 m c t).2.2.1 : S1x512x1024.Idx → EReal) (ix3 0 r j)
    = fed m c (pb t) (tok t r) ⟨2048 + j.val, by omega⟩ := by
  rw [point14]
  exact (pay5_apply _ _ _ r j).trans (fed_eq m c t r _ _ fun k => partv m c t 0 (by decide) k j)

/-- its gate, -/
theorem entry15 (r : Fin 512) (j : Fin 1024) : ((outsAt0 m c t).2.2.2.1 : S1x512x1024.Idx → EReal) (ix3 0 r j)
    = gate (xs m c (pb t) (tok t r)) (gpre m c) (wide m c) j := by
  rw [point15]
  refine (pay7_apply _ _ _ r j).trans ?_
  rw [fed_eq m c t r _ _ fun k => partv m c t 1024 (by decide) k j, fed_eq m c t r _ _ fun k => partv m c t 2048 (by decide) k j]
  rfl

/-- its input and forget gates and the columns beside them, -/
theorem entry16 (r : Fin 512) (j : Fin 128) : ((outsAt0 m c t).2.2.2.2.1 : S1x512x128.Idx → EReal) (ix3 0 r j)
    = ∑ k : Fin 1024, (norm (xs m c (pb t) (tok t r)) (gpre m c) k * (V m c main_v8 : S1024x128.Idx → EReal) (ix2 k j) : EReal) := by
  rw [point16]
  refine (pay8_apply _ _ r j).trans (Finset.sum_congr rfl fun k _ => ?_)
  rw [hn_apply, blk4]

/-- its keys; -/
theorem entry13 (p q : Fin 4) (d : Fin 256) (l : Fin 128) : ((outsAt0 m c t).2.1 : S4x4x256x128.Idx → EReal) (ix4 p q d l)
    = fed m c (pb t) (tok t ⟨128 * q.val + l.val, by omega⟩) ⟨1024 + (256 * p.val + d.val), by omega⟩ * Ideal.ofBits .f32 0x3D800000#32 := by
  rw [point13]
  refine (pay9_apply _ _ (⟨256 * p.val + d.val, by omega⟩ : Fin 1024) (⟨128 * q.val + l.val, by omega⟩ : Fin 512)).trans ?_
  rw [fed_eq m c t _ _ _ fun k => blk3 m c t _ k]

/-- A head of numbers turned, number by number. -/
def turned (u g : Head) (s : ℕ) (d : Fin 64) : EReal := turn u g s ⟨d.val / 32, by omega⟩ ⟨d.val % 32 / 16, by omega⟩ ⟨d.val % 16, by omega⟩

/-- At a place. -/
theorem turned_place (u g : Head) (s : ℕ) (a h : Fin 2) (j : Fin 16) : turned u g s (place a h j) = turn u g s a h j := by
  have ha := a.isLt
  have hh := h.isLt
  have hj := j.isLt
  rw [turned]
  congr 1 <;> refine Fin.ext ?_ <;> simp only [place] <;> omega

/-- The attention's queries and keys, head by head, before they are normalised. -/
abbrev headq (b : Fin 8) (s : Fin 8192) (i : Fin 16) : Head := fun e => fed m c b s ⟨5136 + (64 * i.val + e.val), by omega⟩
/-- One key head of a token, before its norm and its rotation. -/
abbrev headk (b : Fin 8) (s : Fin 8192) (i : Fin 4) : Head := fun e => fed m c b s ⟨6160 + (64 * i.val + e.val), by omega⟩

/-- the attention's queries, -/
theorem entry17 (i : Fin 16) (d : Fin 64) (r : Fin 512) : ((outsAt0 m c t).2.2.2.2.2.1 : S1x16x64x512.Idx → EReal) (ix4 0 i d r)
    = turned (headq m c (pb t) (tok t r) i) (gq m c) (tok t r).val d := by
  obtain ⟨a, h, j, rfl⟩ := place_split d
  rw [point17, turned_place, ← turn_eq]
  refine (pay29_apply _ _ _ _ i a h j r).trans ?_
  rw [blk8, blk9, show headQ (hn m c t) (iblk m c 5 t) i r = headq m c (pb t) (tok t r) i from
    funext fun e => fed_eq m c t r _ _ fun k => blk5 m c t _ k]

/-- its keys, -/
theorem entry18 (i : Fin 4) (r : Fin 512) (d : Fin 64) : ((outsAt0 m c t).2.2.2.2.2.2.1 : S1x4x1x512x64.Idx → EReal) (ix5 0 i 0 r d)
    = turned (headk m c (pb t) (tok t r) i) (gk m c) (tok t r).val d := by
  obtain ⟨a, h, j, rfl⟩ := place_split d
  rw [point18, turned_place, ← turn_eq]
  refine (pay30_apply _ _ _ _ i a h j r _ rfl).trans ?_
  rw [blk10, blk11, show headK (hn m c t) (iblk m c 6 t) i r = headk m c (pb t) (tok t r) i from
    funext fun e => fed_eq m c t r _ _ fun k => blk6 m c t _ k]

/-- its values, -/
theorem entry19 (i : Fin 4) (d : Fin 80) (hd : d.val < 64) (r : Fin 512) : ((outsAt0 m c t).2.2.2.2.2.2.2 : S1x4x1x80x512.Idx → EReal) (ix5 0 i 0 d r)
    = fed m c (pb t) (tok t r) ⟨6416 + (64 * i.val + d.val), by omega⟩ := by
  rw [point19]
  refine (dif_pos hd).trans ((pay36_apply _ _ (⟨64 * i.val + d.val, by omega⟩ : Fin 256) r).trans ?_)
  exact fed_eq m c t r _ _ fun k => blk7 m c t _ k

/-- and the rows below them. -/
theorem entry19' (i : Fin 4) (d : Fin 80) (hd : ¬ d.val < 64) (r : Fin 512) : ((outsAt0 m c t).2.2.2.2.2.2.2 : S1x4x1x80x512.Idx → EReal) (ix5 0 i 0 d r)
    = (k0_pay37 (F := Ideal) : S16x512.Idx → EReal) (ix2 ⟨d.val - 64, by omega⟩ r) := by
  rw [point19]
  exact dif_neg hd

end Cert.ProjIdeal.Feed

end
-- ==== Proof.Feed.Array.lean ====
module

public import proofs.«01_k».proof.Proof.Feed.Blocks

/-!
# The projections' kernel's result arrays
-/

@[expose] public section

noncomputable section

namespace Cert.ProjIdeal.Feed

open Cert.ProjIdeal Cert.ProjIdeal.Gen Cert.Last Cert.Feed
open Idealize.ShloMosaic Idealize.ShloMosaic.TcCoe Idealize.ShloMosaic.Tactic
open Idealize.ShloMosaic.StableHlo

variable (m : (ℓ : Loc nD τ sig) → Buf (Elt Ideal) ℓ) (c : Dev nD)

/-- The arrays' entries: the recurrence's queries, -/
def A12 (b : Fin 8) (s : Fin 8192) (j : Fin 1024) : EReal := fed m c b s ⟨j.val, by omega⟩
/-- its keys, scaled, by chunks of 128 tokens of all entries, -/
def A13 (p : Fin 4) (n : Fin 512) (d : Fin 256) (l : Fin 128) : EReal :=
  fed m c ⟨n.val / 64, by omega⟩ ⟨128 * (n.val % 64) + l.val, by omega⟩ ⟨1024 + (256 * p.val + d.val), by omega⟩ * Ideal.ofBits .f32 0x3D800000#32
/-- its values, -/
def A14 (b : Fin 8) (s : Fin 8192) (j : Fin 1024) : EReal := fed m c b s ⟨2048 + j.val, by omega⟩
/-- its output gate, -/
def A15 (b : Fin 8) (s : Fin 8192) (j : Fin 1024) : EReal := gate (xs m c b s) (gpre m c) (wide m c) j
/-- its input and forget gates and the columns beside them, -/
def A16 (b : Fin 8) (s : Fin 8192) (j : Fin 128) : EReal :=
  ∑ k : Fin 1024, (norm (xs m c b s) (gpre m c) k * (V m c main_v8 : S1024x128.Idx → EReal) (ix2 k j) : EReal)
/-- the attention's queries, -/
def A17 (b : Fin 8) (i : Fin 16) (d : Fin 64) (s : Fin 8192) : EReal := turned (headq m c b s i) (gq m c) s.val d
/-- its keys, by blocks of 512 tokens, -/
def A18 (b : Fin 8) (i : Fin 4) (n : Fin 16) (r : Fin 512) (d : Fin 64) : EReal :=
  turned (headk m c b ⟨512 * n.val + r.val, by omega⟩ i) (gk m c) (512 * n.val + r.val) d
/-- its values, with the rows below them. -/
def A19 (b : Fin 8) (i : Fin 4) (n : Fin 16) (d : Fin 80) (r : Fin 512) : EReal :=
  if h : d.val < 64 then fed m c b ⟨512 * n.val + r.val, by omega⟩ ⟨6416 + (64 * i.val + d.val), by omega⟩
  else (k0_pay37 (F := Ideal) : S16x512.Idx → EReal) (ix2 ⟨d.val - 64, by omega⟩ r)

/-- A block's index by its coordinates. -/
theorem eta3 {a b : ℕ} (y : (⟨3, ![1, a, b]⟩ : Shape).Idx) : y = ix3 (0 : Fin 1) (y 1 : Fin a) (y 2 : Fin b) := funext fun d => Fin.ext (by
  match d with
  | ⟨0, _⟩ => have h : (y 0).val < 1 := (y 0).isLt; show (y 0).val = 0; omega
  | ⟨1, _⟩ => rfl
  | ⟨2, _⟩ => rfl)

/-- An index of four axes is the tuple of its coordinates. -/
theorem eta4 {a b e f : ℕ} (y : (⟨4, ![a, b, e, f]⟩ : Shape).Idx) : y = ix4 (y 0 : Fin a) (y 1 : Fin b) (y 2 : Fin e) (y 3 : Fin f) :=
  funext fun d => Fin.ext (by
  match d with
  | ⟨0, _⟩ => rfl
  | ⟨1, _⟩ => rfl
  | ⟨2, _⟩ => rfl
  | ⟨3, _⟩ => rfl)

/-- The same where the first axis has one entry. -/
theorem eta4' {a b e : ℕ} (y : (⟨4, ![1, a, b, e]⟩ : Shape).Idx) : y = ix4 (0 : Fin 1) (y 1 : Fin a) (y 2 : Fin b) (y 3 : Fin e) :=
  funext fun d => Fin.ext (by
  match d with
  | ⟨0, _⟩ => have h : (y 0).val < 1 := (y 0).isLt; show (y 0).val = 0; omega
  | ⟨1, _⟩ => rfl
  | ⟨2, _⟩ => rfl
  | ⟨3, _⟩ => rfl)

/-- The same for five axes, of which the first and the third have one entry. -/
theorem eta5 {a b e : ℕ} (y : (⟨5, ![1, a, 1, b, e]⟩ : Shape).Idx) : y = ix5 (0 : Fin 1) (y 1 : Fin a) (0 : Fin 1) (y 3 : Fin b) (y 4 : Fin e) :=
  funext fun d => Fin.ext (by
  match d with
  | ⟨0, _⟩ => have h : (y 0).val < 1 := (y 0).isLt; show (y 0).val = 0; omega
  | ⟨1, _⟩ => rfl
  | ⟨2, _⟩ => have h : (y 2).val < 1 := (y 2).isLt; show (y 2).val = 0; omega
  | ⟨3, _⟩ => rfl
  | ⟨4, _⟩ => rfl)

/-- A point's entries are the arrays'. -/
theorem cell12 (t : Fin grid0.N) (r : Fin 512) (j : Fin 1024) :
    ((outsAt0 m c t).1 : S1x512x1024.Idx → EReal) (ix3 0 r j) = A12 m c (pb t) (tok t r) j := entry12 m c t r j

/-- Where in result 14 an entry of one grid point's block lies. -/
theorem cell14 (t : Fin grid0.N) (r : Fin 512) (j : Fin 1024) :
    ((outsAt0 m c t).2.2.1 : S1x512x1024.Idx → EReal) (ix3 0 r j) = A14 m c (pb t) (tok t r) j := entry14 m c t r j

/-- Where in result 15 an entry of one grid point's block lies. -/
theorem cell15 (t : Fin grid0.N) (r : Fin 512) (j : Fin 1024) :
    ((outsAt0 m c t).2.2.2.1 : S1x512x1024.Idx → EReal) (ix3 0 r j) = A15 m c (pb t) (tok t r) j := entry15 m c t r j

/-- Where in result 16 an entry of one grid point's block lies. -/
theorem cell16 (t : Fin grid0.N) (r : Fin 512) (j : Fin 128) :
    ((outsAt0 m c t).2.2.2.2.1 : S1x512x128.Idx → EReal) (ix3 0 r j) = A16 m c (pb t) (tok t r) j := entry16 m c t r j

/-- Chunk `q` of a point's four. -/
def chunk (t : Fin grid0.N) (q : Fin 4) : Fin 512 :=
  ⟨4 * (16 * (pb t).val + (pi t).val) + q.val, by have := (pb t).isLt; have := (pi t).isLt; omega⟩

/-- Where in result 13 an entry of one grid point's block lies. -/
theorem cell13 (t : Fin grid0.N) (p q : Fin 4) (d : Fin 256) (l : Fin 128) :
    ((outsAt0 m c t).2.1 : S4x4x256x128.Idx → EReal) (ix4 p q d l) = A13 m c p (chunk t q) d l := by
  have hb := (pb t).isLt
  have hp := (pi t).isLt
  have e1 : pb t = (⟨(chunk t q).val / 64, by omega⟩ : Fin 8) := Fin.ext (by
    show (pb t).val = (4 * (16 * (pb t).val + (pi t).val) + q.val) / 64
    omega)
  have e2 : tok t ⟨128 * q.val + l.val, by omega⟩ = (⟨128 * ((chunk t q).val % 64) + l.val, by omega⟩ : Fin 8192) := Fin.ext (by
    show 512 * (pi t).val + (128 * q.val + l.val) = 128 * ((4 * (16 * (pb t).val + (pi t).val) + q.val) % 64) + l.val
    omega)
  refine (entry13 m c t p q d l).trans ?_
  rw [A13, ← e1, ← e2]

/-- Where in result 17 an entry of one grid point's block lies. -/
theorem cell17 (t : Fin grid0.N) (i : Fin 16) (d : Fin 64) (r : Fin 512) :
    ((outsAt0 m c t).2.2.2.2.2.1 : S1x16x64x512.Idx → EReal) (ix4 0 i d r) = A17 m c (pb t) i d (tok t r) := entry17 m c t i d r

/-- Where in result 18 an entry of one grid point's block lies. -/
theorem cell18 (t : Fin grid0.N) (i : Fin 4) (r : Fin 512) (d : Fin 64) :
    ((outsAt0 m c t).2.2.2.2.2.2.1 : S1x4x1x512x64.Idx → EReal) (ix5 0 i 0 r d) = A18 m c (pb t) i (pi t) r d := entry18 m c t i r d

/-- Where in result 19 an entry of one grid point's block lies. -/
theorem cell19 (t : Fin grid0.N) (i : Fin 4) (d : Fin 80) (r : Fin 512) :
    ((outsAt0 m c t).2.2.2.2.2.2.2 : S1x4x1x80x512.Idx → EReal) (ix5 0 i 0 d r) = A19 m c (pb t) i (pi t) d r := by
  rw [A19]
  by_cases hd : d.val < 64
  · rw [dif_pos hd]
    exact entry19 m c t i d hd r
  · rw [dif_neg hd]
    exact entry19' m c t i d hd r

/-- The arrays after the region. -/
theorem array12 : (dats m 0 c).arrAt 12 cfg0.N = fun y : S8x8192x1024.Idx => A12 m c (y 0) (y 1) (y 2) := by
  refine (dats m 0 c).arrAt_eq_of_covers 12 _ (by decide +kernel) fun t hf y => ?_
  blk_simp
  have hi := rows_index t (win0_12.index t) (by simp)
  have h0 : (y 0).val < 1 := (y 0).isLt
  have e0 : ((win0_12.blk t).view.emb y 0 : Fin 8) = pb t := Fin.ext (by blk_simp [hi])
  have e1 : ((win0_12.blk t).view.emb y 1 : Fin 8192) = tok t (y 1) := Fin.ext (by blk_simp [hi]; show _ = 512 * (pi t).val + (y 1).val; omega)
  have e2 : ((win0_12.blk t).view.emb y 2 : Fin 1024) = y 2 := Fin.ext (by blk_simp [hi])
  rw [e0, e1, e2, after0_12]
  exact (congrArg ((outsAt0 m c t).1 : S1x512x1024.Idx → EReal) (eta3 y)).trans (cell12 m c t (y 1) (y 2))

/-- Result 14 after all grid points, entry by entry. -/
theorem array14 : (dats m 0 c).arrAt 14 cfg0.N = fun y : S8x8192x1024.Idx => A14 m c (y 0) (y 1) (y 2) := by
  refine (dats m 0 c).arrAt_eq_of_covers 14 _ (by decide +kernel) fun t hf y => ?_
  blk_simp
  have hi := rows_index t (win0_14.index t) (by simp)
  have h0 : (y 0).val < 1 := (y 0).isLt
  have e0 : ((win0_14.blk t).view.emb y 0 : Fin 8) = pb t := Fin.ext (by blk_simp [hi])
  have e1 : ((win0_14.blk t).view.emb y 1 : Fin 8192) = tok t (y 1) := Fin.ext (by blk_simp [hi]; show _ = 512 * (pi t).val + (y 1).val; omega)
  have e2 : ((win0_14.blk t).view.emb y 2 : Fin 1024) = y 2 := Fin.ext (by blk_simp [hi])
  rw [e0, e1, e2, after0_14]
  exact (congrArg ((outsAt0 m c t).2.2.1 : S1x512x1024.Idx → EReal) (eta3 y)).trans (cell14 m c t (y 1) (y 2))

/-- Result 15 after all grid points, entry by entry. -/
theorem array15 : (dats m 0 c).arrAt 15 cfg0.N = fun y : S8x8192x1024.Idx => A15 m c (y 0) (y 1) (y 2) := by
  refine (dats m 0 c).arrAt_eq_of_covers 15 _ (by decide +kernel) fun t hf y => ?_
  blk_simp
  have hi := rows_index t (win0_15.index t) (by simp)
  have h0 : (y 0).val < 1 := (y 0).isLt
  have e0 : ((win0_15.blk t).view.emb y 0 : Fin 8) = pb t := Fin.ext (by blk_simp [hi])
  have e1 : ((win0_15.blk t).view.emb y 1 : Fin 8192) = tok t (y 1) := Fin.ext (by blk_simp [hi]; show _ = 512 * (pi t).val + (y 1).val; omega)
  have e2 : ((win0_15.blk t).view.emb y 2 : Fin 1024) = y 2 := Fin.ext (by blk_simp [hi])
  rw [e0, e1, e2, after0_15]
  exact (congrArg ((outsAt0 m c t).2.2.2.1 : S1x512x1024.Idx → EReal) (eta3 y)).trans (cell15 m c t (y 1) (y 2))

/-- Result 16 after all grid points, entry by entry. -/
theorem array16 : (dats m 0 c).arrAt 16 cfg0.N = fun y : S8x8192x128.Idx => A16 m c (y 0) (y 1) (y 2) := by
  refine (dats m 0 c).arrAt_eq_of_covers 16 _ (by decide +kernel) fun t hf y => ?_
  blk_simp
  have hi := rows_index t (win0_16.index t) (by simp)
  have h0 : (y 0).val < 1 := (y 0).isLt
  have e0 : ((win0_16.blk t).view.emb y 0 : Fin 8) = pb t := Fin.ext (by blk_simp [hi])
  have e1 : ((win0_16.blk t).view.emb y 1 : Fin 8192) = tok t (y 1) := Fin.ext (by blk_simp [hi]; show _ = 512 * (pi t).val + (y 1).val; omega)
  have e2 : ((win0_16.blk t).view.emb y 2 : Fin 128) = y 2 := Fin.ext (by blk_simp [hi])
  rw [e0, e1, e2, after0_16]
  exact (congrArg ((outsAt0 m c t).2.2.2.2.1 : S1x512x128.Idx → EReal) (eta3 y)).trans (cell16 m c t (y 1) (y 2))

/-- Result 13 after all grid points, entry by entry. -/
theorem array13 : (dats m 0 c).arrAt 13 cfg0.N = fun y : S4x512x256x128.Idx => A13 m c (y 0) (y 1) (y 2) (y 3) := by
  refine (dats m 0 c).arrAt_eq_of_covers 13 _ (by decide +kernel) fun t hf y => ?_
  blk_simp
  have hi := index13 t
  have h1 : (y 1).val < 4 := (y 1).isLt
  have hb := (pb t).isLt
  have hp := (pi t).isLt
  have e0 : ((win0_13.blk t).view.emb y 0 : Fin 4) = y 0 := Fin.ext (by blk_simp [hi])
  have e1 : ((win0_13.blk t).view.emb y 1 : Fin 512) = chunk t (y 1) :=
    Fin.ext (by blk_simp [hi]; show _ = 4 * (16 * (pb t).val + (pi t).val) + (y 1).val; omega)
  have e2 : ((win0_13.blk t).view.emb y 2 : Fin 256) = y 2 := Fin.ext (by blk_simp [hi])
  have e3 : ((win0_13.blk t).view.emb y 3 : Fin 128) = y 3 := Fin.ext (by blk_simp [hi])
  rw [e0, e1, e2, e3, after0_13]
  exact (congrArg ((outsAt0 m c t).2.1 : S4x4x256x128.Idx → EReal) (eta4 y)).trans (cell13 m c t (y 0) (y 1) (y 2) (y 3))

/-- Result 17 after all grid points, entry by entry. -/
theorem array17 : (dats m 0 c).arrAt 17 cfg0.N = fun y : S8x16x64x8192.Idx => A17 m c (y 0) (y 1) (y 2) (y 3) := by
  refine (dats m 0 c).arrAt_eq_of_covers 17 _ (by decide +kernel) fun t hf y => ?_
  blk_simp
  have hi := index17 t
  have h0 : (y 0).val < 1 := (y 0).isLt
  have e0 : ((win0_17.blk t).view.emb y 0 : Fin 8) = pb t := Fin.ext (by blk_simp [hi])
  have e1 : ((win0_17.blk t).view.emb y 1 : Fin 16) = y 1 := Fin.ext (by blk_simp [hi])
  have e2 : ((win0_17.blk t).view.emb y 2 : Fin 64) = y 2 := Fin.ext (by blk_simp [hi])
  have e3 : ((win0_17.blk t).view.emb y 3 : Fin 8192) = tok t (y 3) := Fin.ext (by blk_simp [hi]; show _ = 512 * (pi t).val + (y 3).val; omega)
  rw [e0, e1, e2, e3, after0_17]
  exact (congrArg ((outsAt0 m c t).2.2.2.2.2.1 : S1x16x64x512.Idx → EReal) (eta4' y)).trans (cell17 m c t (y 1) (y 2) (y 3))

/-- Result 18 after all grid points, entry by entry. -/
theorem array18 : (dats m 0 c).arrAt 18 cfg0.N = fun y : S8x4x16x512x64.Idx => A18 m c (y 0) (y 1) (y 2) (y 3) (y 4) := by
  refine (dats m 0 c).arrAt_eq_of_covers 18 _ (by decide +kernel) fun t hf y => ?_
  blk_simp
  have hi := index18 t
  have h0 : (y 0).val < 1 := (y 0).isLt
  have h2 : (y 2).val < 1 := (y 2).isLt
  have e0 : ((win0_18.blk t).view.emb y 0 : Fin 8) = pb t := Fin.ext (by blk_simp [hi])
  have e1 : ((win0_18.blk t).view.emb y 1 : Fin 4) = y 1 := Fin.ext (by blk_simp [hi])
  have e2 : ((win0_18.blk t).view.emb y 2 : Fin 16) = pi t := Fin.ext (by blk_simp [hi])
  have e3 : ((win0_18.blk t).view.emb y 3 : Fin 512) = y 3 := Fin.ext (by blk_simp [hi])
  have e4 : ((win0_18.blk t).view.emb y 4 : Fin 64) = y 4 := Fin.ext (by blk_simp [hi])
  rw [e0, e1, e2, e3, e4, after0_18]
  exact (congrArg ((outsAt0 m c t).2.2.2.2.2.2.1 : S1x4x1x512x64.Idx → EReal) (eta5 y)).trans (cell18 m c t (y 1) (y 3) (y 4))

/-- Result 19 after all grid points, entry by entry. -/
theorem array19 : (dats m 0 c).arrAt 19 cfg0.N = fun y : S8x4x16x80x512.Idx => A19 m c (y 0) (y 1) (y 2) (y 3) (y 4) := by
  refine (dats m 0 c).arrAt_eq_of_covers 19 _ (by decide +kernel) fun t hf y => ?_
  blk_simp
  have hi := index19 t
  have h0 : (y 0).val < 1 := (y 0).isLt
  have h2 : (y 2).val < 1 := (y 2).isLt
  have e0 : ((win0_19.blk t).view.emb y 0 : Fin 8) = pb t := Fin.ext (by blk_simp [hi])
  have e1 : ((win0_19.blk t).view.emb y 1 : Fin 4) = y 1 := Fin.ext (by blk_simp [hi])
  have e2 : ((win0_19.blk t).view.emb y 2 : Fin 16) = pi t := Fin.ext (by blk_simp [hi])
  have e3 : ((win0_19.blk t).view.emb y 3 : Fin 80) = y 3 := Fin.ext (by blk_simp [hi])
  have e4 : ((win0_19.blk t).view.emb y 4 : Fin 512) = y 4 := Fin.ext (by blk_simp [hi])
  rw [e0, e1, e2, e3, e4, after0_19]
  exact (congrArg ((outsAt0 m c t).2.2.2.2.2.2.2 : S1x4x1x80x512.Idx → EReal) (eta5 y)).trans (cell19 m c t (y 1) (y 3) (y 4))

end Cert.ProjIdeal.Feed

end
-- ==== Proof.Feed.Tail.lean ====
module

public import proofs.«01_k».proof.Proof.Feed.Array

/-!
# The projections' kernel's run, with its results laid out by head
-/

@[expose] public section

noncomputable section

namespace Cert.ProjIdeal.Feed

open Cert.ProjIdeal Cert.ProjIdeal.Gen Cert.Last Cert.Feed
open Idealize.ShloMosaic Idealize.ShloMosaic.TcCoe Idealize.ShloMosaic.Tactic
open Idealize.ShloMosaic.StableHlo

variable (m : (ℓ : Loc nD τ sig) → Buf (Elt Ideal) ℓ) (ρ : Dev nD → PrngReg)

/-- The chunks of keys, back in rows, -/
abbrev keysRows (x : FVec Ideal S4x512x256x128 .bf16) : FVec Ideal S8x8192x1024 .bf16 :=
  shapeCast S8x8192x1024 (transpose S8x64x128x4x256 [1, 2, 4, 0, 3] (shapeCast S4x8x64x256x128 x shapeCasts_S4x512x256x128_S4x8x64x256x128)
    transposes_S4x8x64x256x128_S8x64x128x4x256_1_2_4_0_3) shapeCasts_S8x64x128x4x256_S8x8192x1024
/-- the gates' columns, -/
abbrev gatesOnly (x : FVec Ideal S8x8192x128 .f32) : FVec Ideal S8x8192x16 .f32 :=
  extractStridedSlice S8x8192x16 ![0, 0, 0] x slices_S8x8192x128_S8x8192x16_0_0_0
/-- the attention's queries by token, -/
abbrev queriesRows (x : FVec Ideal S8x16x64x8192 .bf16) : FVec Ideal S8x8192x16x64 .bf16 :=
  transpose S8x8192x16x64 [0, 3, 1, 2] x transposes_S8x16x64x8192_S8x8192x16x64_0_3_1_2
/-- its keys, -/
abbrev headKeys (x : FVec Ideal S8x4x16x512x64 .bf16) : FVec Ideal S8x8192x4x64 .bf16 :=
  shapeCast S8x8192x4x64 (transpose S8x16x512x4x64 [0, 2, 3, 1, 4] x transposes_S8x4x16x512x64_S8x16x512x4x64_0_2_3_1_4) shapeCasts_S8x16x512x4x64_S8x8192x4x64
/-- and its values. -/
abbrev headValues (x : FVec Ideal S8x4x16x80x512 .bf16) : FVec Ideal S8x8192x4x64 .bf16 :=
  shapeCast S8x8192x4x64 (transpose S8x16x512x4x64 [0, 2, 4, 1, 3] (extractStridedSlice S8x4x16x64x512 ![0, 0, 0, 0, 0] x
    slices_S8x4x16x80x512_S8x4x16x64x512_0_0_0_0_0) transposes_S8x4x16x64x512_S8x16x512x4x64_0_2_4_1_3) shapeCasts_S8x16x512x4x64_S8x8192x4x64

/-- The lines after the region, from any buffers. -/
theorem tail86 (W : Valuation τ sig (Elt Ideal)) : after [hostOps1].flatten W (Proc.devRef .tc main_v86) = keysRows (W (Proc.devRef .tc main_v83_1)) := by
  simp only [hostOps1, List.flatten_cons, List.flatten_nil, List.append_nil, List.cons_append, List.nil_append]
  after_results
  rfl
/-- Likewise the gates, -/
theorem tail87 (W : Valuation τ sig (Elt Ideal)) : after [hostOps1].flatten W (Proc.devRef .tc main_v87) = gatesOnly (W (Proc.devRef .tc main_v83_4)) := by
  simp only [hostOps1, List.flatten_cons, List.flatten_nil, List.append_nil, List.cons_append, List.nil_append]
  after_results
/-- the attention's queries, -/
theorem tail88 (W : Valuation τ sig (Elt Ideal)) : after [hostOps1].flatten W (Proc.devRef .tc main_v88) = queriesRows (W (Proc.devRef .tc main_v83_5)) := by
  simp only [hostOps1, List.flatten_cons, List.flatten_nil, List.append_nil, List.cons_append, List.nil_append]
  after_results
/-- its keys, -/
theorem tail90 (W : Valuation τ sig (Elt Ideal)) : after [hostOps1].flatten W (Proc.devRef .tc main_v90) = headKeys (W (Proc.devRef .tc main_v83_6)) := by
  simp only [hostOps1, List.flatten_cons, List.flatten_nil, List.append_nil, List.cons_append, List.nil_append]
  after_results
  rfl
/-- and its values. -/
theorem tail93 (W : Valuation τ sig (Elt Ideal)) : after [hostOps1].flatten W (Proc.devRef .tc main_v93) = headValues (W (Proc.devRef .tc main_v83_7)) := by
  simp only [hostOps1, List.flatten_cons, List.flatten_nil, List.append_nil, List.cons_append, List.nil_append]
  after_results
  rfl

/-- A window's array after the region, whatever the arrays hold. -/
theorem array_at (c : Dev nD) (W : Valuation τ sig (Elt Ideal)) (A : (w : Fin cfg0.W) → Buf (Elt Ideal) ((spec0 w).arr.view.loc (c.tc : Thread nD τ))) (w : Fin cfg0.W) :
    Pipeline.withArrays spec0 c W A (Proc.devRef .tc (Pipeline.arrRef spec0 w)) = A w :=
  Pipeline.withArrays_arr spec0 launch0.win.arr_inj c W A w

/-- What the run's end says of the results, for any contents of the arrays. -/
theorem ends (D : (p : Fin 1) → (c : Dev nD) → Pipeline.Dat τ (Elt Ideal) Unit ℕ (UR sig nD τ) ℕ (cfgs p) c) (r : PUnit × MemSt nD τ sig (Elt Ideal))
    (h : Pipeline.FramePost cfgs D 0 (Pipeline.afterTail₀ cfgs D 0 (V0 m) [hostOps1]) r) (c : Dev nD) :
    r.2.mem ((c.tc : Thread nD τ).loc main_v83_0) = (D 0 c).arrAt 12 cfg0.N
    ∧ r.2.mem ((c.tc : Thread nD τ).loc main_v86) = keysRows ((D 0 c).arrAt 13 cfg0.N)
    ∧ r.2.mem ((c.tc : Thread nD τ).loc main_v83_2) = (D 0 c).arrAt 14 cfg0.N
    ∧ r.2.mem ((c.tc : Thread nD τ).loc main_v83_3) = (D 0 c).arrAt 15 cfg0.N
    ∧ r.2.mem ((c.tc : Thread nD τ).loc main_v87) = gatesOnly ((D 0 c).arrAt 16 cfg0.N)
    ∧ r.2.mem ((c.tc : Thread nD τ).loc main_v88) = queriesRows ((D 0 c).arrAt 17 cfg0.N)
    ∧ r.2.mem ((c.tc : Thread nD τ).loc main_v90) = headKeys ((D 0 c).arrAt 18 cfg0.N)
    ∧ r.2.mem ((c.tc : Thread nD τ).loc main_v93) = headValues ((D 0 c).arrAt 19 cfg0.N) :=
  ⟨(h c).1 12,
    ((h c).2 main_v86 (by decide)).trans ((tail86 _).trans (congrArg keysRows (array_at c _ _ 13))),
    (h c).1 14, (h c).1 15,
    ((h c).2 main_v87 (by decide)).trans ((tail87 _).trans (congrArg gatesOnly (array_at c _ _ 16))),
    ((h c).2 main_v88 (by decide)).trans ((tail88 _).trans (congrArg queriesRows (array_at c _ _ 17))),
    ((h c).2 main_v90 (by decide)).trans ((tail90 _).trans (congrArg headKeys (array_at c _ _ 18))),
    ((h c).2 main_v93 (by decide)).trans ((tail93 _).trans (congrArg headValues (array_at c _ _ 19)))⟩

/-- The run ends with the region's arrays, laid out by the lines after it, and the arguments as they were. -/
theorem run : θ_run (defs (F := Ideal)) (onTc (τ := τ) (main (F := Ideal))) ⟨m, fun _ => 0, ρ⟩ (fun r => ∀ c : Dev nD,
    r.2.mem ((c.tc : Thread nD τ).loc main_v83_0) = (dats m 0 c).arrAt 12 cfg0.N
    ∧ r.2.mem ((c.tc : Thread nD τ).loc main_v86) = keysRows ((dats m 0 c).arrAt 13 cfg0.N)
    ∧ r.2.mem ((c.tc : Thread nD τ).loc main_v83_2) = (dats m 0 c).arrAt 14 cfg0.N
    ∧ r.2.mem ((c.tc : Thread nD τ).loc main_v83_3) = (dats m 0 c).arrAt 15 cfg0.N
    ∧ r.2.mem ((c.tc : Thread nD τ).loc main_v87) = gatesOnly ((dats m 0 c).arrAt 16 cfg0.N)
    ∧ r.2.mem ((c.tc : Thread nD τ).loc main_v88) = queriesRows ((dats m 0 c).arrAt 17 cfg0.N)
    ∧ r.2.mem ((c.tc : Thread nD τ).loc main_v90) = headKeys ((dats m 0 c).arrAt 18 cfg0.N)
    ∧ r.2.mem ((c.tc : Thread nD τ).loc main_v93) = headValues ((dats m 0 c).arrAt 19 cfg0.N)
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)) := by
  refine (θ_run defs _ _).mono (fun r h c => ?_) (θ_run_and (run_main (F := Ideal) m ρ) (unchanged (F := Ideal) m ρ))
  obtain ⟨h0, h1, h2, h3, h4, h5, h6, h7⟩ := ends m (dats m) r h.1 c
  exact ⟨h0, h1, h2, h3, h4, h5, h6, h7, h.2 c⟩

end Cert.ProjIdeal.Feed

end
-- ==== Proof.Feed.Goal.lean ====
module

public import proofs.«01_k».proof.Proof.Feed.Target
public import Idealize.ShloMosaic.Lib.Pointwise

/-!
# The projections' results, entry by entry

Of the rows `x`, their gain `g`, the wide matrix `w` and the heads' gains.
-/

@[expose] public section

noncomputable section

namespace Cert.Feed

open Idealize.ShloMosaic Cert.Last

variable (x : Fin 8 → Fin 8192 → Row) (g : Row) (w : Wide) (gh : Head) (b : Fin 8) (s : Fin 8192)

/-- The recurrence's queries, -/
def outQ (j : Fin 1024) : EReal := feed (x b s) g w ⟨j.val, by omega⟩
/-- its keys, scaled, -/
def outK (j : Fin 1024) : EReal := feed (x b s) g w ⟨1024 + j.val, by omega⟩ * Ideal.ofBits .f32 0x3D800000#32
/-- its values, -/
def outV (j : Fin 1024) : EReal := feed (x b s) g w ⟨2048 + j.val, by omega⟩
/-- its output gate, -/
def outO (j : Fin 1024) : EReal := gate (x b s) g w j
/-- its input and forget gates, -/
def outG (j : Fin 16) : EReal := feed (x b s) g w ⟨5120 + j.val, by omega⟩
/-- a head turned at its token's position, by the place of every number, -/
def turnedAt (t : Head) (d : Fin 64) : EReal :=
  turn t gh s.val ⟨d.val / 32, by omega⟩ ⟨d.val % 32 / 16, by omega⟩ ⟨d.val % 16, by omega⟩
/-- the attention's queries, -/
def outHQ (i : Fin 16) (d : Fin 64) : EReal := turnedAt gh s (fun e => feed (x b s) g w ⟨5136 + (64 * i.val + e.val), by omega⟩) d
/-- its keys, -/
def outHK (i : Fin 4) (d : Fin 64) : EReal := turnedAt gh s (fun e => feed (x b s) g w ⟨6160 + (64 * i.val + e.val), by omega⟩) d
/-- and its values. -/
def outHV (i : Fin 4) (d : Fin 64) : EReal := feed (x b s) g w ⟨6416 + (64 * i.val + d.val), by omega⟩

/-- A number's place gives back its axis, its half and its number there. -/
theorem turnedAt_place (t : Head) (a h : Fin 2) (j : Fin 16) : turnedAt gh s t (place a h j) = turn t gh s.val a h j := by
  have ha := a.isLt
  have hh := h.isLt
  have hj := j.isLt
  rw [turnedAt]
  congr 1 <;> refine Fin.ext ?_ <;> simp only [place] <;> omega

/-- An index of three axes, or of four, is its coordinates. -/
theorem whole3 {n0 n1 n2 : ℕ} (y : (⟨3, ![n0, n1, n2]⟩ : Shape).Idx) : y = ix3 (y 0 : Fin n0) (y 1 : Fin n1) (y 2 : Fin n2) := funext fun d =>
  match d with | ⟨0, _⟩ => rfl | ⟨1, _⟩ => rfl | ⟨2, _⟩ => rfl
/-- Likewise of four. -/
theorem whole4 {n0 n1 n2 n3 : ℕ} (y : (⟨4, ![n0, n1, n2, n3]⟩ : Shape).Idx) :
    y = ix4 (y 0 : Fin n0) (y 1 : Fin n1) (y 2 : Fin n2) (y 3 : Fin n3) := funext fun d =>
  match d with | ⟨0, _⟩ => rfl | ⟨1, _⟩ => rfl | ⟨2, _⟩ => rfl | ⟨3, _⟩ => rfl

end Cert.Feed

end
-- ==== Proof.Feed.Results.lean ====
module

public import proofs.«01_k».proof.Proof.Feed.Tail
public import proofs.«01_k».proof.Proof.Feed.Goal

/-!
# The projections' kernel's results, entry by entry
-/

@[expose] public section

noncomputable section

namespace Cert.ProjIdeal.Feed

open Cert.ProjIdeal Cert.ProjIdeal.Gen Cert.Last Cert.Feed
open Idealize.ShloMosaic Idealize.ShloMosaic.TcCoe Idealize.ShloMosaic.Tactic

/-- The chunks of keys in rows, at an entry, -/
theorem keysRows_apply (x : FVec Ideal S4x512x256x128 .bf16) (b : Fin 8) (s : Fin 8192) (j : Fin 1024) :
    keysRows x (ix3 b s j) = x (ix4 (⟨j.val / 256, by omega⟩ : Fin 4) (⟨64 * b.val + s.val / 128, by omega⟩ : Fin 512)
      (⟨j.val % 256, by omega⟩ : Fin 256) (⟨s.val % 128, by omega⟩ : Fin 128)) := by
  refine (shapeCast_apply _ _ _ (ix5 b (⟨s.val / 128, by omega⟩ : Fin 64) (⟨s.val % 128, by omega⟩ : Fin 128) (⟨j.val / 256, by omega⟩ : Fin 4)
    (⟨j.val % 256, by omega⟩ : Fin 256)) ?_).trans ?_
  · rw [Shape.rowMajor_val_three, Shape.rowMajor_val_five]
    show (((b.val * 64 + s.val / 128) * 128 + s.val % 128) * 4 + j.val / 256) * 256 + j.val % 256 = (b.val * 8192 + s.val) * 1024 + j.val
    omega
  refine (transpose_apply _ _ _ _ (ix5 (⟨j.val / 256, by omega⟩ : Fin 4) b (⟨s.val / 128, by omega⟩ : Fin 64)
    (⟨j.val % 256, by omega⟩ : Fin 256) (⟨s.val % 128, by omega⟩ : Fin 128)) (fun a => match a with
      | ⟨0, _⟩ => rfl | ⟨1, _⟩ => rfl | ⟨2, _⟩ => rfl | ⟨3, _⟩ => rfl | ⟨4, _⟩ => rfl)).trans ?_
  refine shapeCast_apply _ _ _ _ ?_
  rw [Shape.rowMajor_val_four, Shape.rowMajor_val_five]
  show ((j.val / 256 * 512 + (64 * b.val + s.val / 128)) * 256 + j.val % 256) * 128 + s.val % 128
    = (((j.val / 256 * 8 + b.val) * 64 + s.val / 128) * 256 + j.val % 256) * 128 + s.val % 128
  omega

/-- the gates' columns, -/
theorem gatesOnly_apply (x : FVec Ideal S8x8192x128 .f32) (b : Fin 8) (s : Fin 8192) (j : Fin 16) :
    gatesOnly x (ix3 b s j) = x (ix3 b s (⟨j.val, by omega⟩ : Fin 128)) :=
  extractStridedSlice_apply _ _ _ _ _ fun a => by
    match a with
    | ⟨0, _⟩ => exact (Nat.zero_add _).symm
    | ⟨1, _⟩ => exact (Nat.zero_add _).symm
    | ⟨2, _⟩ => exact (Nat.zero_add _).symm

/-- the attention's queries by token, -/
theorem queriesRows_apply (x : FVec Ideal S8x16x64x8192 .bf16) (b : Fin 8) (s : Fin 8192) (i : Fin 16) (d : Fin 64) :
    queriesRows x (ix4 b s i d) = x (ix4 b i d s) :=
  transpose_apply _ _ _ _ _ fun a => match a with | ⟨0, _⟩ => rfl | ⟨1, _⟩ => rfl | ⟨2, _⟩ => rfl | ⟨3, _⟩ => rfl

/-- its keys, -/
theorem headKeys_apply (x : FVec Ideal S8x4x16x512x64 .bf16) (b : Fin 8) (s : Fin 8192) (i : Fin 4) (d : Fin 64) :
    headKeys x (ix4 b s i d) = x (ix5 b i (⟨s.val / 512, by omega⟩ : Fin 16) (⟨s.val % 512, by omega⟩ : Fin 512) d) := by
  refine (shapeCast_apply _ _ _ (ix5 b (⟨s.val / 512, by omega⟩ : Fin 16) (⟨s.val % 512, by omega⟩ : Fin 512) i d) ?_).trans ?_
  · rw [Shape.rowMajor_val_four, Shape.rowMajor_val_five]
    show (((b.val * 16 + s.val / 512) * 512 + s.val % 512) * 4 + i.val) * 64 + d.val = ((b.val * 8192 + s.val) * 4 + i.val) * 64 + d.val
    omega
  exact transpose_apply _ _ _ _ _ fun a => match a with | ⟨0, _⟩ => rfl | ⟨1, _⟩ => rfl | ⟨2, _⟩ => rfl | ⟨3, _⟩ => rfl | ⟨4, _⟩ => rfl

/-- and its values. -/
theorem headValues_apply (x : FVec Ideal S8x4x16x80x512 .bf16) (b : Fin 8) (s : Fin 8192) (i : Fin 4) (d : Fin 64) :
    headValues x (ix4 b s i d)
      = x (ix5 b i (⟨s.val / 512, by omega⟩ : Fin 16) (⟨d.val, by omega⟩ : Fin 80) (⟨s.val % 512, by omega⟩ : Fin 512)) := by
  refine (shapeCast_apply _ _ _ (ix5 b (⟨s.val / 512, by omega⟩ : Fin 16) (⟨s.val % 512, by omega⟩ : Fin 512) i d) ?_).trans ?_
  · rw [Shape.rowMajor_val_four, Shape.rowMajor_val_five]
    show (((b.val * 16 + s.val / 512) * 512 + s.val % 512) * 4 + i.val) * 64 + d.val = ((b.val * 8192 + s.val) * 4 + i.val) * 64 + d.val
    omega
  refine (transpose_apply _ _ _ _ (ix5 b i (⟨s.val / 512, by omega⟩ : Fin 16) d (⟨s.val % 512, by omega⟩ : Fin 512)) fun a => match a with
    | ⟨0, _⟩ => rfl | ⟨1, _⟩ => rfl | ⟨2, _⟩ => rfl | ⟨3, _⟩ => rfl | ⟨4, _⟩ => rfl).trans ?_
  refine extractStridedSlice_apply _ _ _ _ _ fun a => ?_
  match a with
  | ⟨0, _⟩ => exact (Nat.zero_add _).symm
  | ⟨1, _⟩ => exact (Nat.zero_add _).symm
  | ⟨2, _⟩ => exact (Nat.zero_add _).symm
  | ⟨3, _⟩ => exact (Nat.zero_add _).symm
  | ⟨4, _⟩ => exact (Nat.zero_add _).symm

variable (m : (ℓ : Loc nD τ sig) → Buf (Elt Ideal) ℓ) (c : Dev nD)

/-- The keys' array is the keys. -/
theorem A13_eq (b : Fin 8) (s : Fin 8192) (j : Fin 1024) :
    A13 m c ⟨j.val / 256, by omega⟩ ⟨64 * b.val + s.val / 128, by omega⟩ ⟨j.val % 256, by omega⟩ ⟨s.val % 128, by omega⟩
      = outK (xs m c) (gpre m c) (wide m c) b s j := by
  have e : ∀ (b' : Fin 8) (s' : Fin 8192) (n n' : Fin 9744), b' = b → s' = s → n = n' →
      fed m c b' s' n * Ideal.ofBits .f32 0x3D800000#32 = fed m c b s n' * Ideal.ofBits .f32 0x3D800000#32 := by
    rintro _ _ _ _ rfl rfl rfl; rfl
  refine e _ _ _ _ (Fin.ext ?_) (Fin.ext ?_) (Fin.ext ?_)
  · show (64 * b.val + s.val / 128) / 64 = b.val; omega
  · show 128 * ((64 * b.val + s.val / 128) % 64) + s.val % 128 = s.val; omega
  · show 1024 + (256 * (j.val / 256) + j.val % 256) = 1024 + j.val; omega

/-- The gates' columns are the gates. -/
theorem A16_eq (b : Fin 8) (s : Fin 8192) (j : Fin 16) : A16 m c b s ⟨j.val, by omega⟩ = outG (xs m c) (gpre m c) (wide m c) b s j := by
  rw [A16, outG, feed]
  refine Finset.sum_congr rfl fun k _ => ?_
  rw [host4 m c k j _ rfl]

/-- The attention's keys' array is the keys, -/
theorem A18_eq (b : Fin 8) (s : Fin 8192) (i : Fin 4) (d : Fin 64) :
    A18 m c b i ⟨s.val / 512, by omega⟩ ⟨s.val % 512, by omega⟩ d = outHK (xs m c) (gpre m c) (wide m c) (gk m c) b s i d := by
  have e : ∀ (s' : Fin 8192), s' = s → turned (headk m c b s' i) (gk m c) s'.val d = turned (headk m c b s i) (gk m c) s.val d := by
    rintro _ rfl; rfl
  exact e ⟨512 * (s.val / 512) + s.val % 512, by omega⟩ (Fin.ext (by show 512 * (s.val / 512) + s.val % 512 = s.val; omega))

/-- and its values' array the values. -/
theorem A19_eq (b : Fin 8) (s : Fin 8192) (i : Fin 4) (d : Fin 64) :
    A19 m c b i ⟨s.val / 512, by omega⟩ ⟨d.val, by omega⟩ ⟨s.val % 512, by omega⟩ = outHV (xs m c) (gpre m c) (wide m c) b s i d := by
  refine (dif_pos d.isLt).trans ?_
  have e : ∀ (s' : Fin 8192) (n : Fin 9744), s' = s → fed m c b s' n = fed m c b s n := by
    rintro _ _ rfl; rfl
  exact e _ _ (Fin.ext (by show 512 * (s.val / 512) + s.val % 512 = s.val; omega))

/-- The kernel's results: the recurrence's keys, -/
theorem result13 : keysRows ((dats m 0 c).arrAt 13 cfg0.N) = fun y : S8x8192x1024.Idx =>
    outK (xs m c) (gpre m c) (wide m c) (y 0) (y 1) (y 2) :=
  (congrArg keysRows (array13 m c)).trans (funext fun y => (congrArg _ (whole3 y)).trans ((keysRows_apply _ _ _ _).trans (A13_eq m c _ _ _)))
/-- its gates, -/
theorem result16 : gatesOnly ((dats m 0 c).arrAt 16 cfg0.N) = fun y : S8x8192x16.Idx =>
    outG (xs m c) (gpre m c) (wide m c) (y 0) (y 1) (y 2) :=
  (congrArg gatesOnly (array16 m c)).trans (funext fun y => (congrArg _ (whole3 y)).trans ((gatesOnly_apply _ _ _ _).trans (A16_eq m c _ _ _)))
/-- the attention's queries, -/
theorem result17 : queriesRows ((dats m 0 c).arrAt 17 cfg0.N) = fun y : S8x8192x16x64.Idx =>
    outHQ (xs m c) (gpre m c) (wide m c) (gq m c) (y 0) (y 1) (y 2) (y 3) :=
  (congrArg queriesRows (array17 m c)).trans (funext fun y => (congrArg _ (whole4 y)).trans (queriesRows_apply _ _ _ _ _))
/-- its keys, -/
theorem result18 : headKeys ((dats m 0 c).arrAt 18 cfg0.N) = fun y : S8x8192x4x64.Idx =>
    outHK (xs m c) (gpre m c) (wide m c) (gk m c) (y 0) (y 1) (y 2) (y 3) :=
  (congrArg headKeys (array18 m c)).trans (funext fun y => (congrArg _ (whole4 y)).trans ((headKeys_apply _ _ _ _ _).trans (A18_eq m c _ _ _ _)))
/-- and its values. -/
theorem result19 : headValues ((dats m 0 c).arrAt 19 cfg0.N) = fun y : S8x8192x4x64.Idx =>
    outHV (xs m c) (gpre m c) (wide m c) (y 0) (y 1) (y 2) (y 3) :=
  (congrArg headValues (array19 m c)).trans (funext fun y => (congrArg _ (whole4 y)).trans ((headValues_apply _ _ _ _ _).trans (A19_eq m c _ _ _ _)))

end Cert.ProjIdeal.Feed

end
-- ==== Proof.Feed.Rope.lean ====
module

public import proofs.«01_k».proof.Proof.Feed.Goal
public import Idealize.ShloMosaic.Lib.Pointwise
public import Idealize.ShloMosaic.Lib.Pipeline.Value
public import Idealize.ShloMosaic.Lib.IdealHost

/-!
# Operations on heads, entry by entry

The sizes are any sizes: batch entries, tokens, heads, numbers of a head.
-/

@[expose] public section

noncomputable section

namespace Cert.Feed

open Idealize.ShloMosaic Idealize.ShloMosaic.Tactic Cert.Last

variable {B T n k : ℕ} (b : Fin B) (s : Fin T) (i : Fin n)

/-- A sum over a head's numbers, from zero; -/
theorem sum_head (x : FVec Ideal ⟨4, ![B, T, n, k]⟩ .f32) (hr : (⟨4, ![B, T, n, k]⟩ : Shape).ReducesTo [3] ⟨3, ![B, T, n]⟩)
    (hz : 0 < (⟨0, ![]⟩ : Shape).numel) :
    Host.reduceAdd x (constant (F := Ideal) ⟨0, ![]⟩ .f32 0#32) hr hz (ix3 b s i) = ∑ j : Fin k, (x (ix4 b s i j) : EReal) := by
  simp only [pointwise]
  rw [zero_add]

/-- a head's number, given a last axis of one, -/
theorem unit_head {α : Type} (x : (⟨3, ![B, T, n]⟩ : Shape).Idx → α) (h1) :
    broadcastInDim ⟨4, ![B, T, n, 1]⟩ ![0, 1, 2] h1 x (ix4 b s i 0) = x (ix3 b s i) := by
  refine broadcastInDim_apply _ _ _ _ (ix3 b s i) fun a => ?_
  have := b.isLt; have := s.isLt; have := i.isLt
  match a with
  | ⟨0, _⟩ => show b.val = if B = 1 then 0 else b.val; split <;> omega
  | ⟨1, _⟩ => show s.val = if T = 1 then 0 else s.val; split <;> omega
  | ⟨2, _⟩ => show i.val = if n = 1 then 0 else i.val; split <;> omega

/-- and read at all its numbers. -/
theorem spread_head {α : Type} (x : (⟨4, ![B, T, n, 1]⟩ : Shape).Idx → α) (h1) (j : Fin k) :
    broadcastInDim ⟨4, ![B, T, n, k]⟩ ![0, 1, 2, 3] h1 x (ix4 b s i j) = x (ix4 b s i 0) := by
  refine broadcastInDim_apply _ _ _ _ (ix4 b s i (0 : Fin 1)) fun a => ?_
  have := b.isLt; have := s.isLt; have := i.isLt
  match a with
  | ⟨0, _⟩ => show b.val = if B = 1 then 0 else b.val; split <;> omega
  | ⟨1, _⟩ => show s.val = if T = 1 then 0 else s.val; split <;> omega
  | ⟨2, _⟩ => show i.val = if n = 1 then 0 else i.val; split <;> omega
  | ⟨3, _⟩ => rfl

/-- A gain, read at every head. -/
theorem gain_head (g : FVec Ideal ⟨1, ![k]⟩ .f32) (h1) (h2) (j : Fin k) :
    broadcastInDim ⟨4, ![B, T, n, k]⟩ ![0, 1, 2, 3] h1 (broadcastInDim ⟨4, ![1, 1, 1, k]⟩ ![3] h2 g) (ix4 b s i j) = g (ix1 j) := by
  have := j.isLt
  rw [broadcastInDim_apply _ _ _ _ (ix4 (0 : Fin 1) (0 : Fin 1) (0 : Fin 1) j) fun a => ?_, broadcastInDim_apply _ _ _ _ (ix1 j) fun a => ?_]
  · match a with
    | ⟨0, _⟩ => show j.val = if k = 1 then 0 else j.val; split <;> omega
  · match a with
    | ⟨0, _⟩ => rfl
    | ⟨1, _⟩ => rfl
    | ⟨2, _⟩ => rfl
    | ⟨3, _⟩ => show j.val = if k = 1 then 0 else j.val; split <;> omega

/-- A run of a head's numbers, from number `o`. -/
theorem run_head {α : Type} {l o : ℕ} (x : (⟨4, ![B, T, n, k]⟩ : Shape).Idx → α) (h : (⟨4, ![B, T, n, k]⟩ : Shape).Slices ![0, 0, 0, o] ⟨4, ![B, T, n, l]⟩)
    (j : Fin l) (e : Fin k) (he : e.val = o + j.val) :
    extractStridedSlice ⟨4, ![B, T, n, l]⟩ ![0, 0, 0, o] x h (ix4 b s i j) = x (ix4 b s i e) :=
  extractStridedSlice_apply _ _ _ _ (ix4 b s i e) fun a => by
    match a with
    | ⟨0, _⟩ => exact (Nat.zero_add _).symm
    | ⟨1, _⟩ => exact (Nat.zero_add _).symm
    | ⟨2, _⟩ => exact (Nat.zero_add _).symm
    | ⟨3, _⟩ => exact he

/-- A table of tokens by numbers, read at every batch entry and head. -/
theorem table_head {α : Type} (x : (⟨2, ![T, k]⟩ : Shape).Idx → α) (h1) (h2) (j : Fin k) :
    broadcastInDim ⟨4, ![B, T, n, k]⟩ ![0, 1, 2, 3] h1 (broadcastInDim ⟨4, ![1, T, 1, k]⟩ ![1, 3] h2 x) (ix4 b s i j) = x (ix2 s j) := by
  have := j.isLt; have := s.isLt
  rw [broadcastInDim_apply _ _ _ _ (ix4 (0 : Fin 1) s (0 : Fin 1) j) fun a => ?_, broadcastInDim_apply _ _ _ _ (ix2 s j) fun a => ?_]
  · match a with
    | ⟨0, _⟩ => show s.val = if T = 1 then 0 else s.val; split <;> omega
    | ⟨1, _⟩ => show j.val = if k = 1 then 0 else j.val; split <;> omega
  · match a with
    | ⟨0, _⟩ => rfl
    | ⟨1, _⟩ => show s.val = if T = 1 then 0 else s.val; split <;> omega
    | ⟨2, _⟩ => rfl
    | ⟨3, _⟩ => show j.val = if k = 1 then 0 else j.val; split <;> omega

/-- Every token's number times every frequency. -/
theorem outer_apply (x : FVec Ideal ⟨1, ![T]⟩ .f32) (y : FVec Ideal ⟨1, ![k]⟩ .f32) (h1) (h2) (h3) (h4) (j : Fin k) :
    mulf (broadcastInDim ⟨2, ![T, k]⟩ ![0, 1] h1 (broadcastInDim ⟨2, ![T, 1]⟩ ![0] h2 x))
      (broadcastInDim ⟨2, ![T, k]⟩ ![0, 1] h3 (broadcastInDim ⟨2, ![1, k]⟩ ![1] h4 y)) (ix2 s j) = (x (ix1 s) * y (ix1 j) : EReal) := by
  have := j.isLt; have := s.isLt
  have e : ∀ (u v : FVec Ideal ⟨2, ![T, k]⟩ .f32), mulf u v (ix2 s j) = (u (ix2 s j) * v (ix2 s j) : EReal) := fun _ _ => rfl
  refine (e _ _).trans ?_
  rw [broadcastInDim_apply _ _ _ _ (ix2 s (0 : Fin 1)) fun a => ?_, broadcastInDim_apply _ _ _ _ (ix1 s) fun a => ?_,
    broadcastInDim_apply _ _ _ _ (ix2 (0 : Fin 1) j) fun a => ?_, broadcastInDim_apply _ _ _ _ (ix1 j) fun a => ?_]
  · match a with
    | ⟨0, _⟩ => show j.val = if k = 1 then 0 else j.val; split <;> omega
  · match a with
    | ⟨0, _⟩ => rfl
    | ⟨1, _⟩ => show j.val = if k = 1 then 0 else j.val; split <;> omega
  · match a with
    | ⟨0, _⟩ => show s.val = if T = 1 then 0 else s.val; split <;> omega
  · match a with
    | ⟨0, _⟩ => show s.val = if T = 1 then 0 else s.val; split <;> omega
    | ⟨1, _⟩ => rfl

/-- Two runs of a head's numbers, one after the other: in the first, -/
theorem first_head {α : Type} {l : ℕ} (x y : (⟨4, ![B, T, n, l]⟩ : Shape).Idx → α)
    (hc : Shape.Concatenates [⟨4, ![B, T, n, l]⟩, ⟨4, ![B, T, n, l]⟩] ⟨4, ![B, T, n, k]⟩ 3) (j : Fin l) (e : Fin k) (he : e.val = j.val) :
    concatenate ⟨4, ![B, T, n, k]⟩ 3 [⟨⟨4, ![B, T, n, l]⟩, x⟩, ⟨⟨4, ![B, T, n, l]⟩, y⟩] hc (ix4 b s i e) = x (ix4 b s i j) :=
  concatenate_pair_apply_left (t := ⟨4, ![B, T, n, k]⟩) (s₁ := ⟨4, ![B, T, n, l]⟩) (s₂ := ⟨4, ![B, T, n, l]⟩) 3 _ _ hc _ rfl (ix4 b s i j) fun a => by
    match a with
    | ⟨0, _⟩ => rfl
    | ⟨1, _⟩ => rfl
    | ⟨2, _⟩ => rfl
    | ⟨3, _⟩ => exact he.symm

/-- and in the second. -/
theorem second_head {α : Type} {l : ℕ} (x y : (⟨4, ![B, T, n, l]⟩ : Shape).Idx → α)
    (hc : Shape.Concatenates [⟨4, ![B, T, n, l]⟩, ⟨4, ![B, T, n, l]⟩] ⟨4, ![B, T, n, k]⟩ 3) (j : Fin l) (e : Fin k) (he : e.val = l + j.val) :
    concatenate ⟨4, ![B, T, n, k]⟩ 3 [⟨⟨4, ![B, T, n, l]⟩, x⟩, ⟨⟨4, ![B, T, n, l]⟩, y⟩] hc (ix4 b s i e) = y (ix4 b s i j) :=
  concatenate_pair_apply_right (t := ⟨4, ![B, T, n, k]⟩) (s₁ := ⟨4, ![B, T, n, l]⟩) (s₂ := ⟨4, ![B, T, n, l]⟩) 3 _ _ hc _ rfl rfl (ix4 b s i j)
    (fun a ha => by
      match a with
      | ⟨0, _⟩ => rfl
      | ⟨1, _⟩ => rfl
      | ⟨2, _⟩ => rfl
      | ⟨3, _⟩ => exact absurd rfl ha) (by show j.val + l = e.val; omega)

/-- Heads normalised, times their gain. -/
theorem normed_head (t : FVec Ideal ⟨4, ![B, T, n, 64]⟩ .f32) (g : FVec Ideal ⟨1, ![64]⟩ .f32) (h1 h2 h3 h4 h5 h6 hr hz) (d : Fin 64) :
    mulf (mulf t (broadcastInDim ⟨4, ![B, T, n, 64]⟩ ![0, 1, 2, 3] h1 (Host.rsqrt (addf (Host.divf
      (broadcastInDim ⟨4, ![B, T, n, 1]⟩ ![0, 1, 2] h2 (Host.reduceAdd (t := ⟨3, ![B, T, n]⟩) (axes := [3]) (mulf t t) (constant ⟨0, ![]⟩ .f32 0x00000000#32) hr hz))
      (broadcastInDim ⟨4, ![B, T, n, 1]⟩ ![] h3 (constant ⟨0, ![]⟩ .f32 0x42800000#32))) (broadcastInDim ⟨4, ![B, T, n, 1]⟩ ![] h4 (constant ⟨0, ![]⟩ .f32 0x358637BD#32))))))
      (broadcastInDim ⟨4, ![B, T, n, 64]⟩ ![0, 1, 2, 3] h5 (broadcastInDim ⟨4, ![1, 1, 1, 64]⟩ ![3] h6 g)) (ix4 b s i d)
      = unit (fun e => t (ix4 b s i e)) d * g (ix1 d) := by
  have e : ∀ (u v w : FVec Ideal ⟨4, ![B, T, n, 64]⟩ .f32), mulf (mulf u v) w (ix4 b s i d) = (u (ix4 b s i d) * v (ix4 b s i d) * w (ix4 b s i d) : EReal) :=
    fun _ _ _ => rfl
  have e2 : ∀ (v : FVec Ideal ⟨4, ![B, T, n, 1]⟩ .f32), Host.rsqrt (addf (Host.divf v (broadcastInDim ⟨4, ![B, T, n, 1]⟩ ![] h3 (constant ⟨0, ![]⟩ .f32 0x42800000#32)))
      (broadcastInDim ⟨4, ![B, T, n, 1]⟩ ![] h4 (constant ⟨0, ![]⟩ .f32 0x358637BD#32))) (ix4 b s i 0)
      = Ideal.rsqrt (Ideal.div (v (ix4 b s i 0)) (Ideal.ofBits .f32 0x42800000#32) + Ideal.ofBits .f32 0x358637BD#32) := fun _ => rfl
  refine (e _ _ _).trans ?_
  rw [spread_head, gain_head, e2, unit_head, sum_head]
  rfl

/-- One axis of a head turned, of its two halves and the tables of its angles: the first half, -/
theorem turn_first (p q : FVec Ideal ⟨4, ![B, T, n, 16]⟩ .f32) (w : FVec Ideal ⟨2, ![T, 16]⟩ .f32) (h1 h2 h3 h4) (j : Fin 16) :
    subf (mulf p (broadcastInDim ⟨4, ![B, T, n, 16]⟩ ![0, 1, 2, 3] h1 (broadcastInDim ⟨4, ![1, T, 1, 16]⟩ ![1, 3] h2 (Host.cos w))))
      (mulf q (broadcastInDim ⟨4, ![B, T, n, 16]⟩ ![0, 1, 2, 3] h3 (broadcastInDim ⟨4, ![1, T, 1, 16]⟩ ![1, 3] h4 (Host.sin w)))) (ix4 b s i j)
      = (p (ix4 b s i j) * Ideal.cos (w (ix2 s j)) - q (ix4 b s i j) * Ideal.sin (w (ix2 s j)) : EReal) := by
  have e : ∀ (u v : FVec Ideal ⟨4, ![B, T, n, 16]⟩ .f32), subf (mulf p u) (mulf q v) (ix4 b s i j)
      = (p (ix4 b s i j) * u (ix4 b s i j) - q (ix4 b s i j) * v (ix4 b s i j) : EReal) := fun _ _ => rfl
  refine (e _ _).trans ?_
  rw [table_head, table_head]
  rfl

/-- and the second. -/
theorem turn_second (p q : FVec Ideal ⟨4, ![B, T, n, 16]⟩ .f32) (w : FVec Ideal ⟨2, ![T, 16]⟩ .f32) (h1 h2 h3 h4) (j : Fin 16) :
    addf (mulf q (broadcastInDim ⟨4, ![B, T, n, 16]⟩ ![0, 1, 2, 3] h1 (broadcastInDim ⟨4, ![1, T, 1, 16]⟩ ![1, 3] h2 (Host.cos w))))
      (mulf p (broadcastInDim ⟨4, ![B, T, n, 16]⟩ ![0, 1, 2, 3] h3 (broadcastInDim ⟨4, ![1, T, 1, 16]⟩ ![1, 3] h4 (Host.sin w)))) (ix4 b s i j)
      = (q (ix4 b s i j) * Ideal.cos (w (ix2 s j)) + p (ix4 b s i j) * Ideal.sin (w (ix2 s j)) : EReal) := by
  have e : ∀ (u v : FVec Ideal ⟨4, ![B, T, n, 16]⟩ .f32), addf (mulf q u) (mulf p v) (ix4 b s i j)
      = (q (ix4 b s i j) * u (ix4 b s i j) + p (ix4 b s i j) * v (ix4 b s i j) : EReal) := fun _ _ => rfl
  refine (e _ _).trans ?_
  rw [table_head, table_head]
  rfl

/-- A head turned, of its four halves' runs and its two tables of angles, at the place of a number. -/
theorem rope_head (p0 q0 p1 q1 : FVec Ideal ⟨4, ![B, T, n, 16]⟩ .f32) (w0 w1 : FVec Ideal ⟨2, ![T, 16]⟩ .f32) (h1 h2)
    (hc : Shape.Concatenates [⟨4, ![B, T, n, 16]⟩, ⟨4, ![B, T, n, 16]⟩] ⟨4, ![B, T, n, 32]⟩ 3)
    (hd : Shape.Concatenates [⟨4, ![B, T, n, 32]⟩, ⟨4, ![B, T, n, 32]⟩] ⟨4, ![B, T, n, 64]⟩ 3) (t g : Head) (r : ℕ)
    (hp0 : ∀ j, p0 (ix4 b s i j) = unit t (place 0 0 j) * g (place 0 0 j)) (hq0 : ∀ j, q0 (ix4 b s i j) = unit t (place 0 1 j) * g (place 0 1 j))
    (hp1 : ∀ j, p1 (ix4 b s i j) = unit t (place 1 0 j) * g (place 1 0 j)) (hq1 : ∀ j, q1 (ix4 b s i j) = unit t (place 1 1 j) * g (place 1 1 j))
    (hw0 : ∀ j, w0 (ix2 s j) = angle 0 r j) (hw1 : ∀ j, w1 (ix2 s j) = angle 1 r j) (a h : Fin 2) (j : Fin 16) :
    concatenate ⟨4, ![B, T, n, 64]⟩ 3
      [⟨⟨4, ![B, T, n, 32]⟩, concatenate ⟨4, ![B, T, n, 32]⟩ 3
        [⟨⟨4, ![B, T, n, 16]⟩, subf (mulf p0 (broadcastInDim ⟨4, ![B, T, n, 16]⟩ ![0, 1, 2, 3] h1 (broadcastInDim ⟨4, ![1, T, 1, 16]⟩ ![1, 3] h2 (Host.cos w0))))
            (mulf q0 (broadcastInDim ⟨4, ![B, T, n, 16]⟩ ![0, 1, 2, 3] h1 (broadcastInDim ⟨4, ![1, T, 1, 16]⟩ ![1, 3] h2 (Host.sin w0))))⟩,
          ⟨⟨4, ![B, T, n, 16]⟩, addf (mulf q0 (broadcastInDim ⟨4, ![B, T, n, 16]⟩ ![0, 1, 2, 3] h1 (broadcastInDim ⟨4, ![1, T, 1, 16]⟩ ![1, 3] h2 (Host.cos w0))))
            (mulf p0 (broadcastInDim ⟨4, ![B, T, n, 16]⟩ ![0, 1, 2, 3] h1 (broadcastInDim ⟨4, ![1, T, 1, 16]⟩ ![1, 3] h2 (Host.sin w0))))⟩] hc⟩,
        ⟨⟨4, ![B, T, n, 32]⟩, concatenate ⟨4, ![B, T, n, 32]⟩ 3
        [⟨⟨4, ![B, T, n, 16]⟩, subf (mulf p1 (broadcastInDim ⟨4, ![B, T, n, 16]⟩ ![0, 1, 2, 3] h1 (broadcastInDim ⟨4, ![1, T, 1, 16]⟩ ![1, 3] h2 (Host.cos w1))))
            (mulf q1 (broadcastInDim ⟨4, ![B, T, n, 16]⟩ ![0, 1, 2, 3] h1 (broadcastInDim ⟨4, ![1, T, 1, 16]⟩ ![1, 3] h2 (Host.sin w1))))⟩,
          ⟨⟨4, ![B, T, n, 16]⟩, addf (mulf q1 (broadcastInDim ⟨4, ![B, T, n, 16]⟩ ![0, 1, 2, 3] h1 (broadcastInDim ⟨4, ![1, T, 1, 16]⟩ ![1, 3] h2 (Host.cos w1))))
            (mulf p1 (broadcastInDim ⟨4, ![B, T, n, 16]⟩ ![0, 1, 2, 3] h1 (broadcastInDim ⟨4, ![1, T, 1, 16]⟩ ![1, 3] h2 (Host.sin w1))))⟩] hc⟩] hd (ix4 b s i (place a h j))
      = turn t g r a h j := by
  have hj := j.isLt
  match a, h with
  | 0, 0 =>
    refine (first_head b s i _ _ hd (⟨j.val, by omega⟩ : Fin 32) _ (by simp [place])).trans ((first_head b s i _ _ hc j (⟨j.val, by omega⟩ : Fin 32) rfl).trans ?_)
    refine (turn_first b s i p0 q0 w0 h1 h2 h1 h2 j).trans ?_
    rw [hp0, hq0, hw0]
    exact (if_pos rfl).symm
  | 0, 1 =>
    refine (first_head b s i _ _ hd (⟨16 + j.val, by omega⟩ : Fin 32) _ (by simp [place])).trans ((second_head b s i _ _ hc j (⟨16 + j.val, by omega⟩ : Fin 32) rfl).trans ?_)
    refine (turn_second b s i p0 q0 w0 h1 h2 h1 h2 j).trans ?_
    rw [hp0, hq0, hw0]
    exact (if_neg (by decide)).symm
  | 1, 0 =>
    refine (second_head b s i _ _ hd (⟨j.val, by omega⟩ : Fin 32) _ (by simp [place])).trans ((first_head b s i _ _ hc j (⟨j.val, by omega⟩ : Fin 32) rfl).trans ?_)
    refine (turn_first b s i p1 q1 w1 h1 h2 h1 h2 j).trans ?_
    rw [hp1, hq1, hw1]
    exact (if_pos rfl).symm
  | 1, 1 =>
    refine (second_head b s i _ _ hd (⟨16 + j.val, by omega⟩ : Fin 32) _ (by show 32 * 1 + 16 * 1 + j.val = 32 + (16 + j.val); omega)).trans
      ((second_head b s i _ _ hc j (⟨16 + j.val, by omega⟩ : Fin 32) rfl).trans ?_)
    refine (turn_second b s i p1 q1 w1 h1 h2 h1 h2 j).trans ?_
    rw [hp1, hq1, hw1]
    exact (if_neg (by decide)).symm

end Cert.Feed

end
-- ==== Proof.Feed.Reference.lean ====
module

public import proofs.«01_k».proof.Proof.Gen.ReferenceProjIdeal.Run
public import proofs.«01_k».proof.Proof.Last.Reference
public import proofs.«01_k».proof.Proof.Feed.Rope

/-!
# The projections' reference, entry by entry
-/

@[expose] public section

noncomputable section

namespace Cert.ReferenceProjIdeal.Feed

open Cert.ReferenceProjIdeal Cert.ReferenceProjIdeal.Gen Cert.ReferenceProjIdeal.Value Cert.Last Cert.Feed
open Idealize.ShloMosaic Idealize.ShloMosaic.TcCoe Idealize.ShloMosaic.Tactic Idealize.ShloMosaic.StableHlo

variable (V : Valuation τ sig (Elt Ideal))

/-- The arguments: rows, the wide matrix, the rows' gain, the heads' gains. -/
def xs : Fin 8 → Fin 8192 → Row := fun b i j => (V (Proc.devRef .tc main_arg0) : S8x8192x1024.Idx → EReal) (ix3 b i j)
/-- The wide matrix, -/
def wide : Wide := fun k j => (V (Proc.devRef .tc main_arg1) : S1024x9744.Idx → EReal) (ix2 k j)
/-- the rows' gain, -/
def gpre : Row := fun j => (V (Proc.devRef .tc main_arg2) : S1024.Idx → EReal) (ix1 j)
/-- the queries' gain -/
def gq : Head := fun j => (V (Proc.devRef .tc main_arg3) : S64.Idx → EReal) (ix1 j)
/-- and the keys'. -/
def gk : Head := fun j => (V (Proc.devRef .tc main_arg4) : S64.Idx → EReal) (ix1 j)

variable (b : Fin 8) (s : Fin 8192)

/-- The projection of every token. -/
theorem fed_apply (n : Fin 9744) : (res_main_v13 V : S8x8192x9744.Idx → EReal) (ix3 b s n) = feed (xs V b s) (gpre V) (wide V) n := by
  have e : (res_main_v13 V : S8x8192x9744.Idx → EReal) = Cert.ReferenceFinalIdeal.Last.widely (Cert.ReferenceFinalIdeal.Last.normed (V (Proc.devRef .tc main_arg0))
    (V (Proc.devRef .tc main_arg2))) (V (Proc.devRef .tc main_arg1)) := rfl
  refine (congrFun e _).trans ((Cert.ReferenceFinalIdeal.Last.widely_apply _ _ b s n).trans (Finset.sum_congr (M := EReal) rfl fun k _ => ?_))
  exact congrArg (fun z : EReal => z * _) (Cert.ReferenceFinalIdeal.Last.normed_apply _ _ b s k)

/-- A run of its columns. -/
theorem part_apply {n o : ℕ} (h : S8x8192x9744.Slices ![0, 0, o] ⟨3, ![8, 8192, n]⟩) (j : Fin n) (e : Fin 9744) (he : e.val = o + j.val) :
    extractStridedSlice ⟨3, ![8, 8192, n]⟩ ![0, 0, o] (res_main_v13 V) h (ix3 b s j) = feed (xs V b s) (gpre V) (wide V) e :=
  (Cert.ReferenceFinalIdeal.Last.cols_apply b s (res_main_v13 V) h j e he).trans (fed_apply V b s e)

/-- Columns as heads of 64 numbers. -/
theorem heads_apply {α : Type} {n l : ℕ} (x : (⟨3, ![8, 8192, l]⟩ : Shape).Idx → α) (h : (⟨3, ![8, 8192, l]⟩ : Shape).ShapeCasts ⟨4, ![8, 8192, n, 64]⟩)
    (hl : l = n * 64) (i : Fin n) (d : Fin 64) (e : Fin l) (he : e.val = 64 * i.val + d.val) : shapeCast ⟨4, ![8, 8192, n, 64]⟩ x h (ix4 b s i d) = x (ix3 b s e) := by
  subst hl
  refine shapeCast_apply _ _ _ _ ?_
  rw [Shape.rowMajor_val_three, Shape.rowMajor_val_four]
  show (b.val * 8192 + s.val) * (n * 64) + e.val = ((b.val * 8192 + s.val) * n + i.val) * 64 + d.val
  rw [he]
  ring

/-- A token's row, -/
theorem row_word : (res_main_v37 V : IVec S8192 32) (ix1 s) = BitVec.ofNat 32 (s.val / 64) := by
  refine (shapeCast_apply _ _ (ix1 s) (ix2 (⟨s.val / 64, by omega⟩ : Fin 128) (⟨s.val % 64, by omega⟩ : Fin 64)) ?_).trans rfl
  rw [Shape.rowMajor_val_two, Shape.rowMajor_val_one]
  show s.val / 64 * 64 + s.val % 64 = s.val
  omega

/-- and its column. -/
theorem col_word : (res_main_v41 V : IVec S8192 32) (ix1 s) = BitVec.ofNat 32 (s.val % 64) := by
  refine (shapeCast_apply _ _ (ix1 s) (ix2 (⟨s.val / 64, by omega⟩ : Fin 128) (⟨s.val % 64, by omega⟩ : Fin 64)) ?_).trans rfl
  rw [Shape.rowMajor_val_two, Shape.rowMajor_val_one]
  show s.val / 64 * 64 + s.val % 64 = s.val
  omega

/-- The angles along the rows, -/
theorem angle0 (j : Fin 16) : (res_main_v74 V : S8192x16.Idx → EReal) (ix2 s j) = angle 0 s.val j := by
  refine (outer_apply s (sitofp .f32 (res_main_v37 V)) _ _ _ _ _ j).trans ?_
  have e : ((sitofp .f32 (res_main_v37 V) : FVec Ideal S8192 .f32) (ix1 s) : EReal) = ((((res_main_v37 V : IVec S8192 32) (ix1 s)).toInt : ℝ) : EReal) := rfl
  rw [e, row_word]
  rfl

/-- and along the columns; -/
theorem angle1 (j : Fin 16) : (res_main_v108 V : S8192x16.Idx → EReal) (ix2 s j) = angle 1 s.val j := by
  refine (outer_apply s (sitofp .f32 (res_main_v41 V)) _ _ _ _ _ j).trans ?_
  have e : ((sitofp .f32 (res_main_v41 V) : FVec Ideal S8192 .f32) (ix1 s) : EReal) = ((((res_main_v41 V : IVec S8192 32) (ix1 s)).toInt : ℝ) : EReal) := rfl
  rw [e, col_word]
  rfl

/-- the same for the keys. -/
theorem angle0k (j : Fin 16) : (res_main_v156 V : S8192x16.Idx → EReal) (ix2 s j) = angle 0 s.val j := angle0 V s j
/-- Likewise. -/
theorem angle1k (j : Fin 16) : (res_main_v190 V : S8192x16.Idx → EReal) (ix2 s j) = angle 1 s.val j := angle1 V s j

/-- The queries' heads, normalised, -/
theorem unitQ (i : Fin 16) (d : Fin 64) : (res_main_v57 V : S8x8192x16x64.Idx → EReal) (ix4 b s i d)
    = unit (fun e => feed (xs V b s) (gpre V) (wide V) ⟨5136 + (64 * i.val + e.val), by omega⟩) d * gq V d := by
  refine (normed_head b s i (res_main_v42 V) _ _ _ _ _ _ _ _ _ d).trans ?_
  rw [show (fun e => (res_main_v42 V : S8x8192x16x64.Idx → EReal) (ix4 b s i e)) = _ from funext fun e =>
    (heads_apply b s _ _ rfl i e (⟨64 * i.val + e.val, by omega⟩ : Fin 1024) rfl).trans (part_apply V b s _ _ ⟨5136 + (64 * i.val + e.val), by omega⟩ rfl)]
  rfl

/-- and the keys'. -/
theorem unitK (i : Fin 4) (d : Fin 64) : (res_main_v139 V : S8x8192x4x64.Idx → EReal) (ix4 b s i d)
    = unit (fun e => feed (xs V b s) (gpre V) (wide V) ⟨6160 + (64 * i.val + e.val), by omega⟩) d * gk V d := by
  refine (normed_head b s i (res_main_v43 V) _ _ _ _ _ _ _ _ _ d).trans ?_
  rw [show (fun e => (res_main_v43 V : S8x8192x4x64.Idx → EReal) (ix4 b s i e)) = _ from funext fun e =>
    (heads_apply b s _ _ rfl i e (⟨64 * i.val + e.val, by omega⟩ : Fin 256) rfl).trans (part_apply V b s _ _ ⟨6160 + (64 * i.val + e.val), by omega⟩ rfl)]
  rfl

/-- A run of 16 of a run of 32 of a head's numbers. -/
theorem half_run {n o u : ℕ} (i : Fin n) (x : FVec Ideal ⟨4, ![8, 8192, n, 64]⟩ .f32) (h1 : (⟨4, ![8, 8192, n, 64]⟩ : Shape).Slices ![0, 0, 0, o] ⟨4, ![8, 8192, n, 32]⟩)
    (h2 : (⟨4, ![8, 8192, n, 32]⟩ : Shape).Slices ![0, 0, 0, u] ⟨4, ![8, 8192, n, 16]⟩) (j : Fin 16) (e : Fin 64) (hu : u ≤ 16) (he : e.val = o + u + j.val) :
    extractStridedSlice ⟨4, ![8, 8192, n, 16]⟩ ![0, 0, 0, u] (extractStridedSlice ⟨4, ![8, 8192, n, 32]⟩ ![0, 0, 0, o] x h1) h2 (ix4 b s i j) = x (ix4 b s i e) :=
  (run_head b s i _ h2 j (⟨u + j.val, by omega⟩ : Fin 32) rfl).trans (run_head b s i x h1 _ e (by show e.val = o + (u + j.val); omega))

/-- The reference's results: the recurrence's queries, -/
abbrev vecQ : FVec Ideal S8x8192x1024 .bf16 := truncf .bf16 (extractStridedSlice S8x8192x1024 ![0, 0, 0] (res_main_v13 V) slices_S8x8192x9744_S8x8192x1024_0_0_0) bitsLt_bf16_f32
/-- at an entry, -/
theorem vecQ_apply (j : Fin 1024) : vecQ V (ix3 b s j) = outQ (xs V) (gpre V) (wide V) b s j := by
  exact part_apply V b s slices_S8x8192x9744_S8x8192x1024_0_0_0 j _ (Nat.zero_add _).symm
/-- and as an array. -/
theorem vecQ_eq : vecQ V = fun y : S8x8192x1024.Idx => outQ (xs V) (gpre V) (wide V) (y 0) (y 1) (y 2) :=
  funext fun y => (congrArg _ (whole3 y)).trans (vecQ_apply V (y 0) (y 1) (y 2))

/-- its keys, -/
abbrev vecK : FVec Ideal S8x8192x1024 .bf16 := truncf .bf16 (mulf (extractStridedSlice S8x8192x1024 ![0, 0, 1024] (res_main_v13 V) slices_S8x8192x9744_S8x8192x1024_0_0_1024) (broadcastInDim S8x8192x1024 ![] bcast_S_S8x8192x1024 (constant S_ .f32 0x3D800000#32))) bitsLt_bf16_f32
/-- at an entry, -/
theorem vecK_apply (j : Fin 1024) : vecK V (ix3 b s j) = outK (xs V) (gpre V) (wide V) b s j := by
  exact congrArg (fun z : EReal => z * _) (part_apply V b s slices_S8x8192x9744_S8x8192x1024_0_0_1024 j _ rfl)
/-- and as an array. -/
theorem vecK_eq : vecK V = fun y : S8x8192x1024.Idx => outK (xs V) (gpre V) (wide V) (y 0) (y 1) (y 2) :=
  funext fun y => (congrArg _ (whole3 y)).trans (vecK_apply V (y 0) (y 1) (y 2))

/-- its values, -/
abbrev vecV : FVec Ideal S8x8192x1024 .bf16 := truncf .bf16 (extractStridedSlice S8x8192x1024 ![0, 0, 2048] (res_main_v13 V) slices_S8x8192x9744_S8x8192x1024_0_0_2048) bitsLt_bf16_f32
/-- at an entry, -/
theorem vecV_apply (j : Fin 1024) : vecV V (ix3 b s j) = outV (xs V) (gpre V) (wide V) b s j := by
  exact part_apply V b s slices_S8x8192x9744_S8x8192x1024_0_0_2048 j _ rfl
/-- and as an array. -/
theorem vecV_eq : vecV V = fun y : S8x8192x1024.Idx => outV (xs V) (gpre V) (wide V) (y 0) (y 1) (y 2) :=
  funext fun y => (congrArg _ (whole3 y)).trans (vecV_apply V (y 0) (y 1) (y 2))

/-- its output gate, -/
abbrev vecO : FVec Ideal S8x8192x1024 .bf16 := truncf .bf16 (mulf (Host.divf (broadcastInDim S8x8192x1024 ![] bcast_S_S8x8192x1024 (constant S_ .f32 0x3F800000#32)) (addf (broadcastInDim S8x8192x1024 ![] bcast_S_S8x8192x1024 (constant S_ .f32 0x3F800000#32)) (Host.exp (Host.negf (extractStridedSlice S8x8192x1024 ![0, 0, 3072] (res_main_v13 V) slices_S8x8192x9744_S8x8192x1024_0_0_3072))))) (mulf (res_main_v18 V) (Host.divf (broadcastInDim S8x8192x1024 ![] bcast_S_S8x8192x1024 (constant S_ .f32 0x3F800000#32)) (addf (broadcastInDim S8x8192x1024 ![] bcast_S_S8x8192x1024 (constant S_ .f32 0x3F800000#32)) (Host.exp (Host.negf (res_main_v18 V))))))) bitsLt_bf16_f32
/-- at an entry, -/
theorem vecO_apply (j : Fin 1024) : vecO V (ix3 b s j) = outO (xs V) (gpre V) (wide V) b s j := by
  have e : ∀ (u v : Cert.ReferenceFinalIdeal.Last.Rows) (i : S8x8192x1024.Idx),
      (truncf .bf16 (mulf (Cert.ReferenceFinalIdeal.Last.sigmoid u) (mulf v (Cert.ReferenceFinalIdeal.Last.sigmoid v))) bitsLt_bf16_f32 : FVec Ideal S8x8192x1024 .bf16) i
        = (Cert.ReferenceFinalIdeal.Last.sigmoid u i * (v i * Cert.ReferenceFinalIdeal.Last.sigmoid v i) : EReal) := fun _ _ _ => rfl
  refine (e _ _ _).trans ?_
  rw [Cert.ReferenceFinalIdeal.Last.sigmoid_apply, Cert.ReferenceFinalIdeal.Last.sigmoid_apply]
  have e1 := part_apply V b s slices_S8x8192x9744_S8x8192x1024_0_0_3072 j ⟨3072 + j.val, by have := j.isLt; omega⟩ rfl
  have e2 := part_apply V b s slices_S8x8192x9744_S8x8192x1024_0_0_4096 j ⟨4096 + j.val, by have := j.isLt; omega⟩ rfl
  exact congrArg₂ (fun z w : EReal => Ideal.logistic z * (w * Ideal.logistic w)) e1 e2
/-- and as an array. -/
theorem vecO_eq : vecO V = fun y : S8x8192x1024.Idx => outO (xs V) (gpre V) (wide V) (y 0) (y 1) (y 2) :=
  funext fun y => (congrArg _ (whole3 y)).trans (vecO_apply V (y 0) (y 1) (y 2))

/-- its input and forget gates, -/
abbrev vecG : FVec Ideal S8x8192x16 .f32 := extractStridedSlice S8x8192x16 ![0, 0, 5120] (res_main_v13 V) slices_S8x8192x9744_S8x8192x16_0_0_5120
/-- at an entry, -/
theorem vecG_apply (j : Fin 16) : vecG V (ix3 b s j) = outG (xs V) (gpre V) (wide V) b s j := by
  exact part_apply V b s slices_S8x8192x9744_S8x8192x16_0_0_5120 j _ rfl
/-- and as an array. -/
theorem vecG_eq : vecG V = fun y : S8x8192x16.Idx => outG (xs V) (gpre V) (wide V) (y 0) (y 1) (y 2) :=
  funext fun y => (congrArg _ (whole3 y)).trans (vecG_apply V (y 0) (y 1) (y 2))

/-- the attention's queries, -/
abbrev vecHQ : FVec Ideal S8x8192x16x64 .bf16 := truncf .bf16 (concatenate S8x8192x16x64 3 [⟨S8x8192x16x32, (concatenate S8x8192x16x32 3 [⟨S8x8192x16x16, (subf (mulf (res_main_v79 V) (broadcastInDim S8x8192x16x16 ![0, 1, 2, 3] bcast_S1x8192x1x16_S8x8192x16x16_0_1_2_3 (res_main_v76 V))) (mulf (res_main_v80 V) (broadcastInDim S8x8192x16x16 ![0, 1, 2, 3] bcast_S1x8192x1x16_S8x8192x16x16_0_1_2_3 (res_main_v78 V))))⟩, ⟨S8x8192x16x16, (addf (mulf (res_main_v80 V) (broadcastInDim S8x8192x16x16 ![0, 1, 2, 3] bcast_S1x8192x1x16_S8x8192x16x16_0_1_2_3 (res_main_v76 V))) (mulf (res_main_v79 V) (broadcastInDim S8x8192x16x16 ![0, 1, 2, 3] bcast_S1x8192x1x16_S8x8192x16x16_0_1_2_3 (res_main_v78 V))))⟩] concatenates_S8x8192x16x16_S8x8192x16x16_S8x8192x16x32_d3)⟩, ⟨S8x8192x16x32, (concatenate S8x8192x16x32 3 [⟨S8x8192x16x16, (subf (mulf (res_main_v113 V) (broadcastInDim S8x8192x16x16 ![0, 1, 2, 3] bcast_S1x8192x1x16_S8x8192x16x16_0_1_2_3 (res_main_v110 V))) (mulf (res_main_v114 V) (broadcastInDim S8x8192x16x16 ![0, 1, 2, 3] bcast_S1x8192x1x16_S8x8192x16x16_0_1_2_3 (res_main_v112 V))))⟩, ⟨S8x8192x16x16, (addf (mulf (res_main_v114 V) (broadcastInDim S8x8192x16x16 ![0, 1, 2, 3] bcast_S1x8192x1x16_S8x8192x16x16_0_1_2_3 (res_main_v110 V))) (mulf (res_main_v113 V) (broadcastInDim S8x8192x16x16 ![0, 1, 2, 3] bcast_S1x8192x1x16_S8x8192x16x16_0_1_2_3 (res_main_v112 V))))⟩] concatenates_S8x8192x16x16_S8x8192x16x16_S8x8192x16x32_d3)⟩] concatenates_S8x8192x16x32_S8x8192x16x32_S8x8192x16x64_d3) bitsLt_bf16_f32
/-- at an entry, -/
theorem vecHQ_apply (i : Fin 16) (d : Fin 64) : vecHQ V (ix4 b s i d) = outHQ (xs V) (gpre V) (wide V) (gq V) b s i d := by
  obtain ⟨a, h, j, rfl⟩ := place_split d
  rw [outHQ, turnedAt_place]
  exact rope_head b s i (res_main_v79 V) (res_main_v80 V) (res_main_v113 V) (res_main_v114 V) (res_main_v74 V) (res_main_v108 V) _ _
    concatenates_S8x8192x16x16_S8x8192x16x16_S8x8192x16x32_d3 concatenates_S8x8192x16x32_S8x8192x16x32_S8x8192x16x64_d3 _ (gq V) s.val
    (fun j => (half_run b s i (res_main_v57 V) slices_S8x8192x16x64_S8x8192x16x32_0_0_0_0 slices_S8x8192x16x32_S8x8192x16x16_0_0_0_0 j (place 0 0 j) (by decide) (by simp [place])).trans (unitQ V b s i _))
    (fun j => (half_run b s i (res_main_v57 V) slices_S8x8192x16x64_S8x8192x16x32_0_0_0_0 slices_S8x8192x16x32_S8x8192x16x16_0_0_0_16 j (place 0 1 j) (by decide) (by simp [place])).trans (unitQ V b s i _))
    (fun j => (half_run b s i (res_main_v57 V) slices_S8x8192x16x64_S8x8192x16x32_0_0_0_32 slices_S8x8192x16x32_S8x8192x16x16_0_0_0_0 j (place 1 0 j) (by decide) (by simp [place])).trans (unitQ V b s i _))
    (fun j => (half_run b s i (res_main_v57 V) slices_S8x8192x16x64_S8x8192x16x32_0_0_0_32 slices_S8x8192x16x32_S8x8192x16x16_0_0_0_16 j (place 1 1 j) (by decide) (by simp [place])).trans (unitQ V b s i _))
    (angle0 V s) (angle1 V s) a h j
/-- and as an array. -/
theorem vecHQ_eq : vecHQ V = fun y : S8x8192x16x64.Idx => outHQ (xs V) (gpre V) (wide V) (gq V) (y 0) (y 1) (y 2) (y 3) :=
  funext fun y => (congrArg _ (whole4 y)).trans (vecHQ_apply V (y 0) (y 1) (y 2) (y 3))

/-- its keys -/
abbrev vecHK : FVec Ideal S8x8192x4x64 .bf16 := truncf .bf16 (concatenate S8x8192x4x64 3 [⟨S8x8192x4x32, (concatenate S8x8192x4x32 3 [⟨S8x8192x4x16, (subf (mulf (res_main_v161 V) (broadcastInDim S8x8192x4x16 ![0, 1, 2, 3] bcast_S1x8192x1x16_S8x8192x4x16_0_1_2_3 (res_main_v158 V))) (mulf (res_main_v162 V) (broadcastInDim S8x8192x4x16 ![0, 1, 2, 3] bcast_S1x8192x1x16_S8x8192x4x16_0_1_2_3 (res_main_v160 V))))⟩, ⟨S8x8192x4x16, (addf (mulf (res_main_v162 V) (broadcastInDim S8x8192x4x16 ![0, 1, 2, 3] bcast_S1x8192x1x16_S8x8192x4x16_0_1_2_3 (res_main_v158 V))) (mulf (res_main_v161 V) (broadcastInDim S8x8192x4x16 ![0, 1, 2, 3] bcast_S1x8192x1x16_S8x8192x4x16_0_1_2_3 (res_main_v160 V))))⟩] concatenates_S8x8192x4x16_S8x8192x4x16_S8x8192x4x32_d3)⟩, ⟨S8x8192x4x32, (concatenate S8x8192x4x32 3 [⟨S8x8192x4x16, (subf (mulf (res_main_v195 V) (broadcastInDim S8x8192x4x16 ![0, 1, 2, 3] bcast_S1x8192x1x16_S8x8192x4x16_0_1_2_3 (res_main_v192 V))) (mulf (res_main_v196 V) (broadcastInDim S8x8192x4x16 ![0, 1, 2, 3] bcast_S1x8192x1x16_S8x8192x4x16_0_1_2_3 (res_main_v194 V))))⟩, ⟨S8x8192x4x16, (addf (mulf (res_main_v196 V) (broadcastInDim S8x8192x4x16 ![0, 1, 2, 3] bcast_S1x8192x1x16_S8x8192x4x16_0_1_2_3 (res_main_v192 V))) (mulf (res_main_v195 V) (broadcastInDim S8x8192x4x16 ![0, 1, 2, 3] bcast_S1x8192x1x16_S8x8192x4x16_0_1_2_3 (res_main_v194 V))))⟩] concatenates_S8x8192x4x16_S8x8192x4x16_S8x8192x4x32_d3)⟩] concatenates_S8x8192x4x32_S8x8192x4x32_S8x8192x4x64_d3) bitsLt_bf16_f32
/-- at an entry, -/
theorem vecHK_apply (i : Fin 4) (d : Fin 64) : vecHK V (ix4 b s i d) = outHK (xs V) (gpre V) (wide V) (gk V) b s i d := by
  obtain ⟨a, h, j, rfl⟩ := place_split d
  rw [outHK, turnedAt_place]
  exact rope_head b s i (res_main_v161 V) (res_main_v162 V) (res_main_v195 V) (res_main_v196 V) (res_main_v156 V) (res_main_v190 V) _ _
    concatenates_S8x8192x4x16_S8x8192x4x16_S8x8192x4x32_d3 concatenates_S8x8192x4x32_S8x8192x4x32_S8x8192x4x64_d3 _ (gk V) s.val
    (fun j => (half_run b s i (res_main_v139 V) slices_S8x8192x4x64_S8x8192x4x32_0_0_0_0 slices_S8x8192x4x32_S8x8192x4x16_0_0_0_0 j (place 0 0 j) (by decide) (by simp [place])).trans (unitK V b s i _))
    (fun j => (half_run b s i (res_main_v139 V) slices_S8x8192x4x64_S8x8192x4x32_0_0_0_0 slices_S8x8192x4x32_S8x8192x4x16_0_0_0_16 j (place 0 1 j) (by decide) (by simp [place])).trans (unitK V b s i _))
    (fun j => (half_run b s i (res_main_v139 V) slices_S8x8192x4x64_S8x8192x4x32_0_0_0_32 slices_S8x8192x4x32_S8x8192x4x16_0_0_0_0 j (place 1 0 j) (by decide) (by simp [place])).trans (unitK V b s i _))
    (fun j => (half_run b s i (res_main_v139 V) slices_S8x8192x4x64_S8x8192x4x32_0_0_0_32 slices_S8x8192x4x32_S8x8192x4x16_0_0_0_16 j (place 1 1 j) (by decide) (by simp [place])).trans (unitK V b s i _))
    (angle0k V s) (angle1k V s) a h j
/-- and as an array. -/
theorem vecHK_eq : vecHK V = fun y : S8x8192x4x64.Idx => outHK (xs V) (gpre V) (wide V) (gk V) (y 0) (y 1) (y 2) (y 3) :=
  funext fun y => (congrArg _ (whole4 y)).trans (vecHK_apply V (y 0) (y 1) (y 2) (y 3))

/-- and its values. -/
abbrev vecHV : FVec Ideal S8x8192x4x64 .bf16 := truncf .bf16 (shapeCast S8x8192x4x64 (extractStridedSlice S8x8192x256 ![0, 0, 6416] (res_main_v13 V) slices_S8x8192x9744_S8x8192x256_0_0_6416) shapeCasts_S8x8192x256_S8x8192x4x64) bitsLt_bf16_f32
/-- at an entry, -/
theorem vecHV_apply (i : Fin 4) (d : Fin 64) : vecHV V (ix4 b s i d) = outHV (xs V) (gpre V) (wide V) b s i d := by
  exact (heads_apply b s _ shapeCasts_S8x8192x256_S8x8192x4x64 rfl i d ⟨64 * i.val + d.val, by
    have := i.isLt; have := d.isLt; omega⟩ rfl).trans
    (part_apply V b s slices_S8x8192x9744_S8x8192x256_0_0_6416 _ _ rfl)
/-- and as an array. -/
theorem vecHV_eq : vecHV V = fun y : S8x8192x4x64.Idx => outHV (xs V) (gpre V) (wide V) (y 0) (y 1) (y 2) (y 3) :=
  funext fun y => (congrArg _ (whole4 y)).trans (vecHV_apply V (y 0) (y 1) (y 2) (y 3))

end Cert.ReferenceProjIdeal.Feed

end
-- ==== Proof.lean ====
/-
  The proof of `Cert.Claim`. The attention's runs are in `Proof/Bits` and `Proof/Ideal`; that both programs compute
  `Cert.Attn.attAt` is `Proof/Attn/Array.lean` for the kernel and `Proof/Attn/Reference.lean` for the reference.
  That both programs of the layer's last step compute `Cert.Last.result` is `Proof/Last/Array.lean` and
  `Proof/Last/Reference.lean`.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.Final
public import proofs.«01_k».proof.Proof.Gen.Final.Skeleton
public import proofs.«01_k».proof.Proof.Gen.Final.Launch
public import proofs.«01_k».proof.Proof.Gen.Final.Points
public import proofs.«01_k».proof.Proof.Gen.Final.Frame
public import proofs.«01_k».proof.Proof.Gen.FinalIdeal
public import proofs.«01_k».proof.Proof.Gen.FinalIdeal.Skeleton
public import proofs.«01_k».proof.Proof.Gen.FinalIdeal.Launch
public import proofs.«01_k».proof.Proof.Gen.FinalIdeal.Points
public import proofs.«01_k».proof.Proof.Gen.FinalIdeal.Frame
public import proofs.«01_k».proof.Proof.Gen.FinalIdeal.Value
public import proofs.«01_k».proof.Proof.Gen.ReferenceFinalIdeal
public import proofs.«01_k».proof.Proof.Gen.ReferenceFinalIdeal.Run
public import proofs.«01_k».proof.Proof.Gen.Proj
public import proofs.«01_k».proof.Proof.Gen.Proj.Skeleton
public import proofs.«01_k».proof.Proof.Gen.Proj.Launch
public import proofs.«01_k».proof.Proof.Gen.Proj.Points
public import proofs.«01_k».proof.Proof.Gen.Proj.Frame
public import proofs.«01_k».proof.Proof.Gen.ProjIdeal
public import proofs.«01_k».proof.Proof.Gen.ProjIdeal.Skeleton
public import proofs.«01_k».proof.Proof.Gen.ProjIdeal.Launch
public import proofs.«01_k».proof.Proof.Gen.ProjIdeal.Points
public import proofs.«01_k».proof.Proof.Gen.ProjIdeal.Frame
public import proofs.«01_k».proof.Proof.Gen.ReferenceProjIdeal
public import proofs.«01_k».proof.Proof.Gen.ReferenceProjIdeal.Run
public import proofs.«01_k».proof.Proof.Bits.Frame
public import proofs.«01_k».proof.Proof.Ideal.Frame
public import proofs.«01_k».proof.Proof.Attn.Array
public import proofs.«01_k».proof.Proof.Attn.Reference
public import proofs.«01_k».proof.Proof.Attn.Finite
public import proofs.«01_k».proof.Proof.Last.Array
public import proofs.«01_k».proof.Proof.Last.Reference
public import proofs.«01_k».proof.Proof.Feed.Results
public import proofs.«01_k».proof.Proof.Feed.Reference
public import Idealize.ShloMosaic.Adequacy
public import Idealize.ShloMosaic.Init

@[expose] public section

noncomputable section

namespace Cert.Proof

open Idealize.ShloMosaic Idealize.SL.Sem

/-- The reference ends, keeps its arguments, and has no semaphore to leave at work. -/
theorem reference_frame : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The constant `log2 e / 8` that the kernel's exponent is scaled by is the real number it names, rounded. -/
theorem preserves : Cert.preserves_Kernel_KernelIdeal :=
  IdealRules.named_const.statement _ _ _ _ _ rfl

/-- Kernel and reference end with the same array: the attention of the queries, keys and values. -/
theorem algebraic : Cert.algebraic_KernelIdeal_ReferenceIdeal_pre_finite_qk := by
  intro m ρ m' ρ' hpre hagree
  have hq := fun c => (Cert.Pre_finite_qk.real (hpre c)).1
  have hk := fun c => (Cert.Pre_finite_qk.real (hpre c)).2
  let q : Dev Cert.KernelIdeal.nD → Fin 8 → Fin 8192 → Fin 16 → Fin 64 → ℝ := fun c b i h d =>
    EReal.toReal (Cert.KernelIdeal.Attn.qa m c (ix4 b i h d))
  let k : Dev Cert.KernelIdeal.nD → Fin 8 → Fin 8192 → Fin 4 → Fin 64 → ℝ := fun c b i h d =>
    EReal.toReal (Cert.KernelIdeal.Attn.ka m c (ix4 b i h d))
  let v : Dev Cert.KernelIdeal.nD → Fin 8 → Fin 8192 → Fin 4 → Fin 64 → EReal := fun c b i h d =>
    Cert.KernelIdeal.Attn.va m c (ix4 b i h d)
  refine ⟨fun c => fun y : Cert.KernelIdeal.S8x8192x1024.Idx => Cert.Attn.attAt (q c) (k c) (v c) (y 0) (y 1) (y 2), ?_, ?_⟩
  · refine (θ_run Cert.KernelIdeal.defs _ _).mono (fun r h c => ⟨(h c).1.trans ?_, (h c).2⟩) (Cert.KernelIdeal.Run.run_blocks m ρ)
    exact Cert.KernelIdeal.Attn.array m c (fun b i h d => hq c (ix4 b i h d)) (fun b i h d => hk c (ix4 b i h d)) fun _ _ _ _ => rfl
  · refine (θ_run Cert.ReferenceIdeal.defs _ _).mono (fun r h c => ⟨(h c).1.trans ?_, (h c).2⟩) (Cert.ReferenceIdeal.Value.run (F := Ideal) m' ρ')
    rw [(hagree c).1, (hagree c).2.1, (hagree c).2.2]
    funext y
    have e : y = ix3 (y 0) (y 1) (y 2) := by
      funext a
      match a with
      | ⟨0, _⟩ => rfl
      | ⟨1, _⟩ => rfl
      | ⟨2, _⟩ => rfl
    rw [e]
    exact Cert.ReferenceIdeal.Attn.result_apply _ _ _ (fun b i h d => hq c (ix4 b i h d)) (fun b i h d => hk c (ix4 b i h d))
      (fun _ _ _ _ => rfl) (y 0) (y 1) (y 2)

/-- The last step's reference ends, keeps its arguments, and has no semaphore to leave at work. -/
theorem reference_final_frame : Cert.quiescent_ReferenceFinalIdeal := fun m ρ _ =>
  (θ_run Cert.ReferenceFinalIdeal.defs _ _).mono (fun r h => ⟨fun c => (h c).2, sem_eq_zero_of_no_sems (by decide) r.2⟩)
    (Cert.ReferenceFinalIdeal.Value.run (F := Ideal) m ρ)

/-- Kernel and reference of the last step end with the same array, whatever numbers they are given. -/
theorem algebraic_final : Cert.algebraic_FinalIdeal_ReferenceFinalIdeal := by
  intro m ρ m' ρ' _ hagree
  refine ⟨fun c => (Cert.FinalIdeal.Gen.dats m 0 c).arrAt 11 Cert.FinalIdeal.cfg0.N, Cert.FinalIdeal.Value.run_blocks m ρ, ?_⟩
  refine (θ_run Cert.ReferenceFinalIdeal.defs _ _).mono (fun r h c => ⟨(h c).1.trans ?_, (h c).2⟩)
    (Cert.ReferenceFinalIdeal.Value.run (F := Ideal) m' ρ')
  refine (Cert.ReferenceFinalIdeal.Last.array m' c).trans (Eq.trans ?_ (Cert.FinalIdeal.Last.array m c).symm)
  obtain ⟨h0, h1, h2, h3, h4, h5, h6, h7, h8, h9, h10⟩ := hagree c
  rw [h0, h1, h2, h3, h4, h5, h6, h7, h8, h9, h10]
  rfl

/-- The projections' reference ends, keeps its arguments, and has no semaphore to leave at work. -/
theorem reference_proj_frame : Cert.quiescent_ReferenceProjIdeal := fun m ρ _ =>
  (θ_run Cert.ReferenceProjIdeal.defs _ _).mono (fun r h => ⟨fun c => (h c).2.2.2.2.2.2.2.2, sem_eq_zero_of_no_sems (by decide) r.2⟩)
    (Cert.ReferenceProjIdeal.Value.run (F := Ideal) m ρ)

/-- Kernel and reference of the projections end with the same eight arrays, whatever numbers they are given. -/
theorem algebraic_proj : Cert.algebraic_ProjIdeal_ReferenceProjIdeal := by
  intro m ρ m' ρ' _ hagree
  refine ⟨_, _, _, _, _, _, _, _, Cert.ProjIdeal.Feed.run m ρ, ?_⟩
  refine (θ_run Cert.ReferenceProjIdeal.defs _ _).mono (fun r h c => ?_) (Cert.ReferenceProjIdeal.Value.run (F := Ideal) m' ρ')
  obtain ⟨h0, h1, h2, h3, h4⟩ := hagree c
  have ex : Cert.ReferenceProjIdeal.Feed.xs (StableHlo.launchContents m' c) = Cert.ProjIdeal.Feed.xs m c :=
    congrArg (fun (f : Cert.ProjIdeal.S8x8192x1024.Idx → EReal) b i j => f (ix3 b i j)) h0
  have ew : Cert.ReferenceProjIdeal.Feed.wide (StableHlo.launchContents m' c) = Cert.ProjIdeal.Feed.wide m c :=
    congrArg (fun (f : Cert.ProjIdeal.S1024x9744.Idx → EReal) k j => f (ix2 k j)) h1
  have eg : Cert.ReferenceProjIdeal.Feed.gpre (StableHlo.launchContents m' c) = Cert.ProjIdeal.Feed.gpre m c :=
    congrArg (fun (f : Cert.ProjIdeal.S1024.Idx → EReal) j => f (ix1 j)) h2
  have eq : Cert.ReferenceProjIdeal.Feed.gq (StableHlo.launchContents m' c) = Cert.ProjIdeal.Feed.gq m c :=
    congrArg (fun (f : Cert.ProjIdeal.S64.Idx → EReal) j => f (ix1 j)) h3
  have ek : Cert.ReferenceProjIdeal.Feed.gk (StableHlo.launchContents m' c) = Cert.ProjIdeal.Feed.gk m c :=
    congrArg (fun (f : Cert.ProjIdeal.S64.Idx → EReal) j => f (ix1 j)) h4
  have r0 := Cert.ReferenceProjIdeal.Feed.vecQ_eq (StableHlo.launchContents m' c)
  have r1 := Cert.ReferenceProjIdeal.Feed.vecK_eq (StableHlo.launchContents m' c)
  have r2 := Cert.ReferenceProjIdeal.Feed.vecV_eq (StableHlo.launchContents m' c)
  have r3 := Cert.ReferenceProjIdeal.Feed.vecO_eq (StableHlo.launchContents m' c)
  have r4 := Cert.ReferenceProjIdeal.Feed.vecG_eq (StableHlo.launchContents m' c)
  have r5 := Cert.ReferenceProjIdeal.Feed.vecHQ_eq (StableHlo.launchContents m' c)
  have r6 := Cert.ReferenceProjIdeal.Feed.vecHK_eq (StableHlo.launchContents m' c)
  have r7 := Cert.ReferenceProjIdeal.Feed.vecHV_eq (StableHlo.launchContents m' c)
  rw [ex, ew, eg] at r0 r1 r2 r3 r4 r7
  rw [ex, ew, eg, eq] at r5
  rw [ex, ew, eg, ek] at r6
  obtain ⟨k0, k1, k2, k3, k4, k5, k6, k7, kept⟩ := h c
  exact ⟨k0.trans (r0.trans (Cert.ProjIdeal.Feed.array12 m c).symm), k1.trans (r1.trans (Cert.ProjIdeal.Feed.result13 m c).symm),
    k2.trans (r2.trans (Cert.ProjIdeal.Feed.array14 m c).symm), k3.trans (r3.trans (Cert.ProjIdeal.Feed.array15 m c).symm),
    k4.trans (r4.trans (Cert.ProjIdeal.Feed.result16 m c).symm), k5.trans (r5.trans (Cert.ProjIdeal.Feed.result17 m c).symm),
    k6.trans (r6.trans (Cert.ProjIdeal.Feed.result18 m c).symm), k7.trans (r7.trans (Cert.ProjIdeal.Feed.result19 m c).symm), kept⟩

/-- All the claims. -/
theorem claim : Cert.Claim :=
  ⟨Cert.Kernel.Gen.facts, Cert.KernelIdeal.Gen.facts, Cert.ReferenceIdeal.Gen.facts, Cert.Final.Gen.facts, Cert.FinalIdeal.Gen.facts,
    Cert.ReferenceFinalIdeal.Gen.facts, Cert.Proj.Gen.facts, Cert.ProjIdeal.Gen.facts, Cert.ReferenceProjIdeal.Gen.facts, Cert.Pre_finite_qk.shapes,
    fun m ρ _ => Cert.Kernel.Run.frame m ρ, fun m ρ _ => Cert.KernelIdeal.Run.frame m ρ, fun m ρ _ => Cert.KernelIdeal.Run.frame m ρ,
    reference_frame, fun m ρ _ => reference_frame m ρ trivial, fun m ρ _ => Cert.Final.Gen.frame m ρ, fun m ρ _ => Cert.FinalIdeal.Gen.frame m ρ,
    reference_final_frame, fun m ρ _ => Cert.Proj.Gen.frame m ρ, fun m ρ _ => Cert.ProjIdeal.Gen.frame m ρ, reference_proj_frame,
    preserves, algebraic, trivial, algebraic_final, trivial, algebraic_proj⟩

end Cert.Proof

end
